-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def preserves_Kernel_KernelIdeal : Prop :=
  IdealRules.named_const.Statement Cert.KernelIdeal.κ "logit_scale" .f32 0x3E38AA3B#32 (((Real.log 2)⁻¹ * 8⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v27) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6_0)) (v1 : (c : Dev Cert.Kernel5Ideal.nD) → Buf (Elt Ideal) ((c.tc : Thread Cert.Kernel5Ideal.nD Cert.Kernel5Ideal.τ).loc Cert.Kernel5Ideal.main_v6_1)) (v2 : (c : Dev Cert.Kernel5Ideal.nD) → Buf (Elt Ideal) ((c.tc : Thread Cert.Kernel5Ideal.nD Cert.Kernel5Ideal.τ).loc Cert.Kernel5Ideal.main_v6_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6_0) = v0 c
          ∧ r.2.mem ((c.tc : Thread Cert.Kernel5Ideal.nD Cert.Kernel5Ideal.τ).loc Cert.Kernel5Ideal.main_v6_1) = v1 c
          ∧ r.2.mem ((c.tc : Thread Cert.Kernel5Ideal.nD Cert.Kernel5Ideal.τ).loc Cert.Kernel5Ideal.main_v6_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v22) = v1 c
          ∧ r.2.mem ((c.tc : Thread Cert.Reference5Ideal.nD Cert.Reference5Ideal.τ).loc Cert.Reference5Ideal.main_v23) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v19) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "logit_scale" .f32 0x3E38AA3B#32 (((Real.log 2)⁻¹ * 8⁻¹ : ℝ) : EReal)
  ∧ IdealRules.named_const.Statement Cert.Kernel7Ideal.κ "log2e" .f32 0x3FB8AA3B#32 (((Real.log 2)⁻¹ : ℝ) : EReal)
  ∧ IdealRules.named_const.Statement Cert.Kernel7Ideal.κ "mask" .f32 0xF149F2CA#32 ⊥

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v47)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v47) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v103) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
-- ==== Pre_finite.lean ====
abbrev S8x2048x3072 : Shape := ⟨3, ![8, 2048, 3072]⟩
abbrev S32x12 : Shape := ⟨2, ![32, 12]⟩
abbrev S4x64 : Shape := ⟨2, ![4, 64]⟩
abbrev S128 : Shape := ⟨1, ![128]⟩
abbrev S8x2048x1536 : Shape := ⟨3, ![8, 2048, 1536]⟩
abbrev S_ : Shape := ⟨0, ![]⟩
abbrev S32x4 : Shape := ⟨2, ![32, 4]⟩

class Facts : Prop where
  slices_S8x2048x3072_S8x2048x1536_0_0_1536 : S8x2048x3072.Slices ![0, 0, 1536] S8x2048x1536
  bitsLt_bf16_f32 : FTy.bits .bf16 < FTy.bits .f32
  bcast_S_S8x2048x1536 : S_.BroadcastsInDim S8x2048x1536 (![] : Fin 0 → Fin S8x2048x1536.rank)
  reducesTo_S8x2048x1536_S_d0_1_2 : S8x2048x1536.ReducesTo [0, 1, 2] S_
  h_S_ : 0 < S_.numel
  slices_S32x12_S32x4_0_8 : S32x12.Slices ![0, 8] S32x4
  bcast_S_S32x4 : S_.BroadcastsInDim S32x4 (![] : Fin 0 → Fin S32x4.rank)
  reducesTo_S32x4_S_d0_1 : S32x4.ReducesTo [0, 1] S_
  bcast_S_S4x64 : S_.BroadcastsInDim S4x64 (![] : Fin 0 → Fin S4x64.rank)
  reducesTo_S4x64_S_d0_1 : S4x64.ReducesTo [0, 1] S_

variable [Facts]

def fn {F : FTy → Type} [FloatOps F] (main_arg0 : FVec F S8x2048x3072 .bf16) (main_arg1 : FVec F S32x12 .f32) (main_arg2 : FVec F S4x64 .f32) (main_arg3 : FVec F S128 .f32) : IVec S_ 1 :=
  let main_v0 : FVec F S8x2048x1536 .bf16 := (extractStridedSlice S8x2048x1536 ![0, 0, 1536] · slices_S8x2048x3072_S8x2048x1536_0_0_1536) main_arg0
  let main_v1 : FVec F S8x2048x1536 .f32 := (extf .f32 · bitsLt_bf16_f32) main_v0
  let main_v2 : FVec F S8x2048x1536 .f32 := Host.absf main_v1
  let main_cst : FVec F S_ .f32 := constant S_ .f32 0x7F800000#32
  let main_v3 : FVec F S8x2048x1536 .f32 := broadcastInDim S8x2048x1536 ![] bcast_S_S8x2048x1536 main_cst
  let main_v4 : IVec S8x2048x1536 1 := cmpf .olt main_v2 main_v3
  let main_c : IVec S_ 1 := constantI S_ 1 1#1
  let main_v5 : IVec S_ 1 := (fun x v => Host.reduce IntOp.andi x v reducesTo_S8x2048x1536_S_d0_1_2 h_S_) main_v4 main_c
  let main_v6 : FVec F S32x4 .f32 := (extractStridedSlice S32x4 ![0, 8] · slices_S32x12_S32x4_0_8) main_arg1
  let main_v7 : FVec F S32x4 .f32 := Host.absf main_v6
  let main_cst_0 : FVec F S_ .f32 := constant S_ .f32 0x7F800000#32
  let main_v8 : FVec F S32x4 .f32 := broadcastInDim S32x4 ![] bcast_S_S32x4 main_cst_0
  let main_v9 : IVec S32x4 1 := cmpf .olt main_v7 main_v8
  let main_c_1 : IVec S_ 1 := constantI S_ 1 1#1
  let main_v10 : IVec S_ 1 := (fun x v => Host.reduce IntOp.andi x v reducesTo_S32x4_S_d0_1 h_S_) main_v9 main_c_1
  let main_v11 : IVec S_ 1 := andi main_v5 main_v10
  let main_v12 : FVec F S4x64 .f32 := Host.absf main_arg2
  let main_cst_2 : FVec F S_ .f32 := constant S_ .f32 0x7F800000#32
  let main_v13 : FVec F S4x64 .f32 := broadcastInDim S4x64 ![] bcast_S_S4x64 main_cst_2
  let main_v14 : IVec S4x64 1 := cmpf .olt main_v12 main_v13
  let main_c_3 : IVec S_ 1 := constantI S_ 1 1#1
  let main_v15 : IVec S_ 1 := (fun x v => Host.reduce IntOp.andi x v reducesTo_S4x64_S_d0_1 h_S_) main_v14 main_c_3
  let main_v16 : IVec S_ 1 := andi main_v11 main_v15
  main_v16
-- ==== Kernel.lean ====
abbrev S8x2048x3072 : Shape := ⟨3, ![8, 2048, 3072]⟩
abbrev S32x12 : Shape := ⟨2, ![32, 12]⟩
abbrev S4x64 : Shape := ⟨2, ![4, 64]⟩
abbrev S128 : Shape := ⟨1, ![128]⟩
abbrev S32x4 : Shape := ⟨2, ![32, 4]⟩
abbrev S1024 : Shape := ⟨1, ![1024]⟩
abbrev S_ : Shape := ⟨0, ![]⟩
abbrev S4 : Shape := ⟨1, ![4]⟩
abbrev S4x1 : Shape := ⟨2, ![4, 1]⟩
abbrev S1x1024 : Shape := ⟨2, ![1, 1024]⟩
abbrev S4x1024 : Shape := ⟨2, ![4, 1024]⟩
abbrev S4x1024x1 : Shape := ⟨3, ![4, 1024, 1]⟩
abbrev S4x1024x4 : Shape := ⟨3, ![4, 1024, 4]⟩
abbrev S4x4x1024 : Shape := ⟨3, ![4, 4, 1024]⟩
abbrev S4x4x1x1024 : Shape := ⟨4, ![4, 4, 1, 1024]⟩
abbrev S4x4x8x1024 : Shape := ⟨4, ![4, 4, 8, 1024]⟩
abbrev S1x128 : Shape := ⟨2, ![1, 128]⟩
abbrev S8x2048x512 : Shape := ⟨3, ![8, 2048, 512]⟩
abbrev S1x512x128 : Shape := ⟨3, ![1, 512, 128]⟩
abbrev S1x2048x128 : Shape := ⟨3, ![1, 2048, 128]⟩
abbrev S1x4x8x1024 : Shape := ⟨4, ![1, 4, 8, 1024]⟩
abbrev S4x512x512 : Shape := ⟨3, ![4, 512, 512]⟩
abbrev S512x512 : Shape := ⟨2, ![512, 512]⟩
abbrev S1x512x64 : Shape := ⟨3, ![1, 512, 64]⟩
abbrev S512x64 : Shape := ⟨2, ![512, 64]⟩
abbrev S1x1x8x1024 : Shape := ⟨4, ![1, 1, 8, 1024]⟩
abbrev S8x1024 : Shape := ⟨2, ![8, 1024]⟩
abbrev S512x1024 : Shape := ⟨2, ![512, 1024]⟩
abbrev S1x512x512 : Shape := ⟨3, ![1, 512, 512]⟩
abbrev S512x1 : Shape := ⟨2, ![512, 1]⟩
abbrev S512x128 : Shape := ⟨2, ![512, 128]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 65
  | .vmem => 13
  | .smem => 0
  | _ => 0

abbrev bufTy : (tb : Table) → Fin (tcTables nBuf tb) → BufTy
  | .hbm, ⟨0, _⟩ => ⟨S8x2048x3072, .bf16⟩
  | .hbm, ⟨1, _⟩ => ⟨S32x12, .f32⟩
  | .hbm, ⟨2, _⟩ => ⟨S4x64, .f32⟩
  | .hbm, ⟨3, _⟩ => ⟨S128, .f32⟩
  | .hbm, ⟨4, _⟩ => ⟨S32x4, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S4, .i32⟩
  | .hbm, ⟨15, _⟩ => ⟨S4x1, .i32⟩
  | .hbm, ⟨16, _⟩ => ⟨S_, .i32⟩
  | .hbm, ⟨17, _⟩ => ⟨S4x1, .i32⟩
  | .hbm, ⟨18, _⟩ => ⟨S4x1, .i32⟩
  | .hbm, ⟨19, _⟩ => ⟨S1x1024, .i32⟩
  | .hbm, ⟨20, _⟩ => ⟨S4x1024, .i32⟩
  | .hbm, ⟨21, _⟩ => ⟨S4x1024, .i32⟩
  | .hbm, ⟨22, _⟩ => ⟨S4x1024, .i32⟩
  | .hbm, ⟨23, _⟩ => ⟨S_, .i32⟩
  | .hbm, ⟨24, _⟩ => ⟨S4x1024, .i32⟩
  | .hbm, ⟨25, _⟩ => ⟨S4x1024, .i32⟩
  | .hbm, ⟨26, _⟩ => ⟨S_, .i32⟩
  | .hbm, ⟨27, _⟩ => ⟨S4x1024, .i32⟩
  | .hbm, ⟨28, _⟩ => ⟨S4x1024, .i32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S_, .f32⟩
  | .hbm, ⟨38, _⟩ => ⟨S4x1024, .f32⟩
  | .hbm, ⟨39, _⟩ => ⟨S4x1024, .f32⟩
  | .hbm, ⟨40, _⟩ => ⟨S4x1024, .i32⟩
  | .hbm, ⟨41, _⟩ => ⟨S_, .i32⟩
  | .hbm, ⟨42, _⟩ => ⟨S4x1024, .i32⟩
  | .hbm, ⟨43, _⟩ => ⟨S4x1024, .i32⟩
  | .hbm, ⟨44, _⟩ => ⟨S_, .i32⟩
  | .hbm, ⟨45, _⟩ => ⟨S4x1024, .i32⟩
  | .hbm, ⟨46, _⟩ => ⟨S4x1024, .i32⟩
  | .hbm, ⟨47, _⟩ => ⟨S_, .i32⟩
  | .hbm, ⟨48, _⟩ => ⟨S4x1024, .i32⟩
  | .hbm, ⟨49, _⟩ => ⟨S4x1024, .i1⟩
  | .hbm, ⟨50, _⟩ => ⟨S4x1024, .i32⟩
  | .hbm, ⟨51, _⟩ => ⟨S_, .i32⟩
  | .hbm, ⟨52, _⟩ => ⟨S4x1024, .i32⟩
  | .hbm, ⟨53, _⟩ => ⟨S4x1024, .i1⟩
  | .hbm, ⟨54, _⟩ => ⟨S_, .i32⟩
  | .hbm, ⟨55, _⟩ => ⟨S4x1024, .i32⟩
  | .hbm, ⟨56, _⟩ => ⟨S4x1024, .i32⟩
  | .hbm, ⟨57, _⟩ => ⟨S4x1024, .i32⟩
  | .hbm, ⟨58, _⟩ => ⟨S4x1024x1, .i32⟩
  | .hbm, ⟨59, _⟩ => ⟨S4x1024x4, .f32⟩
  | .hbm, ⟨60, _⟩ => ⟨S4x4x1024, .f32⟩
  | .hbm, ⟨61, _⟩ => ⟨S4x4x1x1024, .f32⟩
  | .hbm, ⟨62, _⟩ => ⟨S4x4x8x1024, .f32⟩
  | .hbm, ⟨63, _⟩ => ⟨S1x128, .f32⟩
  | .hbm, ⟨64, _⟩ => ⟨S8x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x4x8x1024, .f32⟩
  | .local _ .vmem, ⟨7, _⟩ => ⟨S1x4x8x1024, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S4x512x512, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c512_i32 : BitVec 32 := 512#32
  let v26 : BitVec 32 := Scalar.muli arg2 c512_i32
  v26
def k0_off1 (i : grid0.Coords) : Fin 3 → Nat :=
  let arg2 : BitVec 32 := BitVec.ofNat 32 (i 2).val
  let v28 : BitVec 32 := Scalar.subi arg2 arg2
  let v29 : Index := Scalar.indexCast v28
  let c0_13 : Index := 0#32
  let c0_14 : Index := 0#32
  ![v29.toNat, 0, 0]
def k0_off2 (i : grid0.Coords) : Fin 3 → Nat :=
  let c0_15 : Index := 0#32
  let arg2 : BitVec 32 := BitVec.ofNat 32 (i 2).val
  let c512_i32 : BitVec 32 := 512#32
  let v26 : BitVec 32 := Scalar.muli arg2 c512_i32
  let v27 : BitVec 32 := v26
  let v32 : Index := Scalar.indexCast v27
  let c0_16 : Index := 0#32
  ![0, v32.toNat, 0]
def k0_off3 (i : grid0.Coords) : Fin 3 → Nat :=
  let c0_17 : Index := 0#32
  let arg2 : BitVec 32 := BitVec.ofNat 32 (i 2).val
  let c512_i32 : BitVec 32 := 512#32
  let v26 : BitVec 32 := Scalar.muli arg2 c512_i32
  let v27 : BitVec 32 := v26
  let v35 : Index := Scalar.indexCast v27
  let c0_18 : Index := 0#32
  ![0, v35.toNat, 0]
def k0_off4 (i : grid0.Coords) : Fin 3 → Nat :=
  let c0_24 : Index := 0#32
  let arg2 : BitVec 32 := BitVec.ofNat 32 (i 2).val
  let c512_i32 : BitVec 32 := 512#32
  let v26 : BitVec 32 := Scalar.muli arg2 c512_i32
  let v27 : BitVec 32 := v26
  let v59 : Index := Scalar.indexCast v27
  let c64_25 : Index := 64#32
  ![0, v59.toNat, 64]
@[reducible] def k0_t1_loop (i : grid0.Coords) : Scf.Loop 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_32 : BitVec 32 := 1#32
  ⟨c0_i32_31, v87, c1_i32_32⟩
def k0_mult2 (i : grid0.Coords) (k0_t1 : Fin (k0_t1_loop i).trips) : BitVec 32 :=
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  v133
def k0_off5 (i : grid0.Coords) (k0_t1 : Fin (k0_t1_loop i).trips) : Fin 3 → Nat :=
  let arg2 : BitVec 32 := BitVec.ofNat 32 (i 2).val
  let c0_i32_31 : BitVec 32 := 0#32
  let c1_i32_32 : BitVec 32 := 1#32
  let arg11 : BitVec 32 := Scf.iv c0_i32_31 c1_i32_32 k0_t1
  let v135 : BitVec 32 := Scalar.subi arg2 arg11
  let v136 : Index := Scalar.indexCast v135
  let c0_49 : Index := 0#32
  let c0_50 : Index := 0#32
  ![v136.toNat, 0, 0]
def k0_off6 (i : grid0.Coords) (k0_t1 : Fin (k0_t1_loop i).trips) : Fin 3 → Nat :=
  let c0_51 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v139 : Index := Scalar.indexCast v134
  let c0_52 : Index := 0#32
  ![0, v139.toNat, 0]
def k0_off7 (i : grid0.Coords) (k0_t1 : Fin (k0_t1_loop i).trips) : Fin 3 → Nat :=
  let c0_53 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v142 : Index := Scalar.indexCast v134
  let c0_54 : Index := 0#32
  ![0, v142.toNat, 0]
def k0_off8 (i : grid0.Coords) (k0_t1 : Fin (k0_t1_loop i).trips) : Fin 3 → Nat :=
  let c0_59 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v164 : Index := Scalar.indexCast v134
  let c64_60 : Index := 64#32
  ![0, v164.toNat, 64]
@[reducible] def k0_t2_loop (i : grid0.Coords) : Scf.Loop 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let v84 : BitVec 32 := Scalar.addi c0_i32_31 v83
  let c1_i32_33 : BitVec 32 := 1#32
  ⟨v87, v84, c1_i32_33⟩
def k0_mult3 (i : grid0.Coords) (k0_t2 : Fin (k0_t2_loop i).trips) : BitVec 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  v133
def k0_off9 (i : grid0.Coords) (k0_t2 : Fin (k0_t2_loop i).trips) : Fin 3 → Nat :=
  let arg2 : BitVec 32 := BitVec.ofNat 32 (i 2).val
  let c0_i32_31 : BitVec 32 := 0#32
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let v135 : BitVec 32 := Scalar.subi arg2 arg11
  let v136 : Index := Scalar.indexCast v135
  let c0_49 : Index := 0#32
  let c0_50 : Index := 0#32
  ![v136.toNat, 0, 0]
def k0_off10 (i : grid0.Coords) (k0_t2 : Fin (k0_t2_loop i).trips) : Fin 3 → Nat :=
  let c0_51 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v139 : Index := Scalar.indexCast v134
  let c0_52 : Index := 0#32
  ![0, v139.toNat, 0]
def k0_off11 (i : grid0.Coords) (k0_t2 : Fin (k0_t2_loop i).trips) : Fin 3 → Nat :=
  let c0_53 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v142 : Index := Scalar.indexCast v134
  let c0_54 : Index := 0#32
  ![0, v142.toNat, 0]
def k0_off12 (i : grid0.Coords) (k0_t2 : Fin (k0_t2_loop i).trips) : Fin 3 → Nat :=
  let c0_59 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v164 : Index := Scalar.indexCast v134
  let c64_60 : Index := 64#32
  ![0, v164.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2e" => some (((Real.log 2)⁻¹ : ℝ) : EReal)
  | "logit_scale" => some (((Real.log 2)⁻¹ * 8⁻¹ : ℝ) : EReal)
  | "mask" => some ⊥
  | _ => none
-- ==== ReferenceIdeal.lean ====
abbrev S8x2048x3072 : Shape := ⟨3, ![8, 2048, 3072]⟩
abbrev S32x12 : Shape := ⟨2, ![32, 12]⟩
abbrev S4x64 : Shape := ⟨2, ![4, 64]⟩
abbrev S128 : Shape := ⟨1, ![128]⟩
abbrev S8x2048x512 : Shape := ⟨3, ![8, 2048, 512]⟩
abbrev S32x4 : Shape := ⟨2, ![32, 4]⟩
abbrev S1x64 : Shape := ⟨2, ![1, 64]⟩
abbrev S64 : Shape := ⟨1, ![64]⟩
abbrev S_ : Shape := ⟨0, ![]⟩
abbrev S8x2048x4x2x64 : Shape := ⟨5, ![8, 2048, 4, 2, 64]⟩
abbrev S8x2048x4x128 : Shape := ⟨4, ![8, 2048, 4, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S8x2x4x2048x2048 : Shape := ⟨5, ![8, 2, 4, 2048, 2048]⟩
abbrev S1x1x4x2048x2048 : Shape := ⟨5, ![1, 1, 4, 2048, 2048]⟩
abbrev S8x2x4x2048 : Shape := ⟨4, ![8, 2, 4, 2048]⟩
abbrev S8x2x4x2048x1 : Shape := ⟨5, ![8, 2, 4, 2048, 1]⟩
abbrev S8x1x4x2048x2048 : Shape := ⟨5, ![8, 1, 4, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S8x2048x3072, .bf16⟩
  | 1 => ⟨S32x12, .f32⟩
  | 2 => ⟨S4x64, .f32⟩
  | 3 => ⟨S128, .f32⟩
  | 4 => ⟨S8x2048x3072, .f32⟩
  | 5 => ⟨S8x2048x512, .f32⟩
  | 6 => ⟨S8x2048x512, .f32⟩
  | 7 => ⟨S8x2048x512, .f32⟩
  | 8 => ⟨S32x4, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8x2048x4x2x64, .f32⟩
  | 29 => ⟨S8x2048x4x2x64, .f32⟩
  | 30 => ⟨S8x2048x4x128, .f32⟩
  | 31 => ⟨S2048, .i32⟩
  | 32 => ⟨S2048x1, .i32⟩
  | 33 => ⟨S1x2048, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i1⟩
  | 64 => ⟨S2048x2048, .i32⟩
  | 65 => ⟨S_, .i32⟩
  | 66 => ⟨S2048x2048, .i32⟩
  | 67 => ⟨S2048x2048, .i1⟩
  | 68 => ⟨S_, .i32⟩
  | 69 => ⟨S2048x2048, .i32⟩
  | 70 => ⟨S2048x2048, .i32⟩
  | 71 => ⟨S2048x2048, .i32⟩
  | 72 => ⟨S2048x2048x1, .i32⟩
  | 73 => ⟨S2048x2048x4, .f32⟩
  | 74 => ⟨S4x2048x2048, .f32⟩
  | 75 => ⟨S8x2x4x2048x2048, .f32⟩
  | 76 => ⟨S_, .f32⟩
  | 77 => ⟨S8x2x4x2048x2048, .f32⟩
  | 78 => ⟨S8x2x4x2048x2048, .f32⟩
  | 79 => ⟨S1x1x4x2048x2048, .f32⟩
  | 80 => ⟨S8x2x4x2048x2048, .f32⟩
  | 81 => ⟨S8x2x4x2048x2048, .f32⟩
  | 82 => ⟨S_, .i32⟩
  | 83 => ⟨S2048x2048, .i32⟩
  | 84 => ⟨S2048x2048, .i1⟩
  | 85 => ⟨S_, .f32⟩
  | 86 => ⟨S_, .f32⟩
  | 87 => ⟨S8x2x4x2048x2048, .i1⟩
  | 88 => ⟨S8x2x4x2048x2048, .f32⟩
  | 89 => ⟨S8x2x4x2048x2048, .f32⟩
  | 90 => ⟨S_, .f32⟩
  | 91 => ⟨S8x2x4x2048, .f32⟩
  | 92 => ⟨S_, .f32⟩
  | 93 => ⟨S8x2x4x2048, .f32⟩
  | 94 => ⟨S8x2x4x2048, .f32⟩
  | 95 => ⟨S8x2x4x2048x1, .f32⟩
  | 96 => ⟨S8x2x4x2048x2048, .f32⟩
  | 97 => ⟨S8x2x4x2048x2048, .f32⟩
  | 98 => ⟨S8x2x4x2048x2048, .f32⟩
  | 99 => ⟨S_, .f32⟩
  | 100 => ⟨S8x2x4x2048, .f32⟩
  | 101 => ⟨S8x2x4x2048x1, .f32⟩
  | 102 => ⟨S8x2x4x2048x2048, .f32⟩
  | 103 => ⟨S8x2x4x2048x2048, .f32⟩
  | 104 => ⟨S8x1x4x2048x2048, .f32⟩
  | 105 => ⟨S8x4x2048x2048, .f32⟩
  | 106 => ⟨S8x1x4x2048x2048, .f32⟩
  | 107 => ⟨S8x4x2048x2048, .f32⟩
  | 108 => ⟨S8x4x2048x2048, .f32⟩
  | 109 => ⟨S8x4x2048x2048, .f32⟩
  | 110 => ⟨S8x4x2048x2048, .f32⟩
  | 111 => ⟨S8x4x128x2048, .f32⟩
  | 112 => ⟨S8x2048x4x128, .f32⟩
  | 113 => ⟨S8x2048x4x128, .f32⟩
  | 114 => ⟨S_, .f32⟩
  | 115 => ⟨S8x2048x4, .f32⟩
  | 116 => ⟨S8x2048x4x1, .f32⟩
  | 117 => ⟨S_, .f32⟩
  | 118 => ⟨S8x2048x4x1, .f32⟩
  | 119 => ⟨S8x2048x4x1, .f32⟩
  | 120 => ⟨S_, .f32⟩
  | 121 => ⟨S8x2048x4x1, .f32⟩
  | 122 => ⟨S8x2048x4x1, .f32⟩
  | 123 => ⟨S8x2048x4x1, .f32⟩
  | 124 => ⟨S8x2048x4x128, .f32⟩
  | 125 => ⟨S8x2048x4x128, .f32⟩
  | 126 => ⟨S1x1x1x128, .f32⟩
  | 127 => ⟨S8x2048x4x128, .f32⟩
  | _ => ⟨S8x2048x3072, .bf16⟩

abbrev hbmTy0_1 (i : Nat) : BufTy := match i % 128 with
  | 0 => ⟨S8x2048x4x128, .f32⟩
  | 1 => ⟨S_, .f32⟩
  | 2 => ⟨S8x2048x4x128, .f32⟩
  | 3 => ⟨S8x2048x4x128, .f32⟩
  | 4 => ⟨S8x2048x512, .f32⟩
  | 5 => ⟨S8x2048x512, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Kernel2.lean ====
abbrev S8x2048x2048 : Shape := ⟨3, ![8, 2048, 2048]⟩
abbrev S2048 : Shape := ⟨1, ![2048]⟩
abbrev S8x1x2048 : Shape := ⟨3, ![8, 1, 2048]⟩
abbrev S2048x11264 : Shape := ⟨2, ![2048, 11264]⟩
abbrev S5632x2048 : Shape := ⟨2, ![5632, 2048]⟩
abbrev S1x2048 : Shape := ⟨2, ![1, 2048]⟩
abbrev S1x1x2048 : Shape := ⟨3, ![1, 1, 2048]⟩
abbrev S_ : Shape := ⟨0, ![]⟩
abbrev S8x3x2048 : Shape := ⟨3, ![8, 3, 2048]⟩
abbrev S8x8x2048 : Shape := ⟨3, ![8, 8, 2048]⟩
abbrev S1x512x2048 : Shape := ⟨3, ![1, 512, 2048]⟩
abbrev S1x8x2048 : Shape := ⟨3, ![1, 8, 2048]⟩
abbrev S2048x512 : Shape := ⟨2, ![2048, 512]⟩
abbrev S512x2048 : Shape := ⟨2, ![512, 2048]⟩
abbrev S8x2048 : Shape := ⟨2, ![8, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 20
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S1x2048, .f32⟩
  | .hbm, ⟨9, _⟩ => ⟨S2048x11264, .bf16⟩
  | .hbm, ⟨10, _⟩ => ⟨S5632x2048, .bf16⟩
  | .hbm, ⟨11, _⟩ => ⟨S1x2048, .f32⟩
  | .hbm, ⟨12, _⟩ => ⟨S1x1x2048, .f32⟩
  | .hbm, ⟨13, _⟩ => ⟨S8x1x2048, .f32⟩
  | .hbm, ⟨14, _⟩ => ⟨S1x1x2048, .f32⟩
  | .hbm, ⟨15, _⟩ => ⟨S8x1x2048, .f32⟩
  | .hbm, ⟨16, _⟩ => ⟨S_, .f32⟩
  | .hbm, ⟨17, _⟩ => ⟨S8x3x2048, .f32⟩
  | .hbm, ⟨18, _⟩ => ⟨S8x8x2048, .f32⟩
  | .hbm, ⟨19, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x512x2048, .f32⟩
  | .local _ .vmem, ⟨11, _⟩ => ⟨S1x512x2048, .f32⟩
  | .local _ .vmem, ⟨12, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 11], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg2 : BitVec 32 := BitVec.ofNat 32 (i 2).val
  let c0_i32_4 : BitVec 32 := 0#32
  let v5 : BitVec 1 := Scalar.cmpi .sgt arg2 c0_i32_4
  let v6 : BitVec 32 := Scalar.extui v5
  let c0_i32_6 : BitVec 32 := 0#32
  let v7 : BitVec 1 := Scalar.cmpi .ne v6 c0_i32_6
  v7

def k0_cond3 (i : grid0.Coords) : BitVec 1 :=
  let arg2 : BitVec 32 := BitVec.ofNat 32 (i 2).val
  let c10_i32 : BitVec 32 := 10#32
  let v8 : BitVec 1 := Scalar.cmpi .eq arg2 c10_i32
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S8x2048x2048 : Shape := ⟨3, ![8, 2048, 2048]⟩
abbrev S2048 : Shape := ⟨1, ![2048]⟩
abbrev S8x1x2048 : Shape := ⟨3, ![8, 1, 2048]⟩
abbrev S2048x11264 : Shape := ⟨2, ![2048, 11264]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11264 : Shape := ⟨3, ![8, 2048, 11264]⟩
abbrev S8x2048x5632 : Shape := ⟨3, ![8, 2048, 5632]⟩

abbrev nBuf : Space → Nat
  | .hbm => 64
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x11264, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S8x2048x2048, .f32⟩
  | .hbm, ⟨49, _⟩ => ⟨S_, .f32⟩
  | .hbm, ⟨50, _⟩ => ⟨S8x2048, .f32⟩
  | .hbm, ⟨51, _⟩ => ⟨S8x2048x1, .f32⟩
  | .hbm, ⟨52, _⟩ => ⟨S_, .f32⟩
  | .hbm, ⟨53, _⟩ => ⟨S8x2048x1, .f32⟩
  | .hbm, ⟨54, _⟩ => ⟨S8x2048x1, .f32⟩
  | .hbm, ⟨55, _⟩ => ⟨S_, .f32⟩
  | .hbm, ⟨56, _⟩ => ⟨S8x2048x1, .f32⟩
  | .hbm, ⟨57, _⟩ => ⟨S8x2048x1, .f32⟩
  | .hbm, ⟨58, _⟩ => ⟨S8x2048x1, .f32⟩
  | .hbm, ⟨59, _⟩ => ⟨S8x2048x2048, .f32⟩
  | .hbm, ⟨60, _⟩ => ⟨S8x2048x2048, .f32⟩
  | .hbm, ⟨61, _⟩ => ⟨S1x1x2048, .f32⟩
  | .hbm, ⟨62, _⟩ => ⟨S8x2048x2048, .f32⟩
  | .hbm, ⟨63, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_cst_5 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩

abbrev nD : Nat := 1
abbrev τ : Topo := Topo.v7x

variable {F : FTy → Type} [FloatOps F]
-- ==== Kernel3.lean ====
abbrev S8x2048x512 : Shape := ⟨3, ![8, 2048, 512]⟩
abbrev S2048x2048 : Shape := ⟨2, ![2048, 2048]⟩
abbrev S8x2048x2048 : Shape := ⟨3, ![8, 2048, 2048]⟩
abbrev S8x1x2048 : Shape := ⟨3, ![8, 1, 2048]⟩
abbrev S1x512x512 : Shape := ⟨3, ![1, 512, 512]⟩
abbrev S1x512x2048 : Shape := ⟨3, ![1, 512, 2048]⟩
abbrev S1x1x2048 : Shape := ⟨3, ![1, 1, 2048]⟩
abbrev S512x512 : Shape := ⟨2, ![512, 512]⟩
abbrev S512x2048 : Shape := ⟨2, ![512, 2048]⟩
abbrev S1x2048 : Shape := ⟨2, ![1, 2048]⟩

abbrev nBuf : Space → Nat
  | .hbm => 9
  | .vmem => 15
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S2048x2048, .f32⟩
  | .hbm, ⟨5, _⟩ => ⟨S8x2048x2048, .f32⟩
  | .hbm, ⟨6, _⟩ => ⟨S8x1x2048, .f32⟩
  | .hbm, ⟨7, _⟩ => ⟨S2048x2048, .bf16⟩
  | .hbm, ⟨8, _⟩ => ⟨S8x2048x2048, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S2048x2048, .bf16⟩
  | .local _ .vmem, ⟨9, _⟩ => ⟨S1x512x2048, .f32⟩
  | .local _ .vmem, ⟨10, _⟩ => ⟨S1x512x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x512x2048, .f32⟩
  | .local _ .vmem, ⟨14, _⟩ => ⟨S1x512x2048, .f32⟩
  | _, _ => ⟨S8x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Reference3Ideal.lean ====
abbrev S8x2048x512 : Shape := ⟨3, ![8, 2048, 512]⟩
abbrev S2048x2048 : Shape := ⟨2, ![2048, 2048]⟩
abbrev S8x2048x2048 : Shape := ⟨3, ![8, 2048, 2048]⟩
abbrev S8x1x2048 : Shape := ⟨3, ![8, 1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x512, .bf16⟩
  | .hbm, ⟨1, _⟩ => ⟨S8x2048x512, .bf16⟩
  | .hbm, ⟨2, _⟩ => ⟨S8x2048x512, .bf16⟩
  | .hbm, ⟨3, _⟩ => ⟨S8x2048x512, .bf16⟩
  | .hbm, ⟨4, _⟩ => ⟨S2048x2048, .f32⟩
  | .hbm, ⟨5, _⟩ => ⟨S8x2048x2048, .f32⟩
  | .hbm, ⟨6, _⟩ => ⟨S8x1x2048, .f32⟩
  | .hbm, ⟨7, _⟩ => ⟨S8x2048x2048, .bf16⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | _, _ => ⟨S8x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩

abbrev nD : Nat := 1
abbrev τ : Topo := Topo.v7x

variable {F : FTy → Type} [FloatOps F]
-- ==== Kernel4.lean ====
abbrev S8x2048x2048 : Shape := ⟨3, ![8, 2048, 2048]⟩
abbrev S2048 : Shape := ⟨1, ![2048]⟩
abbrev S8x1x2048 : Shape := ⟨3, ![8, 1, 2048]⟩
abbrev S2048x11264 : Shape := ⟨2, ![2048, 11264]⟩
abbrev S5632x2048 : Shape := ⟨2, ![5632, 2048]⟩
abbrev S1x2048 : Shape := ⟨2, ![1, 2048]⟩
abbrev S1x1x2048 : Shape := ⟨3, ![1, 1, 2048]⟩
abbrev S_ : Shape := ⟨0, ![]⟩
abbrev S8x3x2048 : Shape := ⟨3, ![8, 3, 2048]⟩
abbrev S8x8x2048 : Shape := ⟨3, ![8, 8, 2048]⟩
abbrev S1x512x2048 : Shape := ⟨3, ![1, 512, 2048]⟩
abbrev S1x8x2048 : Shape := ⟨3, ![1, 8, 2048]⟩
abbrev S2048x512 : Shape := ⟨2, ![2048, 512]⟩
abbrev S512x2048 : Shape := ⟨2, ![512, 2048]⟩
abbrev S8x2048 : Shape := ⟨2, ![8, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩
abbrev S512x512 : Shape := ⟨2, ![512, 512]⟩

abbrev nBuf : Space → Nat
  | .hbm => 20
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S1x2048, .f32⟩
  | .hbm, ⟨9, _⟩ => ⟨S2048x11264, .bf16⟩
  | .hbm, ⟨10, _⟩ => ⟨S5632x2048, .bf16⟩
  | .hbm, ⟨11, _⟩ => ⟨S1x2048, .f32⟩
  | .hbm, ⟨12, _⟩ => ⟨S1x1x2048, .f32⟩
  | .hbm, ⟨13, _⟩ => ⟨S8x1x2048, .f32⟩
  | .hbm, ⟨14, _⟩ => ⟨S1x1x2048, .f32⟩
  | .hbm, ⟨15, _⟩ => ⟨S8x1x2048, .f32⟩
  | .hbm, ⟨16, _⟩ => ⟨S_, .f32⟩
  | .hbm, ⟨17, _⟩ => ⟨S8x3x2048, .f32⟩
  | .hbm, ⟨18, _⟩ => ⟨S8x8x2048, .f32⟩
  | .hbm, ⟨19, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x512x2048, .f32⟩
  | .local _ .vmem, ⟨11, _⟩ => ⟨S1x512x2048, .f32⟩
  | .local _ .vmem, ⟨12, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 4, 11], ![false, false, false]⟩

def k0_cond1 (i : grid0.Coords) : BitVec 1 :=
  let arg2 : BitVec 32 := BitVec.ofNat 32 (i 2).val
  let c0_i32 : BitVec 32 := 0#32
  let v2 : BitVec 1 := Scalar.cmpi .eq arg2 c0_i32
  let v3 : BitVec 32 := Scalar.extui v2
  let c0_i32_3 : BitVec 32 := 0#32
  let v4 : BitVec 1 := Scalar.cmpi .ne v3 c0_i32_3
  v4

def k0_cond2 (i : grid0.Coords) : BitVec 1 :=
  let arg2 : BitVec 32 := BitVec.ofNat 32 (i 2).val
  let c0_i32_4 : BitVec 32 := 0#32
  let v5 : BitVec 1 := Scalar.cmpi .sgt arg2 c0_i32_4
  let v6 : BitVec 32 := Scalar.extui v5
  let c0_i32_6 : BitVec 32 := 0#32
  let v7 : BitVec 1 := Scalar.cmpi .ne v6 c0_i32_6
  v7

def k0_cond3 (i : grid0.Coords) : BitVec 1 :=
  let arg2 : BitVec 32 := BitVec.ofNat 32 (i 2).val
  let c10_i32 : BitVec 32 := 10#32
  let v8 : BitVec 1 := Scalar.cmpi .eq arg2 c10_i32
  let v9 : BitVec 32 := Scalar.extui v8
  let c0_i32_8 : BitVec 32 := 0#32
  let v10 : BitVec 1 := Scalar.cmpi .ne v9 c0_i32_8
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi arg2 c11_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference4Ideal.lean ====
abbrev S8x2048x2048 : Shape := ⟨3, ![8, 2048, 2048]⟩
abbrev S2048 : Shape := ⟨1, ![2048]⟩
abbrev S8x1x2048 : Shape := ⟨3, ![8, 1, 2048]⟩
abbrev S2048x11264 : Shape := ⟨2, ![2048, 11264]⟩
abbrev S5632x2048 : Shape := ⟨2, ![5632, 2048]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x11264 : Shape := ⟨3, ![8, 2048, 11264]⟩
abbrev S8x2048x5632 : Shape := ⟨3, ![8, 2048, 5632]⟩

abbrev nBuf : Space → Nat
  | .hbm => 48
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S8x1x2048, .f32⟩
  | .hbm, ⟨5, _⟩ => ⟨S2048x11264, .f32⟩
  | .hbm, ⟨6, _⟩ => ⟨S5632x2048, .f32⟩
  | .hbm, ⟨7, _⟩ => ⟨S2048, .f32⟩
  | .hbm, ⟨8, _⟩ => ⟨S8x2048x2048, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x2048, .f32⟩
  | .hbm, ⟨20, _⟩ => ⟨S8x2048x2048, .f32⟩
  | .hbm, ⟨21, _⟩ => ⟨S1x1x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x1x2048, .f32⟩
  | .hbm, ⟨26, _⟩ => ⟨S8x1x2048, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x11264, .f32⟩
  | .hbm, ⟨32, _⟩ => ⟨S8x2048x5632, .f32⟩
  | .hbm, ⟨33, _⟩ => ⟨S8x2048x5632, .f32⟩
  | .hbm, ⟨34, _⟩ => ⟨S8x2048x5632, .f32⟩
  | .hbm, ⟨35, _⟩ => ⟨S8x2048x5632, .f32⟩
  | .hbm, ⟨36, _⟩ => ⟨S_, .f32⟩
  | .hbm, ⟨37, _⟩ => ⟨S8x2048x5632, .f32⟩
  | .hbm, ⟨38, _⟩ => ⟨S8x2048x5632, .f32⟩
  | .hbm, ⟨39, _⟩ => ⟨S_, .f32⟩
  | .hbm, ⟨40, _⟩ => ⟨S8x2048x5632, .f32⟩
  | .hbm, ⟨41, _⟩ => ⟨S8x2048x5632, .f32⟩
  | .hbm, ⟨42, _⟩ => ⟨S8x2048x5632, .f32⟩
  | .hbm, ⟨43, _⟩ => ⟨S8x2048x5632, .f32⟩
  | .hbm, ⟨44, _⟩ => ⟨S8x2048x2048, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩

abbrev nD : Nat := 1
abbrev τ : Topo := Topo.v7x

variable {F : FTy → Type} [FloatOps F]
-- ==== Kernel5.lean ====
abbrev S8x2048x2048 : Shape := ⟨3, ![8, 2048, 2048]⟩
abbrev S2048 : Shape := ⟨1, ![2048]⟩
abbrev S8x1x2048 : Shape := ⟨3, ![8, 1, 2048]⟩
abbrev S2048x6912 : Shape := ⟨2, ![2048, 6912]⟩
abbrev S1x2048 : Shape := ⟨2, ![1, 2048]⟩
abbrev S1x1x2048 : Shape := ⟨3, ![1, 1, 2048]⟩
abbrev S_ : Shape := ⟨0, ![]⟩
abbrev S8x5x2048 : Shape := ⟨3, ![8, 5, 2048]⟩
abbrev S8x8x2048 : Shape := ⟨3, ![8, 8, 2048]⟩
abbrev S8x2048x2304 : Shape := ⟨3, ![8, 2048, 2304]⟩
abbrev S8x2048x3072 : Shape := ⟨3, ![8, 2048, 3072]⟩
abbrev S8x2048x1536 : Shape := ⟨3, ![8, 2048, 1536]⟩
abbrev S1x1024x2048 : Shape := ⟨3, ![1, 1024, 2048]⟩
abbrev S1x8x2048 : Shape := ⟨3, ![1, 8, 2048]⟩
abbrev S2048x768 : Shape := ⟨2, ![2048, 768]⟩
abbrev S1x1024x768 : Shape := ⟨3, ![1, 1024, 768]⟩
abbrev S1024x2048 : Shape := ⟨2, ![1024, 2048]⟩
abbrev S8x2048 : Shape := ⟨2, ![8, 2048]⟩
abbrev S1x256x2048 : Shape := ⟨3, ![1, 256, 2048]⟩
abbrev S256x2048 : Shape := ⟨2, ![256, 2048]⟩
abbrev S256 : Shape := ⟨1, ![256]⟩
abbrev S256x1 : Shape := ⟨2, ![256, 1]⟩
abbrev S256x768 : Shape := ⟨2, ![256, 768]⟩
abbrev S1x256x768 : Shape := ⟨3, ![1, 256, 768]⟩
abbrev S1024x768 : Shape := ⟨2, ![1024, 768]⟩

abbrev nBuf : Space → Nat
  | .hbm => 15
  | .vmem => 13
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6912, .f32⟩
  | .hbm, ⟨5, _⟩ => ⟨S1x2048, .f32⟩
  | .hbm, ⟨6, _⟩ => ⟨S2048x6912, .bf16⟩
  | .hbm, ⟨7, _⟩ => ⟨S1x1x2048, .f32⟩
  | .hbm, ⟨8, _⟩ => ⟨S8x1x2048, .f32⟩
  | .hbm, ⟨9, _⟩ => ⟨S_, .f32⟩
  | .hbm, ⟨10, _⟩ => ⟨S8x5x2048, .f32⟩
  | .hbm, ⟨11, _⟩ => ⟨S8x8x2048, .f32⟩
  | .hbm, ⟨12, _⟩ => ⟨S8x2048x2304, .f32⟩
  | .hbm, ⟨13, _⟩ => ⟨S8x2048x3072, .bf16⟩
  | .hbm, ⟨14, _⟩ => ⟨S8x2048x1536, .f32⟩
  | .local _ .vmem, ⟨0, _⟩ => ⟨S1x1024x2048, .f32⟩
  | .local _ .vmem, ⟨1, _⟩ => ⟨S1x1024x2048, .f32⟩
  | .local _ .vmem, ⟨2, _⟩ => ⟨S1x8x2048, .f32⟩
  | .local _ .vmem, ⟨3, _⟩ => ⟨S1x8x2048, .f32⟩
  | .local _ .vmem, ⟨4, _⟩ => ⟨S2048x768, .bf16⟩
  | .local _ .vmem, ⟨5, _⟩ => ⟨S2048x768, .bf16⟩
  | .local _ .vmem, ⟨6, _⟩ => ⟨S1x1024x768, .f32⟩
  | .local _ .vmem, ⟨7, _⟩ => ⟨S1x1024x768, .f32⟩
  | .local _ .vmem, ⟨8, _⟩ => ⟨S1x1024x768, .bf16⟩
  | .local _ .vmem, ⟨9, _⟩ => ⟨S1x1024x768, .bf16⟩
  | .local _ .vmem, ⟨10, _⟩ => ⟨S1x1024x768, .f32⟩
  | .local _ .vmem, ⟨11, _⟩ => ⟨S1x1024x768, .f32⟩
  | .local _ .vmem, ⟨12, _⟩ => ⟨S1024x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 9], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .sge arg2 c1_i32
  let c3_i32 : BitVec 32 := 3#32
  let v4 : BitVec 1 := Scalar.cmpi .slt arg2 c3_i32
  let v5 : BitVec 1 := Scalar.andi v3 v4
  let v6 : BitVec 32 := Scalar.extui v5
  let c0_i32_1 : BitVec 32 := 0#32
  let v7 : BitVec 1 := Scalar.cmpi .ne v6 c0_i32_1
  v7

def k0_cond3 (i : grid0.Coords) : BitVec 1 :=
  let arg2 : BitVec 32 := BitVec.ofNat 32 (i 2).val
  let c3_i32_2 : BitVec 32 := 3#32
  let v8 : BitVec 1 := Scalar.cmpi .sge arg2 c3_i32_2
  let c7_i32 : BitVec 32 := 7#32
  let v9 : BitVec 1 := Scalar.cmpi .slt arg2 c7_i32
  let v10 : BitVec 1 := Scalar.andi v8 v9
  let v11 : BitVec 32 := Scalar.extui v10
  let c0_i32_3 : BitVec 32 := 0#32
  let v12 : BitVec 1 := Scalar.cmpi .ne v11 c0_i32_3
  v12

def k0_cond4 (i : grid0.Coords) : BitVec 1 :=
  let arg2 : BitVec 32 := BitVec.ofNat 32 (i 2).val
  let c7_i32_4 : BitVec 32 := 7#32
  let v13 : BitVec 1 := Scalar.cmpi .sge arg2 c7_i32_4
  let c9_i32 : BitVec 32 := 9#32
  let v14 : BitVec 1 := Scalar.cmpi .slt arg2 c9_i32
  let v15 : BitVec 1 := Scalar.andi v13 v14
  let v16 : BitVec 32 := Scalar.extui v15
  let c0_i32_5 : BitVec 32 := 0#32
  let v17 : BitVec 1 := Scalar.cmpi .ne v16 c0_i32_5
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, arg1.toNat, v2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c3_i32_0 : BitVec 32 := 3#32
  let v1 : BitVec 32 := Scalar.maxsi c0_i32 v0
  let v2 : BitVec 32 := Scalar.minsi c3_i32_0 v1
  let c0_i32_1 : BitVec 32 := 0#32
  ![arg0.toNat, arg1.toNat, v2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, arg1.toNat, v2.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1x1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference5Ideal.lean ====
abbrev S8x2048x2048 : Shape := ⟨3, ![8, 2048, 2048]⟩
abbrev S2048 : Shape := ⟨1, ![2048]⟩
abbrev S8x1x2048 : Shape := ⟨3, ![8, 1, 2048]⟩
abbrev S2048x6912 : Shape := ⟨2, ![2048, 6912]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x2048x6912 : Shape := ⟨3, ![8, 2048, 6912]⟩
abbrev S8x2048x2304 : Shape := ⟨3, ![8, 2048, 2304]⟩
abbrev S8x2048x3072 : Shape := ⟨3, ![8, 2048, 3072]⟩
abbrev S8x2048x1536 : Shape := ⟨3, ![8, 2048, 1536]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x1x2048, .f32⟩
  | .hbm, ⟨3, _⟩ => ⟨S8x1x2048, .f32⟩
  | .hbm, ⟨4, _⟩ => ⟨S2048x6912, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x1x2048, .f32⟩
  | .hbm, ⟨23, _⟩ => ⟨S8x1x2048, .f32⟩
  | .hbm, ⟨24, _⟩ => ⟨S8x2048x2048, .f32⟩
  | .hbm, ⟨25, _⟩ => ⟨S8x2048x2048, .f32⟩
  | .hbm, ⟨26, _⟩ => ⟨S8x2048x2048, .f32⟩
  | .hbm, ⟨27, _⟩ => ⟨S8x2048x2048, .f32⟩
  | .hbm, ⟨28, _⟩ => ⟨S8x2048x6912, .f32⟩
  | .hbm, ⟨29, _⟩ => ⟨S8x2048x2304, .f32⟩
  | .hbm, ⟨30, _⟩ => ⟨S8x2048x3072, .f32⟩
  | .hbm, ⟨31, _⟩ => ⟨S8x2048x3072, .bf16⟩
  | .hbm, ⟨32, _⟩ => ⟨S8x2048x1536, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel6.lean ====
abbrev S8x2048 : Shape := ⟨2, ![8, 2048]⟩
abbrev S2x2048x12288 : Shape := ⟨3, ![2, 2048, 12288]⟩
abbrev S2x12288 : Shape := ⟨2, ![2, 12288]⟩
abbrev S2x1x12288 : Shape := ⟨3, ![2, 1, 12288]⟩
abbrev S2x8x12288 : Shape := ⟨3, ![2, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S2x1x12288, .f32⟩
  | .hbm, ⟨4, _⟩ => ⟨S2x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8x2048 : Shape := ⟨2, ![8, 2048]⟩
abbrev S2x2048x12288 : Shape := ⟨3, ![2, 2048, 12288]⟩
abbrev S2x12288 : Shape := ⟨2, ![2, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S2x8x12288 : Shape := ⟨3, ![2, 8, 12288]⟩

abbrev nBuf : Space → Nat
  | .hbm => 31
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2x2048x12288, .f32⟩
  | .hbm, ⟨2, _⟩ => ⟨S2x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S1x2048x12288, .f32⟩
  | .hbm, ⟨21, _⟩ => ⟨S2048x12288, .f32⟩
  | .hbm, ⟨22, _⟩ => ⟨S8x12288, .f32⟩
  | .hbm, ⟨23, _⟩ => ⟨S1x12288, .f32⟩
  | .hbm, ⟨24, _⟩ => ⟨S12288, .f32⟩
  | .hbm, ⟨25, _⟩ => ⟨S1x12288, .f32⟩
  | .hbm, ⟨26, _⟩ => ⟨S8x12288, .f32⟩
  | .hbm, ⟨27, _⟩ => ⟨S8x12288, .f32⟩
  | .hbm, ⟨28, _⟩ => ⟨S1x8x12288, .f32⟩
  | .hbm, ⟨29, _⟩ => ⟨S1x8x12288, .f32⟩
  | .hbm, ⟨30, _⟩ => ⟨S2x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel7.lean ====
abbrev S8x2048x3072 : Shape := ⟨3, ![8, 2048, 3072]⟩
abbrev S32x12 : Shape := ⟨2, ![32, 12]⟩
abbrev S4x64 : Shape := ⟨2, ![4, 64]⟩
abbrev S128 : Shape := ⟨1, ![128]⟩
abbrev S32x4 : Shape := ⟨2, ![32, 4]⟩
abbrev S1024 : Shape := ⟨1, ![1024]⟩
abbrev S_ : Shape := ⟨0, ![]⟩
abbrev S4 : Shape := ⟨1, ![4]⟩
abbrev S4x1 : Shape := ⟨2, ![4, 1]⟩
abbrev S1x1024 : Shape := ⟨2, ![1, 1024]⟩
abbrev S4x1024 : Shape := ⟨2, ![4, 1024]⟩
abbrev S4x1024x1 : Shape := ⟨3, ![4, 1024, 1]⟩
abbrev S4x1024x4 : Shape := ⟨3, ![4, 1024, 4]⟩
abbrev S4x4x1024 : Shape := ⟨3, ![4, 4, 1024]⟩
abbrev S4x4x1x1024 : Shape := ⟨4, ![4, 4, 1, 1024]⟩
abbrev S4x4x8x1024 : Shape := ⟨4, ![4, 4, 8, 1024]⟩
abbrev S1x128 : Shape := ⟨2, ![1, 128]⟩
abbrev S8x2048x512 : Shape := ⟨3, ![8, 2048, 512]⟩
abbrev S1x512x128 : Shape := ⟨3, ![1, 512, 128]⟩
abbrev S1x2048x128 : Shape := ⟨3, ![1, 2048, 128]⟩
abbrev S1x4x8x1024 : Shape := ⟨4, ![1, 4, 8, 1024]⟩
abbrev S4x512x512 : Shape := ⟨3, ![4, 512, 512]⟩
abbrev S512x512 : Shape := ⟨2, ![512, 512]⟩
abbrev S1x512x64 : Shape := ⟨3, ![1, 512, 64]⟩
abbrev S512x64 : Shape := ⟨2, ![512, 64]⟩
abbrev S1x1x8x1024 : Shape := ⟨4, ![1, 1, 8, 1024]⟩
abbrev S8x1024 : Shape := ⟨2, ![8, 1024]⟩
abbrev S512x1024 : Shape := ⟨2, ![512, 1024]⟩
abbrev S1x512x512 : Shape := ⟨3, ![1, 512, 512]⟩
abbrev S512x1 : Shape := ⟨2, ![512, 1]⟩
abbrev S512x128 : Shape := ⟨2, ![512, 128]⟩
abbrev S512 : Shape := ⟨1, ![512]⟩
abbrev S1x64 : Shape := ⟨2, ![1, 64]⟩
abbrev S1 : Shape := ⟨1, ![1]⟩
abbrev S1x1 : Shape := ⟨2, ![1, 1]⟩

abbrev nBuf : Space → Nat
  | .hbm => 65
  | .vmem => 13
  | .smem => 0
  | _ => 0

abbrev bufTy : (tb : Table) → Fin (tcTables nBuf tb) → BufTy
  | .hbm, ⟨0, _⟩ => ⟨S8x2048x3072, .bf16⟩
  | .hbm, ⟨1, _⟩ => ⟨S32x12, .f32⟩
  | .hbm, ⟨2, _⟩ => ⟨S4x64, .f32⟩
  | .hbm, ⟨3, _⟩ => ⟨S128, .f32⟩
  | .hbm, ⟨4, _⟩ => ⟨S32x4, .f32⟩
  | .hbm, ⟨5, _⟩ => ⟨S1024, .i32⟩
  | .hbm, ⟨6, _⟩ => ⟨S_, .i32⟩
  | .hbm, ⟨7, _⟩ => ⟨S1024, .i32⟩
  | .hbm, ⟨8, _⟩ => ⟨S1024, .i1⟩
  | .hbm, ⟨9, _⟩ => ⟨S1024, .i32⟩
  | .hbm, ⟨10, _⟩ => ⟨S_, .i32⟩
  | .hbm, ⟨11, _⟩ => ⟨S1024, .i32⟩
  | .hbm, ⟨12, _⟩ => ⟨S1024, .i32⟩
  | .hbm, ⟨13, _⟩ => ⟨S1024, .i32⟩
  | .hbm, ⟨14, _⟩ => ⟨S4, .i32⟩
  | .hbm, ⟨15, _⟩ => ⟨S4x1, .i32⟩
  | .hbm, ⟨16, _⟩ => ⟨S_, .i32⟩
  | .hbm, ⟨17, _⟩ => ⟨S4x1, .i32⟩
  | .hbm, ⟨18, _⟩ => ⟨S4x1, .i32⟩
  | .hbm, ⟨19, _⟩ => ⟨S1x1024, .i32⟩
  | .hbm, ⟨20, _⟩ => ⟨S4x1024, .i32⟩
  | .hbm, ⟨21, _⟩ => ⟨S4x1024, .i32⟩
  | .hbm, ⟨22, _⟩ => ⟨S4x1024, .i32⟩
  | .hbm, ⟨23, _⟩ => ⟨S_, .i32⟩
  | .hbm, ⟨24, _⟩ => ⟨S4x1024, .i32⟩
  | .hbm, ⟨25, _⟩ => ⟨S4x1024, .i32⟩
  | .hbm, ⟨26, _⟩ => ⟨S_, .i32⟩
  | .hbm, ⟨27, _⟩ => ⟨S4x1024, .i32⟩
  | .hbm, ⟨28, _⟩ => ⟨S4x1024, .i32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | .hbm, ⟨37, _⟩ => ⟨S_, .f32⟩
  | .hbm, ⟨38, _⟩ => ⟨S4x1024, .f32⟩
  | .hbm, ⟨39, _⟩ => ⟨S4x1024, .f32⟩
  | .hbm, ⟨40, _⟩ => ⟨S4x1024, .i32⟩
  | .hbm, ⟨41, _⟩ => ⟨S_, .i32⟩
  | .hbm, ⟨42, _⟩ => ⟨S4x1024, .i32⟩
  | .hbm, ⟨43, _⟩ => ⟨S4x1024, .i32⟩
  | .hbm, ⟨44, _⟩ => ⟨S_, .i32⟩
  | .hbm, ⟨45, _⟩ => ⟨S4x1024, .i32⟩
  | .hbm, ⟨46, _⟩ => ⟨S4x1024, .i32⟩
  | .hbm, ⟨47, _⟩ => ⟨S_, .i32⟩
  | .hbm, ⟨48, _⟩ => ⟨S4x1024, .i32⟩
  | .hbm, ⟨49, _⟩ => ⟨S4x1024, .i1⟩
  | .hbm, ⟨50, _⟩ => ⟨S4x1024, .i32⟩
  | .hbm, ⟨51, _⟩ => ⟨S_, .i32⟩
  | .hbm, ⟨52, _⟩ => ⟨S4x1024, .i32⟩
  | .hbm, ⟨53, _⟩ => ⟨S4x1024, .i1⟩
  | .hbm, ⟨54, _⟩ => ⟨S_, .i32⟩
  | .hbm, ⟨55, _⟩ => ⟨S4x1024, .i32⟩
  | .hbm, ⟨56, _⟩ => ⟨S4x1024, .i32⟩
  | .hbm, ⟨57, _⟩ => ⟨S4x1024, .i32⟩
  | .hbm, ⟨58, _⟩ => ⟨S4x1024x1, .i32⟩
  | .hbm, ⟨59, _⟩ => ⟨S4x1024x4, .f32⟩
  | .hbm, ⟨60, _⟩ => ⟨S4x4x1024, .f32⟩
  | .hbm, ⟨61, _⟩ => ⟨S4x4x1x1024, .f32⟩
  | .hbm, ⟨62, _⟩ => ⟨S4x4x8x1024, .f32⟩
  | .hbm, ⟨63, _⟩ => ⟨S1x128, .f32⟩
  | .hbm, ⟨64, _⟩ => ⟨S8x2048x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x4x8x1024, .f32⟩
  | .local _ .vmem, ⟨7, _⟩ => ⟨S1x4x8x1024, .f32⟩
  | .local _ .vmem, ⟨8, _⟩ => ⟨S4x64, .f32⟩
  | .local _ .vmem, ⟨9, _⟩ => ⟨S1x128, .f32⟩
  | .local _ .vmem, ⟨10, _⟩ => ⟨S1x512x128, .bf16⟩
  | .local _ .vmem, ⟨11, _⟩ => ⟨S1x512x128, .bf16⟩
  | .local _ .vmem, ⟨12, _⟩ => ⟨S4x512x512, .f32⟩
  | _, _ => ⟨S8x2048x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c_2 : Ref sig .tc := ⟨.hbm, 23, rfl⟩
abbrev main_v16 : Ref sig .tc := ⟨.hbm, 24, rfl⟩
abbrev main_v17 : Ref sig .tc := ⟨.hbm, 25, rfl⟩
abbrev main_c_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_c_7 : Ref sig .tc := ⟨.hbm, 44, rfl⟩
abbrev main_v31 : Ref sig .tc := ⟨.hbm, 45, rfl⟩
abbrev main_v32 : Ref sig .tc := ⟨.hbm, 46, rfl⟩
abbrev main_c_8 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_9 : Ref sig .tc := ⟨.hbm, 51, rfl⟩
abbrev main_v36 : Ref sig .tc := ⟨.hbm, 52, rfl⟩
abbrev main_v37 : Ref sig .tc := ⟨.hbm, 53, rfl⟩
abbrev main_c_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c512_i32 : BitVec 32 := 512#32
  let v26 : BitVec 32 := Scalar.muli arg2 c512_i32
  v26
def k0_off1 (i : grid0.Coords) : Fin 3 → Nat :=
  let arg2 : BitVec 32 := BitVec.ofNat 32 (i 2).val
  let v28 : BitVec 32 := Scalar.subi arg2 arg2
  let v29 : Index := Scalar.indexCast v28
  let c0_13 : Index := 0#32
  let c0_14 : Index := 0#32
  ![v29.toNat, 0, 0]
def k0_off2 (i : grid0.Coords) : Fin 3 → Nat :=
  let c0_15 : Index := 0#32
  let arg2 : BitVec 32 := BitVec.ofNat 32 (i 2).val
  let c512_i32 : BitVec 32 := 512#32
  let v26 : BitVec 32 := Scalar.muli arg2 c512_i32
  let v27 : BitVec 32 := v26
  let v32 : Index := Scalar.indexCast v27
  let c0_16 : Index := 0#32
  ![0, v32.toNat, 0]
def k0_off3 (i : grid0.Coords) : Fin 3 → Nat :=
  let c0_17 : Index := 0#32
  let arg2 : BitVec 32 := BitVec.ofNat 32 (i 2).val
  let c512_i32 : BitVec 32 := 512#32
  let v26 : BitVec 32 := Scalar.muli arg2 c512_i32
  let v27 : BitVec 32 := v26
  let v35 : Index := Scalar.indexCast v27
  let c0_18 : Index := 0#32
  ![0, v35.toNat, 0]
def k0_off4 (i : grid0.Coords) : Fin 3 → Nat :=
  let c0_24 : Index := 0#32
  let arg2 : BitVec 32 := BitVec.ofNat 32 (i 2).val
  let c512_i32 : BitVec 32 := 512#32
  let v26 : BitVec 32 := Scalar.muli arg2 c512_i32
  let v27 : BitVec 32 := v26
  let v59 : Index := Scalar.indexCast v27
  let c64_25 : Index := 64#32
  ![0, v59.toNat, 64]
@[reducible] def k0_t1_loop (i : grid0.Coords) : Scf.Loop 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_32 : BitVec 32 := 1#32
  ⟨c0_i32_31, v87, c1_i32_32⟩
def k0_mult2 (i : grid0.Coords) (k0_t1 : Fin (k0_t1_loop i).trips) : BitVec 32 :=
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  v133
def k0_off5 (i : grid0.Coords) (k0_t1 : Fin (k0_t1_loop i).trips) : Fin 3 → Nat :=
  let arg2 : BitVec 32 := BitVec.ofNat 32 (i 2).val
  let c0_i32_31 : BitVec 32 := 0#32
  let c1_i32_32 : BitVec 32 := 1#32
  let arg11 : BitVec 32 := Scf.iv c0_i32_31 c1_i32_32 k0_t1
  let v135 : BitVec 32 := Scalar.subi arg2 arg11
  let v136 : Index := Scalar.indexCast v135
  let c0_49 : Index := 0#32
  let c0_50 : Index := 0#32
  ![v136.toNat, 0, 0]
def k0_off6 (i : grid0.Coords) (k0_t1 : Fin (k0_t1_loop i).trips) : Fin 3 → Nat :=
  let c0_51 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v139 : Index := Scalar.indexCast v134
  let c0_52 : Index := 0#32
  ![0, v139.toNat, 0]
def k0_off7 (i : grid0.Coords) (k0_t1 : Fin (k0_t1_loop i).trips) : Fin 3 → Nat :=
  let c0_53 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v142 : Index := Scalar.indexCast v134
  let c0_54 : Index := 0#32
  ![0, v142.toNat, 0]
def k0_off8 (i : grid0.Coords) (k0_t1 : Fin (k0_t1_loop i).trips) : Fin 3 → Nat :=
  let c0_59 : Index := 0#32
  let c0_i32_31 : BitVec 32 := 0#32
  let c1_i32_32 : BitVec 32 := 1#32
  let arg11 : BitVec 32 := Scf.iv c0_i32_31 c1_i32_32 k0_t1
  let c512_i32_48 : BitVec 32 := 512#32
  let v133 : BitVec 32 := Scalar.muli arg11 c512_i32_48
  let v134 : BitVec 32 := v133
  let v164 : Index := Scalar.indexCast v134
  let c64_60 : Index := 64#32
  ![0, v164.toNat, 64]
@[reducible] def k0_t2_loop (i : grid0.Coords) : Scf.Loop 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let v84 : BitVec 32 := Scalar.addi c0_i32_31 v83
  let c1_i32_33 : BitVec 32 := 1#32
  ⟨v87, v84, c1_i32_33⟩
def k0_mult3 (i : grid0.Coords) (k0_t2 : Fin (k0_t2_loop i).trips) : BitVec 32 :=
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  v133
def k0_off9 (i : grid0.Coords) (k0_t2 : Fin (k0_t2_loop i).trips) : Fin 3 → Nat :=
  let arg2 : BitVec 32 := BitVec.ofNat 32 (i 2).val
  let c0_i32_31 : BitVec 32 := 0#32
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let v135 : BitVec 32 := Scalar.subi arg2 arg11
  let v136 : Index := Scalar.indexCast v135
  let c0_49 : Index := 0#32
  let c0_50 : Index := 0#32
  ![v136.toNat, 0, 0]
def k0_off10 (i : grid0.Coords) (k0_t2 : Fin (k0_t2_loop i).trips) : Fin 3 → Nat :=
  let c0_51 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v139 : Index := Scalar.indexCast v134
  let c0_52 : Index := 0#32
  ![0, v139.toNat, 0]
def k0_off11 (i : grid0.Coords) (k0_t2 : Fin (k0_t2_loop i).trips) : Fin 3 → Nat :=
  let c0_53 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v142 : Index := Scalar.indexCast v134
  let c0_54 : Index := 0#32
  ![0, v142.toNat, 0]
def k0_off12 (i : grid0.Coords) (k0_t2 : Fin (k0_t2_loop i).trips) : Fin 3 → Nat :=
  let c0_59 : Index := 0#32
  let c0_i32_31 : BitVec 32 := 0#32
  let arg2 : BitVec 32 := BitVec.ofNat 32 (i 2).val
  let v83 : BitVec 32 := Scalar.subi arg2 c0_i32_31
  let c1_i32 : BitVec 32 := 1#32
  let v85 : BitVec 32 := Scalar.divsi v83 c1_i32
  let v86 : BitVec 32 := Scalar.muli v85 c1_i32
  let v87 : BitVec 32 := Scalar.addi c0_i32_31 v86
  let c1_i32_33 : BitVec 32 := 1#32
  let arg11 : BitVec 32 := Scf.iv v87 c1_i32_33 k0_t2
  let c512_i32_48 : BitVec 32 := 512#32
  let v133 : BitVec 32 := Scalar.muli arg11 c512_i32_48
  let v134 : BitVec 32 := v133
  let v164 : Index := Scalar.indexCast v134
  let c64_60 : Index := 64#32
  ![0, v164.toNat, 64]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c12_i32 : BitVec 32 := 12#32
  let v0 : BitVec 32 := Scalar.addi c12_i32 arg0
  let c0_i32 : BitVec 32 := 0#32
  ![arg1.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg0
  let c0_i32 : BitVec 32 := 0#32
  let c0_i32_0 : BitVec 32 := 0#32
  ![arg1.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat, arg0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Kernel7Ideal.lean ====
variable {F : FTy → Type} [FloatOps F] [Named F]
def κ : String → Option EReal := fun
  | "log2e" => some (((Real.log 2)⁻¹ : ℝ) : EReal)
  | "logit_scale" => some (((Real.log 2)⁻¹ * 8⁻¹ : ℝ) : EReal)
  | "mask" => some ⊥
  | _ => none
-- ==== Reference7Ideal.lean ====
abbrev S8x2048x3072 : Shape := ⟨3, ![8, 2048, 3072]⟩
abbrev S32x12 : Shape := ⟨2, ![32, 12]⟩
abbrev S4x64 : Shape := ⟨2, ![4, 64]⟩
abbrev S128 : Shape := ⟨1, ![128]⟩
abbrev S8x2048x512 : Shape := ⟨3, ![8, 2048, 512]⟩
abbrev S32x4 : Shape := ⟨2, ![32, 4]⟩
abbrev S1x64 : Shape := ⟨2, ![1, 64]⟩
abbrev S64 : Shape := ⟨1, ![64]⟩
abbrev S_ : Shape := ⟨0, ![]⟩
abbrev S8x2048x4x2x64 : Shape := ⟨5, ![8, 2048, 4, 2, 64]⟩
abbrev S8x2048x4x128 : Shape := ⟨4, ![8, 2048, 4, 128]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2048x2048x1 : Shape := ⟨3, ![2048, 2048, 1]⟩
abbrev S2048x2048x4 : Shape := ⟨3, ![2048, 2048, 4]⟩
abbrev S4x2048x2048 : Shape := ⟨3, ![4, 2048, 2048]⟩
abbrev S8x2x4x2048x2048 : Shape := ⟨5, ![8, 2, 4, 2048, 2048]⟩
abbrev S1x1x4x2048x2048 : Shape := ⟨5, ![1, 1, 4, 2048, 2048]⟩
abbrev S8x2x4x2048 : Shape := ⟨4, ![8, 2, 4, 2048]⟩
abbrev S8x2x4x2048x1 : Shape := ⟨5, ![8, 2, 4, 2048, 1]⟩
abbrev S8x1x4x2048x2048 : Shape := ⟨5, ![8, 1, 4, 2048, 2048]⟩
abbrev S8x4x2048x2048 : Shape := ⟨4, ![8, 4, 2048, 2048]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 134
  | .vmem => 0
  | .smem => 0
  | _ => 0

abbrev hbmTy0_0 (i : Nat) : BufTy := match i % 128 with
  | 0 => ⟨S8x2048x3072, .bf16⟩
  | 1 => ⟨S32x12, .f32⟩
  | 2 => ⟨S4x64, .f32⟩
  | 3 => ⟨S128, .f32⟩
  | 4 => ⟨S8x2048x3072, .f32⟩
  | 5 => ⟨S8x2048x512, .f32⟩
  | 6 => ⟨S8x2048x512, .f32⟩
  | 7 => ⟨S8x2048x512, .f32⟩
  | 8 => ⟨S32x4, .f32⟩
  | 9 => ⟨S1x64, .f32⟩
  | 10 => ⟨S64, .f32⟩
  | 11 => ⟨S1x64, .f32⟩
  | 12 => ⟨S64, .f32⟩
  | 13 => ⟨S64, .f32⟩
  | 14 => ⟨S_, .f32⟩
  | 15 => ⟨S_, .f32⟩
  | 16 => ⟨S_, .f32⟩
  | 17 => ⟨S1x64, .f32⟩
  | 18 => ⟨S64, .f32⟩
  | 19 => ⟨S1x64, .f32⟩
  | 20 => ⟨S64, .f32⟩
  | 21 => ⟨S64, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S8x2048x4x2x64, .f32⟩
  | 29 => ⟨S8x2048x4x2x64, .f32⟩
  | 30 => ⟨S8x2048x4x128, .f32⟩
  | 31 => ⟨S2048, .i32⟩
  | 32 => ⟨S2048x1, .i32⟩
  | 33 => ⟨S1x2048, .i32⟩
  | 34 => ⟨S2048x2048, .i32⟩
  | 35 => ⟨S2048x2048, .i32⟩
  | 36 => ⟨S2048x2048, .i32⟩
  | 37 => ⟨S_, .i32⟩
  | 38 => ⟨S2048x2048, .i32⟩
  | 39 => ⟨S2048x2048, .i32⟩
  | 40 => ⟨S_, .i32⟩
  | 41 => ⟨S2048x2048, .i32⟩
  | 42 => ⟨S2048x2048, .i32⟩
  | 43 => ⟨S2048x2048, .f32⟩
  | 44 => ⟨S_, .f32⟩
  | 45 => ⟨S2048x2048, .f32⟩
  | 46 => ⟨S2048x2048, .f32⟩
  | 47 => ⟨S2048x2048, .f32⟩
  | 48 => ⟨S_, .f32⟩
  | 49 => ⟨S2048x2048, .f32⟩
  | 50 => ⟨S2048x2048, .f32⟩
  | 51 => ⟨S_, .f32⟩
  | 52 => ⟨S2048x2048, .f32⟩
  | 53 => ⟨S2048x2048, .f32⟩
  | 54 => ⟨S2048x2048, .i32⟩
  | 55 => ⟨S_, .i32⟩
  | 56 => ⟨S2048x2048, .i32⟩
  | 57 => ⟨S2048x2048, .i32⟩
  | 58 => ⟨S_, .i32⟩
  | 59 => ⟨S2048x2048, .i32⟩
  | 60 => ⟨S2048x2048, .i32⟩
  | 61 => ⟨S_, .i32⟩
  | 62 => ⟨S2048x2048, .i32⟩
  | 63 => ⟨S2048x2048, .i1⟩
  | 64 => ⟨S2048x2048, .i32⟩
  | 65 => ⟨S_, .i32⟩
  | 66 => ⟨S2048x2048, .i32⟩
  | 67 => ⟨S2048x2048, .i1⟩
  | 68 => ⟨S_, .i32⟩
  | 69 => ⟨S2048x2048, .i32⟩
  | 70 => ⟨S2048x2048, .i32⟩
  | 71 => ⟨S2048x2048, .i32⟩
  | 72 => ⟨S2048x2048x1, .i32⟩
  | 73 => ⟨S2048x2048x4, .f32⟩
  | 74 => ⟨S4x2048x2048, .f32⟩
  | 75 => ⟨S8x2x4x2048x2048, .f32⟩
  | 76 => ⟨S_, .f32⟩
  | 77 => ⟨S8x2x4x2048x2048, .f32⟩
  | 78 => ⟨S8x2x4x2048x2048, .f32⟩
  | 79 => ⟨S1x1x4x2048x2048, .f32⟩
  | 80 => ⟨S8x2x4x2048x2048, .f32⟩
  | 81 => ⟨S8x2x4x2048x2048, .f32⟩
  | 82 => ⟨S_, .i32⟩
  | 83 => ⟨S2048x2048, .i32⟩
  | 84 => ⟨S2048x2048, .i1⟩
  | 85 => ⟨S_, .f32⟩
  | 86 => ⟨S_, .f32⟩
  | 87 => ⟨S8x2x4x2048x2048, .i1⟩
  | 88 => ⟨S8x2x4x2048x2048, .f32⟩
  | 89 => ⟨S8x2x4x2048x2048, .f32⟩
  | 90 => ⟨S_, .f32⟩
  | 91 => ⟨S8x2x4x2048, .f32⟩
  | 92 => ⟨S_, .f32⟩
  | 93 => ⟨S8x2x4x2048, .f32⟩
  | 94 => ⟨S8x2x4x2048, .f32⟩
  | 95 => ⟨S8x2x4x2048x1, .f32⟩
  | 96 => ⟨S8x2x4x2048x2048, .f32⟩
  | 97 => ⟨S8x2x4x2048x2048, .f32⟩
  | 98 => ⟨S8x2x4x2048x2048, .f32⟩
  | 99 => ⟨S_, .f32⟩
  | 100 => ⟨S8x2x4x2048, .f32⟩
  | 101 => ⟨S8x2x4x2048x1, .f32⟩
  | 102 => ⟨S8x2x4x2048x2048, .f32⟩
  | 103 => ⟨S8x2x4x2048x2048, .f32⟩
  | 104 => ⟨S8x1x4x2048x2048, .f32⟩
  | 105 => ⟨S8x4x2048x2048, .f32⟩
  | 106 => ⟨S8x1x4x2048x2048, .f32⟩
  | 107 => ⟨S8x4x2048x2048, .f32⟩
  | 108 => ⟨S8x4x2048x2048, .f32⟩
  | 109 => ⟨S8x4x2048x2048, .f32⟩
  | 110 => ⟨S8x4x2048x2048, .f32⟩
  | 111 => ⟨S8x4x128x2048, .f32⟩
  | 112 => ⟨S8x2048x4x128, .f32⟩
  | 113 => ⟨S8x2048x4x128, .f32⟩
  | 114 => ⟨S_, .f32⟩
  | 115 => ⟨S8x2048x4, .f32⟩
  | 116 => ⟨S8x2048x4x1, .f32⟩
  | 117 => ⟨S_, .f32⟩
  | 118 => ⟨S8x2048x4x1, .f32⟩
  | 119 => ⟨S8x2048x4x1, .f32⟩
  | 120 => ⟨S_, .f32⟩
  | 121 => ⟨S8x2048x4x1, .f32⟩
  | 122 => ⟨S8x2048x4x1, .f32⟩
  | 123 => ⟨S8x2048x4x1, .f32⟩
  | 124 => ⟨S8x2048x4x128, .f32⟩
  | 125 => ⟨S8x2048x4x128, .f32⟩
  | 126 => ⟨S1x1x1x128, .f32⟩
  | 127 => ⟨S8x2048x4x128, .f32⟩
  | _ => ⟨S8x2048x3072, .bf16⟩

abbrev hbmTy0_1 (i : Nat) : BufTy := match i % 128 with
  | 0 => ⟨S8x2048x4x128, .f32⟩
  | 1 => ⟨S_, .f32⟩
  | 2 => ⟨S8x2048x4x128, .f32⟩
  | 3 => ⟨S8x2048x4x128, .f32⟩
  | 4 => ⟨S8x2048x512, .f32⟩
  | 5 => ⟨S8x2048x512, .bf16⟩
  | _ => ⟨S8x2048x3072, .bf16⟩

abbrev hbmTy (i : Nat) : BufTy := match i / 128 with
  | 0 => hbmTy0_0 i
  | 1 => hbmTy0_1 i
  | _ => ⟨S8x2048x3072, .bf16⟩

abbrev bufTy : (tb : Table) → Fin (tcTables nBuf tb) → BufTy
  | .hbm, ⟨i, _⟩ => hbmTy i
  | _, _ => ⟨S8x2048x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_v30 : Ref sig .tc := ⟨.hbm, 38, rfl⟩
abbrev main_v31 : Ref sig .tc := ⟨.hbm, 39, rfl⟩
abbrev main_c_2 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_3 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_cst_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_c_6 : Ref sig .tc := ⟨.hbm, 55, rfl⟩
abbrev main_v43 : Ref sig .tc := ⟨.hbm, 56, rfl⟩
abbrev main_v44 : Ref sig .tc := ⟨.hbm, 57, rfl⟩
abbrev main_c_7 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_9 : Ref sig .tc := ⟨.hbm, 65, rfl⟩
abbrev main_v50 : Ref sig .tc := ⟨.hbm, 66, rfl⟩
abbrev main_v51 : Ref sig .tc := ⟨.hbm, 67, rfl⟩
abbrev main_c_10 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_11 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_12 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_16 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_cst_17 : Ref sig .tc := ⟨.hbm, 114, rfl⟩
abbrev main_v88 : Ref sig .tc := ⟨.hbm, 115, rfl⟩
abbrev main_v89 : Ref sig .tc := ⟨.hbm, 116, rfl⟩
abbrev main_cst_18 : Ref sig .tc := ⟨.hbm, 117, rfl⟩
abbrev main_v90 : Ref sig .tc := ⟨.hbm, 118, rfl⟩
abbrev main_v91 : Ref sig .tc := ⟨.hbm, 119, rfl⟩
abbrev main_cst_19 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_cst_20 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩

abbrev nD : Nat := 1
abbrev τ : Topo := Topo.v7x

variable {F : FTy → Type} [FloatOps F]
-- ==== Proof.Block.lean ====
/- What one grid point of the differential attention kernel computes, in closed form: the block it writes is one
   function `body` of the blocks it reads, of the bias tile it holds in scratch, and of the query span's number. The loads at
   computed offsets become rows of the arrays (`keyRows`, `valueRows`, `biasTile`), the loop over the earlier spans becomes a
   recursion (`spans`), and the loop over the remainder, which has no trip, goes. -/
module

public import proofs.«01_k».proof.Proof.Gen.KernelIdeal.Value
public import Idealize.ShloMosaic.Lib.ValueIdx

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx

/-- The running state of the two softmaxes of a span of 512 queries: for each, the maximum, the sum of the weights, and the
    weighted sum of the values. -/
abbrev Acc := FVec Ideal S512x1 .f32 × FVec Ideal S512x1 .f32 × FVec Ideal S512x128 .f32 × FVec Ideal S512x1 .f32 × FVec Ideal S512x1 .f32 × FVec Ideal S512x128 .f32

/-- Half `o` (0 or 64) of the rows of span `k` of the keys. -/
def keyRows (X : Vec Ideal S1x2048x128 .bf16) (k o : Nat) : Vec Ideal S1x512x64 .bf16 :=
  fun y => X (ix3 0 (Fin.ofNat 2048 (512 * k + (y 1).val)) (Fin.ofNat 128 (o + (y 2).val)))

/-- The rows of span `k` of the values. -/
def valueRows (X : Vec Ideal S1x2048x128 .bf16) (k : Nat) : Vec Ideal S1x512x128 .bf16 :=
  fun y => X (ix3 0 (Fin.ofNat 2048 (512 * k + (y 1).val)) (y 2))

/-- Half `o` (0 or 64) of a block of queries. -/
def queryHalf (X : Vec Ideal S1x512x128 .bf16) (o : Nat) : Vec Ideal S1x512x64 .bf16 :=
  fun y => X (ix3 0 (y 1) (Fin.ofNat 128 (o + (y 2).val)))

/-- The bias tile at a distance of `d` spans. -/
def biasTile (B : Vec Ideal S4x512x512 .f32) (d : Nat) : Vec Ideal S1x512x512 .f32 :=
  fun y => B (ix3 (Fin.ofNat 4 d) (y 1) (y 2))

/-- One step of the loop over the earlier spans. -/
def trip (q0 q1 : FVec Ideal S512x64 .bf16) (b : Vec Ideal S1x512x512 .f32) (v : Vec Ideal S1x512x128 .bf16)
    (k0 k1 : Vec Ideal S1x512x64 .bf16) (s : Acc) : Acc :=
  (k0_pay8 q0 s.1 b k0, k0_pay11 q0 s.1 s.2.1 b k0, k0_pay12 q0 s.1 s.2.2.1 b v k0,
    k0_pay14 q1 s.2.2.2.1 b k1,
    k0_pay56 s.2.2.2.2.1 (k0_pay15 q1 s.2.2.2.1 b k1) (k0_pay16 q1 s.2.2.2.1 b k1),
    k0_pay57 s.2.2.2.2.2 (k0_pay6 v) (k0_pay15 q1 s.2.2.2.1 b k1) (k0_pay16 q1 s.2.2.2.1 b k1))

/-- The state after the first `n` of the earlier spans. -/
def spans (q0 q1 : FVec Ideal S512x64 .bf16) (x1 x2 : Vec Ideal S1x2048x128 .bf16) (B : Vec Ideal S4x512x512 .f32) (qs : Nat) (s : Acc) :
    Nat → Acc
  | 0 => s
  | n + 1 => trip q0 q1 (biasTile B (qs - n)) (valueRows x2 n) (keyRows x1 n 0) (keyRows x1 n 64) (spans q0 q1 x1 x2 B qs s n)

/-- The state after the span of the queries themselves, which comes first. -/
def diag (q0 q1 : FVec Ideal S512x64 .bf16) (x1 x2 : Vec Ideal S1x2048x128 .bf16) (B : Vec Ideal S4x512x512 .f32) (qs : Nat) : Acc :=
  (k0_pay43 k0_pay29 q0 k0_pay34 (k0_pay40 (biasTile B 0)) (keyRows x1 qs 0),
    k0_pay46 k0_pay29 q0 k0_pay34 k0_pay35 (k0_pay40 (biasTile B 0)) (keyRows x1 qs 0),
    k0_pay47 k0_pay29 q0 k0_pay34 k0_pay36 (k0_pay40 (biasTile B 0)) (valueRows x2 qs) (keyRows x1 qs 0),
    k0_pay49 k0_pay29 q1 k0_pay37 (k0_pay40 (biasTile B 0)) (keyRows x1 qs 64),
    k0_pay52 k0_pay29 q1 k0_pay37 k0_pay38 (k0_pay40 (biasTile B 0)) (keyRows x1 qs 64),
    k0_pay55 (k0_pay41 (valueRows x2 qs))
      (k0_pay53 k0_pay29 q1 k0_pay37 k0_pay39 (k0_pay40 (biasTile B 0)) (keyRows x1 qs 64))
      (k0_pay54 k0_pay29 q1 k0_pay37 (k0_pay40 (biasTile B 0)) (keyRows x1 qs 64)))

/-- What is written from a state: the two quotients combined, normalized and scaled. -/
def finish (s : Acc) (x4 : Vec Ideal S4x64 .f32) (x5 : Vec Ideal S1x128 .f32) : Vec Ideal S1x512x128 .bf16 :=
  k0_pay1 (k0_pay60 s.2.1 s.2.2.1 s.2.2.2.2.1 s.2.2.2.2.2 x4) (k0_pay61 x5)

/-- The block a grid point of query span `qs` writes, from its queries `x0`, keys `x1`, values `x2`, mixing parameters `x4`,
    gain `x5` and the bias tiles `B` of its head. -/
def body (x0 : Vec Ideal S1x512x128 .bf16) (x1 x2 : Vec Ideal S1x2048x128 .bf16) (x4 : Vec Ideal S4x64 .f32) (x5 : Vec Ideal S1x128 .f32)
    (B : Vec Ideal S4x512x512 .f32) (qs : Nat) : Vec Ideal S1x512x128 .bf16 :=
  finish (spans (k0_pay30 (queryHalf x0 0)) (k0_pay31 (queryHalf x0 64)) x1 x2 B qs
    (diag (k0_pay30 (queryHalf x0 0)) (k0_pay31 (queryHalf x0 64)) x1 x2 B qs) qs) x4 x5

/-! ### The offsets -/

/-- The number of query spans before this one is the number of trips of the loop, and the remainder loop has none. -/
theorem trips_eq : ∀ i : grid0.Coords, (k0_t1_loop i).trips = (i 2).val ∧ (k0_t2_loop i).trips = 0 := by decide +kernel

theorem off2_eq : ∀ i : grid0.Coords, k0_off2 i = ![0, 512 * (i 2).val, 0] := by decide +kernel
theorem off3_eq : ∀ i : grid0.Coords, k0_off3 i = ![0, 512 * (i 2).val, 0] := by decide +kernel
theorem off4_eq : ∀ i : grid0.Coords, k0_off4 i = ![0, 512 * (i 2).val, 64] := by decide +kernel
theorem off5_eq : ∀ (i : grid0.Coords) (k : Fin (k0_t1_loop i).trips), k0_off5 i k = ![(i 2).val - k.val, 0, 0] := by decide +kernel
theorem off6_eq : ∀ (i : grid0.Coords) (k : Fin (k0_t1_loop i).trips), k0_off6 i k = ![0, 512 * k.val, 0] := by decide +kernel
theorem off7_eq : ∀ (i : grid0.Coords) (k : Fin (k0_t1_loop i).trips), k0_off7 i k = ![0, 512 * k.val, 0] := by decide +kernel
theorem off8_eq : ∀ (i : grid0.Coords) (k : Fin (k0_t1_loop i).trips), k0_off8 i k = ![0, 512 * k.val, 64] := by decide +kernel

theorem ld_keyRows (X : Vec Ideal S1x2048x128 .bf16) (off : Fin 3 → Nat) (k o : Nat) (h : off = ![0, 512 * k, o])
    (inb : ∀ a, off a + S1x512x64.size a ≤ S1x2048x128.size a) :
    View.ld (Val := Elt Ideal) (S := S1x2048x128) (e' := .bf16) X (Rect.unit off S1x512x64.size inb) = keyRows X k o := by
  subst h
  funext y
  have h1 := inb 1
  have h2 := inb 2
  have e1 : 512 * k + 512 ≤ 2048 := h1
  have e2 : o + 64 ≤ 128 := h2
  have y1 : (y 1).val < 512 := (y 1).isLt
  have y2 : (y 2).val < 64 := (y 2).isLt
  have y0 : (y 0).val < 1 := (y 0).isLt
  rw [View.ld_unit]
  unfold keyRows
  refine congrArg X (funext fun a => Fin.ext ?_)
  match a with
  | ⟨0, _⟩ => show 0 + (y 0).val = 0; omega
  | ⟨1, _⟩ => show 512 * k + (y 1).val = (512 * k + (y 1).val) % 2048; omega
  | ⟨2, _⟩ => show o + (y 2).val = (o + (y 2).val) % 128; omega

theorem ld_valueRows (X : Vec Ideal S1x2048x128 .bf16) (off : Fin 3 → Nat) (k : Nat) (h : off = ![0, 512 * k, 0])
    (inb : ∀ a, off a + S1x512x128.size a ≤ S1x2048x128.size a) :
    View.ld (Val := Elt Ideal) (S := S1x2048x128) (e' := .bf16) X (Rect.unit off S1x512x128.size inb) = valueRows X k := by
  subst h
  funext y
  have h1 := inb 1
  have e1 : 512 * k + 512 ≤ 2048 := h1
  have y1 : (y 1).val < 512 := (y 1).isLt
  have y0 : (y 0).val < 1 := (y 0).isLt
  rw [View.ld_unit]
  unfold valueRows
  refine congrArg X (funext fun a => Fin.ext ?_)
  match a with
  | ⟨0, _⟩ => show 0 + (y 0).val = 0; omega
  | ⟨1, _⟩ => show 512 * k + (y 1).val = (512 * k + (y 1).val) % 2048; omega
  | ⟨2, _⟩ => show 0 + (y 2).val = (y 2).val; omega

theorem ld_queryHalf (X : Vec Ideal S1x512x128 .bf16) (off : Fin 3 → Nat) (o : Nat) (h : off = ![0, 0, o])
    (inb : ∀ a, off a + S1x512x64.size a ≤ S1x512x128.size a) :
    View.ld (Val := Elt Ideal) (S := S1x512x128) (e' := .bf16) X (Rect.unit off S1x512x64.size inb) = queryHalf X o := by
  subst h
  funext y
  have h2 := inb 2
  have e2 : o + 64 ≤ 128 := h2
  have y2 : (y 2).val < 64 := (y 2).isLt
  have y0 : (y 0).val < 1 := (y 0).isLt
  rw [View.ld_unit]
  unfold queryHalf
  refine congrArg X (funext fun a => Fin.ext ?_)
  match a with
  | ⟨0, _⟩ => show 0 + (y 0).val = 0; omega
  | ⟨1, _⟩ => show 0 + (y 1).val = (y 1).val; omega
  | ⟨2, _⟩ => show o + (y 2).val = (o + (y 2).val) % 128; omega

theorem ld_biasTile (X : Vec Ideal S4x512x512 .f32) (off : Fin 3 → Nat) (d : Nat) (h : off = ![d, 0, 0])
    (inb : ∀ a, off a + S1x512x512.size a ≤ S4x512x512.size a) :
    View.ld (Val := Elt Ideal) (S := S4x512x512) (e' := .f32) X (Rect.unit off S1x512x512.size inb) = biasTile X d := by
  subst h
  funext y
  have h0 := inb 0
  have e0 : d + 1 ≤ 4 := h0
  have y0 : (y 0).val < 1 := (y 0).isLt
  rw [View.ld_unit]
  unfold biasTile
  refine congrArg X (funext fun a => Fin.ext ?_)
  match a with
  | ⟨0, _⟩ => show d + (y 0).val = d % 4; omega
  | ⟨1, _⟩ => show 0 + (y 1).val = (y 1).val; omega
  | ⟨2, _⟩ => show 0 + (y 2).val = (y 2).val; omega

/-! ### The loop -/

section Loop
variable (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x4x8x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S4x512x512 .f32) (harg10 : arg10.IsWhole) (arg2 : BitVec 32) (v8 : FVec Ideal S512x64 .bf16) (v14 : FVec Ideal S512x64 .bf16) (v34 : FVec Ideal S512x128 .bf16) (v44 : FVec Ideal S512x1 .f32) (v53 : FVec Ideal S512x1 .f32) (v58 : FVec Ideal S512x128 .f32) (v68 : FVec Ideal S512x1 .f32) (v77 : FVec Ideal S512x1 .f32) (v79 : FVec Ideal S512x128 .f32) (v80 : FVec Ideal S512x512 .bf16) (X_arg4 : BufTy.Contents (Elt Ideal) arg4.view.ty) (X_arg5 : BufTy.Contents (Elt Ideal) arg5.view.ty) (X_arg10 : BufTy.Contents (Elt Ideal) arg10.view.ty)

theorem trip_eq (k : Fin (k0_t1_loop i).trips) (acc : Acc) :
    (trip_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 k).1 acc
      = trip v8 v14 (biasTile (arg10.view.read (Elt Ideal) X_arg10) ((i 2).val - k.val)) (valueRows (arg5.view.read (Elt Ideal) X_arg5) k.val)
          (keyRows (arg4.view.read (Elt Ideal) X_arg4) k.val 0) (keyRows (arg4.view.read (Elt Ideal) X_arg4) k.val 64) acc := by
  rw [← ld_biasTile (arg10.view.read (Elt Ideal) X_arg10) _ _ (off5_eq i k) (Facts₀.k0_off5_inb i k),
    ← ld_valueRows (arg5.view.read (Elt Ideal) X_arg5) _ _ (off6_eq i k) (Facts₀.k0_off6_inb i k),
    ← ld_keyRows (arg4.view.read (Elt Ideal) X_arg4) _ _ _ (off7_eq i k) (Facts₀.k0_off7_inb i k),
    ← ld_keyRows (arg4.view.read (Elt Ideal) X_arg4) _ _ _ (off8_eq i k) (Facts₀.k0_off8_inb i k)]
  unfold trip_k0_t1
  rfl

theorem loop1_eq (init : Acc) (n : Nat) (hn : n ≤ (k0_t1_loop i).trips) :
    st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init n
      = spans v8 v14 (arg4.view.read (Elt Ideal) X_arg4) (arg5.view.read (Elt Ideal) X_arg5) (arg10.view.read (Elt Ideal) X_arg10) (i 2).val init n := by
  induction n with
  | zero => exact st_k0_t1_zero ..
  | succ n ih =>
    have h := st_k0_t1_succ (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init ⟨n, hn⟩
    rw [ih (Nat.le_of_succ_le hn)] at h
    rw [show n + 1 = (⟨n, hn⟩ : Fin (k0_t1_loop i).trips).val + 1 from rfl, h]
    exact trip_eq ..

/-- The loop at its end. -/
theorem loop1_trips (init : Acc) :
    st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init (k0_t1_loop i).trips
      = spans v8 v14 (arg4.view.read (Elt Ideal) X_arg4) (arg5.view.read (Elt Ideal) X_arg5) (arg10.view.read (Elt Ideal) X_arg10) (i 2).val init (i 2).val := by
  rw [loop1_eq (hn := le_rfl), (trips_eq i).1]

/-- Both loops at their ends: the second has no trip. -/
theorem loops_eq (v87 : BitVec 32) (init : Acc) :
    st_k0_t2 (F := Ideal) 𝒱 c bd i arg3 harg3 arg4 harg4 arg5 harg5 arg6 harg6 arg7 harg7 arg8 harg8 arg9 harg9 arg10 harg10 arg2 v8 v14 v34 v44 v53 v58 v68 v77 v79 v80 v87 X_arg4 X_arg5 X_arg10
        (st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init (k0_t1_loop i).trips) (k0_t2_loop i).trips
      = spans v8 v14 (arg4.view.read (Elt Ideal) X_arg4) (arg5.view.read (Elt Ideal) X_arg5) (arg10.view.read (Elt Ideal) X_arg10) (i 2).val init (i 2).val := by
  rw [(trips_eq i).2]
  exact (st_k0_t2_zero ..).trans (loop1_trips ..)

end Loop

/-! ### The bias tiles -/

/-- The bias tiles of a head: at a distance of `d` spans, query row `r` and key column `j`, the entry of the head's table at the
    position that turning the row by `r` brings to column `j`. -/
def bias (x3 : Vec Ideal S1x4x8x1024 .f32) : Vec Ideal S4x512x512 .f32 :=
  fun y => x3 (ix4 0 (y 0) 0 (Fin.ofNat 1024 ((y 2).val + 1024 - (y 1).val))) * (Named.named κ "log2e" 0x3FB8AA3B#32 : Ideal .f32)

/-- The entry of one bias tile. -/
theorem tile_apply (x3 : Vec Ideal S1x4x8x1024 .f32) (d : Nat) (hd : d < 4)
    (inb : ∀ a, (![0, d, 0, 0] : Fin 4 → Nat) a + (![1, 1, 8, 1024] : Fin 4 → Nat) a ≤ S1x4x8x1024.size a)
    (inb' : ∀ a, (![d, 0, 0] : Fin 3 → Nat) a + (![1, 512, 512] : Fin 3 → Nat) a ≤ S4x512x512.size a) (x : S1x512x512.Idx) :
    k0_pay2 (View.ld (Val := Elt Ideal) (S := S1x4x8x1024) (e' := .f32) x3 (Rect.unit ![0, d, 0, 0] ![1, 1, 8, 1024] inb)) x
      = bias x3 ((Rect.unit (s := S4x512x512) ![d, 0, 0] ![1, 512, 512] inb').emb x) := by
  have hx0 : (x 0).val < 1 := (x 0).isLt
  have hx1 : (x 1).val < 512 := (x 1).isLt
  have hx2 : (x 2).val < 512 := (x 2).isLt
  unfold k0_pay2 bias
  dsimp only
  refine (shapeCast_addUnit_apply ![512, 512] _ _ x).trans ?_
  refine (extractStridedSlice_apply _ _ _ _ (ix2 ⟨(x 1).val, by omega⟩ ⟨(x 2).val, by omega⟩ : S512x1024.Idx) ?_).trans ?_
  · intro a
    match a with
    | ⟨0, _⟩ => show (x 1).val = 0 + (x 1).val; omega
    | ⟨1, _⟩ => show (x 2).val = 0 + (x 2).val; omega
  have hrot : ∀ (v : FVec Ideal S512x1024 .f32) (k : S512x1024.Idx), (k 0).val = (x 1).val → (k 1).val = ((x 2).val + 1024 - (x 1).val) % 1024 →
      dynamicRotate 1 0#32 (some (1, 0)) v rotates_S512x1024_d1s1a0 (ix2 ⟨(x 1).val, by omega⟩ ⟨(x 2).val, by omega⟩ : S512x1024.Idx) = v k := by
    intro v k h0 h1
    unfold dynamicRotate
    refine congrArg v (funext fun b => Fin.ext ?_)
    match b with
    | ⟨0, _⟩ => exact h0.symm
    | ⟨1, _⟩ =>
      refine Eq.trans ?_ h1.symm
      show ((x 2).val + 1024 - ((0#32).toNat + 1 * (x 1).val) % 1024) % 1024 = _
      simp only [BitVec.toNat_ofNat]
      omega
  have hn : ((x 2).val + 1024 - (x 1).val) % 1024 < 1024 := Nat.mod_lt _ (by decide)
  refine (hrot _ (ix2 ⟨(x 1).val, hx1⟩ ⟨_, hn⟩) rfl rfl).trans ?_
  refine (broadcastTo_apply _ _ _ (ix2 0 ⟨_, hn⟩ : S1x1024.Idx) ?_).trans ?_
  · intro a
    match a with
    | ⟨0, _⟩ => rfl
    | ⟨1, _⟩ => rfl
  refine (shapeCast_apply _ _ _ (ix2 0 ⟨_, hn⟩ : S1x1024.Idx) rfl).trans ?_
  refine congrArg₂ (· * ·) ?_ rfl
  refine (extractStridedSlice_apply _ _ _ _ (ix2 0 ⟨_, hn⟩ : S8x1024.Idx) ?_).trans ?_
  · intro a
    match a with
    | ⟨0, _⟩ => rfl
    | ⟨1, _⟩ => exact (Nat.zero_add _).symm
  refine (shapeCast_apply _ _ _ (ix4 0 0 0 ⟨_, hn⟩ : S1x1x8x1024.Idx) ?_).trans ?_
  · rw [Shape.rowMajor_val_four, Shape.rowMajor_val_two]
    show ((0 * 1 + 0) * 8 + 0) * 1024 + _ = 0 * 1024 + _
    simp
  rw [View.ld_unit]
  refine congrArg x3 (funext fun a => Fin.ext ?_)
  match a with
  | ⟨0, _⟩ => rfl
  | ⟨1, _⟩ => show d + 0 = d + 1 * (x 0).val; omega
  | ⟨2, _⟩ => rfl
  | ⟨3, _⟩ =>
    show 0 + ((x 2).val + 1024 - (x 1).val) % 1024 = (0 + 1 * (x 2).val + 1024 - (0 + 1 * (x 1).val)) % 1024
    omega

/-- The four stores that fill the scratch. -/
abbrev pieces (x3 : Vec Ideal S1x4x8x1024 .f32) : List (View.Piece (Elt Ideal) S4x512x512 .f32) :=
  [⟨Rect.unit ![3, 0, 0] ![1, 512, 512] Facts₀.inb_S4x512x512_S1x512x512_3_0_0,
      k0_pay33 (View.ld (Val := Elt Ideal) (S := S1x4x8x1024) (e' := .f32) x3 (Rect.unit ![0, 3, 0, 0] ![1, 1, 8, 1024] Facts₀.inb_S1x4x8x1024_S1x1x8x1024_0_3_0_0))⟩,
    ⟨Rect.unit ![2, 0, 0] ![1, 512, 512] Facts₀.inb_S4x512x512_S1x512x512_2_0_0,
      k0_pay32 (k0_pay4 (View.ld (Val := Elt Ideal) (S := S1x4x8x1024) (e' := .f32) x3 (Rect.unit ![0, 2, 0, 0] ![1, 1, 8, 1024] Facts₀.inb_S1x4x8x1024_S1x1x8x1024_0_2_0_0)))⟩,
    ⟨Rect.unit ![1, 0, 0] ![1, 512, 512] Facts₀.inb_S4x512x512_S1x512x512_1_0_0,
      k0_pay3 (View.ld (Val := Elt Ideal) (S := S1x4x8x1024) (e' := .f32) x3 (Rect.unit ![0, 1, 0, 0] ![1, 1, 8, 1024] Facts₀.inb_S1x4x8x1024_S1x1x8x1024_0_1_0_0))⟩,
    ⟨Rect.unit ![0, 0, 0] ![1, 512, 512] Facts₀.inb_S4x512x512_S1x512x512_0_0_0,
      k0_pay2 (View.ld (Val := Elt Ideal) (S := S1x4x8x1024) (e' := .f32) x3 (Rect.unit ![0, 0, 0, 0] ![1, 1, 8, 1024] Facts₀.inb_S1x4x8x1024_S1x1x8x1024_0_0_0_0))⟩]

theorem pieces_cover (x3 : Vec Ideal S1x4x8x1024 .f32) (y : S4x512x512.Idx) : ∃ pc ∈ pieces x3, y ∈ pc.1.set :=
  View.cover_of_tiledL (pieces x3) S1x512x512.size (by sl_kernel_rfl) y

theorem canon_pieces (x3 : Vec Ideal S1x4x8x1024 .f32) : View.canon (pieces x3) = bias x3 := by
  funext y
  refine View.canon_apply_of_pieces (bias x3) _ ?_ y (pieces_cover x3 y)
  intro pc hpc x
  simp only [pieces, List.mem_cons, List.not_mem_nil, or_false] at hpc
  rcases hpc with rfl | rfl | rfl | rfl
  · exact tile_apply x3 3 (by decide) Facts₀.inb_S1x4x8x1024_S1x1x8x1024_0_3_0_0 Facts₀.inb_S4x512x512_S1x512x512_3_0_0 x
  · exact tile_apply x3 2 (by decide) Facts₀.inb_S1x4x8x1024_S1x1x8x1024_0_2_0_0 Facts₀.inb_S4x512x512_S1x512x512_2_0_0 x
  · exact tile_apply x3 1 (by decide) Facts₀.inb_S1x4x8x1024_S1x1x8x1024_0_1_0_0 Facts₀.inb_S4x512x512_S1x512x512_1_0_0 x
  · exact tile_apply x3 0 (by decide) Facts₀.inb_S1x4x8x1024_S1x1x8x1024_0_0_0_0 Facts₀.inb_S4x512x512_S1x512x512_0_0_0 x

/-- A load from the scratch after the four stores. -/
theorem readCov_pieces {κ : Kind} {sp : Space} (v : View sig κ sp S4x512x512 .f32) (x3 : Vec Ideal S1x4x8x1024 .f32) (r : Rect S4x512x512) :
    v.readCov (pieces x3) r.toLoadRect = View.ld (Val := Elt Ideal) (bias x3) r := by
  rw [View.readCov_eq_canon_ld _ _ _ (fun _ => pieces_cover x3 _), canon_pieces]

/-- The scratch after the four stores. -/
theorem read_writes_pieces {κ : Kind} {sp : Space} (v : View sig κ sp S4x512x512 .f32) (f) (x3 : Vec Ideal S1x4x8x1024 .f32) :
    v.read (Elt Ideal) (v.writes (Elt Ideal) f (pieces x3)) = bias x3 := by
  rw [View.read_writes_eq_canon _ _ _ (pieces_cover x3), canon_pieces]

section Run
variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x4x8x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S4x512x512 .f32) (harg10 : arg10.IsWhole)
    (x0 : Vec Ideal S1x512x128 .bf16) (x1 : Vec Ideal S1x2048x128 .bf16) (x2 : Vec Ideal S1x2048x128 .bf16) (x3 : Vec Ideal S1x4x8x1024 .f32) (x4 : Vec Ideal S4x64 .f32) (x5 : Vec Ideal S1x128 .f32) (xs0 : Vec Ideal S4x512x512 .f32)

/-- The block written at a grid point that finds the bias tiles in scratch. -/
theorem out_B (hc0 : ¬cond0_0 i) :
    out0_B_6 c i arg3 harg3 arg4 harg4 arg5 harg5 arg6 harg6 arg7 harg7 arg8 harg8 arg9 harg9 arg10 harg10 hc0 x0 x1 x2 x3 x4 x5 xs0 = body x0 x1 x2 x4 x5 xs0 (i 2).val := by
  unfold body finish diag
  unfold out0_B_6; rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B; dsimp only; rw [View.canon_unit_zero (show (![0,0,0] : Fin 3 → Nat) = fun _ => 0 by decide)]
  rw [← ld_queryHalf x0 ![0, 0, 0] 0 rfl Facts₀.inb_S1x512x128_S1x512x64_0_0_0, ← ld_queryHalf x0 ![0, 0, 64] 64 rfl Facts₀.inb_S1x512x128_S1x512x64_0_0_64,
    ← ld_valueRows x2 _ _ (off2_eq i) (Facts₀.k0_off2_inb i), ← ld_keyRows x1 _ _ _ (off3_eq i) (Facts₀.k0_off3_inb i),
    ← ld_keyRows x1 _ _ _ (off4_eq i) (Facts₀.k0_off4_inb i), ← ld_biasTile xs0 _ _ (placed_k0_off1 i) (Facts₀.k0_off1_inb i)]
  sl_unfold_words
  refine Eq.trans (congrArg (fun s : Acc => k0_pay1 (k0_pay60 s.2.1 s.2.2.1 s.2.2.2.2.1 s.2.2.2.2.2 _) (k0_pay61 _)) (loops_eq Variants.none c none i arg3 harg3 arg4 harg4 arg5 harg5 arg6 harg6 arg7 harg7 arg8 harg8 arg9 harg9 arg10 harg10 _ _ _ _ _ _ _ _ _ _ _ _ _ _ _ _)) ?_
  dsimp only
  simp only [View.readAt_eq_ld, harg3.read_unread, harg4.read_unread, harg5.read_unread, harg6.read_unread, harg7.read_unread, harg8.read_unread, harg10.read_unread]
  rw [View.ld_unit_zero (show (![0,0] : Fin 2 → Nat) = fun _ => 0 by decide), View.ld_unit_zero (show (![0,0] : Fin 2 → Nat) = fun _ => 0 by decide)]

/-- The block written at a grid point that first fills the scratch with the head's bias tiles. -/
theorem out_A (hc0 : cond0_0 i) :
    out0_A_6 c i arg3 harg3 arg4 harg4 arg5 harg5 arg6 harg6 arg7 harg7 arg8 harg8 arg9 harg9 arg10 harg10 hc0 x0 x1 x2 x3 x4 x5 = body x0 x1 x2 x4 x5 (bias x3) (i 2).val := by
  unfold body finish diag
  unfold out0_A_6; rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A; dsimp only; rw [View.canon_unit_zero (show (![0,0,0] : Fin 3 → Nat) = fun _ => 0 by decide)]
  rw [← ld_queryHalf x0 ![0, 0, 0] 0 rfl Facts₀.inb_S1x512x128_S1x512x64_0_0_0, ← ld_queryHalf x0 ![0, 0, 64] 64 rfl Facts₀.inb_S1x512x128_S1x512x64_0_0_64,
    ← ld_valueRows x2 _ _ (off2_eq i) (Facts₀.k0_off2_inb i), ← ld_keyRows x1 _ _ _ (off3_eq i) (Facts₀.k0_off3_inb i),
    ← ld_keyRows x1 _ _ _ (off4_eq i) (Facts₀.k0_off4_inb i), ← ld_biasTile (bias x3) _ _ (placed_k0_off1 i) (Facts₀.k0_off1_inb i)]
  sl_unfold_words
  refine Eq.trans (congrArg (fun s : Acc => k0_pay1 (k0_pay60 s.2.1 s.2.2.1 s.2.2.2.2.1 s.2.2.2.2.2 _) (k0_pay61 _)) (loops_eq Variants.none c none i arg3 harg3 arg4 harg4 arg5 harg5 arg6 harg6 arg7 harg7 arg8 harg8 arg9 harg9 arg10 harg10 _ _ _ _ _ _ _ _ _ _ _ _ _ _ _ _)) ?_
  dsimp only
  simp only [View.readAt_eq_ld, harg3.read_unread, harg4.read_unread, harg5.read_unread, harg6.read_unread, harg7.read_unread, harg8.read_unread, harg10.read_unread]
  rw [View.ld_unit_zero (show (![0,0] : Fin 2 → Nat) = fun _ => 0 by decide), View.ld_unit_zero (show (![0,0] : Fin 2 → Nat) = fun _ => 0 by decide)]
  simp only [readCov_pieces, read_writes_pieces]

/-- The scratch such a point leaves. -/
theorem sout_A (hc0 : cond0_0 i) :
    sout0_A_0 c i arg3 harg3 arg4 harg4 arg5 harg5 arg6 harg6 arg7 harg7 arg8 harg8 arg9 harg9 arg10 harg10 hc0 x0 x1 x2 x3 x4 x5 = bias x3 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A; dsimp only
  sl_unfold_words
  simp only [View.readAt_eq_ld, harg6.read_unread]
  exact canon_pieces x3

end Run

end Cert.KernelIdeal.Diff

end
-- ==== Proof.Softmax.lean ====
/- A softmax-weighted sum taken block by block over extended real scores: the running maximum, the running sum of weights and
   the running weighted sum stand for exact sums of powers of two, whatever maximum was subtracted, so their quotient is the
   quotient of the exact sums. A score is a real number or `-∞`; the latter has weight zero. -/
module

public import Idealize.ShloMosaic.PureOps.Ideal
public import Idealize.ShloMosaic.PureOps.Ideal.Laws

@[expose] public section

noncomputable section

namespace Softmax

open Idealize.ShloMosaic

/-- The weight of a score, a real number. -/
def wt (x : EReal) : ℝ := (Ideal.exp2 x).toReal

/-- The weight of a score to the base e. -/
def we (x : EReal) : ℝ := (Ideal.exp x).toReal

@[simp] theorem wt_bot : wt ⊥ = 0 := by simp [wt]
theorem wt_coe (r : ℝ) : wt r = (2 : ℝ) ^ r := by simp [wt]
@[simp] theorem we_bot : we ⊥ = 0 := by simp [we]
theorem we_coe (r : ℝ) : we r = Real.exp r := by simp [we]

theorem wt_nonneg (x : EReal) : 0 ≤ wt x := by
  induction x with
  | bot => simp
  | coe r => rw [wt_coe]; positivity
  | top => simp [wt]

theorem wt_pos (x : EReal) (h : x ≠ ⊤) (h' : x ≠ ⊥) : 0 < wt x := by
  induction x with
  | bot => exact absurd rfl h'
  | coe r => rw [wt_coe]; positivity
  | top => exact absurd rfl h

/-- Subtracting a maximum from a score scales its weight. -/
theorem exp2_sub (x : EReal) (h : x ≠ ⊤) (M : ℝ) : Ideal.exp2 (x - (M : EReal)) = ((wt x * 2 ^ (-M) : ℝ) : EReal) := by
  induction x with
  | bot => rw [EReal.bot_sub]; simp
  | coe r =>
    rw [← EReal.coe_sub, Ideal.exp2_coe, wt_coe]
    have : Real.rpow 2 (r - M) = (2 : ℝ) ^ r * 2 ^ (-M) := by
      show (2 : ℝ) ^ (r - M) = _
      rw [sub_eq_add_neg, Real.rpow_add (by norm_num)]
    rw [this]
  | top => exact absurd rfl h

theorem exp_sub (x : EReal) (h : x ≠ ⊤) (M : ℝ) : Ideal.exp (x - (M : EReal)) = ((we x * Real.exp (-M) : ℝ) : EReal) := by
  induction x with
  | bot => rw [EReal.bot_sub]; simp
  | coe r =>
    rw [← EReal.coe_sub, Ideal.exp_coe, we_coe, sub_eq_add_neg, Real.exp_add]
  | top => exact absurd rfl h

/-- A real logit divided by the logarithm of two has the same weight to the base two. -/
theorem wt_eq_we (r : ℝ) : wt ((r / Real.log 2 : ℝ) : EReal) = we r := by
  rw [wt_coe, we_coe, Real.rpow_def_of_pos (by norm_num)]
  congr 1
  have : Real.log 2 ≠ 0 := (Real.log_pos (by norm_num)).ne'
  field_simp

section Fold
variable {J : Type} [Fintype J]

/-- The maximum of scores that are not `+∞` is not `+∞`; -/
theorem fold_ne_top (x : J → EReal) (h : ∀ j, x j ≠ ⊤) : Finset.univ.fold max (⊥ : EReal) x ≠ ⊤ := by
  have : Finset.univ.fold max (⊥ : EReal) x < ⊤ := by
    rw [Finset.fold_max_lt]
    exact ⟨bot_lt_top, fun j _ => lt_top_iff_ne_top.mpr (h j)⟩
  exact this.ne

/-- and it is not `-∞` if some score is not. -/
theorem fold_ne_bot (x : J → EReal) (j : J) (h : x j ≠ ⊥) : Finset.univ.fold max (⊥ : EReal) x ≠ ⊥ := by
  have : ⊥ < Finset.univ.fold max (⊥ : EReal) x := by
    rw [Finset.lt_fold_max]
    exact Or.inr ⟨j, Finset.mem_univ j, bot_lt_iff_ne_bot.mpr h⟩
  exact this.ne'

variable {D : Type}

/-- The state after one block of scores `x` with values `v`. -/
def step (x : J → EReal) (v : J → D → EReal) (m l : EReal) (a : D → EReal) : EReal × EReal × (D → EReal) :=
  (max m (Finset.univ.fold max ⊥ x),
    Ideal.exp2 (m - max m (Finset.univ.fold max ⊥ x)) * l + ∑ j, Ideal.exp2 (x j - max m (Finset.univ.fold max ⊥ x)),
    fun d => Ideal.exp2 (m - max m (Finset.univ.fold max ⊥ x)) * a d + ∑ j, Ideal.exp2 (x j - max m (Finset.univ.fold max ⊥ x)) * v j d)

/-- The state stands for the sum of weights `L` and the weighted sums `A`. -/
def Good (L : ℝ) (A : D → ℝ) (s : EReal × EReal × (D → EReal)) : Prop :=
  ∃ M : ℝ, s.1 = (M : EReal) ∧ s.2.1 = ((2 ^ (-M) * L : ℝ) : EReal) ∧ ∀ d, s.2.2 d = ((2 ^ (-M) * A d : ℝ) : EReal)

theorem sum_coe (f : J → ℝ) : ∑ j, ((f j : ℝ) : EReal) = ((∑ j, f j : ℝ) : EReal) :=
  (map_sum (⟨⟨fun r : ℝ => (r : EReal), EReal.coe_zero⟩, EReal.coe_add⟩ : ℝ →+ EReal) f Finset.univ).symm

theorem good_of (x : J → EReal) (v : J → D → ℝ) (hx : ∀ j, x j ≠ ⊤) (M' c L : ℝ) (A : D → ℝ) :
    ((c * L : ℝ) : EReal) + ∑ j, Ideal.exp2 (x j - (M' : EReal)) = ((c * L + 2 ^ (-M') * ∑ j, wt (x j) : ℝ) : EReal)
    ∧ ∀ d, ((c * A d : ℝ) : EReal) + ∑ j, Ideal.exp2 (x j - (M' : EReal)) * ((v j d : ℝ) : EReal)
        = ((c * A d + 2 ^ (-M') * ∑ j, wt (x j) * v j d : ℝ) : EReal) := by
  constructor
  · simp only [exp2_sub _ (hx _), sum_coe, ← EReal.coe_add]
    rw [Finset.mul_sum]
    simp only [mul_comm]
  · intro d
    simp only [exp2_sub _ (hx _), ← EReal.coe_mul, sum_coe, ← EReal.coe_add]
    rw [Finset.mul_sum]
    congr 3
    funext j
    ring

/-- One more block adds its weights and its weighted values. -/
theorem step_good (x : J → EReal) (v : J → D → EReal) (v' : J → D → ℝ) (hv : ∀ j d, v j d = (v' j d : EReal)) (hx : ∀ j, x j ≠ ⊤)
    (L : ℝ) (A : D → ℝ) (s : EReal × EReal × (D → EReal)) (h : Good L A s) :
    Good (L + ∑ j, wt (x j)) (fun d => A d + ∑ j, wt (x j) * v' j d) (step x v s.1 s.2.1 s.2.2) := by
  obtain ⟨M, hm, hl, ha⟩ := h
  have hne : max s.1 (Finset.univ.fold max ⊥ x) ≠ ⊤ := by
    rw [hm]
    exact (max_lt (EReal.coe_lt_top M) (lt_top_iff_ne_top.mpr (fold_ne_top x hx))).ne
  have hnb : max s.1 (Finset.univ.fold max ⊥ x) ≠ ⊥ := by
    rw [hm]
    exact (lt_of_lt_of_le (EReal.bot_lt_coe M) (le_max_left _ _)).ne'
  obtain ⟨M', hM'⟩ : ∃ M' : ℝ, max s.1 (Finset.univ.fold max ⊥ x) = (M' : EReal) := ⟨_, (EReal.coe_toReal hne hnb).symm⟩
  refine ⟨M', hM', ?_, fun d => ?_⟩
  · show Ideal.exp2 (s.1 - max s.1 (Finset.univ.fold max ⊥ x)) * s.2.1 + ∑ j, Ideal.exp2 (x j - max s.1 (Finset.univ.fold max ⊥ x)) = _
    rw [hM', hm, hl, exp2_sub _ (EReal.coe_ne_top M), wt_coe, ← EReal.coe_mul]
    have h1 : (2 : ℝ) ^ M * 2 ^ (-M') * (2 ^ (-M) * L) = 2 ^ (-M') * L := by
      have : (2 : ℝ) ^ M * 2 ^ (-M) = 1 := by rw [← Real.rpow_add (by norm_num)]; simp
      linear_combination (2 ^ (-M') * L) * this
    rw [h1, (good_of x v' hx M' (2 ^ (-M')) L A).1]
    congr 1
    ring
  · show Ideal.exp2 (s.1 - max s.1 (Finset.univ.fold max ⊥ x)) * s.2.2 d + ∑ j, Ideal.exp2 (x j - max s.1 (Finset.univ.fold max ⊥ x)) * v j d = _
    rw [hM', hm, ha, exp2_sub _ (EReal.coe_ne_top M), wt_coe, ← EReal.coe_mul]
    have h1 : (2 : ℝ) ^ M * 2 ^ (-M') * (2 ^ (-M) * A d) = 2 ^ (-M') * A d := by
      have : (2 : ℝ) ^ M * 2 ^ (-M) = 1 := by rw [← Real.rpow_add (by norm_num)]; simp
      linear_combination (2 ^ (-M') * A d) * this
    simp only [hv]
    rw [h1, (good_of x v' hx M' (2 ^ (-M')) L A).2]
    congr 1
    ring

/-- The first block, from the empty state. -/
theorem start_good (x : J → EReal) (v : J → D → EReal) (v' : J → D → ℝ) (hv : ∀ j d, v j d = (v' j d : EReal)) (hx : ∀ j, x j ≠ ⊤)
    (j0 : J) (h0 : x j0 ≠ ⊥) :
    Good (∑ j, wt (x j)) (fun d => ∑ j, wt (x j) * v' j d) (step x v ⊥ 0 (fun _ => 0)) := by
  have hbot : max (⊥ : EReal) (Finset.univ.fold max ⊥ x) = Finset.univ.fold max ⊥ x := max_eq_right bot_le
  obtain ⟨M', hM'⟩ : ∃ M' : ℝ, Finset.univ.fold max ⊥ x = (M' : EReal) := ⟨_, (EReal.coe_toReal (fold_ne_top x hx) (fold_ne_bot x j0 h0)).symm⟩
  refine ⟨M', hbot.trans hM', ?_, fun d => ?_⟩
  · show Ideal.exp2 (⊥ - max ⊥ (Finset.univ.fold max ⊥ x)) * 0 + ∑ j, Ideal.exp2 (x j - max ⊥ (Finset.univ.fold max ⊥ x)) = _
    rw [hbot, hM', mul_zero]
    have := (good_of x v' hx M' 0 0 (fun _ => 0)).1
    rw [mul_zero, EReal.coe_zero] at this
    rw [this, zero_add]
  · show Ideal.exp2 (⊥ - max ⊥ (Finset.univ.fold max ⊥ x)) * 0 + ∑ j, Ideal.exp2 (x j - max ⊥ (Finset.univ.fold max ⊥ x)) * v j d = _
    rw [hbot, hM', mul_zero]
    have := (good_of x v' hx M' 0 0 (fun _ => 0)).2 d
    rw [mul_zero, EReal.coe_zero] at this
    simp only [hv]
    rw [this, zero_add]

end Fold

/-- The quotient of a good state. -/
theorem good_div {D : Type} (L : ℝ) (A : D → ℝ) (s : EReal × EReal × (D → EReal)) (h : Good L A s) (hL : 0 < L) (d : D) :
    Ideal.div (s.2.2 d) s.2.1 = ((A d / L : ℝ) : EReal) := by
  obtain ⟨M, -, hl, ha⟩ := h
  have hp : (0 : ℝ) < 2 ^ (-M) := by positivity
  rw [hl, ha, Ideal.div_coe (mul_pos hp hL).ne', ← EReal.coe_mul]
  congr 1
  field_simp

/-- A sum over 2,048 keys by spans of 512. -/
theorem sum_spans (f : ℕ → ℝ) : ∑ t : Fin 2048, f t.val = ∑ k : Fin 4, ∑ j : Fin 512, f (512 * k.val + j.val) := by
  rw [← Equiv.sum_comp (finProdFinEquiv (m := 4) (n := 512)) (fun t : Fin 2048 => f t.val), Fintype.sum_prod_type]
  refine Finset.sum_congr rfl fun k _ => Finset.sum_congr rfl fun j _ => ?_
  show f (j.val + 512 * k.val) = _
  rw [add_comm]

/-- The span of the query and those before it hold every weight that is not zero. -/
theorem sum_upto (g : ℕ → ℝ) (qs : ℕ) (hqs : qs < 4) (hg : ∀ k, qs < k → g k = 0) :
    g qs + ∑ k ∈ Finset.range qs, g k = ∑ k : Fin 4, g k.val := by
  rw [Fin.sum_univ_four]
  show _ = g 0 + g 1 + g 2 + g 3
  have h1 := hg 1
  have h2 := hg 2
  have h3 := hg 3
  interval_cases qs
  · rw [h1 (by decide), h2 (by decide), h3 (by decide)]; simp
  · rw [h2 (by decide), h3 (by decide)]; simp [Finset.sum_range_succ]; ring
  · rw [h3 (by decide)]; simp [Finset.sum_range_succ]; ring
  · simp [Finset.sum_range_succ]; ring

/-- A query's softmax-weighted sum over 2,048 keys, taken from its own span of 512 keys first and then over the spans before it. -/
theorem blocks_div {D : Type} (X : ℕ → EReal) (V : ℕ → D → EReal) (v : ℕ → D → ℝ) (qs : ℕ) (hqs : qs < 4)
    (hV : ∀ t d, t < 2048 → V t d = (v t d : EReal)) (hX : ∀ t, X t ≠ ⊤) (h0 : X (512 * qs) ≠ ⊥) (hb : ∀ t, 512 * (qs + 1) ≤ t → X t = ⊥)
    (st : ℕ → EReal × EReal × (D → EReal))
    (hst : st 0 = step (fun j : Fin 512 => X (512 * qs + j.val)) (fun (j : Fin 512) d => V (512 * qs + j.val) d) ⊥ 0 (fun _ => 0))
    (hstn : ∀ n, n < qs → st (n + 1) = step (fun j : Fin 512 => X (512 * n + j.val)) (fun (j : Fin 512) d => V (512 * n + j.val) d)
      (st n).1 (st n).2.1 (st n).2.2) (d : D) :
    Ideal.div ((st qs).2.2 d) (st qs).2.1
      = (((∑ t : Fin 2048, wt (X t.val) * v t.val d) / ∑ t : Fin 2048, wt (X t.val) : ℝ) : EReal) := by
  have key : ∀ n, n ≤ qs → Good (∑ j : Fin 512, wt (X (512 * qs + j.val)) + ∑ k ∈ Finset.range n, ∑ j : Fin 512, wt (X (512 * k + j.val)))
      (fun d => ∑ j : Fin 512, wt (X (512 * qs + j.val)) * v (512 * qs + j.val) d
        + ∑ k ∈ Finset.range n, ∑ j : Fin 512, wt (X (512 * k + j.val)) * v (512 * k + j.val) d) (st n) := by
    intro n
    induction n with
    | zero =>
      intro _
      rw [hst]
      simp only [Finset.range_zero, Finset.sum_empty, add_zero]
      exact start_good _ _ (fun (j : Fin 512) d => v (512 * qs + j.val) d) (fun j d => hV _ d (by have := j.isLt; omega)) (fun j => hX _) 0 h0
    | succ n ih =>
      intro hn
      rw [hstn n hn]
      have := step_good (fun j : Fin 512 => X (512 * n + j.val)) (fun (j : Fin 512) d => V (512 * n + j.val) d)
        (fun (j : Fin 512) d => v (512 * n + j.val) d) (fun j d => hV _ d (by have := j.isLt; omega)) (fun j => hX _) _ _ _ (ih (by omega))
      simp only [Finset.sum_range_succ, ← add_assoc]
      exact this
  have hz : ∀ k, qs < k → ∀ j : Fin 512, wt (X (512 * k + j.val)) = 0 := by
    intro k hk j
    rw [hb _ (by omega), wt_bot]
  have hL : ∑ t : Fin 2048, wt (X t.val) = ∑ j : Fin 512, wt (X (512 * qs + j.val)) + ∑ k ∈ Finset.range qs, ∑ j : Fin 512, wt (X (512 * k + j.val)) := by
    rw [sum_spans (fun t => wt (X t)), sum_upto (fun k => ∑ j : Fin 512, wt (X (512 * k + j.val))) qs hqs]
    intro k hk
    exact Finset.sum_eq_zero fun j _ => hz k hk j
  have hA : ∑ t : Fin 2048, wt (X t.val) * v t.val d = ∑ j : Fin 512, wt (X (512 * qs + j.val)) * v (512 * qs + j.val) d
      + ∑ k ∈ Finset.range qs, ∑ j : Fin 512, wt (X (512 * k + j.val)) * v (512 * k + j.val) d := by
    rw [sum_spans (fun t => wt (X t) * v t d), sum_upto (fun k => ∑ j : Fin 512, wt (X (512 * k + j.val)) * v (512 * k + j.val) d) qs hqs]
    intro k hk
    exact Finset.sum_eq_zero fun j _ => by rw [hz k hk j, zero_mul]
  have hpos : 0 < ∑ j : Fin 512, wt (X (512 * qs + j.val)) + ∑ k ∈ Finset.range qs, ∑ j : Fin 512, wt (X (512 * k + j.val)) := by
    refine add_pos_of_pos_of_nonneg ?_ (Finset.sum_nonneg fun k _ => Finset.sum_nonneg fun j _ => wt_nonneg _)
    exact Finset.sum_pos' (fun j _ => wt_nonneg _) ⟨0, Finset.mem_univ _, wt_pos _ (hX _) h0⟩
  rw [hL, hA]
  exact good_div _ _ _ (key qs le_rfl) hpos d

end Softmax

end
-- ==== Proof.Rows.lean ====
/- One row of the kernel's block: every operation of the body acts on each query row by itself, so the running state of a row is
   the state of `Softmax.step` over that row's scores. -/
module

public import proofs.«01_k».proof.Proof.Block
public import proofs.«01_k».proof.Proof.Softmax

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx Softmax

/-- The maximum after a block of scores. -/
def nextMax (S : FVec Ideal S512x512 .f32) (m : FVec Ideal S512x1 .f32) : FVec Ideal S512x1 .f32 :=
  maximumf m (shapeCast S512x1 (multiReduction .maximumf [1] S512 S 0xFF800000#32 Facts₀.reduces_S512x512_S512 (.inl rfl) rfl) Facts₀.shapeCasts_S512_S512x1)

/-- The weights of a block of scores. -/
def weights (S : FVec Ideal S512x512 .f32) (m : FVec Ideal S512x1 .f32) : FVec Ideal S512x512 .f32 :=
  exp2 (subf S (broadcastTo S512x512 (nextMax S m) Facts₀.broadcasts_S512x1_S512x512))

/-- The sum of weights after a block of scores. -/
def nextSum (S : FVec Ideal S512x512 .f32) (m l : FVec Ideal S512x1 .f32) : FVec Ideal S512x1 .f32 :=
  addf (mulf (exp2 (subf m (nextMax S m))) l)
    (shapeCast S512x1 (multiReduction .add [1] S512 (weights S m) 0x00000000#32 Facts₀.reduces_S512x512_S512 (.inl rfl) rfl) Facts₀.shapeCasts_S512_S512x1)

/-- The weighted sum of the values after a block of scores. -/
def nextAcc (S : FVec Ideal S512x512 .f32) (V : FVec Ideal S512x128 .bf16) (m : FVec Ideal S512x1 .f32) (a : FVec Ideal S512x128 .f32) : FVec Ideal S512x128 .f32 :=
  addf (mulf (broadcastTo S512x128 (exp2 (subf m (nextMax S m))) Facts₀.broadcasts_S512x1_S512x128) a)
    (matmul dot_S512x512_S512x128_S512x128_1_0_0_1_n_n none (truncf .bf16 (weights S m) Facts₀.bitsLt_bf16_f32) V (constant S512x128 .f32 0x00000000#32))

/-- A step of the loop is the two softmaxes' updates. -/
theorem trip_eq_next (q0 q1 : FVec Ideal S512x64 .bf16) (b : Vec Ideal S1x512x512 .f32) (v : Vec Ideal S1x512x128 .bf16)
    (k0 k1 : Vec Ideal S1x512x64 .bf16) (s : Acc) :
    trip q0 q1 b v k0 k1 s
      = (nextMax (k0_pay7 q0 b k0) s.1, nextSum (k0_pay7 q0 b k0) s.1 s.2.1, nextAcc (k0_pay7 q0 b k0) (k0_pay6 v) s.1 s.2.2.1,
        nextMax (k0_pay13 q1 b k1) s.2.2.2.1, nextSum (k0_pay13 q1 b k1) s.2.2.2.1 s.2.2.2.2.1,
        nextAcc (k0_pay13 q1 b k1) (k0_pay6 v) s.2.2.2.1 s.2.2.2.2.2) := rfl

/-- The first step likewise. -/
theorem diag_eq_next (q0 q1 : FVec Ideal S512x64 .bf16) (x1 x2 : Vec Ideal S1x2048x128 .bf16) (B : Vec Ideal S4x512x512 .f32) (qs : Nat) :
    diag q0 q1 x1 x2 B qs
      = (nextMax (k0_pay42 k0_pay29 q0 (k0_pay40 (biasTile B 0)) (keyRows x1 qs 0)) k0_pay34,
        nextSum (k0_pay42 k0_pay29 q0 (k0_pay40 (biasTile B 0)) (keyRows x1 qs 0)) k0_pay34 k0_pay35,
        nextAcc (k0_pay42 k0_pay29 q0 (k0_pay40 (biasTile B 0)) (keyRows x1 qs 0)) (k0_pay41 (valueRows x2 qs)) k0_pay34 k0_pay36,
        nextMax (k0_pay48 k0_pay29 q1 (k0_pay40 (biasTile B 0)) (keyRows x1 qs 64)) k0_pay37,
        nextSum (k0_pay48 k0_pay29 q1 (k0_pay40 (biasTile B 0)) (keyRows x1 qs 64)) k0_pay37 k0_pay38,
        nextAcc (k0_pay48 k0_pay29 q1 (k0_pay40 (biasTile B 0)) (keyRows x1 qs 64)) (k0_pay41 (valueRows x2 qs)) k0_pay37 k0_pay39) := rfl

theorem ofBits_neg_inf : (FloatOps.ofBits .f32 0xFF800000#32 : Ideal .f32) = (⊥ : EReal) := by
  show Ideal.ofBits .f32 0xFF800000#32 = ⊥
  simp [Ideal.ofBits, Ideal.ieee]

/-- A row's column vector entry of a vector over the rows. -/
theorem column_apply (x : FVec Ideal S512 .f32) (r : Fin 512) :
    shapeCast S512x1 x Facts₀.shapeCasts_S512_S512x1 (ix2 r 0) = x (ix1 r) := by
  refine shapeCast_apply _ _ _ _ ?_
  rw [Shape.rowMajor_val_one, Shape.rowMajor_val_two]
  show r.val = r.val * 1 + 0
  omega

theorem nextMax_apply (S : FVec Ideal S512x512 .f32) (m : FVec Ideal S512x1 .f32) (r : Fin 512) :
    nextMax S m (ix2 r 0) = max (m (ix2 r 0)) (Finset.univ.fold max (⊥ : EReal) fun j : Fin 512 => S (ix2 r j)) := by
  unfold nextMax
  rw [maximumf_apply, column_apply]
  refine congrArg (max (m (ix2 r 0))) ((Ideal.multiReduction_maximumf_single S _ _ _ _ (ix1 r)).trans ?_)
  rw [ofBits_neg_inf]
  refine congrArg (fun f => Finset.univ.fold max (⊥ : EReal) f) (funext fun j => congrArg S ?_)
  exact funext fun a => match a with | ⟨0, _⟩ => rfl | ⟨1, _⟩ => rfl

theorem spread_apply (x : FVec Ideal S512x1 .f32) (r j : Fin 512) :
    broadcastTo S512x512 x Facts₀.broadcasts_S512x1_S512x512 (ix2 r j) = x (ix2 r 0) := by
  refine broadcastTo_apply _ _ _ _ fun a => ?_
  match a with
  | ⟨0, _⟩ => rfl
  | ⟨1, _⟩ => rfl

theorem spread128_apply (x : FVec Ideal S512x1 .f32) (r : Fin 512) (d : Fin 128) :
    broadcastTo S512x128 x Facts₀.broadcasts_S512x1_S512x128 (ix2 r d) = x (ix2 r 0) := by
  refine broadcastTo_apply _ _ _ _ fun a => ?_
  match a with
  | ⟨0, _⟩ => rfl
  | ⟨1, _⟩ => rfl

theorem weights_apply (S : FVec Ideal S512x512 .f32) (m : FVec Ideal S512x1 .f32) (r j : Fin 512) :
    weights S m (ix2 r j) = Ideal.exp2 (S (ix2 r j) - nextMax S m (ix2 r 0)) := by
  unfold weights
  show Ideal.exp2 (S (ix2 r j) - broadcastTo S512x512 (nextMax S m) Facts₀.broadcasts_S512x1_S512x512 (ix2 r j)) = _
  rw [spread_apply]

theorem nextSum_apply (S : FVec Ideal S512x512 .f32) (m l : FVec Ideal S512x1 .f32) (r : Fin 512) :
    nextSum S m l (ix2 r 0) = Ideal.exp2 (m (ix2 r 0) - nextMax S m (ix2 r 0)) * l (ix2 r 0)
      + ∑ j : Fin 512, Ideal.exp2 (S (ix2 r j) - nextMax S m (ix2 r 0)) := by
  unfold nextSum
  rw [addf_apply, column_apply]
  refine congrArg₂ (· + ·) rfl ((Ideal.multiReduction_add_single (weights S m) _ _ _ _ (ix1 r)).trans (Finset.sum_congr rfl fun j _ => ?_))
  have e : Shape.Reduces.lift Facts₀.reduces_S512x512_S512 (ix1 r) j = (ix2 r (j : Fin 512) : S512x512.Idx) :=
    funext fun a => match a with | ⟨0, _⟩ => rfl | ⟨1, _⟩ => rfl
  exact (congrArg (weights S m) e).trans (weights_apply S m r j)

theorem nextAcc_apply (S : FVec Ideal S512x512 .f32) (V : FVec Ideal S512x128 .bf16) (m : FVec Ideal S512x1 .f32) (a : FVec Ideal S512x128 .f32) (r : Fin 512) (d : Fin 128) :
    nextAcc S V m a (ix2 r d) = Ideal.exp2 (m (ix2 r 0) - nextMax S m (ix2 r 0)) * a (ix2 r d)
      + ∑ j : Fin 512, Ideal.exp2 (S (ix2 r j) - nextMax S m (ix2 r 0)) * V (ix2 j d) := by
  unfold nextAcc
  rw [addf_apply, mulf_apply, spread128_apply]
  refine congrArg₂ (· + ·) rfl ?_
  simp only [matmul]
  rw [Ideal.matmul_constant_zero_apply, ← Equiv.sum_comp (contrEquiv1 dot_S512x512_S512x128_S512x128_1_0_0_1_n_n 512 rfl rfl).symm]
  refine Finset.sum_congr rfl fun j _ => ?_
  refine congrArg₂ (· * ·) ?_ (congrArg V ?_)
  · rw [← weights_apply]
    refine congrArg (weights S m) (funext fun a => Fin.ext ?_)
    match a with
    | ⟨0, _⟩ => rfl
    | ⟨1, _⟩ => rw [DotDims.lhsIdx_val_of_single _ rfl]; exact contrEquiv1_symm_val _ 512 rfl rfl j
  · refine funext fun a => Fin.ext ?_
    match a with
    | ⟨0, _⟩ => rw [DotDims.rhsIdx_val_of_single _ rfl]; exact contrEquiv1_symm_val _ 512 rfl rfl j
    | ⟨1, _⟩ => rfl

/-- The state of one row. -/
def row (m l : FVec Ideal S512x1 .f32) (a : FVec Ideal S512x128 .f32) (r : Fin 512) : EReal × EReal × (Fin 128 → EReal) :=
  (m (ix2 r 0), l (ix2 r 0), fun d => a (ix2 r d))

/-- A block of scores advances each row's state. -/
theorem row_next (S : FVec Ideal S512x512 .f32) (V : FVec Ideal S512x128 .bf16) (m l : FVec Ideal S512x1 .f32) (a : FVec Ideal S512x128 .f32) (r : Fin 512) :
    row (nextMax S m) (nextSum S m l) (nextAcc S V m a) r
      = step (fun j : Fin 512 => S (ix2 r j)) (fun (j : Fin 512) (d : Fin 128) => V (ix2 j d)) (m (ix2 r 0)) (l (ix2 r 0)) (fun d => a (ix2 r d)) := by
  unfold row step
  rw [nextSum_apply, nextMax_apply]
  refine Prod.ext rfl (Prod.ext rfl (funext fun d => ?_))
  show nextAcc S V m a (ix2 r d) = _
  rw [nextAcc_apply, nextMax_apply]

/-! ### The scores -/

theorem dot64_apply (q k : FVec Ideal S512x64 .bf16) (r j : Fin 512) :
    matmul dot_S512x64_S512x64_S512x512_1_1_0_0_n_n none q k (constant S512x512 .f32 0x00000000#32) (ix2 r j)
      = ∑ e : Fin 64, q (ix2 r e) * k (ix2 j e) := by
  simp only [matmul]
  rw [Ideal.matmul_constant_zero_apply, ← Equiv.sum_comp (contrEquiv1 dot_S512x64_S512x64_S512x512_1_1_0_0_n_n 64 rfl rfl).symm]
  refine Finset.sum_congr rfl fun e _ => ?_
  refine congrArg₂ (· * ·) (congrArg q ?_) (congrArg k ?_)
  · refine funext fun a => Fin.ext ?_
    match a with
    | ⟨0, _⟩ => rfl
    | ⟨1, _⟩ => rw [DotDims.lhsIdx_val_of_single _ rfl]; exact contrEquiv1_symm_val _ 64 rfl rfl e
  · refine funext fun a => Fin.ext ?_
    match a with
    | ⟨0, _⟩ => rfl
    | ⟨1, _⟩ => rw [DotDims.rhsIdx_val_of_single _ rfl]; exact contrEquiv1_symm_val _ 64 rfl rfl e

theorem drop64_apply {φ : FTy} (x : FVec Ideal S1x512x64 φ) (r : Fin 512) (e : Fin 64) :
    shapeCast S512x64 x Facts₀.shapeCasts_S1x512x64_S512x64 (ix2 r e) = x (ix3 0 r e) := by
  refine shapeCast_apply _ _ _ _ ?_
  rw [Shape.rowMajor_val_three, Shape.rowMajor_val_two]
  show (0 * 512 + r.val) * 64 + e.val = r.val * 64 + e.val
  omega

theorem drop512_apply {φ : FTy} (x : FVec Ideal S1x512x512 φ) (r : Fin 512) (e : Fin 512) :
    shapeCast S512x512 x Facts₀.shapeCasts_S1x512x512_S512x512 (ix2 r e) = x (ix3 0 r e) := by
  refine shapeCast_apply _ _ _ _ ?_
  rw [Shape.rowMajor_val_three, Shape.rowMajor_val_two]
  show (0 * 512 + r.val) * 512 + e.val = r.val * 512 + e.val
  omega

theorem drop128_apply {φ : FTy} (x : FVec Ideal S1x512x128 φ) (r : Fin 512) (e : Fin 128) :
    shapeCast S512x128 x Facts₀.shapeCasts_S1x512x128_S512x128 (ix2 r e) = x (ix3 0 r e) := by
  refine shapeCast_apply _ _ _ _ ?_
  rw [Shape.rowMajor_val_three, Shape.rowMajor_val_two]
  show (0 * 512 + r.val) * 128 + e.val = r.val * 128 + e.val
  omega

theorem pay6_apply (v : Vec Ideal S1x512x128 .bf16) (j : Fin 512) (d : Fin 128) : k0_pay6 v (ix2 j d) = v (ix3 0 j d) := by
  unfold k0_pay6
  exact drop128_apply _ _ _

theorem pay41_apply (v : Vec Ideal S1x512x128 .bf16) (j : Fin 512) (d : Fin 128) : k0_pay41 v (ix2 j d) = v (ix3 0 j d) := by
  unfold k0_pay41
  exact drop128_apply _ _ _

/-- The factor the queries are scaled by. -/
def logitScale : EReal := (Named.named κ "logit_scale" 0x3E38AA3B#32 : Ideal .f32)

theorem pay30_apply (x : Vec Ideal S1x512x64 .bf16) (r : Fin 512) (e : Fin 64) : k0_pay30 x (ix2 r e) = x (ix3 0 r e) * logitScale := by
  unfold k0_pay30
  exact congrArg (· * logitScale) (drop64_apply (φ := .bf16) _ _ _)

theorem pay31_apply (x : Vec Ideal S1x512x64 .bf16) (r : Fin 512) (e : Fin 64) : k0_pay31 x (ix2 r e) = x (ix3 0 r e) * logitScale := by
  unfold k0_pay31
  exact congrArg (· * logitScale) (drop64_apply (φ := .bf16) _ _ _)

/-- The score of query row `r` at key row `j`. -/
theorem pay7_apply (q : FVec Ideal S512x64 .bf16) (b : Vec Ideal S1x512x512 .f32) (k : Vec Ideal S1x512x64 .bf16) (r j : Fin 512) :
    k0_pay7 q b k (ix2 r j) = (∑ e : Fin 64, q (ix2 r e) * k (ix3 0 j e)) + b (ix3 0 r j) := by
  unfold k0_pay7 k0_pay5
  dsimp only
  rw [addf_apply, dot64_apply, drop512_apply]
  refine congrArg₂ (· + ·) (Finset.sum_congr rfl fun e _ => ?_) rfl
  rw [drop64_apply]

theorem pay13_apply (q : FVec Ideal S512x64 .bf16) (b : Vec Ideal S1x512x512 .f32) (k : Vec Ideal S1x512x64 .bf16) (r j : Fin 512) :
    k0_pay13 q b k (ix2 r j) = (∑ e : Fin 64, q (ix2 r e) * k (ix3 0 j e)) + b (ix3 0 r j) := pay7_apply q b k r j

theorem mask_value : (Named.named κ "mask" 0xF149F2CA#32 : Ideal .f32) = (⊥ : EReal) :=
  IdealRules.named_const.ideal_named_scalar _ _ _ _ rfl

theorem pay29_apply (r j : Fin 512) : k0_pay29 (ix2 r j) = if j.val ≤ r.val then 1#1 else 0#1 := by
  unfold k0_pay29
  have h1 := r.isLt
  have h2 := j.isLt
  show IntOp.cmpi .sle (iota .tc S512x512 32 [1] Facts₀.iota_S512x512_d1_w32 (ix2 r j)) (iota .tc S512x512 32 [0] Facts₀.iota_S512x512_d0_w32 (ix2 r j)) = _
  rw [iota_single_apply, iota_single_apply]
  show BitVec.ofBool ((BitVec.ofNat 32 j.val).sle (BitVec.ofNat 32 r.val)) = _
  have e1 : (BitVec.ofNat 32 j.val).toInt = j.val := by
    rw [BitVec.toInt_eq_toNat_of_lt] <;> simp <;> omega
  have e2 : (BitVec.ofNat 32 r.val).toInt = r.val := by
    rw [BitVec.toInt_eq_toNat_of_lt] <;> simp <;> omega
  by_cases h : j.val ≤ r.val
  · rw [if_pos h, BitVec.sle_eq_decide, e1, e2]; simp [h]
  · rw [if_neg h, BitVec.sle_eq_decide, e1, e2]; simp [h]

/-- The masked score on the diagonal. -/
theorem pay42_apply (q : FVec Ideal S512x64 .bf16) (b : Vec Ideal S1x512x512 .f32) (k : Vec Ideal S1x512x64 .bf16) (r j : Fin 512) :
    k0_pay42 k0_pay29 q (k0_pay40 b) k (ix2 r j)
      = if j.val ≤ r.val then (∑ e : Fin 64, q (ix2 r e) * k (ix3 0 j e)) + b (ix3 0 r j) else ⊥ := by
  have h : k0_pay42 k0_pay29 q (k0_pay40 b) k (ix2 r j)
      = Scalar.select (k0_pay29 (ix2 r j)) (k0_pay7 q b k (ix2 r j)) (Named.named κ "mask" 0xF149F2CA#32 : Ideal .f32) := rfl
  rw [h, mask_value, pay29_apply, pay7_apply]
  unfold Scalar.select
  by_cases h : j.val ≤ r.val <;> simp [h]

theorem pay48_apply (q : FVec Ideal S512x64 .bf16) (b : Vec Ideal S1x512x512 .f32) (k : Vec Ideal S1x512x64 .bf16) (r j : Fin 512) :
    k0_pay48 k0_pay29 q (k0_pay40 b) k (ix2 r j)
      = if j.val ≤ r.val then (∑ e : Fin 64, q (ix2 r e) * k (ix3 0 j e)) + b (ix3 0 r j) else ⊥ := pay42_apply q b k r j

end Cert.KernelIdeal.Diff

end
-- ==== Proof.RowState.lean ====
/- The two quotients of a query row: each is the softmax-weighted sum of the values over all keys, the scores after the query
   being `-∞`. -/
module

public import proofs.«01_k».proof.Proof.Rows

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx Softmax

/-- The score of query row `r` of span `qs` at key `t`, in half `o` (0 or 64) of the head. -/
def score (x0 : Vec Ideal S1x512x128 .bf16) (x1 : Vec Ideal S1x2048x128 .bf16) (B : Vec Ideal S4x512x512 .f32) (qs o : ℕ) (r : Fin 512) (t : ℕ) : EReal :=
  if t ≤ 512 * qs + r.val then
    (∑ e : Fin 64, (x0 (ix3 0 r (Fin.ofNat 128 (o + e.val))) * logitScale) * x1 (ix3 0 (Fin.ofNat 2048 t) (Fin.ofNat 128 (o + e.val))))
      + B (ix3 (Fin.ofNat 4 (qs - t / 512)) r (Fin.ofNat 512 t))
  else ⊥

/-- The value at key `t`. -/
def value (x2 : Vec Ideal S1x2048x128 .bf16) (t : ℕ) (d : Fin 128) : EReal := x2 (ix3 0 (Fin.ofNat 2048 t) d)

variable (x0 : Vec Ideal S1x512x128 .bf16) (x1 x2 : Vec Ideal S1x2048x128 .bf16) (B : Vec Ideal S4x512x512 .f32) (qs : ℕ) (r : Fin 512)

theorem ofNat_split (k : ℕ) (j : Fin 512) : Fin.ofNat 512 (512 * k + j.val) = j := by
  refine Fin.ext ?_
  show (512 * k + j.val) % 512 = j.val
  have := j.isLt
  omega

theorem score_past0 (n : ℕ) (hn : n < qs) (j : Fin 512) :
    k0_pay7 (k0_pay30 (queryHalf x0 0)) (biasTile B (qs - n)) (keyRows x1 n 0) (ix2 r j) = score x0 x1 B qs 0 r (512 * n + j.val) := by
  have hj := j.isLt
  rw [pay7_apply]
  unfold score
  rw [if_pos (by omega)]
  refine congrArg₂ (· + ·) (Finset.sum_congr rfl fun e _ => ?_) ?_
  · rw [pay30_apply]; rfl
  · rw [ofNat_split, show (512 * n + j.val) / 512 = n by omega]; rfl

theorem score_past1 (n : ℕ) (hn : n < qs) (j : Fin 512) :
    k0_pay13 (k0_pay31 (queryHalf x0 64)) (biasTile B (qs - n)) (keyRows x1 n 64) (ix2 r j) = score x0 x1 B qs 64 r (512 * n + j.val) := by
  have hj := j.isLt
  rw [pay13_apply]
  unfold score
  rw [if_pos (by omega)]
  refine congrArg₂ (· + ·) (Finset.sum_congr rfl fun e _ => ?_) ?_
  · rw [pay31_apply]; rfl
  · rw [ofNat_split, show (512 * n + j.val) / 512 = n by omega]; rfl

theorem score_diag0 (j : Fin 512) :
    k0_pay42 k0_pay29 (k0_pay30 (queryHalf x0 0)) (k0_pay40 (biasTile B 0)) (keyRows x1 qs 0) (ix2 r j) = score x0 x1 B qs 0 r (512 * qs + j.val) := by
  have hj := j.isLt
  rw [pay42_apply]
  unfold score
  by_cases h : j.val ≤ r.val
  · rw [if_pos h, if_pos (by omega)]
    refine congrArg₂ (· + ·) (Finset.sum_congr rfl fun e _ => ?_) ?_
    · rw [pay30_apply]; rfl
    · rw [ofNat_split, show qs - (512 * qs + j.val) / 512 = 0 by omega]; rfl
  · rw [if_neg h, if_neg (by omega)]

theorem score_diag1 (j : Fin 512) :
    k0_pay48 k0_pay29 (k0_pay31 (queryHalf x0 64)) (k0_pay40 (biasTile B 0)) (keyRows x1 qs 64) (ix2 r j) = score x0 x1 B qs 64 r (512 * qs + j.val) := by
  have hj := j.isLt
  rw [pay48_apply]
  unfold score
  by_cases h : j.val ≤ r.val
  · rw [if_pos h, if_pos (by omega)]
    refine congrArg₂ (· + ·) (Finset.sum_congr rfl fun e _ => ?_) ?_
    · rw [pay31_apply]; rfl
    · rw [ofNat_split, show qs - (512 * qs + j.val) / 512 = 0 by omega]; rfl
  · rw [if_neg h, if_neg (by omega)]

/-- The state of the block after `n` of the earlier spans. -/
def stateAt (n : ℕ) : Acc :=
  spans (k0_pay30 (queryHalf x0 0)) (k0_pay31 (queryHalf x0 64)) x1 x2 B qs
    (diag (k0_pay30 (queryHalf x0 0)) (k0_pay31 (queryHalf x0 64)) x1 x2 B qs) n

def row0 (s : Acc) := row s.1 s.2.1 s.2.2.1 r
def row1 (s : Acc) := row s.2.2.2.1 s.2.2.2.2.1 s.2.2.2.2.2 r

theorem zero_value : (Scalar.ofBits .f32 0x00000000#32 : Ideal .f32) = (0 : EReal) := Ideal.ofBits_zero_f32

theorem row0_zero : row0 r (stateAt x0 x1 x2 B qs 0)
    = step (fun j : Fin 512 => score x0 x1 B qs 0 r (512 * qs + j.val)) (fun (j : Fin 512) d => value x2 (512 * qs + j.val) d) ⊥ 0 (fun _ => 0) := by
  unfold stateAt spans row0
  rw [diag_eq_next]
  refine (row_next _ _ _ _ _ r).trans ?_
  rw [show (k0_pay34 : FVec Ideal S512x1 .f32) (ix2 r 0) = (⊥ : EReal) from mask_value, show (k0_pay35 : FVec Ideal S512x1 .f32) (ix2 r 0) = (0 : EReal) from zero_value,
    show (fun d : Fin 128 => (k0_pay36 : FVec Ideal S512x128 .f32) (ix2 r d)) = (fun _ => (0 : EReal)) from funext fun _ => zero_value]
  refine congrArg₂ (fun X V => step X V ⊥ 0 (fun _ => 0)) (funext fun j => score_diag0 x0 x1 B qs r j) (funext fun j => funext fun d => ?_)
  rw [pay41_apply]; rfl

theorem row1_zero : row1 r (stateAt x0 x1 x2 B qs 0)
    = step (fun j : Fin 512 => score x0 x1 B qs 64 r (512 * qs + j.val)) (fun (j : Fin 512) d => value x2 (512 * qs + j.val) d) ⊥ 0 (fun _ => 0) := by
  unfold stateAt spans row1
  rw [diag_eq_next]
  refine (row_next _ _ _ _ _ r).trans ?_
  rw [show (k0_pay37 : FVec Ideal S512x1 .f32) (ix2 r 0) = (⊥ : EReal) from mask_value, show (k0_pay38 : FVec Ideal S512x1 .f32) (ix2 r 0) = (0 : EReal) from zero_value,
    show (fun d : Fin 128 => (k0_pay39 : FVec Ideal S512x128 .f32) (ix2 r d)) = (fun _ => (0 : EReal)) from funext fun _ => zero_value]
  refine congrArg₂ (fun X V => step X V ⊥ 0 (fun _ => 0)) (funext fun j => score_diag1 x0 x1 B qs r j) (funext fun j => funext fun d => ?_)
  rw [pay41_apply]; rfl

theorem row0_succ (n : ℕ) (hn : n < qs) : row0 r (stateAt x0 x1 x2 B qs (n + 1))
    = step (fun j : Fin 512 => score x0 x1 B qs 0 r (512 * n + j.val)) (fun (j : Fin 512) d => value x2 (512 * n + j.val) d)
        (row0 r (stateAt x0 x1 x2 B qs n)).1 (row0 r (stateAt x0 x1 x2 B qs n)).2.1 (row0 r (stateAt x0 x1 x2 B qs n)).2.2 := by
  have h : stateAt x0 x1 x2 B qs (n + 1) = trip (k0_pay30 (queryHalf x0 0)) (k0_pay31 (queryHalf x0 64)) (biasTile B (qs - n)) (valueRows x2 n)
    (keyRows x1 n 0) (keyRows x1 n 64) (stateAt x0 x1 x2 B qs n) := rfl
  rw [h, trip_eq_next]
  refine (row_next _ _ _ _ _ r).trans ?_
  refine congrArg₂ (fun X V => step X V (row0 r (stateAt x0 x1 x2 B qs n)).1 (row0 r (stateAt x0 x1 x2 B qs n)).2.1 (row0 r (stateAt x0 x1 x2 B qs n)).2.2)
    (funext fun j => score_past0 x0 x1 B qs r n hn j) (funext fun j => funext fun d => ?_)
  rw [pay6_apply]; rfl

theorem row1_succ (n : ℕ) (hn : n < qs) : row1 r (stateAt x0 x1 x2 B qs (n + 1))
    = step (fun j : Fin 512 => score x0 x1 B qs 64 r (512 * n + j.val)) (fun (j : Fin 512) d => value x2 (512 * n + j.val) d)
        (row1 r (stateAt x0 x1 x2 B qs n)).1 (row1 r (stateAt x0 x1 x2 B qs n)).2.1 (row1 r (stateAt x0 x1 x2 B qs n)).2.2 := by
  have h : stateAt x0 x1 x2 B qs (n + 1) = trip (k0_pay30 (queryHalf x0 0)) (k0_pay31 (queryHalf x0 64)) (biasTile B (qs - n)) (valueRows x2 n)
    (keyRows x1 n 0) (keyRows x1 n 64) (stateAt x0 x1 x2 B qs n) := rfl
  rw [h, trip_eq_next]
  refine (row_next _ _ _ _ _ r).trans ?_
  refine congrArg₂ (fun X V => step X V (row1 r (stateAt x0 x1 x2 B qs n)).1 (row1 r (stateAt x0 x1 x2 B qs n)).2.1 (row1 r (stateAt x0 x1 x2 B qs n)).2.2)
    (funext fun j => score_past1 x0 x1 B qs r n hn j) (funext fun j => funext fun d => ?_)
  rw [pay6_apply]; rfl

theorem score_after (o t : ℕ) (h : 512 * (qs + 1) ≤ t) : score x0 x1 B qs o r t = ⊥ := by
  have := r.isLt
  unfold score
  rw [if_neg (by omega)]

variable (v : ℕ → Fin 128 → ℝ) (hqs : qs < 4) (hV : ∀ t d, t < 2048 → value x2 t d = (v t d : EReal))
include hqs hV

/-- The quotient of the first softmax at column `d`, -/
theorem quotient0 (hX : ∀ t, score x0 x1 B qs 0 r t ≠ ⊤) (h0 : score x0 x1 B qs 0 r (512 * qs) ≠ ⊥) (d : Fin 128) :
    Ideal.div ((stateAt x0 x1 x2 B qs qs).2.2.1 (ix2 r d)) ((stateAt x0 x1 x2 B qs qs).2.1 (ix2 r 0))
      = (((∑ t : Fin 2048, wt (score x0 x1 B qs 0 r t.val) * v t.val d) / ∑ t : Fin 2048, wt (score x0 x1 B qs 0 r t.val) : ℝ) : EReal) :=
  blocks_div (score x0 x1 B qs 0 r) (value x2) v qs hqs hV hX h0 (fun t h => score_after x0 x1 B qs r 0 t h)
    (fun n => row0 r (stateAt x0 x1 x2 B qs n)) (row0_zero x0 x1 x2 B qs r) (fun n hn => row0_succ x0 x1 x2 B qs r n hn) d

/-- and of the second. -/
theorem quotient1 (hX : ∀ t, score x0 x1 B qs 64 r t ≠ ⊤) (h0 : score x0 x1 B qs 64 r (512 * qs) ≠ ⊥) (d : Fin 128) :
    Ideal.div ((stateAt x0 x1 x2 B qs qs).2.2.2.2.2 (ix2 r d)) ((stateAt x0 x1 x2 B qs qs).2.2.2.2.1 (ix2 r 0))
      = (((∑ t : Fin 2048, wt (score x0 x1 B qs 64 r t.val) * v t.val d) / ∑ t : Fin 2048, wt (score x0 x1 B qs 64 r t.val) : ℝ) : EReal) :=
  blocks_div (score x0 x1 B qs 64 r) (value x2) v qs hqs hV hX h0 (fun t h => score_after x0 x1 B qs r 64 t h)
    (fun n => row1 r (stateAt x0 x1 x2 B qs n)) (row1_zero x0 x1 x2 B qs r) (fun n hn => row1_succ x0 x1 x2 B qs r n hn) d

end Cert.KernelIdeal.Diff

end
-- ==== Proof.Finish.lean ====
/- The end of a block's body: the second quotient, times the mixing factor, is taken from the first, and the row is divided by
   its root mean square and scaled. -/
module

public import proofs.«01_k».proof.Proof.RowState

@[expose] public section

set_option maxRecDepth 16384

noncomputable section

namespace Softmax

open Idealize.ShloMosaic

/-- The mixing factor of the two softmaxes, from its layer's constant and the four rows of its parameters. -/
def mixing (lam : EReal) (p : Fin 4 → Fin 64 → EReal) : EReal :=
  (Ideal.exp (∑ e, p 0 e * p 1 e) - Ideal.exp (∑ e, p 2 e * p 3 e)) + lam

/-- A row divided by its root mean square, times a gain and a constant of its layer. -/
def normalized (s : EReal) (o : Fin 128 → EReal) (g : EReal) (d : Fin 128) : EReal :=
  ((o d * Ideal.rsqrt (Ideal.div (∑ j, o j * o j) (FloatOps.ofBits .f32 0x43000000#32 : Ideal .f32) + (FloatOps.ofBits .f32 0x3727C5AC#32 : Ideal .f32))) * g)
    * s

end Softmax

namespace Cert.KernelIdeal.Diff

open Cert.KernelIdeal Cert.KernelIdeal.Gen Idealize.ShloMosaic Idealize.ShloMosaic.TcCoe Idealize.SL.Sem
open Idealize.ShloMosaic.ValueIdx Softmax

/-- The layer's two constants. -/
abbrev lam : EReal := (FloatOps.ofBits .f32 0x3EB60549#32 : Ideal .f32)
abbrev rest : EReal := (FloatOps.ofBits .f32 0x3F24FD5C#32 : Ideal .f32)

theorem mixRow_apply (x4 : Vec Ideal S4x64 .f32) (a : Fin 4) (off : Fin 2 → ℕ) (h : Shape.Slices S4x64 off S1x64)
    (e0 : off 0 = a.val) (e1 : off 1 = 0) (e : Fin 64) :
    extractStridedSlice S1x64 off x4 h (ix2 0 e) = x4 (ix2 a e) :=
  extractStridedSlice_apply _ _ _ _ (ix2 a e) fun b => match b with
    | ⟨0, _⟩ => by show a.val = off 0 + 0; omega
    | ⟨1, _⟩ => by show e.val = off 1 + e.val; omega

theorem sumRow_apply (x : FVec Ideal S1x64 .f32) :
    shapeCast S1x1 (multiReduction .add [1] S1 x 0x00000000#32 Facts₀.reduces_S1x64_S1 (.inl rfl) rfl) Facts₀.shapeCasts_S1_S1x1 (ix2 0 0)
      = ∑ e : Fin 64, x (ix2 0 e) := by
  refine (shapeCast_apply _ _ _ (ix1 0) ?_).trans ?_
  · rw [Shape.rowMajor_val_one, Shape.rowMajor_val_two]; rfl
  · refine (Ideal.multiReduction_add_single x _ _ _ _ (ix1 0)).trans (Finset.sum_congr rfl fun e _ => ?_)
    have h : Shape.Reduces.lift Facts₀.reduces_S1x64_S1 (ix1 0) e = (ix2 0 (e : Fin 64) : S1x64.Idx) :=
      funext fun a => match a with | ⟨0, _⟩ => rfl | ⟨1, _⟩ => rfl
    rw [h]

theorem sumCols_apply (x : FVec Ideal S512x128 .f32) (r : Fin 512) :
    multiReduction .add [1] S512 x 0x00000000#32 Facts₀.reduces_S512x128_S512 (.inl rfl) rfl (ix1 r) = ∑ d : Fin 128, x (ix2 r d) := by
  refine (Ideal.multiReduction_add_single x _ _ _ _ (ix1 r)).trans (Finset.sum_congr rfl fun e _ => ?_)
  have h : Shape.Reduces.lift Facts₀.reduces_S512x128_S512 (ix1 r) e = (ix2 r (e : Fin 128) : S512x128.Idx) :=
    funext fun a => match a with | ⟨0, _⟩ => rfl | ⟨1, _⟩ => rfl
  rw [h]

/-- The mixing factor as the body computes it, -/
def mixBlock (x4 : Vec Ideal S4x64 .f32) : FVec Ideal S1x1 .f32 :=
  addf (subf
    (exp (shapeCast S1x1 (multiReduction .add [1] S1 (mulf (extractStridedSlice S1x64 ![0, 0] x4 Facts₀.slices_S4x64_o0_0_S1x64)
      (extractStridedSlice S1x64 ![1, 0] x4 Facts₀.slices_S4x64_o1_0_S1x64)) 0x00000000#32 Facts₀.reduces_S1x64_S1 (.inl rfl) rfl) Facts₀.shapeCasts_S1_S1x1))
    (exp (shapeCast S1x1 (multiReduction .add [1] S1 (mulf (extractStridedSlice S1x64 ![2, 0] x4 Facts₀.slices_S4x64_o2_0_S1x64)
      (extractStridedSlice S1x64 ![3, 0] x4 Facts₀.slices_S4x64_o3_0_S1x64)) 0x00000000#32 Facts₀.reduces_S1x64_S1 (.inl rfl) rfl) Facts₀.shapeCasts_S1_S1x1)))
    (broadcast S1x1 (Scalar.ofBits .f32 0x3EB60549#32))

theorem mixBlock_apply (x4 : Vec Ideal S4x64 .f32) : mixBlock x4 (ix2 0 0) = mixing lam fun a e => x4 (ix2 a e) := by
  unfold mixBlock mixing
  refine congrArg₂ (fun x y : EReal => (Ideal.exp x - Ideal.exp y) + (FloatOps.ofBits .f32 0x3EB60549#32 : Ideal .f32))
    ((sumRow_apply _).trans (Finset.sum_congr rfl fun e _ => ?_)) ((sumRow_apply _).trans (Finset.sum_congr rfl fun e _ => ?_))
  · exact congrArg₂ (fun x y : EReal => x * y) (mixRow_apply x4 0 _ _ rfl rfl e) (mixRow_apply x4 1 _ _ rfl rfl e)
  · exact congrArg₂ (fun x y : EReal => x * y) (mixRow_apply x4 2 _ _ rfl rfl e) (mixRow_apply x4 3 _ _ rfl rfl e)

/-- and the difference of the quotients. -/
def mixed (l0 : FVec Ideal S512x1 .f32) (a0 : FVec Ideal S512x128 .f32) (l1 : FVec Ideal S512x1 .f32) (a1 : FVec Ideal S512x128 .f32)
    (x4 : Vec Ideal S4x64 .f32) : FVec Ideal S512x128 .f32 :=
  subf (divf a0 (broadcastTo S512x128 l0 Facts₀.broadcasts_S512x1_S512x128))
    (mulf (broadcastTo S512x128 (mixBlock x4) Facts₀.broadcasts_S1x1_S512x128) (divf a1 (broadcastTo S512x128 l1 Facts₀.broadcasts_S512x1_S512x128)))

theorem mixed_apply (l0 : FVec Ideal S512x1 .f32) (a0 : FVec Ideal S512x128 .f32) (l1 : FVec Ideal S512x1 .f32) (a1 : FVec Ideal S512x128 .f32)
    (x4 : Vec Ideal S4x64 .f32) (r : Fin 512) (d : Fin 128) :
    mixed l0 a0 l1 a1 x4 (ix2 r d) = Ideal.div (a0 (ix2 r d)) (l0 (ix2 r 0))
      - mixing lam (fun a e => x4 (ix2 a e)) * Ideal.div (a1 (ix2 r d)) (l1 (ix2 r 0)) := by
  have hb : broadcastTo S512x128 (mixBlock x4) Facts₀.broadcasts_S1x1_S512x128 (ix2 r d) = mixing lam fun a e => x4 (ix2 a e) :=
    (broadcastTo_apply _ _ _ (ix2 0 0) fun a => match a with | ⟨0, _⟩ => rfl | ⟨1, _⟩ => rfl).trans (mixBlock_apply x4)
  unfold mixed
  rw [subf_apply, mulf_apply, divf_apply, divf_apply, spread128_apply, spread128_apply, hb]

theorem pay60_eq (l0 : FVec Ideal S512x1 .f32) (a0 : FVec Ideal S512x128 .f32) (l1 : FVec Ideal S512x1 .f32) (a1 : FVec Ideal S512x128 .f32)
    (x4 : Vec Ideal S4x64 .f32) :
    k0_pay60 l0 a0 l1 a1 x4 = mulf (mixed l0 a0 l1 a1 x4) (broadcastTo S512x128 (rsqrt (addf (divf
      (shapeCast S512x1 (multiReduction .add [1] S512 (mulf (mixed l0 a0 l1 a1 x4) (mixed l0 a0 l1 a1 x4)) 0x00000000#32 Facts₀.reduces_S512x128_S512 (.inl rfl) rfl)
        Facts₀.shapeCasts_S512_S512x1) (broadcast S512x1 (Scalar.ofBits .f32 0x43000000#32))) (broadcast S512x1 (Scalar.ofBits .f32 0x3727C5AC#32))))
      Facts₀.broadcasts_S512x1_S512x128) := rfl

theorem gain_apply (x5 : Vec Ideal S1x128 .f32) (r : Fin 512) (d : Fin 128) : k0_pay61 x5 (ix2 r d) = x5 (ix2 0 d) := by
  unfold k0_pay61
  refine (broadcastTo_apply _ _ _ (ix2 0 d) fun a => match a with | ⟨0, _⟩ => rfl | ⟨1, _⟩ => rfl).trans ?_
  exact shapeCast_apply _ _ _ _ rfl

theorem rms_apply (o : FVec Ideal S512x128 .f32) (r : Fin 512) :
    rsqrt (addf (divf (shapeCast S512x1 (multiReduction .add [1] S512 (mulf o o) 0x00000000#32 Facts₀.reduces_S512x128_S512 (.inl rfl) rfl)
        Facts₀.shapeCasts_S512_S512x1) (broadcast S512x1 (Scalar.ofBits .f32 0x43000000#32))) (broadcast S512x1 (Scalar.ofBits .f32 0x3727C5AC#32))) (ix2 r 0)
      = Ideal.rsqrt (Ideal.div (∑ j : Fin 128, o (ix2 r j) * o (ix2 r j)) (FloatOps.ofBits .f32 0x43000000#32 : Ideal .f32)
        + (FloatOps.ofBits .f32 0x3727C5AC#32 : Ideal .f32)) :=
  congrArg (fun z : EReal => Ideal.rsqrt (Ideal.div z (FloatOps.ofBits .f32 0x43000000#32 : Ideal .f32) + (FloatOps.ofBits .f32 0x3727C5AC#32 : Ideal .f32)))
    ((column_apply _ r).trans (sumCols_apply _ r))

/-- What is written at row `r`, column `d`. -/
theorem finish_apply (s : Acc) (x4 : Vec Ideal S4x64 .f32) (x5 : Vec Ideal S1x128 .f32) (r : Fin 512) (d : Fin 128) :
    finish s x4 x5 (ix3 0 r d) = normalized rest (fun j => Ideal.div (s.2.2.1 (ix2 r j)) (s.2.1 (ix2 r 0))
      - mixing lam (fun a e => x4 (ix2 a e)) * Ideal.div (s.2.2.2.2.2 (ix2 r j)) (s.2.2.2.2.1 (ix2 r 0))) (x5 (ix2 0 d)) d := by
  unfold finish k0_pay1
  refine (shapeCast_apply _ _ _ (ix2 r d) ?_).trans ?_
  · rw [Shape.rowMajor_val_three, Shape.rowMajor_val_two]
    show r.val * 128 + d.val = (0 * 512 + r.val) * 128 + d.val
    omega
  rw [truncf_apply, mulf_apply, mulf_apply, gain_apply, pay60_eq, mulf_apply, spread128_apply, rms_apply]
  unfold normalized
  simp only [mixed_apply]
  rfl

end Cert.KernelIdeal.Diff

end
-- ==== Proof.BiasTable.lean ====
/- The relative position bias: which row of the table a signed distance reads, and the gather of rows that both programs do. -/
module

public import proofs.«01_k».proof.Proof.Softmax
public import Idealize.ShloMosaic.Lib.ValueIdx

@[expose] public section

set_option maxRecDepth 16384

noncomputable section

namespace BiasTable

open Idealize.ShloMosaic Idealize.ShloMosaic.ValueIdx

/-- A gather of whole rows of an `N × K` table at an `R × C` array of row numbers. -/
abbrev rowsDims (N K R C : Nat) (wf : GatherDims.WF ⟨2, ![N, K]⟩ ⟨3, ![R, C, 1]⟩ ⟨3, ![R, C, K]⟩ [2] [0] [] [0] [] 2 ![1, K]) :
    GatherDims ⟨2, ![N, K]⟩ ⟨3, ![R, C, 1]⟩ ⟨3, ![R, C, K]⟩ where
  offsetDims := [2]
  collapsedSliceDims := [0]
  operandBatchingDims := []
  startIndicesBatchingDims := []
  startIndexMap := [0]
  indexVectorDim := 2
  sliceSizes := ![1, K]
  wf := wf

/-- It reads, at `(i, j, k)`, entry `k` of the row whose number, clamped, stands at `(i, j)`. -/
theorem gather_rows {α : Type} {N K R C : Nat} (hN : 0 < N) (wf) (x : (⟨2, ![N, K]⟩ : Shape).Idx → α)
    (idx : IVec ⟨3, ![R, C, 1]⟩ 32) (i : Fin R) (j : Fin C) (k : Fin K) :
    Host.gather (rowsDims N K R C wf) x idx (ix3 i j k) = x (ix2 ⟨min (idx (ix3 i j 0)).toInt.toNat (N - 1), by omega⟩ k) := by
  unfold Host.gather
  congr 1
  funext a
  refine Fin.ext ?_
  show (rowsDims N K R C wf).start (ix3 i j k) idx a + (rowsDims N K R C wf).batchCoord (ix3 i j k) a + (rowsDims N K R C wf).offCoord (ix3 i j k) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowsDims N K R C wf).startIndexMap from List.mem_singleton.mpr rfl)]
    have hsi : (rowsDims N K R C wf).siIdx (ix3 i j k) ⟨List.idxOf (⟨0, h0⟩ : Fin 2) (rowsDims N K R C wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  | ⟨1, h1⟩ =>
    have hs : (rowsDims N K R C wf).start (ix3 i j k) idx ⟨1, h1⟩ = 0 := by
      unfold GatherDims.start
      rw [dif_neg]
      exact fun h => absurd (congrArg Fin.val (List.mem_singleton.mp h)) (show ¬(1 = 0) by decide)
    rw [hs]
    simp only [Nat.zero_add]
    rfl

/-- The row of the table that a distance of `w` reads: the distance itself up to 15, then sixteen rows on a logarithmic scale. -/
def rowOf (w : BitVec 32) : BitVec 32 :=
  let d := IntOp.maxsi w 0#32
  let q : Ideal .f32 := FloatOps.hostDivf (FloatOps.sitofp .f32 (IntOp.maxsi d 1#32)) (FloatOps.ofBits .f32 0x41800000#32)
  let l : Ideal .f32 := FloatOps.hostDivf (FloatOps.hostUnary .log q) (FloatOps.ofBits .f32 0x409B43D5#32)
  let s : Ideal .f32 := FloatOps.mulf l (FloatOps.ofBits .f32 0x41800000#32)
  let far := IntOp.minsi (IntOp.addi 16#32 (FloatOps.fptosi 32 s)) 31#32
  let b := Scalar.select (IntOp.cmpi .slt d 16#32) d far
  Scalar.select (IntOp.cmpi .slt b 0#32) (IntOp.addi b 32#32) b

/-- The same row, clamped to the table. -/
def entry (w : BitVec 32) : Fin 32 := ⟨min (rowOf w).toInt.toNat (32 - 1), by omega⟩

end BiasTable

end
-- ==== Proof.Spec.lean ====
/- Differential attention over the real numbers: what both programs compute when the entries they multiply are finite. -/
module

public import proofs.«01_k».proof.Proof.Finish
public import proofs.«01_k».proof.Proof.BiasTable

@[expose] public section

set_option maxRecDepth 16384

noncomputable section

namespace Attention

open Idealize.ShloMosaic Idealize.ShloMosaic.ValueIdx Softmax BiasTable

variable (X : (⟨3, ![8, 2048, 3072]⟩ : Shape).Idx → EReal) (T : (⟨2, ![32, 12]⟩ : Shape).Idx → EReal)
variable (P : (⟨2, ![4, 64]⟩ : Shape).Idx → EReal) (G : (⟨1, ![128]⟩ : Shape).Idx → EReal)

/-- Entry `e` of section `s` (queries 12, keys 16, values 20) of head `h`, at row `t` of the batch entry `b`. -/
def entryAt (b : Fin 8) (t : Fin 2048) (s h e : ℕ) : EReal := X (ix3 b t (Fin.ofNat 3072 (128 * (s + h) + e)))

/-- The bias of head `h` for the query `q` and the key `t`. -/
def biasFor (h : ℕ) (q t : ℕ) : EReal :=
  T (ix2 (entry (IntOp.subi (BitVec.ofNat 32 q) (BitVec.ofNat 32 t))) (Fin.ofNat 12 (8 + h)))

/-- The logit of half `o` of head `h`: the product of query and key over eight, plus the bias. -/
def logit (b : Fin 8) (h o : ℕ) (q t : Fin 2048) : ℝ :=
  (∑ e : Fin 64, (entryAt X b q 12 h (64 * o + e.val)).toReal * (entryAt X b t 16 h (64 * o + e.val)).toReal) * 8⁻¹ + (biasFor T h q.val t.val).toReal

/-- The logit under the causal mask. -/
def masked (b : Fin 8) (h o : ℕ) (q t : Fin 2048) : EReal := if t.val ≤ q.val then (logit X T b h o q t : EReal) else ⊥

/-- The values, weighted by the softmax of the masked logits. -/
def attend (b : Fin 8) (h o : ℕ) (q : Fin 2048) (j : ℕ) : ℝ :=
  (∑ t, we (masked X T b h o q t) * (entryAt X b t 20 h j).toReal) / ∑ t, we (masked X T b h o q t)

/-- The result, with the layer's two constants: the second half's attention, times the mixing factor, taken from the first's, each head's row normalised. -/
def result (lam rest : EReal) : (⟨3, ![8, 2048, 512]⟩ : Shape).Idx → EReal := fun i =>
  normalized rest (fun j => (attend X T (i 0) ((i 2).val / 128) 0 (i 1) j.val : EReal)
      - mixing lam (fun a e => P (ix2 a e)) * (attend X T (i 0) ((i 2).val / 128) 1 (i 1) j.val : EReal))
    (G (ix1 (Fin.ofNat 128 (i 2).val))) (Fin.ofNat 128 (i 2).val)

/-- The entries that are multiplied are finite: of the queries, keys and values, of the table's columns and of the mixing parameters. -/
structure Finite : Prop where
  entries : ∀ b t (n : Fin 3072), 1536 ≤ n.val → X (ix3 b t n) = ((X (ix3 b t n)).toReal : EReal)
  table : ∀ r (n : Fin 12), 8 ≤ n.val → T (ix2 r n) = ((T (ix2 r n)).toReal : EReal)
  params : ∀ a e, P (ix2 a e) = ((P (ix2 a e)).toReal : EReal)

variable {X T P}

theorem Finite.entryAt (hf : Finite X T P) (b : Fin 8) (t : Fin 2048) (s h e : ℕ) (hs : 12 ≤ s) (hn : 128 * (s + h) + e < 3072) :
    entryAt X b t s h e = ((entryAt X b t s h e).toReal : EReal) :=
  hf.entries b t _ (by show 1536 ≤ (128 * (s + h) + e) % 3072; omega)

theorem Finite.biasFor (hf : Finite X T P) (h : ℕ) (hh : h < 4) (q t : ℕ) : biasFor T h q t = ((biasFor T h q t).toReal : EReal) :=
  hf.table _ _ (by show 8 ≤ (8 + h) % 12; omega)

/-- A constant's product summed over real entries. -/
theorem sum_mul_coe {J : Type} [Fintype J] (f g : J → ℝ) : ∑ j, (f j : EReal) * (g j : EReal) = ((∑ j, f j * g j : ℝ) : EReal) := by
  rw [← sum_coe]
  exact Finset.sum_congr rfl fun j _ => (EReal.coe_mul _ _).symm

theorem masked_ne_top (b : Fin 8) (h o : ℕ) (q t : Fin 2048) : masked X T b h o q t ≠ ⊤ := by
  unfold masked
  split
  · exact EReal.coe_ne_top _
  · exact bot_ne_top

theorem masked_self (b : Fin 8) (h o : ℕ) (q : Fin 2048) : masked X T b h o q q ≠ ⊥ := by
  unfold masked
  rw [if_pos le_rfl]
  exact EReal.coe_ne_bot _

theorem we_nonneg (x : EReal) : 0 ≤ we x := by
  induction x with
  | bot => simp
  | coe r => rw [we_coe]; positivity
  | top => simp [we]

/-- Some weight is positive, so the weights' sum is. -/
theorem weights_pos (b : Fin 8) (h o : ℕ) (q : Fin 2048) : 0 < ∑ t, we (masked X T b h o q t) := by
  refine Finset.sum_pos' (fun t _ => we_nonneg _) ⟨q, Finset.mem_univ q, ?_⟩
  unfold masked
  rw [if_pos le_rfl, we_coe]
  exact Real.exp_pos _

/-- The mixing factor is a real number if its constant is. -/
theorem mixing_real (hf : Finite X T P) {lam : EReal} (hc : ∃ r : ℝ, lam = (r : EReal)) : ∃ l : ℝ, mixing lam (fun a e => P (ix2 a e)) = (l : EReal) := by
  have hs : ∀ a a' : Fin 4, ∑ e : Fin 64, P (ix2 a e) * P (ix2 a' e) = ((∑ e : Fin 64, (P (ix2 a e)).toReal * (P (ix2 a' e)).toReal : ℝ) : EReal) := fun a a' => by
    rw [← sum_mul_coe]
    exact Finset.sum_congr rfl fun e _ => congrArg₂ (fun x y : EReal => x * y) (hf.params a e) (hf.params a' e)
  obtain ⟨r, hr⟩ := hc
  unfold mixing
  rw [hs, hs, hr, Ideal.exp_coe, Ideal.exp_coe, ← EReal.coe_sub, ← EReal.coe_add]
  exact ⟨_, rfl⟩

end Attention

end
-- ==== Proof.Points.lean ====
/- The kernel's blocks at its grid points. Point `t` of the 128 works on head `t / 32`, batch row `t / 4 % 8` and query span `t % 4`;
   the bias tiles it reads are those of its head, made at the head's first point. -/
module

public import proofs.«01_k».proof.Proof.Finish
public import proofs.«01_k».proof.Proof.Gen.KernelIdeal.Value
public import Idealize.ShloMosaic.Lib.Pipeline.ValueKit.Geometry

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx Softmax

theorem index0 : ∀ t : Fin cfg0.N, win0_0.index t = ![t.val / 4 % 8, t.val % 4, 12 + t.val / 32] := (by decide +kernel : ∀ t : Fin grid0.N, _)
theorem index1 : ∀ t : Fin cfg0.N, win0_1.index t = ![t.val / 4 % 8, 0, 16 + t.val / 32] := (by decide +kernel : ∀ t : Fin grid0.N, _)
theorem index2 : ∀ t : Fin cfg0.N, win0_2.index t = ![t.val / 4 % 8, 0, 20 + t.val / 32] := (by decide +kernel : ∀ t : Fin grid0.N, _)
theorem index3 : ∀ t : Fin cfg0.N, win0_3.index t = ![t.val / 32, 0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 4 % 8, t.val % 4, t.val / 32] := (by decide +kernel : ∀ t : Fin grid0.N, _)
theorem span : ∀ t : Fin cfg0.N, ((grid0.coords t) 2).val = t.val % 4 := (by decide +kernel : ∀ t : Fin grid0.N, _)

variable (m : (ℓ : Loc nD τ sig) → Buf (Elt Ideal) ℓ) (c : Dev nD) (t : Fin cfg0.N)

theorem point_lt : t.val < 128 := lt_of_lt_of_eq t.isLt N_0

/-- The queries of a point, -/
theorem block0 (r : Fin 512) (e : Fin 128) : iblk m c 0 t (ix3 0 r e)
    = m ((c : Thread nD τ).loc main_arg0) (ix3 (Fin.ofNat 8 (t.val / 4 % 8)) (Fin.ofNat 2048 (512 * (t.val % 4) + r.val)) (Fin.ofNat 3072 (128 * (12 + t.val / 32) + e.val))) := by
  have ht := point_lt t
  have hr := r.isLt
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 4 % 8 * 1 + 0 = t.val / 4 % 8 % 8; omega
  | ⟨1, _⟩ => refine (Pipeline.Window.rect_emb_val win0_0 t _ _).trans ?_; rw [index0]; show t.val % 4 * 512 + r.val = (512 * (t.val % 4) + r.val) % 2048; omega
  | ⟨2, _⟩ => refine (Pipeline.Window.rect_emb_val win0_0 t _ _).trans ?_; rw [index0]; show (12 + t.val / 32) * 128 + e.val = (128 * (12 + t.val / 32) + e.val) % 3072; omega

/-- its keys, -/
theorem block1 (r : Fin 2048) (e : Fin 128) : iblk m c 1 t (ix3 0 r e)
    = m ((c : Thread nD τ).loc main_arg0) (ix3 (Fin.ofNat 8 (t.val / 4 % 8)) r (Fin.ofNat 3072 (128 * (16 + t.val / 32) + e.val))) := by
  have ht := point_lt t
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_1 t _ _).trans ?_; rw [index1]; show t.val / 4 % 8 * 1 + 0 = t.val / 4 % 8 % 8; omega
  | ⟨1, _⟩ => refine (Pipeline.Window.rect_emb_val win0_1 t _ _).trans ?_; rw [index1]; show 0 * 2048 + r.val = r.val; omega
  | ⟨2, _⟩ => refine (Pipeline.Window.rect_emb_val win0_1 t _ _).trans ?_; rw [index1]; show (16 + t.val / 32) * 128 + e.val = (128 * (16 + t.val / 32) + e.val) % 3072; omega

/-- its values, -/
theorem block2 (r : Fin 2048) (e : Fin 128) : iblk m c 2 t (ix3 0 r e)
    = m ((c : Thread nD τ).loc main_arg0) (ix3 (Fin.ofNat 8 (t.val / 4 % 8)) r (Fin.ofNat 3072 (128 * (20 + t.val / 32) + e.val))) := by
  have ht := point_lt t
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_2 t _ _).trans ?_; rw [index2]; show t.val / 4 % 8 * 1 + 0 = t.val / 4 % 8 % 8; omega
  | ⟨1, _⟩ => refine (Pipeline.Window.rect_emb_val win0_2 t _ _).trans ?_; rw [index2]; show 0 * 2048 + r.val = r.val; omega
  | ⟨2, _⟩ => refine (Pipeline.Window.rect_emb_val win0_2 t _ _).trans ?_; rw [index2]; show (20 + t.val / 32) * 128 + e.val = (128 * (20 + t.val / 32) + e.val) % 3072; omega

/-- the bias vectors of its head, -/
theorem block3 (d : Fin 4) (n : Fin 1024) : iblk m c 3 t (ix4 0 d 0 n) = V m c main_v45 (ix4 (Fin.ofNat 4 (t.val / 32)) d 0 n) := by
  have ht := point_lt t
  blk_simp [iblk]
  refine congrArg (V m c main_v45) (funext fun a => Fin.ext ?_)
  match a with
  | ⟨0, _⟩ => refine (Pipeline.Window.rect_emb_val win0_3 t _ _).trans ?_; rw [index3]; show t.val / 32 * 1 + 0 = t.val / 32 % 4; omega
  | ⟨1, _⟩ => refine (Pipeline.Window.rect_emb_val win0_3 t _ _).trans ?_; rw [index3]; show 0 * 4 + d.val = d.val; omega
  | ⟨2, _⟩ => refine (Pipeline.Window.rect_emb_val win0_3 t _ _).trans ?_; rw [index3]; rfl
  | ⟨3, _⟩ => refine (Pipeline.Window.rect_emb_val win0_3 t _ _).trans ?_; rw [index3]; show 0 * 1024 + n.val = n.val; omega

/-- the mixing parameters -/
theorem block4 (a : Fin 4) (e : Fin 64) : iblk m c 4 t (ix2 a e) = m ((c : Thread nD τ).loc main_arg2) (ix2 a e) := by
  blk_simp [iblk]
  refine (congrFun (V_main_arg2 m c) _).trans (congrArg (m ((c : Thread nD τ).loc main_arg2)) (funext fun b => Fin.ext ?_))
  match b with
  | ⟨0, _⟩ => refine (Pipeline.Window.rect_emb_val win0_4 t _ _).trans ?_; rw [index4]; show 0 * 4 + a.val = a.val; omega
  | ⟨1, _⟩ => refine (Pipeline.Window.rect_emb_val win0_4 t _ _).trans ?_; rw [index4]; show 0 * 64 + e.val = e.val; omega

/-- and the gain. -/
theorem block5 (e : Fin 128) : iblk m c 5 t (ix2 0 e) = V m c main_v46 (ix2 0 e) := by
  blk_simp [iblk]
  refine congrArg (V m c main_v46) (funext fun b => Fin.ext ?_)
  match b with
  | ⟨0, _⟩ => refine (Pipeline.Window.rect_emb_val win0_5 t _ _).trans ?_; rw [index5]; rfl
  | ⟨1, _⟩ => refine (Pipeline.Window.rect_emb_val win0_5 t _ _).trans ?_; rw [index5]; show 0 * 128 + e.val = e.val; omega

/-- The bias of head `h` at place `n` of the vector for a distance of `d` spans, -/
def biasAt (h : ℕ) (d : Fin 4) (n : Fin 1024) : Ideal .f32 := V m c main_v45 (ix4 (Fin.ofNat 4 h) d 0 n)

/-- and the bias tiles of the head. -/
def headBias (h : ℕ) : Vec Ideal S4x512x512 .f32 := fun y =>
  biasAt m c h (y 0) (Fin.ofNat 1024 ((y 2).val + 1024 - (y 1).val)) * (Named.named κ "log2e" 0x3FB8AA3B#32 : Ideal .f32)

theorem bias_block : bias (iblk m c 3 t) = headBias m c (t.val / 32) :=
  funext fun y => congrArg (fun z : EReal => z * (Named.named κ "log2e" 0x3FB8AA3B#32 : Ideal .f32)) (block3 m c t _ _)

/-- Every point finds and leaves its head's bias tiles in the scratch, -/
theorem scratch_eq : ∀ (n : ℕ) (h : n < cfg0.N), (outsAt0 m c n h).2 = headBias m c (n / 32) := by
  intro n
  induction n with
  | zero =>
    intro h
    refine (congrArg Prod.snd (outsAt0_A m c ⟨0, h⟩ rfl)).trans ?_
    dsimp only
    rw [sout_A]
    exact bias_block m c ⟨0, h⟩
  | succ n ih =>
    intro h
    by_cases h0 : (n + 1) % 32 = 0
    · refine (congrArg Prod.snd (outsAt0_A m c ⟨n + 1, h⟩ h0)).trans ?_
      dsimp only
      rw [sout_A]
      exact bias_block m c ⟨n + 1, h⟩
    · refine (congrArg Prod.snd (outsAt0_B m c ⟨n + 1, h⟩ h0)).trans ?_
      show (outsAt0 m c n _).2 = _
      rw [ih]
      congr 1
      omega

/-- and writes the body of its blocks. -/
theorem out_eq : (outsAt0 m c t.val t.isLt).1
    = body (iblk m c 0 t) (iblk m c 1 t) (iblk m c 2 t) (iblk m c 4 t) (iblk m c 5 t) (headBias m c (t.val / 32)) (t.val % 4) := by
  by_cases h0 : t.val % 32 = 0
  · rw [outsAt0_A m c t h0]
    dsimp only
    rw [out_A, bias_block, span]
  · rw [outsAt0_B m c t h0]
    dsimp only
    rw [out_B, span, scratch_eq]
    have : (t.val - 1) / 32 = t.val / 32 := by omega
    rw [this]

end Cert.KernelIdeal.Diff

end
-- ==== Proof.Prologue.lean ====
/- The host lines before the kernel: the bias vectors of a head and the gain row it is given. -/
module

public import proofs.«01_k».proof.Proof.Points
public import proofs.«01_k».proof.Proof.BiasTable

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx BiasTable

variable (m : (ℓ : Loc nD τ sig) → Buf (Elt Ideal) ℓ) (c : Dev nD)

/-- The signed distances the vectors are laid out for. -/
def distances : IVec S4x1024 32 :=
  addi
    (broadcastInDim S4x1024 ![0, 1] Facts₀.bcast_S4x1_S4x1024_0_1
      (muli (broadcastInDim S4x1 ![0] Facts₀.bcast_S4_S4x1_0 (iotaInDim S4 32 0)) (broadcastInDim S4x1 ![] Facts₀.bcast_S_S4x1 (constantI S_ 32 512#32))))
    (broadcastInDim S4x1024 ![0, 1] Facts₀.bcast_S1x1024_S4x1024_0_1 (broadcastInDim S1x1024 ![1] Facts₀.bcast_S1024_S1x1024_1
      (select (cmpi .slt (iotaInDim S1024 32 0) (broadcastInDim S1024 ![] Facts₀.bcast_S_S1024 (constantI S_ 32 512#32))) (negi (iotaInDim S1024 32 0))
        (subi (broadcastInDim S1024 ![] Facts₀.bcast_S_S1024 (constantI S_ 32 1024#32)) (iotaInDim S1024 32 0)))))

set_option maxHeartbeats 4000000 in
theorem vectors_eq : V m c main_v45
    = broadcastInDim S4x4x8x1024 ![0, 1, 2, 3] Facts₀.bcast_S4x4x1x1024_S4x4x8x1024_0_1_2_3
        (broadcastInDim S4x4x1x1024 ![0, 1, 3] Facts₀.bcast_S4x4x1024_S4x4x1x1024_0_1_3
          (transpose S4x4x1024 [2, 0, 1] (Host.gather gather_S32x4_S4x1024x1_S4x1024x4_2_0_n_n_0_2_14
            (extractStridedSlice S32x4 ![0, 8] (m ((c : Thread nD τ).loc main_arg1)) Facts₀.slices_S32x12_S32x4_0_8)
            (broadcastInDim S4x1024x1 ![0, 1] Facts₀.bcast_S4x1024_S4x1024x1_0_1 fun i => rowOf (distances i)))
            Facts₀.transposes_S4x1024x4_S4x4x1024_2_0_1)) := by
  dsimp only [V, hostOps0, hostOps0_1, hostOps0_2, hostOps0_3, hostOps0_4, List.flatten_cons, List.flatten_nil, List.append_nil, List.cons_append, List.nil_append]
  after_results
  rfl

set_option maxHeartbeats 4000000 in
theorem gain_eq : V m c main_v46 = shapeCast S1x128 (m ((c : Thread nD τ).loc main_arg3)) Facts₀.shapeCasts_S128_S1x128 := by
  dsimp only [V, hostOps0, hostOps0_1, hostOps0_2, hostOps0_3, hostOps0_4, List.flatten_cons, List.flatten_nil, List.append_nil, List.cons_append, List.nil_append]
  after_results
  rfl

end Cert.KernelIdeal.Diff

end
-- ==== Proof.Vectors.lean ====
/- The kernel's bias vectors and gain row, entry by entry. -/
module

public import proofs.«01_k».proof.Proof.Prologue

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx BiasTable

variable (m : (ℓ : Loc nD τ sig) → Buf (Elt Ideal) ℓ) (c : Dev nD)

/-- The distance at place `n` of the vector for `d` spans. -/
theorem distances_apply (d : Fin 4) (n : Fin 1024) : distances (ix2 d n)
    = IntOp.addi (IntOp.muli (BitVec.ofNat 32 d.val) 512#32)
        (Scalar.select (IntOp.cmpi .slt (BitVec.ofNat 32 n.val) 512#32) (-BitVec.ofNat 32 n.val) (IntOp.subi 1024#32 (BitVec.ofNat 32 n.val))) := by
  unfold distances
  refine congrArg₂ IntOp.addi ?_ ?_
  · exact (broadcastInDim_apply _ _ _ _ (ix2 d 0) fun a => match a with | ⟨0, _⟩ => rfl | ⟨1, _⟩ => rfl).trans
      (congrArg₂ IntOp.muli (broadcastInDim_apply _ _ _ _ (ix1 d) fun a => match a with | ⟨0, _⟩ => rfl) rfl)
  · refine (broadcastInDim_apply _ _ _ _ (ix2 0 n) fun a => match a with | ⟨0, _⟩ => rfl | ⟨1, _⟩ => rfl).trans ?_
    exact (broadcastInDim_apply ![1] Facts₀.bcast_S1024_S1x1024_1 _ (ix2 0 n) (ix1 n) fun a => match a with | ⟨0, _⟩ => rfl).trans rfl

theorem slt_512 (a : ℕ) (h : a < 2048) : (BitVec.ofNat 32 a).slt 512#32 = decide (a < 512) := by
  have e : (BitVec.ofNat 32 a).toNat = a := by
    rw [BitVec.toNat_ofNat]
    exact Nat.mod_eq_of_lt (by omega)
  unfold BitVec.slt
  rw [BitVec.toInt_eq_toNat_of_lt (by rw [e]; omega), e]
  show decide ((a : Int) < 512) = _
  exact decide_eq_decide.mpr (by omega)

/-- The rotated vector holds, at row `r` and column `j`, the distance from query row `r` of span `qs` to key row `j` of span `k`. -/
theorem distances_rotated (qs k : ℕ) (hqs : qs < 4) (hk : k ≤ qs) (r j : Fin 512) :
    distances (ix2 (Fin.ofNat 4 (qs - k)) (Fin.ofNat 1024 (j.val + 1024 - r.val)))
      = IntOp.subi (BitVec.ofNat 32 (512 * qs + r.val)) (BitVec.ofNat 32 (512 * k + j.val)) := by
  have hr := r.isLt
  have hj := j.isLt
  rw [distances_apply]
  have hd : (Fin.ofNat 4 (qs - k)).val = qs - k := Nat.mod_eq_of_lt (by omega)
  have hn : (Fin.ofNat 1024 (j.val + 1024 - r.val)).val = (j.val + 1024 - r.val) % 1024 := rfl
  rw [hd, hn]
  by_cases h : r.val ≤ j.val
  · have e : (j.val + 1024 - r.val) % 1024 = j.val - r.val := by omega
    have hc : IntOp.cmpi .slt (BitVec.ofNat 32 (j.val - r.val)) 512#32 = 1#1 := by
      show BitVec.ofBool ((BitVec.ofNat 32 (j.val - r.val)).slt 512#32) = 1#1
      have : (BitVec.ofNat 32 (j.val - r.val)).slt 512#32 = true := by rw [slt_512 _ (by omega)]; exact decide_eq_true (by omega)
      rw [this]; rfl
    rw [e, hc, select_one]
    show BitVec.ofNat 32 (qs - k) * 512#32 + -BitVec.ofNat 32 (j.val - r.val) = BitVec.ofNat 32 (512 * qs + r.val) - BitVec.ofNat 32 (512 * k + j.val)
    apply BitVec.eq_of_toNat_eq
    simp only [BitVec.toNat_add, BitVec.toNat_mul, BitVec.toNat_neg, BitVec.toNat_sub, BitVec.toNat_ofNat]
    omega
  · have e : (j.val + 1024 - r.val) % 1024 = j.val + 1024 - r.val := by omega
    have hc : IntOp.cmpi .slt (BitVec.ofNat 32 (j.val + 1024 - r.val)) 512#32 = 0#1 := by
      show BitVec.ofBool ((BitVec.ofNat 32 (j.val + 1024 - r.val)).slt 512#32) = 0#1
      have : (BitVec.ofNat 32 (j.val + 1024 - r.val)).slt 512#32 = false := by rw [slt_512 _ (by omega)]; exact decide_eq_false (by omega)
      rw [this]; rfl
    rw [e, hc, select_zero]
    show BitVec.ofNat 32 (qs - k) * 512#32 + (1024#32 - BitVec.ofNat 32 (j.val + 1024 - r.val)) = BitVec.ofNat 32 (512 * qs + r.val) - BitVec.ofNat 32 (512 * k + j.val)
    apply BitVec.eq_of_toNat_eq
    simp only [BitVec.toNat_add, BitVec.toNat_mul, BitVec.toNat_sub, BitVec.toNat_ofNat]
    omega

/-- The bias vectors, from the table. -/
theorem biasAt_eq (h d : Fin 4) (n : Fin 1024) : biasAt m c h.val d n
    = m ((c : Thread nD τ).loc main_arg1) (ix2 (entry (distances (ix2 d n))) (Fin.ofNat 12 (8 + h.val))) := by
  have hh := h.isLt
  unfold biasAt
  rw [vectors_eq, show Fin.ofNat 4 h.val = h from Fin.ext (Nat.mod_eq_of_lt h.isLt)]
  refine (broadcastInDim_apply _ _ _ _ (ix4 h d 0 n) fun a => match a with | ⟨0, _⟩ => rfl | ⟨1, _⟩ => rfl | ⟨2, _⟩ => rfl | ⟨3, _⟩ => rfl).trans ?_
  refine (broadcastInDim_apply _ _ _ _ (ix3 h d n) fun a => match a with | ⟨0, _⟩ => rfl | ⟨1, _⟩ => rfl | ⟨2, _⟩ => rfl).trans ?_
  refine (transpose_apply _ _ _ _ (ix3 d n h) fun a => match a with | ⟨0, _⟩ => rfl | ⟨1, _⟩ => rfl | ⟨2, _⟩ => rfl).trans ?_
  refine (gather_rows (by decide) _ _ _ d n h).trans ?_
  have e : broadcastInDim S4x1024x1 ![0, 1] Facts₀.bcast_S4x1024_S4x1024x1_0_1 (fun i => rowOf (distances i)) (ix3 d n 0) = rowOf (distances (ix2 d n)) :=
    broadcastInDim_apply _ _ _ _ (ix2 d n) fun a => match a with | ⟨0, _⟩ => rfl | ⟨1, _⟩ => rfl
  refine extractStridedSlice_apply _ _ _ _ _ fun a => ?_
  match a with
  | ⟨0, _⟩ =>
    show min (rowOf (distances (ix2 d n))).toInt.toNat (32 - 1) = 0 + min _ (32 - 1)
    rw [e, Nat.zero_add]
  | ⟨1, _⟩ =>
    show (8 + h.val) % 12 = 8 + h.val
    omega

/-- The gain row. -/
theorem gainAt_eq (e : Fin 128) : V m c main_v46 (ix2 0 e) = m ((c : Thread nD τ).loc main_arg3) (ix1 e) := by
  rw [gain_eq]
  refine shapeCast_apply _ _ _ _ ?_
  show (S128.rowMajor (ix1 e)).val = (S1x128.rowMajor (ix2 0 e)).val
  rw [Shape.rowMajor_val_one, Shape.rowMajor_val_two]
  show e.val = 0 * 128 + e.val
  omega

end Cert.KernelIdeal.Diff

end
-- ==== Proof.Array.lean ====
/- The kernel's result array: each block is differential attention's result on its rows. -/
module

public import proofs.«01_k».proof.Proof.Spec
public import proofs.«01_k».proof.Proof.Points
public import proofs.«01_k».proof.Proof.Vectors

@[expose] public section

set_option maxRecDepth 16384

noncomputable section

namespace Cert.KernelIdeal.Diff

open Cert.KernelIdeal Cert.KernelIdeal.Gen Idealize.ShloMosaic Idealize.ShloMosaic.TcCoe Idealize.SL.Sem
open Idealize.ShloMosaic.ValueIdx Softmax BiasTable Attention

theorem logitScale_eq : logitScale = (((Real.log 2)⁻¹ * 8⁻¹ : ℝ) : EReal) := IdealRules.named_const.ideal_named_scalar _ _ _ _ rfl

theorem log2e_eq : (Named.named κ "log2e" 0x3FB8AA3B#32 : Ideal .f32) = (((Real.log 2)⁻¹ : ℝ) : EReal) :=
  IdealRules.named_const.ideal_named_scalar _ _ _ _ rfl

variable (m : (ℓ : Loc nD τ sig) → Buf (Elt Ideal) ℓ) (c : Dev nD)

/-- The arguments. -/
abbrev argX : S8x2048x3072.Idx → EReal := m ((c : Thread nD τ).loc main_arg0)
abbrev argT : S32x12.Idx → EReal := m ((c : Thread nD τ).loc main_arg1)
abbrev argP : S4x64.Idx → EReal := m ((c : Thread nD τ).loc main_arg2)
abbrev argG : S128.Idx → EReal := m ((c : Thread nD τ).loc main_arg3)

variable (t : Fin cfg0.N)

/-- The bias tile's entry for query row `r` of span `qs` and key row `k`. -/
theorem headBias_apply (h qs : ℕ) (hh : h < 4) (hqs : qs < 4) (r : Fin 512) (k : ℕ) (hk : k ≤ 512 * qs + r.val) :
    headBias m c h (ix3 (Fin.ofNat 4 (qs - k / 512)) r (Fin.ofNat 512 k))
      = biasFor (argT m c) h (512 * qs + r.val) k * (((Real.log 2)⁻¹ : ℝ) : EReal) := by
  have hr := r.isLt
  refine congrArg₂ (fun x y : EReal => x * y) ?_ log2e_eq
  show biasAt m c h (Fin.ofNat 4 (qs - k / 512)) (Fin.ofNat 1024 (k % 512 + 1024 - r.val)) = _
  refine (biasAt_eq m c ⟨h, hh⟩ _ _).trans (congrArg (fun w => argT m c (ix2 (entry w) (Fin.ofNat 12 (8 + h)))) ?_)
  refine (distances_rotated qs (k / 512) hqs (by omega) r (Fin.ofNat 512 k)).trans ?_
  have : 512 * (k / 512) + (Fin.ofNat 512 k).val = k := by show 512 * (k / 512) + k % 512 = k; omega
  rw [this]

/-- The blocks' entries as the argument's. -/
theorem queryAt (r : Fin 512) (n : ℕ) (hn : n < 128) : iblk m c 0 t (ix3 0 r (Fin.ofNat 128 n))
    = entryAt (argX m c) (Fin.ofNat 8 (t.val / 4 % 8)) (Fin.ofNat 2048 (512 * (t.val % 4) + r.val)) 12 (t.val / 32) n := by
  refine (block0 m c t r _).trans ?_
  have : (Fin.ofNat 128 n).val = n := Nat.mod_eq_of_lt hn
  rw [this]; rfl

theorem keyAt (k : Fin 2048) (n : ℕ) (hn : n < 128) : iblk m c 1 t (ix3 0 (Fin.ofNat 2048 k.val) (Fin.ofNat 128 n))
    = entryAt (argX m c) (Fin.ofNat 8 (t.val / 4 % 8)) k 16 (t.val / 32) n := by
  have hk' : Fin.ofNat 2048 k.val = k := Fin.ext (Nat.mod_eq_of_lt k.isLt)
  rw [hk']
  refine (block1 m c t k _).trans ?_
  have : (Fin.ofNat 128 n).val = n := Nat.mod_eq_of_lt hn
  rw [this]; rfl

/-- The kernel's score is the logit over the logarithm of two. -/
theorem score_eq (hf : Finite (argX m c) (argT m c) (argP m c)) (o : ℕ) (ho : o < 2) (r : Fin 512) (k : Fin 2048) :
    score (iblk m c 0 t) (iblk m c 1 t) (headBias m c (t.val / 32)) (t.val % 4) (64 * o) r k.val
      = if k.val ≤ 512 * (t.val % 4) + r.val then
          ((logit (argX m c) (argT m c) (Fin.ofNat 8 (t.val / 4 % 8)) (t.val / 32) o (Fin.ofNat 2048 (512 * (t.val % 4) + r.val)) k / Real.log 2 : ℝ) : EReal)
        else ⊥ := by
  have ht := point_lt t
  have hr := r.isLt
  have hk := k.isLt
  unfold score
  by_cases hc : k.val ≤ 512 * (t.val % 4) + r.val
  · rw [if_pos hc, if_pos hc, headBias_apply m c (t.val / 32) (t.val % 4) (by omega) (by omega) r k.val hc,
      hf.biasFor _ (by omega)]
    have hq : (Fin.ofNat 2048 (512 * (t.val % 4) + r.val)).val = 512 * (t.val % 4) + r.val := Nat.mod_eq_of_lt (by omega)
    have hs : ∀ e : Fin 64, (fun x y : EReal => (x * logitScale) * y) (iblk m c 0 t (ix3 0 r (Fin.ofNat 128 (64 * o + e.val)))) (iblk m c 1 t (ix3 0 (Fin.ofNat 2048 k.val) (Fin.ofNat 128 (64 * o + e.val))))
        = ((((entryAt (argX m c) (Fin.ofNat 8 (t.val / 4 % 8)) (Fin.ofNat 2048 (512 * (t.val % 4) + r.val)) 12 (t.val / 32) (64 * o + e.val)).toReal
              * ((Real.log 2)⁻¹ * 8⁻¹))
            * (entryAt (argX m c) (Fin.ofNat 8 (t.val / 4 % 8)) k 16 (t.val / 32) (64 * o + e.val)).toReal : ℝ) : EReal) := fun e => by
      have he := e.isLt
      refine (congrArg₂ (fun x y : EReal => (x * logitScale) * y) (queryAt m c t r _ (by omega)) (keyAt m c t k _ (by omega))).trans ?_
      rw [logitScale_eq,
        hf.entryAt _ _ _ _ _ (by norm_num) (by omega), hf.entryAt _ _ 16 _ _ (by norm_num) (by omega)]
      simp only [EReal.toReal_coe, EReal.coe_mul]
    refine (congrArg₂ (fun x y : EReal => x + y) ((Finset.sum_congr rfl fun e _ => hs e).trans (sum_coe _)) rfl).trans ?_
    rw [← EReal.coe_mul, ← EReal.coe_add]
    congr 1
    unfold logit
    rw [hq, div_eq_mul_inv, add_mul, Finset.sum_mul, Finset.sum_mul]
    congr 1
    exact Finset.sum_congr rfl fun e _ => by ring
  · rw [if_neg hc, if_neg hc]

/-- so its weight to the base two is the masked logit's to the base e. -/
theorem weight_eq (hf : Finite (argX m c) (argT m c) (argP m c)) (o : ℕ) (ho : o < 2) (r : Fin 512) (k : Fin 2048) :
    wt (score (iblk m c 0 t) (iblk m c 1 t) (headBias m c (t.val / 32)) (t.val % 4) (64 * o) r k.val)
      = we (masked (argX m c) (argT m c) (Fin.ofNat 8 (t.val / 4 % 8)) (t.val / 32) o (Fin.ofNat 2048 (512 * (t.val % 4) + r.val)) k) := by
  have ht := point_lt t
  have hr := r.isLt
  have hq : (Fin.ofNat 2048 (512 * (t.val % 4) + r.val)).val = 512 * (t.val % 4) + r.val := Nat.mod_eq_of_lt (by omega)
  rw [score_eq m c t hf o ho]
  unfold masked
  rw [hq]
  split
  · exact wt_eq_we _
  · rw [wt_bot, we_bot]

theorem score_ne_top (hf : Finite (argX m c) (argT m c) (argP m c)) (o : ℕ) (ho : o < 2) (r : Fin 512) (k : ℕ) :
    score (iblk m c 0 t) (iblk m c 1 t) (headBias m c (t.val / 32)) (t.val % 4) (64 * o) r k ≠ ⊤ := by
  have ht := point_lt t
  have hr := r.isLt
  by_cases hk : k < 2048
  · rw [score_eq m c t hf o ho r ⟨k, hk⟩]
    split
    · exact EReal.coe_ne_top _
    · exact bot_ne_top
  · unfold score
    rw [if_neg (by omega)]
    exact bot_ne_top

theorem score_ne_bot (hf : Finite (argX m c) (argT m c) (argP m c)) (o : ℕ) (ho : o < 2) (r : Fin 512) :
    score (iblk m c 0 t) (iblk m c 1 t) (headBias m c (t.val / 32)) (t.val % 4) (64 * o) r (512 * (t.val % 4)) ≠ ⊥ := by
  have ht := point_lt t
  rw [score_eq m c t hf o ho r ⟨512 * (t.val % 4), by omega⟩, if_pos (by show 512 * (t.val % 4) ≤ _; omega)]
  exact EReal.coe_ne_bot _

/-- The values of the point. -/
theorem value_eq (hf : Finite (argX m c) (argT m c) (argP m c)) (k : ℕ) (d : Fin 128) (hk : k < 2048) :
    value (iblk m c 2 t) k d = ((entryAt (argX m c) (Fin.ofNat 8 (t.val / 4 % 8)) (Fin.ofNat 2048 k) 20 (t.val / 32) d.val).toReal : EReal) := by
  have ht := point_lt t
  have hd := d.isLt
  refine (block2 m c t (Fin.ofNat 2048 k) d).trans ?_
  exact hf.entryAt _ (Fin.ofNat 2048 k) 20 (t.val / 32) d.val (by norm_num) (by omega)

/-- A quotient of weighted sums is the attention. -/
theorem attend_eq (hf : Finite (argX m c) (argT m c) (argP m c)) (o : ℕ) (ho : o < 2) (r : Fin 512) (d : Fin 128) :
    (∑ k : Fin 2048, wt (score (iblk m c 0 t) (iblk m c 1 t) (headBias m c (t.val / 32)) (t.val % 4) (64 * o) r k.val)
        * (entryAt (argX m c) (Fin.ofNat 8 (t.val / 4 % 8)) (Fin.ofNat 2048 k.val) 20 (t.val / 32) d.val).toReal)
      / ∑ k : Fin 2048, wt (score (iblk m c 0 t) (iblk m c 1 t) (headBias m c (t.val / 32)) (t.val % 4) (64 * o) r k.val)
    = attend (argX m c) (argT m c) (Fin.ofNat 8 (t.val / 4 % 8)) (t.val / 32) o (Fin.ofNat 2048 (512 * (t.val % 4) + r.val)) d.val := by
  unfold attend
  have hk : ∀ k : Fin 2048, Fin.ofNat 2048 k.val = k := fun k => Fin.ext (Nat.mod_eq_of_lt k.isLt)
  simp only [weight_eq m c t hf o ho r, hk]

/-- Row `r` of the block a point writes. -/
theorem block_apply (hf : Finite (argX m c) (argT m c) (argP m c)) (r : Fin 512) (d : Fin 128) :
    (outsAt0 m c t.val t.isLt).1 (ix3 0 r d) = result (argX m c) (argT m c) (argP m c) (argG m c) lam rest
      (ix3 (Fin.ofNat 8 (t.val / 4 % 8)) (Fin.ofNat 2048 (512 * (t.val % 4) + r.val)) (Fin.ofNat 512 (128 * (t.val / 32) + d.val))) := by
  have ht := point_lt t
  have hd := d.isLt
  have h1 : (Fin.ofNat 512 (128 * (t.val / 32) + d.val)).val / 128 = t.val / 32 := by
    show (128 * (t.val / 32) + d.val) % 512 / 128 = _
    omega
  have h2 : Fin.ofNat 128 (Fin.ofNat 512 (128 * (t.val / 32) + d.val)).val = d := Fin.ext (by
    show (128 * (t.val / 32) + d.val) % 512 % 128 = _
    omega)
  rw [out_eq]
  refine (finish_apply (stateAt (iblk m c 0 t) (iblk m c 1 t) (iblk m c 2 t) (headBias m c (t.val / 32)) (t.val % 4) (t.val % 4)) _ _ r d).trans ?_
  unfold result
  show _ = normalized rest (fun j => (attend (argX m c) (argT m c) (Fin.ofNat 8 (t.val / 4 % 8)) ((Fin.ofNat 512 (128 * (t.val / 32) + d.val)).val / 128) 0 (Fin.ofNat 2048 (512 * (t.val % 4) + r.val)) j.val : EReal)
      - mixing lam (fun a e => argP m c (ix2 a e)) * (attend (argX m c) (argT m c) (Fin.ofNat 8 (t.val / 4 % 8)) ((Fin.ofNat 512 (128 * (t.val / 32) + d.val)).val / 128) 1 (Fin.ofNat 2048 (512 * (t.val % 4) + r.val)) j.val : EReal))
    (argG m c (ix1 (Fin.ofNat 128 (Fin.ofNat 512 (128 * (t.val / 32) + d.val)).val))) (Fin.ofNat 128 (Fin.ofNat 512 (128 * (t.val / 32) + d.val)).val)
  rw [h1, h2]
  have hp : (fun (a : Fin 4) (e : Fin 64) => iblk m c 4 t (ix2 a e)) = fun a e => argP m c (ix2 a e) := funext fun a => funext fun e => block4 m c t a e
  have hg : iblk m c 5 t (ix2 0 d) = argG m c (ix1 d) := (block5 m c t d).trans (gainAt_eq m c d)
  have ha : ∀ j : Fin 128, _ := fun j => (quotient0 (iblk m c 0 t) (iblk m c 1 t) (iblk m c 2 t) (headBias m c (t.val / 32)) (t.val % 4) r
    (fun k d => (entryAt (argX m c) (Fin.ofNat 8 (t.val / 4 % 8)) (Fin.ofNat 2048 k) 20 (t.val / 32) d.val).toReal) (by omega)
    (fun k d hk => value_eq m c t hf k d hk) (score_ne_top m c t hf 0 (by norm_num) r) (score_ne_bot m c t hf 0 (by norm_num) r) j).trans
    (congrArg (fun x : ℝ => (x : EReal)) (attend_eq m c t hf 0 (by norm_num) r j))
  have hb : ∀ j : Fin 128, _ := fun j => (quotient1 (iblk m c 0 t) (iblk m c 1 t) (iblk m c 2 t) (headBias m c (t.val / 32)) (t.val % 4) r
    (fun k d => (entryAt (argX m c) (Fin.ofNat 8 (t.val / 4 % 8)) (Fin.ofNat 2048 k) 20 (t.val / 32) d.val).toReal) (by omega)
    (fun k d hk => value_eq m c t hf k d hk) (score_ne_top m c t hf 1 (by norm_num) r) (score_ne_bot m c t hf 1 (by norm_num) r) j).trans
    (congrArg (fun x : ℝ => (x : EReal)) (attend_eq m c t hf 1 (by norm_num) r j))
  rw [hp, hg]
  exact congrArg (fun o => normalized rest o (argG m c (ix1 d)) d) (funext fun j =>
    congrArg₂ (fun x y : EReal => x - y) (ha j) (congrArg (fun y : EReal => mixing lam (fun a e => argP m c (ix2 a e)) * y) (hb j)))

/-- The result array. -/
theorem array_eq (hf : Finite (argX m c) (argT m c) (argP m c)) :
    (dats m 0 c).arrAt 6 cfg0.N = result (argX m c) (argT m c) (argP m c) (argG m c) lam rest := by
  refine (dats m 0 c).arrAt_eq_of_covers 6 (result (argX m c) (argT m c) (argP m c) (argG m c) lam rest) (by decide +kernel) fun t hft y => ?_
  blk_simp
  rw [after0_6]
  have ht := point_lt t
  obtain ⟨r, d, rfl⟩ : ∃ (r : Fin 512) (d : Fin 128), y = ix3 0 r d :=
    ⟨y 1, y 2, (eq_ix3 y).trans (congrArg (fun z => ix3 z (y 1) (y 2)) (Fin.ext (by have : (y 0).val < 1 := (y 0).isLt; show (y 0).val = 0; omega)))⟩
  have hr := r.isLt
  have hd := d.isLt
  refine (block_apply m c t hf r d).trans (congrArg (result (argX m c) (argT m c) (argP m c) (argG m c) lam rest) (funext fun a => Fin.ext ?_))
  match a with
  | ⟨0, _⟩ => refine ((Pipeline.Window.rect_emb_val win0_6 t _ _).trans ?_).symm; rw [index6]; show t.val / 4 % 8 * 1 + 0 = t.val / 4 % 8 % 8; omega
  | ⟨1, _⟩ => refine ((Pipeline.Window.rect_emb_val win0_6 t _ _).trans ?_).symm; rw [index6]; show t.val % 4 * 512 + r.val = (512 * (t.val % 4) + r.val) % 2048; omega
  | ⟨2, _⟩ => refine ((Pipeline.Window.rect_emb_val win0_6 t _ _).trans ?_).symm; rw [index6]; show t.val / 32 * 128 + d.val = (128 * (t.val / 32) + d.val) % 512; omega

end Cert.KernelIdeal.Diff

end
-- ==== Proof.Precondition.lean ====
/- The precondition, read: every entry it compares with infinity is a real number. -/
module

public import proofs.«01_k».proof.Proof.Spec
public import proofs.«01_k».proof.Proof.Gen.Pre_finite
public import Idealize.ShloMosaic.Lib.ReduceAll
public import Idealize.ShloMosaic.Lib.Pointwise.Select

@[expose] public section

set_option maxRecDepth 16384

noncomputable section

namespace Attention

open Idealize.ShloMosaic hiding ix0 ix1 ix2 ix3
open Cert.Pre_finite Idealize.ShloMosaic.ValueIdx

/-- An extended real whose absolute value is below infinity is a real number. -/
theorem real_of_abs_lt (x : EReal) (h : max x (-x) < ⊤) : x = (x.toReal : EReal) := by
  refine (EReal.coe_toReal ?_ ?_).symm
  · rintro rfl; simp at h
  · rintro rfl; simp at h

theorem ofBits_inf : (FloatOps.ofBits .f32 0x7F800000#32 : Ideal .f32) = (⊤ : EReal) := by
  simp [Ideal.ofBits, Ideal.ieee]

/-- A comparison that came out one. -/
theorem real_of_cmp (x : EReal) (h : Ideal.cmp .olt (max x (-x)) (FloatOps.ofBits .f32 0x7F800000#32 : Ideal .f32) = 1#1) : x = (x.toReal : EReal) := by
  rw [ofBits_inf] at h
  exact real_of_abs_lt x ((Ideal.cmp_olt_eq_one _ _).1 h)

instance : Subsingleton S_.Idx := ⟨fun a b => funext fun i => i.elim0⟩

/-- The precondition says that the entries are finite. -/
theorem finite_of_pre (X : S8x2048x3072.Idx → EReal) (T : S32x12.Idx → EReal) (P : S4x64.Idx → EReal) (G : S128.Idx → EReal)
    (h : Cert.Pre_finite.fn (F := Ideal) X T P G = fun _ => 1#1) : Finite X T P := by
  have h0 := congrFun h ix0
  unfold Cert.Pre_finite.fn at h0
  dsimp only at h0
  obtain ⟨h1, h2⟩ := IntOp.andi_eq_one.1 h0
  obtain ⟨h3, h4⟩ := IntOp.andi_eq_one.1 h1
  refine ⟨fun b t n hn => ?_, fun r n hn => ?_, fun a e => ?_⟩
  · have := Host.reduce_andi_all _ _ _ _ _ h3 (ix3 b t ⟨n.val - 1536, by have := n.isLt; omega⟩)
    have e : extractStridedSlice S8x2048x1536 ![0, 0, 1536] X Facts.slices_S8x2048x3072_S8x2048x1536_0_0_1536 (ix3 b t ⟨n.val - 1536, by have := n.isLt; omega⟩)
        = X (ix3 b t n) := extractStridedSlice_apply _ _ _ _ _ fun a => match a with
      | ⟨0, _⟩ => by show b.val = 0 + b.val; omega
      | ⟨1, _⟩ => by show t.val = 0 + t.val; omega
      | ⟨2, _⟩ => by show n.val = 1536 + (n.val - 1536); omega
    rw [← e]
    exact real_of_cmp _ this
  · have := Host.reduce_andi_all _ _ _ _ _ h4 (ix2 r ⟨n.val - 8, by have := n.isLt; omega⟩)
    have e : extractStridedSlice S32x4 ![0, 8] T Facts.slices_S32x12_S32x4_0_8 (ix2 r ⟨n.val - 8, by have := n.isLt; omega⟩)
        = T (ix2 r n) := extractStridedSlice_apply _ _ _ _ _ fun a => match a with
      | ⟨0, _⟩ => by show r.val = 0 + r.val; omega
      | ⟨1, _⟩ => by show n.val = 8 + (n.val - 8); omega
    rw [← e]
    exact real_of_cmp _ this
  · exact real_of_cmp _ (Host.reduce_andi_all _ _ _ _ _ h2 (ix2 a e))

end Attention

end
-- ==== Proof.RefLogits.lean ====
/- The reference's logits: under the mask they are those of differential attention. -/
module

public import proofs.«01_k».proof.Proof.Spec
public import proofs.«01_k».proof.Proof.Gen.ReferenceIdeal.Read
public import Idealize.ShloMosaic.Lib.Affine

@[expose] public section

set_option maxRecDepth 16384

noncomputable section

namespace Cert.ReferenceIdeal.Diff

open Cert.ReferenceIdeal Cert.ReferenceIdeal.Gen Cert.ReferenceIdeal.Read Idealize.ShloMosaic
open Idealize.ShloMosaic.ValueIdx Softmax BiasTable Attention

variable (X : S8x2048x3072.Idx → EReal) (T : S32x12.Idx → EReal)

theorem idx3 {A B C : ℕ} (i j : (⟨3, ![A, B, C]⟩ : Shape).Idx) (h0 : (i 0).val = (j 0).val) (h1 : (i 1).val = (j 1).val) (h2 : (i 2).val = (j 2).val) : i = j :=
  funext fun a => match a with | ⟨0, _⟩ => Fin.ext h0 | ⟨1, _⟩ => Fin.ext h1 | ⟨2, _⟩ => Fin.ext h2

theorem idx4 {A B C D : ℕ} (i j : (⟨4, ![A, B, C, D]⟩ : Shape).Idx) (h0 : (i 0).val = (j 0).val) (h1 : (i 1).val = (j 1).val) (h2 : (i 2).val = (j 2).val)
    (h3 : (i 3).val = (j 3).val) : i = j :=
  funext fun a => match a with | ⟨0, _⟩ => Fin.ext h0 | ⟨1, _⟩ => Fin.ext h1 | ⟨2, _⟩ => Fin.ext h2 | ⟨3, _⟩ => Fin.ext h3

theorem idx5 {A B C D E : ℕ} (i j : (⟨5, ![A, B, C, D, E]⟩ : Shape).Idx) (h0 : (i 0).val = (j 0).val) (h1 : (i 1).val = (j 1).val) (h2 : (i 2).val = (j 2).val)
    (h3 : (i 3).val = (j 3).val) (h4 : (i 4).val = (j 4).val) : i = j :=
  funext fun a => match a with | ⟨0, _⟩ => Fin.ext h0 | ⟨1, _⟩ => Fin.ext h1 | ⟨2, _⟩ => Fin.ext h2 | ⟨3, _⟩ => Fin.ext h3 | ⟨4, _⟩ => Fin.ext h4

/-- The queries, -/
theorem v21_eq (b : Fin 8) (q : Fin 2048) (h : Fin 4) (o : Fin 2) (e : Fin 64) :
    val_main_v21 (F := Ideal) X (ix5 b q h o e) = entryAt X b q 12 h.val (64 * o.val + e.val) := by
  have hb := b.isLt; have hq := q.isLt; have hh := h.isLt; have ho := o.isLt; have he := e.isLt
  rw [val_main_v21_apply, val_main_v1_apply]
  refine congrArg X (idx3 _ _ ?_ ?_ ?_)
  · show ((((b.val * 2048 + q.val) * 4 + h.val) * 2 + o.val) * 64 + e.val) / 1048576 = b.val; omega
  · show ((((b.val * 2048 + q.val) * 4 + h.val) * 2 + o.val) * 64 + e.val) / 512 % 2048 = q.val; omega
  · show 1536 + ((((b.val * 2048 + q.val) * 4 + h.val) * 2 + o.val) * 64 + e.val) % 512 = (128 * (12 + h.val) + (64 * o.val + e.val)) % 3072; omega

/-- the keys -/
theorem v22_eq (b : Fin 8) (q : Fin 2048) (h : Fin 4) (o : Fin 2) (e : Fin 64) :
    val_main_v22 (F := Ideal) X (ix5 b q h o e) = entryAt X b q 16 h.val (64 * o.val + e.val) := by
  have hb := b.isLt; have hq := q.isLt; have hh := h.isLt; have ho := o.isLt; have he := e.isLt
  rw [val_main_v22_apply, val_main_v2_apply]
  refine congrArg X (idx3 _ _ ?_ ?_ ?_)
  · show ((((b.val * 2048 + q.val) * 4 + h.val) * 2 + o.val) * 64 + e.val) / 1048576 = b.val; omega
  · show ((((b.val * 2048 + q.val) * 4 + h.val) * 2 + o.val) * 64 + e.val) / 512 % 2048 = q.val; omega
  · show 2048 + ((((b.val * 2048 + q.val) * 4 + h.val) * 2 + o.val) * 64 + e.val) % 512 = (128 * (16 + h.val) + (64 * o.val + e.val)) % 3072; omega

/-- and the values. -/
theorem v23_eq (b : Fin 8) (q : Fin 2048) (h : Fin 4) (e : Fin 128) :
    val_main_v23 (F := Ideal) X (ix4 b q h e) = entryAt X b q 20 h.val e.val := by
  have hb := b.isLt; have hq := q.isLt; have hh := h.isLt; have he := e.isLt
  rw [val_main_v23_apply, val_main_v3_apply]
  refine congrArg X (idx3 _ _ ?_ ?_ ?_)
  · show (((b.val * 2048 + q.val) * 4 + h.val) * 128 + e.val) / 1048576 = b.val; omega
  · show (((b.val * 2048 + q.val) * 4 + h.val) * 128 + e.val) / 512 % 2048 = q.val; omega
  · show 2560 + (((b.val * 2048 + q.val) * 4 + h.val) * 128 + e.val) % 512 = (128 * (20 + h.val) + e.val) % 3072; omega

/-- The distance from a query to a key, -/
theorem v29_eq (q t : Fin 2048) : val_main_v29 (F := Ideal) (ix2 q t) = IntOp.subi (BitVec.ofNat 32 q.val) (BitVec.ofNat 32 t.val) := by
  rw [val_main_v29_apply, val_main_v27_apply, val_main_v25_apply, val_main_v24_apply, val_main_v28_apply, val_main_v26_apply, val_main_v24_apply]

/-- the row of the table it reads -/
theorem v54_eq (q t : Fin 2048) : val_main_v54 (F := Ideal) (ix2 q t) = rowOf (IntOp.subi (BitVec.ofNat 32 q.val) (BitVec.ofNat 32 t.val)) := by
  rw [← v29_eq]
  rfl

/-- and the bias found there. -/
theorem v57_eq (h : Fin 4) (q t : Fin 2048) : val_main_v57 (F := Ideal) T (ix3 h q t) = biasFor T h.val q.val t.val := by
  rw [val_main_v57_apply]
  have e : idx_main_v57 (ix3 h q t) = ix3 q t h := idx3 _ _ rfl rfl rfl
  rw [e]
  unfold val_main_v56
  refine (gather_rows (by norm_num) Facts₀.gather_S32x4_S2048x2048x1_S2048x2048x4_2_0_n_n_0_2_14_wf (val_main_v4 (F := Ideal) T) (val_main_v55 (F := Ideal)) q t h).trans ?_
  rw [val_main_v4_apply]
  unfold biasFor
  refine congrArg T (funext fun a => Fin.ext ?_)
  have hh := h.isLt
  match a with
  | ⟨0, _⟩ =>
    have : val_main_v55 (F := Ideal) (ix3 q t 0) = rowOf (IntOp.subi (BitVec.ofNat 32 q.val) (BitVec.ofNat 32 t.val)) :=
      (val_main_v55_apply _).trans ((congrArg (val_main_v54 (F := Ideal)) (funext fun a => match a with | ⟨0, _⟩ => rfl | ⟨1, _⟩ => rfl)).trans (v54_eq q t))
    exact congrArg (fun w : BitVec 32 => min w.toInt.toNat 31) this
  | ⟨1, _⟩ => show 8 + h.val = (8 + h.val) % 12; omega

theorem eighth : (FloatOps.ofBits .f32 0x3E000000#32 : Ideal .f32) = ((8⁻¹ : ℝ) : EReal) := by
  simp [Ideal.ofBits, Ideal.ieee]
  rw [← EReal.coe_mul]
  norm_num

/-- The mask's comparison. -/
theorem v65_eq (q t : Fin 2048) : val_main_v65 (F := Ideal) (ix2 q t) = if t.val ≤ q.val then 1#1 else 0#1 := by
  have hq := q.isLt
  have ht := t.isLt
  rw [val_main_v65_apply, v29_eq]
  have e0 : val_main_v64 (F := Ideal) (ix2 q t) = 0#32 := val_main_v64_apply _
  have ed : (IntOp.subi (BitVec.ofNat 32 q.val) (BitVec.ofNat 32 t.val)).toInt = (q.val : Int) - t.val := by
    have h : Affine.IsInt (Scalar.subi (BitVec.ofNat 32 q.val) (BitVec.ofNat 32 t.val)) ((q.val : Int) - t.val) :=
      Affine.subi (Affine.ofNat _ ⟨rfl, by omega⟩) (Affine.ofNat _ ⟨rfl, by omega⟩) ⟨rfl, by omega, by omega⟩
    unfold Affine.IsInt at h
    exact h
  have hk : IntOp.cmpi .sge (IntOp.subi (BitVec.ofNat 32 q.val) (BitVec.ofNat 32 t.val)) 0#32 = 1#1 ↔ t.val ≤ q.val := by
    rw [IntOp.cmpi_sge, ed]
    show (0 : Int) ≤ _ ↔ _
    omega
  rw [e0]
  by_cases hc : t.val ≤ q.val
  · rw [if_pos hc, hk.2 hc]
  · rw [if_neg hc]
    have : ∀ w : BitVec 1, w ≠ 1#1 → w = 0#1 := by decide
    exact this _ (fun h => hc (hk.1 h))

variable {X T} {P : S4x64.Idx → EReal}

/-- The masked logits. -/
theorem v66_eq (hf : Finite X T P) (b : Fin 8) (o : Fin 2) (h : Fin 4) (q t : Fin 2048) :
    val_main_v66 (F := Ideal) X T (ix5 b o h q t) = masked X T b h.val o.val q t := by
  have hh := h.isLt; have ho := o.isLt
  have e1 : val_main_call1_v1 (F := Ideal) (ix5 b o h q t) = if t.val ≤ q.val then 1#1 else 0#1 :=
    (val_main_call1_v1_apply _).trans ((congrArg (val_main_v65 (F := Ideal)) (funext fun a => match a with | ⟨0, _⟩ => rfl | ⟨1, _⟩ => rfl)).trans (v65_eq q t))
  have e2 : val_main_call1_v2 (F := Ideal) (ix5 b o h q t) = (⊥ : EReal) := by
    refine (val_main_call1_v2_apply _).trans ?_
    show (FloatOps.ofBits .f32 0xFF800000#32 : Ideal .f32) = (⊥ : EReal)
    simp [Ideal.ofBits, Ideal.ieee]
  have e3 : val_main_v62 (F := Ideal) T (ix5 b o h q t) = ((biasFor T h.val q.val t.val).toReal : EReal) := by
    rw [val_main_v62_apply, val_main_v61_apply]
    have e : idx_main_v61 (idx_main_v62 (ix5 b o h q t)) = ix3 h q t := idx3 _ _ rfl rfl rfl
    rw [e, v57_eq]
    exact hf.biasFor _ hh _ _
  have e4 : val_main_v58 (F := Ideal) X (ix5 b o h q t)
      = ((∑ e : Fin 64, (entryAt X b q 12 h.val (64 * o.val + e.val)).toReal * (entryAt X b t 16 h.val (64 * o.val + e.val)).toReal : ℝ) : EReal) := by
    rw [val_main_v58_apply, ← sum_mul_coe]
    refine Finset.sum_congr rfl fun e _ => ?_
    have he := e.isLt
    have hl : lidx_main_v58 (ix5 b o h q t) e = ix5 b q h o e := idx5 _ _ rfl rfl rfl rfl rfl
    have hr : ridx_main_v58 (ix5 b o h q t) e = ix5 b t h o e := idx5 _ _ rfl rfl rfl rfl rfl
    rw [hl, hr, v21_eq, v22_eq, ← hf.entryAt _ _ _ _ _ (by norm_num) (by omega), ← hf.entryAt _ _ _ _ _ (by norm_num) (by omega)]
  have e5 : val_main_v63 (F := Ideal) X T (ix5 b o h q t) = (logit X T b h.val o.val q t : EReal) := by
    rw [val_main_v63_apply, val_main_v60_apply]
    refine (congrArg₂ (fun x y : EReal => x + y) (congrArg₂ (fun x y : EReal => x * y) e4 ((val_main_v59_apply _).trans eighth)) e3).trans ?_
    rw [← EReal.coe_mul, ← EReal.coe_add]
    rfl
  rw [val_main_v66_apply, e1, e2, e5]
  unfold masked Scalar.select
  by_cases hc : t.val ≤ q.val <;> simp [hc]

end Cert.ReferenceIdeal.Diff

end
-- ==== Proof.RowMax.lean ====
/- A maximum the host takes over one axis, from `-∞`, is the fold of `max` over that axis. -/
module

public import Idealize.ShloMosaic.PureOps.Ideal.Laws
public import Idealize.ShloMosaic.Lib.StableHlo
import Idealize.ShloMosaic.Lib.KernelVsHost

@[expose] public section

noncomputable section

namespace RowMax

open Idealize.ShloMosaic

theorem bot_word : (FloatOps.ofBits .f32 0xFF800000#32 : Ideal .f32) = (⊥ : EReal) := by
  simp [Ideal.ofBits, Ideal.ieee]

theorem fold {s t u : Shape} {a : Fin s.rank} (x : FVec Ideal s .f32) (h : s.ReducesTo [a] t) (hu : 0 < u.numel) (h' : s.Reduces [a] t) (j : t.Idx) :
    Host.reduce FloatOps.maximumf x (constant (F := Ideal) u .f32 0xFF800000#32) h hu j
      = Finset.univ.fold max (⊥ : EReal) (fun k => x (h'.lift j k)) := by
  refine (congrFun (hostReduce_maximumf_eq_multiReduction x 0xFF800000#32 h hu h' (.inl rfl) rfl) j).trans ?_
  refine (Ideal.multiReduction_maximumf_single x _ _ _ _ j).trans ?_
  rw [bot_word]
  rfl

end RowMax

end
-- ==== Proof.RefResult.lean ====
/- The reference's result, from its logits. -/
module

public import proofs.«01_k».proof.Proof.RefLogits
public import proofs.«01_k».proof.Proof.RowMax

@[expose] public section

set_option maxRecDepth 16384

noncomputable section

namespace Cert.ReferenceIdeal.Diff

open Idealize.ShloMosaic Cert.ReferenceIdeal Cert.ReferenceIdeal.Gen Cert.ReferenceIdeal.Read
open Idealize.ShloMosaic.ValueIdx Softmax BiasTable Attention

variable {X : S8x2048x3072.Idx → EReal} {T : S32x12.Idx → EReal} {P : S4x64.Idx → EReal} {G : S128.Idx → EReal}

/-- A row's maximum is a real number. -/
theorem v69_real (hf : Finite X T P) (b : Fin 8) (o : Fin 2) (h : Fin 4) (q : Fin 2048) :
    ∃ M : ℝ, val_main_v69 (F := Ideal) X T (ix4 b o h q) = (M : EReal) := by
  have hl : ∀ k : Fin 2048, val_main_v66 (F := Ideal) X T (Shape.Reduces.lift (by decide : S8x2x4x2048x2048.Reduces [4] S8x2x4x2048) (ix4 b o h q) k)
      = masked X T b h.val o.val q k := fun k => by
    have ei : Shape.Reduces.lift (by decide : S8x2x4x2048x2048.Reduces [4] S8x2x4x2048) (ix4 b o h q) k = (ix5 b o h q k : S8x2x4x2048x2048.Idx) :=
      funext fun a => match a with | ⟨0, _⟩ => rfl | ⟨1, _⟩ => rfl | ⟨2, _⟩ => rfl | ⟨3, _⟩ => rfl | ⟨4, _⟩ => rfl
    rw [ei]
    exact v66_eq hf b o h q k
  have e : val_main_v67 (F := Ideal) X T (ix4 b o h q) = Finset.univ.fold max (⊥ : EReal) (masked X T b h.val o.val q) := by
    unfold val_main_v67 val_main_cst_14
    exact (RowMax.fold _ _ _ _ _).trans (congrArg (Finset.univ.fold max (⊥ : EReal)) (funext hl))
  refine ⟨(val_main_v69 (F := Ideal) X T (ix4 b o h q) : EReal).toReal, (EReal.coe_toReal ?_ ?_).symm⟩
  all_goals
    rw [val_main_v69_apply, e]
    have e2 : val_main_v68 (F := Ideal) (ix4 b o h q) = (⊥ : EReal) := (val_main_v68_apply _).trans RowMax.bot_word
    rw [e2]
    show max (⊥ : EReal) _ ≠ _
    rw [max_eq_right bot_le]
  · exact fold_ne_top _ fun t => masked_ne_top b h.val o.val q t
  · exact fold_ne_bot _ q (masked_self b h.val o.val q)

/-- A probability of the softmax. -/
theorem v77_eq (hf : Finite X T P) (b : Fin 8) (o : Fin 2) (h : Fin 4) (q t : Fin 2048) :
    val_main_v77 (F := Ideal) X T (ix5 b o h q t)
      = ((we (masked X T b h.val o.val q t) / ∑ k, we (masked X T b h.val o.val q k) : ℝ) : EReal) := by
  obtain ⟨M, hM⟩ := v69_real hf b o h q
  have e73 : ∀ k, val_main_v73 (F := Ideal) X T (ix5 b o h q k) = ((we (masked X T b h.val o.val q k) * Real.exp (-M) : ℝ) : EReal) := fun k => by
    rw [val_main_v73_apply, val_main_v72_apply, val_main_v71_apply, val_main_v70_apply]
    have ei : idx_main_v70 (idx_main_v71 (ix5 b o h q k)) = ix4 b o h q := idx4 _ _ rfl rfl rfl rfl
    rw [ei, hM, v66_eq hf]
    exact exp_sub _ (masked_ne_top b h.val o.val q k) M
  have e74 : val_main_v74 (F := Ideal) X T (ix4 b o h q) = (((∑ k, we (masked X T b h.val o.val q k)) * Real.exp (-M) : ℝ) : EReal) := by
    rw [val_main_v74_apply, Finset.sum_mul, ← sum_coe]
    refine (congrArg₂ (fun x y : EReal => x + y) (Ideal.ofBits_zero_f32) (Finset.sum_congr rfl fun k _ => ?_)).trans (zero_add _)
    have ei : idx_main_v74 (ix4 b o h q) k = ix5 b o h q k := idx5 _ _ rfl rfl rfl rfl rfl
    rw [ei, e73]
  rw [val_main_v77_apply, val_main_v76_apply, val_main_v75_apply]
  have ei : idx_main_v75 (idx_main_v76 (ix5 b o h q t)) = ix4 b o h q := idx4 _ _ rfl rfl rfl rfl
  rw [ei, e73, e74]
  have hp := weights_pos (X := X) (T := T) b h.val o.val q
  have he := Real.exp_pos (-M)
  refine (Ideal.div_coe (mul_pos hp he).ne' _).trans ?_
  rw [← EReal.coe_mul]
  refine congrArg (fun r : ℝ => (r : EReal)) ?_
  field_simp

/-- The layer's two constants. -/
abbrev lam : EReal := (FloatOps.ofBits .f32 0x3EB60549#32 : Ideal .f32)
abbrev rest : EReal := (FloatOps.ofBits .f32 0x3F24FD5C#32 : Ideal .f32)

/-- The mixing factor. -/
theorem v20_eq (j : S_.Idx) : val_main_v20 (F := Ideal) P j = mixing lam fun a e => P (ix2 a e) := by
  have sum64 : ∀ f : S64.Idx → EReal, ∑ i, f i = ∑ e : Fin 64, f (ix1 e) := fun f =>
    (Equiv.sum_comp (⟨fun e => ix1 e, fun i => i 0, fun _ => rfl, fun i => (eq_ix1 i).symm⟩ : Fin 64 ≃ S64.Idx) f).symm
  have e10 : val_main_v10 (F := Ideal) P j = ∑ e : Fin 64, P (ix2 0 e) * P (ix2 1 e) := by
    rw [val_main_v10_apply, sum64]
    refine (congrArg₂ (fun x y : EReal => x + y) (Ideal.ofBits_zero_f32) (Finset.sum_congr rfl fun e _ => ?_)).trans (zero_add _)
    rw [val_main_v9_apply, val_main_v6_apply, val_main_v5_apply, val_main_v8_apply, val_main_v7_apply]
    exact congrArg₂ (fun x y : EReal => x * y) (congrArg P (funext fun a => match a with | ⟨0, _⟩ => rfl | ⟨1, _⟩ => Fin.ext (Nat.mod_eq_of_lt e.isLt)))
      (congrArg P (funext fun a => match a with | ⟨0, _⟩ => rfl | ⟨1, _⟩ => Fin.ext (Nat.mod_eq_of_lt e.isLt)))
  have e17 : val_main_v17 (F := Ideal) P j = ∑ e : Fin 64, P (ix2 2 e) * P (ix2 3 e) := by
    rw [val_main_v17_apply, sum64]
    refine (congrArg₂ (fun x y : EReal => x + y) (Ideal.ofBits_zero_f32) (Finset.sum_congr rfl fun e _ => ?_)).trans (zero_add _)
    rw [val_main_v16_apply, val_main_v13_apply, val_main_v12_apply, val_main_v15_apply, val_main_v14_apply]
    exact congrArg₂ (fun x y : EReal => x * y) (congrArg P (funext fun a => match a with | ⟨0, _⟩ => rfl | ⟨1, _⟩ => Fin.ext (Nat.mod_eq_of_lt e.isLt)))
      (congrArg P (funext fun a => match a with | ⟨0, _⟩ => rfl | ⟨1, _⟩ => Fin.ext (Nat.mod_eq_of_lt e.isLt)))
  rw [val_main_v20_apply, val_main_v19_apply, val_main_v11_apply, val_main_v18_apply, e10, e17]
  rfl

/-- The mixing factor's constant is a real number. -/
theorem lam_real : ∃ r : ℝ, lam = (r : EReal) := by
  simp only [lam, Ideal.ofBits_def]
  simp [Ideal.ofBits, Ideal.ieee]
  exact ⟨_, (EReal.coe_mul _ _).symm⟩

/-- The two halves' attention, mixed. -/
theorem v86_eq (hf : Finite X T P) (b : Fin 8) (q : Fin 2048) (h : Fin 4) (d : Fin 128) :
    val_main_v86 (F := Ideal) X T P (ix4 b q h d)
      = (attend X T b h.val 0 q d.val : EReal) - mixing lam (fun a e => P (ix2 a e)) * (attend X T b h.val 1 q d.val : EReal) := by
  have hb := b.isLt; have hq := q.isLt; have hh := h.isLt; have hd := d.isLt
  obtain ⟨l, hl⟩ := mixing_real hf lam_real
  have e79 : ∀ t : Fin 2048, val_main_v79 (F := Ideal) X T (ix4 b h q t) = ((we (masked X T b h.val 0 q t) / ∑ k, we (masked X T b h.val 0 q k) : ℝ) : EReal) := fun t => by
    have ht := t.isLt
    rw [val_main_v79_apply, val_main_v78_apply]
    have ei : idx_main_v78 (idx_main_v79 (ix4 b h q t)) = ix5 b 0 h q t := idx5 _ _
      (by show (((b.val * 4 + h.val) * 2048 + q.val) * 2048 + t.val) / 16777216 = b.val; omega) rfl
      (by show (((b.val * 4 + h.val) * 2048 + q.val) * 2048 + t.val) / 4194304 % 4 = h.val; omega)
      (by show (((b.val * 4 + h.val) * 2048 + q.val) * 2048 + t.val) / 2048 % 2048 = q.val; omega)
      (by show (((b.val * 4 + h.val) * 2048 + q.val) * 2048 + t.val) % 2048 = t.val; omega)
    rw [ei, v77_eq hf]
    rfl
  have e81 : ∀ t : Fin 2048, val_main_v81 (F := Ideal) X T (ix4 b h q t) = ((we (masked X T b h.val 1 q t) / ∑ k, we (masked X T b h.val 1 q k) : ℝ) : EReal) := fun t => by
    have ht := t.isLt
    rw [val_main_v81_apply, val_main_v80_apply]
    have ei : idx_main_v80 (idx_main_v81 (ix4 b h q t)) = ix5 b 1 h q t := idx5 _ _
      (by show (((b.val * 4 + h.val) * 2048 + q.val) * 2048 + t.val) / 16777216 = b.val; omega) rfl
      (by show (((b.val * 4 + h.val) * 2048 + q.val) * 2048 + t.val) / 4194304 % 4 = h.val; omega)
      (by show (((b.val * 4 + h.val) * 2048 + q.val) * 2048 + t.val) / 2048 % 2048 = q.val; omega)
      (by show (((b.val * 4 + h.val) * 2048 + q.val) * 2048 + t.val) % 2048 = t.val; omega)
    rw [ei, v77_eq hf]
    rfl
  have e84 : ∀ t : Fin 2048, val_main_v84 (F := Ideal) X T P (ix4 b h q t)
      = ((we (masked X T b h.val 0 q t) / (∑ k, we (masked X T b h.val 0 q k)) - l * (we (masked X T b h.val 1 q t) / ∑ k, we (masked X T b h.val 1 q k)) : ℝ) : EReal) := fun t => by
    rw [val_main_v84_apply, val_main_v83_apply, val_main_v82_apply, v20_eq, e79, e81, hl, EReal.coe_sub, EReal.coe_mul l]
    rfl
  rw [val_main_v86_apply, val_main_v85_apply, hl, ← EReal.coe_mul, ← EReal.coe_sub]
  have hs : ∀ t : Fin 2048, val_main_v23 (F := Ideal) X (lidx_main_v85 (idx_main_v86 (ix4 b q h d)) t) * val_main_v84 (F := Ideal) X T P (ridx_main_v85 (idx_main_v86 (ix4 b q h d)) t)
      = (((entryAt X b t 20 h.val d.val).toReal * (we (masked X T b h.val 0 q t) / (∑ k, we (masked X T b h.val 0 q k)) - l * (we (masked X T b h.val 1 q t) / ∑ k, we (masked X T b h.val 1 q k))) : ℝ) : EReal) := fun t => by
    have el : lidx_main_v85 (idx_main_v86 (ix4 b q h d)) t = ix4 b t h d := idx4 _ _ rfl rfl rfl rfl
    have er : ridx_main_v85 (idx_main_v86 (ix4 b q h d)) t = ix4 b h q t := idx4 _ _ rfl rfl rfl rfl
    rw [el, er, v23_eq, e84, EReal.coe_mul, ← hf.entryAt _ _ _ _ _ (by norm_num) (by omega)]
  refine ((Finset.sum_congr rfl fun t _ => hs t).trans (sum_coe _)).trans (congrArg (fun r : ℝ => (r : EReal)) ?_)
  unfold attend
  rw [Finset.sum_div, Finset.sum_div, Finset.mul_sum, ← Finset.sum_sub_distrib]
  exact Finset.sum_congr rfl fun t _ => by ring

/-- The reference computes differential attention. -/
theorem result_eq (hf : Finite X T P) : val_main_v103 (F := Ideal) X T P G = result X T P G lam rest := by
  funext i
  obtain ⟨b, q, n, rfl⟩ : ∃ (b : Fin 8) (q : Fin 2048) (n : Fin 512), i = ix3 b q n := ⟨i 0, i 1, i 2, eq_ix3 i⟩
  have hb := b.isLt; have hq := q.isLt; have hn := n.isLt
  have ei : idx_main_v102 (ix3 b q n) = ix4 b q ⟨n.val / 128, by omega⟩ (Fin.ofNat 128 n.val) := idx4 _ _
    (by show ((b.val * 2048 + q.val) * 512 + n.val) / 1048576 = b.val; omega)
    (by show ((b.val * 2048 + q.val) * 512 + n.val) / 512 % 2048 = q.val; omega)
    (by show ((b.val * 2048 + q.val) * 512 + n.val) / 128 % 4 = n.val / 128; omega)
    (by show ((b.val * 2048 + q.val) * 512 + n.val) % 128 = n.val % 128; omega)
  have e88 : ∀ h : Fin 4, val_main_v88 (F := Ideal) X T P (ix3 b q h)
      = ∑ j : Fin 128, val_main_v86 (F := Ideal) X T P (ix4 b q h j) * val_main_v86 (F := Ideal) X T P (ix4 b q h j) := fun h => by
    rw [val_main_v88_apply]
    refine (congrArg₂ (fun x y : EReal => x + y) (Ideal.ofBits_zero_f32) (Finset.sum_congr rfl fun j _ => ?_)).trans (zero_add _)
    have ej : idx_main_v88 (ix3 b q h) j = ix4 b q h j := idx4 _ _ rfl rfl rfl rfl
    rw [ej]
    rfl
  have e95 : ∀ (h : Fin 4) (d : Fin 128), val_main_v95 (F := Ideal) X T P (ix4 b q h d)
      = Ideal.rsqrt (Ideal.div (∑ j : Fin 128, val_main_v86 (F := Ideal) X T P (ix4 b q h j) * val_main_v86 (F := Ideal) X T P (ix4 b q h j))
          (FloatOps.ofBits .f32 0x43000000#32 : Ideal .f32) + (FloatOps.ofBits .f32 0x3727C5AC#32 : Ideal .f32)) := fun h d => by
    rw [val_main_v95_apply, val_main_v94_apply, val_main_v93_apply, val_main_v92_apply, val_main_v91_apply, val_main_v90_apply, val_main_v89_apply]
    have ej : idx_main_v89 (idx_main_v95 (ix4 b q h d)) = ix3 b q h := idx3 _ _ rfl rfl rfl
    rw [ej, e88]
    rfl
  have e98 : ∀ (h : Fin 4) (d : Fin 128), val_main_v98 (F := Ideal) G (ix4 b q h d) = G (ix1 d) := fun h d => by
    rw [val_main_v98_apply, val_main_v97_apply]
    exact congrArg G (funext fun a => match a with | ⟨0, _⟩ => rfl)
  rw [val_main_v103_apply, val_main_v102_apply, ei, val_main_v101_apply, val_main_v99_apply, val_main_v96_apply, e95, e98, val_main_v100_apply]
  simp only [v86_eq hf]
  rfl

end Cert.ReferenceIdeal.Diff

end
-- ==== Proof.FirstBlock.lean ====
/- For the first layer, what one grid point of the differential attention kernel computes, in closed form: the block it writes is one
   function `body` of the blocks it reads, of the bias tile it holds in scratch, and of the query span's number. The loads at
   computed offsets become rows of the arrays (`keyRows`, `valueRows`, `biasTile`), the loop over the earlier spans becomes a
   recursion (`spans`), and the loop over the remainder, which has no trip, goes. -/
module

public import proofs.«01_k».proof.Proof.Gen.Kernel7Ideal.Value
public import Idealize.ShloMosaic.Lib.ValueIdx

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx

/-- The running state of the two softmaxes of a span of 512 queries: for each, the maximum, the sum of the weights, and the
    weighted sum of the values. -/
abbrev Acc := FVec Ideal S512x1 .f32 × FVec Ideal S512x1 .f32 × FVec Ideal S512x128 .f32 × FVec Ideal S512x1 .f32 × FVec Ideal S512x1 .f32 × FVec Ideal S512x128 .f32

/-- Half `o` (0 or 64) of the rows of span `k` of the keys. -/
def keyRows (X : Vec Ideal S1x2048x128 .bf16) (k o : Nat) : Vec Ideal S1x512x64 .bf16 :=
  fun y => X (ix3 0 (Fin.ofNat 2048 (512 * k + (y 1).val)) (Fin.ofNat 128 (o + (y 2).val)))

/-- The rows of span `k` of the values. -/
def valueRows (X : Vec Ideal S1x2048x128 .bf16) (k : Nat) : Vec Ideal S1x512x128 .bf16 :=
  fun y => X (ix3 0 (Fin.ofNat 2048 (512 * k + (y 1).val)) (y 2))

/-- Half `o` (0 or 64) of a block of queries. -/
def queryHalf (X : Vec Ideal S1x512x128 .bf16) (o : Nat) : Vec Ideal S1x512x64 .bf16 :=
  fun y => X (ix3 0 (y 1) (Fin.ofNat 128 (o + (y 2).val)))

/-- The bias tile at a distance of `d` spans. -/
def biasTile (B : Vec Ideal S4x512x512 .f32) (d : Nat) : Vec Ideal S1x512x512 .f32 :=
  fun y => B (ix3 (Fin.ofNat 4 d) (y 1) (y 2))

/-- One step of the loop over the earlier spans. -/
def trip (q0 q1 : FVec Ideal S512x64 .bf16) (b : Vec Ideal S1x512x512 .f32) (v : Vec Ideal S1x512x128 .bf16)
    (k0 k1 : Vec Ideal S1x512x64 .bf16) (s : Acc) : Acc :=
  (k0_pay8 q0 s.1 b k0, k0_pay11 q0 s.1 s.2.1 b k0, k0_pay12 q0 s.1 s.2.2.1 b v k0,
    k0_pay14 q1 s.2.2.2.1 b k1,
    k0_pay56 s.2.2.2.2.1 (k0_pay15 q1 s.2.2.2.1 b k1) (k0_pay16 q1 s.2.2.2.1 b k1),
    k0_pay57 s.2.2.2.2.2 (k0_pay6 v) (k0_pay15 q1 s.2.2.2.1 b k1) (k0_pay16 q1 s.2.2.2.1 b k1))

/-- The state after the first `n` of the earlier spans. -/
def spans (q0 q1 : FVec Ideal S512x64 .bf16) (x1 x2 : Vec Ideal S1x2048x128 .bf16) (B : Vec Ideal S4x512x512 .f32) (qs : Nat) (s : Acc) :
    Nat → Acc
  | 0 => s
  | n + 1 => trip q0 q1 (biasTile B (qs - n)) (valueRows x2 n) (keyRows x1 n 0) (keyRows x1 n 64) (spans q0 q1 x1 x2 B qs s n)

/-- The state after the span of the queries themselves, which comes first. -/
def diag (q0 q1 : FVec Ideal S512x64 .bf16) (x1 x2 : Vec Ideal S1x2048x128 .bf16) (B : Vec Ideal S4x512x512 .f32) (qs : Nat) : Acc :=
  (k0_pay43 k0_pay29 q0 k0_pay34 (k0_pay40 (biasTile B 0)) (keyRows x1 qs 0),
    k0_pay46 k0_pay29 q0 k0_pay34 k0_pay35 (k0_pay40 (biasTile B 0)) (keyRows x1 qs 0),
    k0_pay47 k0_pay29 q0 k0_pay34 k0_pay36 (k0_pay40 (biasTile B 0)) (valueRows x2 qs) (keyRows x1 qs 0),
    k0_pay49 k0_pay29 q1 k0_pay37 (k0_pay40 (biasTile B 0)) (keyRows x1 qs 64),
    k0_pay52 k0_pay29 q1 k0_pay37 k0_pay38 (k0_pay40 (biasTile B 0)) (keyRows x1 qs 64),
    k0_pay55 (k0_pay41 (valueRows x2 qs))
      (k0_pay53 k0_pay29 q1 k0_pay37 k0_pay39 (k0_pay40 (biasTile B 0)) (keyRows x1 qs 64))
      (k0_pay54 k0_pay29 q1 k0_pay37 (k0_pay40 (biasTile B 0)) (keyRows x1 qs 64)))

/-- What is written from a state: the two quotients combined, normalized and scaled. -/
def finish (s : Acc) (x4 : Vec Ideal S4x64 .f32) (x5 : Vec Ideal S1x128 .f32) : Vec Ideal S1x512x128 .bf16 :=
  k0_pay1 (k0_pay60 s.2.1 s.2.2.1 s.2.2.2.2.1 s.2.2.2.2.2 x4) (k0_pay61 x5)

/-- The block a grid point of query span `qs` writes, from its queries `x0`, keys `x1`, values `x2`, mixing parameters `x4`,
    gain `x5` and the bias tiles `B` of its head. -/
def body (x0 : Vec Ideal S1x512x128 .bf16) (x1 x2 : Vec Ideal S1x2048x128 .bf16) (x4 : Vec Ideal S4x64 .f32) (x5 : Vec Ideal S1x128 .f32)
    (B : Vec Ideal S4x512x512 .f32) (qs : Nat) : Vec Ideal S1x512x128 .bf16 :=
  finish (spans (k0_pay30 (queryHalf x0 0)) (k0_pay31 (queryHalf x0 64)) x1 x2 B qs
    (diag (k0_pay30 (queryHalf x0 0)) (k0_pay31 (queryHalf x0 64)) x1 x2 B qs) qs) x4 x5

/-! ### The offsets -/

/-- The number of query spans before this one is the number of trips of the loop, and the remainder loop has none. -/
theorem trips_eq : ∀ i : grid0.Coords, (k0_t1_loop i).trips = (i 2).val ∧ (k0_t2_loop i).trips = 0 := by decide +kernel

theorem off2_eq : ∀ i : grid0.Coords, k0_off2 i = ![0, 512 * (i 2).val, 0] := by decide +kernel
theorem off3_eq : ∀ i : grid0.Coords, k0_off3 i = ![0, 512 * (i 2).val, 0] := by decide +kernel
theorem off4_eq : ∀ i : grid0.Coords, k0_off4 i = ![0, 512 * (i 2).val, 64] := by decide +kernel
theorem off5_eq : ∀ (i : grid0.Coords) (k : Fin (k0_t1_loop i).trips), k0_off5 i k = ![(i 2).val - k.val, 0, 0] := by decide +kernel
theorem off6_eq : ∀ (i : grid0.Coords) (k : Fin (k0_t1_loop i).trips), k0_off6 i k = ![0, 512 * k.val, 0] := by decide +kernel
theorem off7_eq : ∀ (i : grid0.Coords) (k : Fin (k0_t1_loop i).trips), k0_off7 i k = ![0, 512 * k.val, 0] := by decide +kernel
theorem off8_eq : ∀ (i : grid0.Coords) (k : Fin (k0_t1_loop i).trips), k0_off8 i k = ![0, 512 * k.val, 64] := by decide +kernel

theorem ld_keyRows (X : Vec Ideal S1x2048x128 .bf16) (off : Fin 3 → Nat) (k o : Nat) (h : off = ![0, 512 * k, o])
    (inb : ∀ a, off a + S1x512x64.size a ≤ S1x2048x128.size a) :
    View.ld (Val := Elt Ideal) (S := S1x2048x128) (e' := .bf16) X (Rect.unit off S1x512x64.size inb) = keyRows X k o := by
  subst h
  funext y
  have h1 := inb 1
  have h2 := inb 2
  have e1 : 512 * k + 512 ≤ 2048 := h1
  have e2 : o + 64 ≤ 128 := h2
  have y1 : (y 1).val < 512 := (y 1).isLt
  have y2 : (y 2).val < 64 := (y 2).isLt
  have y0 : (y 0).val < 1 := (y 0).isLt
  rw [View.ld_unit]
  unfold keyRows
  refine congrArg X (funext fun a => Fin.ext ?_)
  match a with
  | ⟨0, _⟩ => show 0 + (y 0).val = 0; omega
  | ⟨1, _⟩ => show 512 * k + (y 1).val = (512 * k + (y 1).val) % 2048; omega
  | ⟨2, _⟩ => show o + (y 2).val = (o + (y 2).val) % 128; omega

theorem ld_valueRows (X : Vec Ideal S1x2048x128 .bf16) (off : Fin 3 → Nat) (k : Nat) (h : off = ![0, 512 * k, 0])
    (inb : ∀ a, off a + S1x512x128.size a ≤ S1x2048x128.size a) :
    View.ld (Val := Elt Ideal) (S := S1x2048x128) (e' := .bf16) X (Rect.unit off S1x512x128.size inb) = valueRows X k := by
  subst h
  funext y
  have h1 := inb 1
  have e1 : 512 * k + 512 ≤ 2048 := h1
  have y1 : (y 1).val < 512 := (y 1).isLt
  have y0 : (y 0).val < 1 := (y 0).isLt
  rw [View.ld_unit]
  unfold valueRows
  refine congrArg X (funext fun a => Fin.ext ?_)
  match a with
  | ⟨0, _⟩ => show 0 + (y 0).val = 0; omega
  | ⟨1, _⟩ => show 512 * k + (y 1).val = (512 * k + (y 1).val) % 2048; omega
  | ⟨2, _⟩ => show 0 + (y 2).val = (y 2).val; omega

theorem ld_queryHalf (X : Vec Ideal S1x512x128 .bf16) (off : Fin 3 → Nat) (o : Nat) (h : off = ![0, 0, o])
    (inb : ∀ a, off a + S1x512x64.size a ≤ S1x512x128.size a) :
    View.ld (Val := Elt Ideal) (S := S1x512x128) (e' := .bf16) X (Rect.unit off S1x512x64.size inb) = queryHalf X o := by
  subst h
  funext y
  have h2 := inb 2
  have e2 : o + 64 ≤ 128 := h2
  have y2 : (y 2).val < 64 := (y 2).isLt
  have y0 : (y 0).val < 1 := (y 0).isLt
  rw [View.ld_unit]
  unfold queryHalf
  refine congrArg X (funext fun a => Fin.ext ?_)
  match a with
  | ⟨0, _⟩ => show 0 + (y 0).val = 0; omega
  | ⟨1, _⟩ => show 0 + (y 1).val = (y 1).val; omega
  | ⟨2, _⟩ => show o + (y 2).val = (o + (y 2).val) % 128; omega

theorem ld_biasTile (X : Vec Ideal S4x512x512 .f32) (off : Fin 3 → Nat) (d : Nat) (h : off = ![d, 0, 0])
    (inb : ∀ a, off a + S1x512x512.size a ≤ S4x512x512.size a) :
    View.ld (Val := Elt Ideal) (S := S4x512x512) (e' := .f32) X (Rect.unit off S1x512x512.size inb) = biasTile X d := by
  subst h
  funext y
  have h0 := inb 0
  have e0 : d + 1 ≤ 4 := h0
  have y0 : (y 0).val < 1 := (y 0).isLt
  rw [View.ld_unit]
  unfold biasTile
  refine congrArg X (funext fun a => Fin.ext ?_)
  match a with
  | ⟨0, _⟩ => show d + (y 0).val = d % 4; omega
  | ⟨1, _⟩ => show 0 + (y 1).val = (y 1).val; omega
  | ⟨2, _⟩ => show 0 + (y 2).val = (y 2).val; omega

/-! ### The loop -/

section Loop
variable (𝒱 : Variants) (c : Dev nD) (bd : Option 𝒱.V) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x4x8x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S4x512x512 .f32) (harg10 : arg10.IsWhole) (arg2 : BitVec 32) (v8 : FVec Ideal S512x64 .bf16) (v14 : FVec Ideal S512x64 .bf16) (v34 : FVec Ideal S512x128 .bf16) (v44 : FVec Ideal S512x1 .f32) (v53 : FVec Ideal S512x1 .f32) (v58 : FVec Ideal S512x128 .f32) (v68 : FVec Ideal S512x1 .f32) (v77 : FVec Ideal S512x1 .f32) (v79 : FVec Ideal S512x128 .f32) (v80 : FVec Ideal S512x512 .bf16) (X_arg4 : BufTy.Contents (Elt Ideal) arg4.view.ty) (X_arg5 : BufTy.Contents (Elt Ideal) arg5.view.ty) (X_arg10 : BufTy.Contents (Elt Ideal) arg10.view.ty)

theorem trip_eq (k : Fin (k0_t1_loop i).trips) (acc : Acc) :
    (trip_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 k).1 acc
      = trip v8 v14 (biasTile (arg10.view.read (Elt Ideal) X_arg10) ((i 2).val - k.val)) (valueRows (arg5.view.read (Elt Ideal) X_arg5) k.val)
          (keyRows (arg4.view.read (Elt Ideal) X_arg4) k.val 0) (keyRows (arg4.view.read (Elt Ideal) X_arg4) k.val 64) acc := by
  rw [← ld_biasTile (arg10.view.read (Elt Ideal) X_arg10) _ _ (off5_eq i k) (Facts₀.k0_off5_inb i k),
    ← ld_valueRows (arg5.view.read (Elt Ideal) X_arg5) _ _ (off6_eq i k) (Facts₀.k0_off6_inb i k),
    ← ld_keyRows (arg4.view.read (Elt Ideal) X_arg4) _ _ _ (off7_eq i k) (Facts₀.k0_off7_inb i k),
    ← ld_keyRows (arg4.view.read (Elt Ideal) X_arg4) _ _ _ (off8_eq i k) (Facts₀.k0_off8_inb i k)]
  unfold trip_k0_t1
  rfl

theorem loop1_eq (init : Acc) (n : Nat) (hn : n ≤ (k0_t1_loop i).trips) :
    st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init n
      = spans v8 v14 (arg4.view.read (Elt Ideal) X_arg4) (arg5.view.read (Elt Ideal) X_arg5) (arg10.view.read (Elt Ideal) X_arg10) (i 2).val init n := by
  induction n with
  | zero => exact st_k0_t1_zero ..
  | succ n ih =>
    have h := st_k0_t1_succ (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init ⟨n, hn⟩
    rw [ih (Nat.le_of_succ_le hn)] at h
    rw [show n + 1 = (⟨n, hn⟩ : Fin (k0_t1_loop i).trips).val + 1 from rfl, h]
    exact trip_eq ..

/-- The loop at its end. -/
theorem loop1_trips (init : Acc) :
    st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init (k0_t1_loop i).trips
      = spans v8 v14 (arg4.view.read (Elt Ideal) X_arg4) (arg5.view.read (Elt Ideal) X_arg5) (arg10.view.read (Elt Ideal) X_arg10) (i 2).val init (i 2).val := by
  rw [loop1_eq (hn := le_rfl), (trips_eq i).1]

/-- Both loops at their ends: the second has no trip. -/
theorem loops_eq (v87 : BitVec 32) (init : Acc) :
    st_k0_t2 (F := Ideal) 𝒱 c bd i arg3 harg3 arg4 harg4 arg5 harg5 arg6 harg6 arg7 harg7 arg8 harg8 arg9 harg9 arg10 harg10 arg2 v8 v14 v34 v44 v53 v58 v68 v77 v79 v80 v87 X_arg4 X_arg5 X_arg10
        (st_k0_t1 (F := Ideal) 𝒱 c bd i arg3 harg3 arg4 harg4 arg5 harg5 arg6 harg6 arg7 harg7 arg8 harg8 arg9 harg9 arg10 harg10 arg2 v8 v14 v34 v44 v53 v58 v68 v77 v79 v80 X_arg4 X_arg5 X_arg10 init (k0_t1_loop i).trips) (k0_t2_loop i).trips
      = spans v8 v14 (arg4.view.read (Elt Ideal) X_arg4) (arg5.view.read (Elt Ideal) X_arg5) (arg10.view.read (Elt Ideal) X_arg10) (i 2).val init (i 2).val := by
  rw [(trips_eq i).2]
  exact (st_k0_t2_zero ..).trans (loop1_trips ..)

end Loop

/-! ### The bias tiles -/

/-- The bias tiles of a head: at a distance of `d` spans, query row `r` and key column `j`, the entry of the head's table at the
    position that turning the row by `r` brings to column `j`. -/
def bias (x3 : Vec Ideal S1x4x8x1024 .f32) : Vec Ideal S4x512x512 .f32 :=
  fun y => x3 (ix4 0 (y 0) 0 (Fin.ofNat 1024 ((y 2).val + 1024 - (y 1).val))) * (Named.named κ "log2e" 0x3FB8AA3B#32 : Ideal .f32)

/-- The entry of one bias tile. -/
theorem tile_apply (x3 : Vec Ideal S1x4x8x1024 .f32) (d : Nat) (hd : d < 4)
    (inb : ∀ a, (![0, d, 0, 0] : Fin 4 → Nat) a + (![1, 1, 8, 1024] : Fin 4 → Nat) a ≤ S1x4x8x1024.size a)
    (inb' : ∀ a, (![d, 0, 0] : Fin 3 → Nat) a + (![1, 512, 512] : Fin 3 → Nat) a ≤ S4x512x512.size a) (x : S1x512x512.Idx) :
    k0_pay2 (View.ld (Val := Elt Ideal) (S := S1x4x8x1024) (e' := .f32) x3 (Rect.unit ![0, d, 0, 0] ![1, 1, 8, 1024] inb)) x
      = bias x3 ((Rect.unit (s := S4x512x512) ![d, 0, 0] ![1, 512, 512] inb').emb x) := by
  have hx0 : (x 0).val < 1 := (x 0).isLt
  have hx1 : (x 1).val < 512 := (x 1).isLt
  have hx2 : (x 2).val < 512 := (x 2).isLt
  unfold k0_pay2 bias
  dsimp only
  refine (shapeCast_addUnit_apply ![512, 512] _ _ x).trans ?_
  refine (extractStridedSlice_apply _ _ _ _ (ix2 ⟨(x 1).val, by omega⟩ ⟨(x 2).val, by omega⟩ : S512x1024.Idx) ?_).trans ?_
  · intro a
    match a with
    | ⟨0, _⟩ => show (x 1).val = 0 + (x 1).val; omega
    | ⟨1, _⟩ => show (x 2).val = 0 + (x 2).val; omega
  have hrot : ∀ (v : FVec Ideal S512x1024 .f32) (k : S512x1024.Idx), (k 0).val = (x 1).val → (k 1).val = ((x 2).val + 1024 - (x 1).val) % 1024 →
      dynamicRotate 1 0#32 (some (1, 0)) v rotates_S512x1024_d1s1a0 (ix2 ⟨(x 1).val, by omega⟩ ⟨(x 2).val, by omega⟩ : S512x1024.Idx) = v k := by
    intro v k h0 h1
    unfold dynamicRotate
    refine congrArg v (funext fun b => Fin.ext ?_)
    match b with
    | ⟨0, _⟩ => exact h0.symm
    | ⟨1, _⟩ =>
      refine Eq.trans ?_ h1.symm
      show ((x 2).val + 1024 - ((0#32).toNat + 1 * (x 1).val) % 1024) % 1024 = _
      simp only [BitVec.toNat_ofNat]
      omega
  have hn : ((x 2).val + 1024 - (x 1).val) % 1024 < 1024 := Nat.mod_lt _ (by decide)
  refine (hrot _ (ix2 ⟨(x 1).val, hx1⟩ ⟨_, hn⟩) rfl rfl).trans ?_
  refine (broadcastTo_apply _ _ _ (ix2 0 ⟨_, hn⟩ : S1x1024.Idx) ?_).trans ?_
  · intro a
    match a with
    | ⟨0, _⟩ => rfl
    | ⟨1, _⟩ => rfl
  refine (shapeCast_apply _ _ _ (ix2 0 ⟨_, hn⟩ : S1x1024.Idx) rfl).trans ?_
  refine congrArg₂ (· * ·) ?_ rfl
  refine (extractStridedSlice_apply _ _ _ _ (ix2 0 ⟨_, hn⟩ : S8x1024.Idx) ?_).trans ?_
  · intro a
    match a with
    | ⟨0, _⟩ => rfl
    | ⟨1, _⟩ => exact (Nat.zero_add _).symm
  refine (shapeCast_apply _ _ _ (ix4 0 0 0 ⟨_, hn⟩ : S1x1x8x1024.Idx) ?_).trans ?_
  · rw [Shape.rowMajor_val_four, Shape.rowMajor_val_two]
    show ((0 * 1 + 0) * 8 + 0) * 1024 + _ = 0 * 1024 + _
    simp
  rw [View.ld_unit]
  refine congrArg x3 (funext fun a => Fin.ext ?_)
  match a with
  | ⟨0, _⟩ => rfl
  | ⟨1, _⟩ => show d + 0 = d + 1 * (x 0).val; omega
  | ⟨2, _⟩ => rfl
  | ⟨3, _⟩ =>
    show 0 + ((x 2).val + 1024 - (x 1).val) % 1024 = (0 + 1 * (x 2).val + 1024 - (0 + 1 * (x 1).val)) % 1024
    omega

/-- The four stores that fill the scratch. -/
abbrev pieces (x3 : Vec Ideal S1x4x8x1024 .f32) : List (View.Piece (Elt Ideal) S4x512x512 .f32) :=
  [⟨Rect.unit ![3, 0, 0] ![1, 512, 512] Facts₀.inb_S4x512x512_S1x512x512_3_0_0,
      k0_pay33 (View.ld (Val := Elt Ideal) (S := S1x4x8x1024) (e' := .f32) x3 (Rect.unit ![0, 3, 0, 0] ![1, 1, 8, 1024] Facts₀.inb_S1x4x8x1024_S1x1x8x1024_0_3_0_0))⟩,
    ⟨Rect.unit ![2, 0, 0] ![1, 512, 512] Facts₀.inb_S4x512x512_S1x512x512_2_0_0,
      k0_pay32 (k0_pay4 (View.ld (Val := Elt Ideal) (S := S1x4x8x1024) (e' := .f32) x3 (Rect.unit ![0, 2, 0, 0] ![1, 1, 8, 1024] Facts₀.inb_S1x4x8x1024_S1x1x8x1024_0_2_0_0)))⟩,
    ⟨Rect.unit ![1, 0, 0] ![1, 512, 512] Facts₀.inb_S4x512x512_S1x512x512_1_0_0,
      k0_pay3 (View.ld (Val := Elt Ideal) (S := S1x4x8x1024) (e' := .f32) x3 (Rect.unit ![0, 1, 0, 0] ![1, 1, 8, 1024] Facts₀.inb_S1x4x8x1024_S1x1x8x1024_0_1_0_0))⟩,
    ⟨Rect.unit ![0, 0, 0] ![1, 512, 512] Facts₀.inb_S4x512x512_S1x512x512_0_0_0,
      k0_pay2 (View.ld (Val := Elt Ideal) (S := S1x4x8x1024) (e' := .f32) x3 (Rect.unit ![0, 0, 0, 0] ![1, 1, 8, 1024] Facts₀.inb_S1x4x8x1024_S1x1x8x1024_0_0_0_0))⟩]

theorem pieces_cover (x3 : Vec Ideal S1x4x8x1024 .f32) (y : S4x512x512.Idx) : ∃ pc ∈ pieces x3, y ∈ pc.1.set :=
  View.cover_of_tiledL (pieces x3) S1x512x512.size (by sl_kernel_rfl) y

theorem canon_pieces (x3 : Vec Ideal S1x4x8x1024 .f32) : View.canon (pieces x3) = bias x3 := by
  funext y
  refine View.canon_apply_of_pieces (bias x3) _ ?_ y (pieces_cover x3 y)
  intro pc hpc x
  simp only [pieces, List.mem_cons, List.not_mem_nil, or_false] at hpc
  rcases hpc with rfl | rfl | rfl | rfl
  · exact tile_apply x3 3 (by decide) Facts₀.inb_S1x4x8x1024_S1x1x8x1024_0_3_0_0 Facts₀.inb_S4x512x512_S1x512x512_3_0_0 x
  · exact tile_apply x3 2 (by decide) Facts₀.inb_S1x4x8x1024_S1x1x8x1024_0_2_0_0 Facts₀.inb_S4x512x512_S1x512x512_2_0_0 x
  · exact tile_apply x3 1 (by decide) Facts₀.inb_S1x4x8x1024_S1x1x8x1024_0_1_0_0 Facts₀.inb_S4x512x512_S1x512x512_1_0_0 x
  · exact tile_apply x3 0 (by decide) Facts₀.inb_S1x4x8x1024_S1x1x8x1024_0_0_0_0 Facts₀.inb_S4x512x512_S1x512x512_0_0_0 x

/-- A load from the scratch after the four stores. -/
theorem readCov_pieces {κ : Kind} {sp : Space} (v : View sig κ sp S4x512x512 .f32) (x3 : Vec Ideal S1x4x8x1024 .f32) (r : Rect S4x512x512) :
    v.readCov (pieces x3) r.toLoadRect = View.ld (Val := Elt Ideal) (bias x3) r := by
  rw [View.readCov_eq_canon_ld _ _ _ (fun _ => pieces_cover x3 _), canon_pieces]

/-- The scratch after the four stores. -/
theorem read_writes_pieces {κ : Kind} {sp : Space} (v : View sig κ sp S4x512x512 .f32) (f) (x3 : Vec Ideal S1x4x8x1024 .f32) :
    v.read (Elt Ideal) (v.writes (Elt Ideal) f (pieces x3)) = bias x3 := by
  rw [View.read_writes_eq_canon _ _ _ (pieces_cover x3), canon_pieces]

section Run
variable (c : Dev nD) (i : grid0.Coords) (arg3 : Memref sig .tc .vmem S1x512x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x4x8x1024 .f32) (harg6 : arg6.IsWhole) (arg7 : Memref sig .tc .vmem S4x64 .f32) (harg7 : arg7.IsWhole) (arg8 : Memref sig .tc .vmem S1x128 .f32) (harg8 : arg8.IsWhole) (arg9 : Memref sig .tc .vmem S1x512x128 .bf16) (harg9 : arg9.IsWhole) (arg10 : Memref sig .tc .vmem S4x512x512 .f32) (harg10 : arg10.IsWhole)
    (x0 : Vec Ideal S1x512x128 .bf16) (x1 : Vec Ideal S1x2048x128 .bf16) (x2 : Vec Ideal S1x2048x128 .bf16) (x3 : Vec Ideal S1x4x8x1024 .f32) (x4 : Vec Ideal S4x64 .f32) (x5 : Vec Ideal S1x128 .f32) (xs0 : Vec Ideal S4x512x512 .f32)

/-- The block written at a grid point that finds the bias tiles in scratch. -/
theorem out_B (hc0 : ¬cond0_0 i) :
    out0_B_6 c i arg3 harg3 arg4 harg4 arg5 harg5 arg6 harg6 arg7 harg7 arg8 harg8 arg9 harg9 arg10 harg10 hc0 x0 x1 x2 x3 x4 x5 xs0 = body x0 x1 x2 x4 x5 xs0 (i 2).val := by
  unfold body finish diag
  unfold out0_B_6; rw [View.read_writes_eq_canon _ _ _ (cover0_B_6 c i arg3 harg3 arg4 harg4 arg5 harg5 arg6 harg6 arg7 harg7 arg8 harg8 arg9 harg9 arg10 harg10 hc0 x0 x1 x2 x3 x4 x5 xs0)]
  unfold kernelRun0_B; dsimp only; rw [View.canon_unit_zero (show (![0,0,0] : Fin 3 → Nat) = fun _ => 0 by decide)]
  rw [← ld_queryHalf x0 ![0, 0, 0] 0 rfl Facts₀.inb_S1x512x128_S1x512x64_0_0_0, ← ld_queryHalf x0 ![0, 0, 64] 64 rfl Facts₀.inb_S1x512x128_S1x512x64_0_0_64,
    ← ld_valueRows x2 _ _ (off2_eq i) (Facts₀.k0_off2_inb i), ← ld_keyRows x1 _ _ _ (off3_eq i) (Facts₀.k0_off3_inb i),
    ← ld_keyRows x1 _ _ _ (off4_eq i) (Facts₀.k0_off4_inb i), ← ld_biasTile xs0 _ _ (placed_k0_off1 i) (Facts₀.k0_off1_inb i)]
  sl_unfold_words
  refine Eq.trans (congrArg (fun s : Acc => k0_pay1 (k0_pay60 s.2.1 s.2.2.1 s.2.2.2.2.1 s.2.2.2.2.2 _) (k0_pay61 _)) (loops_eq Variants.none c none i arg3 harg3 arg4 harg4 arg5 harg5 arg6 harg6 arg7 harg7 arg8 harg8 arg9 harg9 arg10 harg10 _ _ _ _ _ _ _ _ _ _ _ _ _ _ _ _)) ?_
  dsimp only
  simp only [View.readAt_eq_ld, harg3.read_unread, harg4.read_unread, harg5.read_unread, harg6.read_unread, harg7.read_unread, harg8.read_unread, harg10.read_unread]
  rw [View.ld_unit_zero (show (![0,0] : Fin 2 → Nat) = fun _ => 0 by decide), View.ld_unit_zero (show (![0,0] : Fin 2 → Nat) = fun _ => 0 by decide)]

/-- The block written at a grid point that first fills the scratch with the head's bias tiles. -/
theorem out_A (hc0 : cond0_0 i) :
    out0_A_6 c i arg3 harg3 arg4 harg4 arg5 harg5 arg6 harg6 arg7 harg7 arg8 harg8 arg9 harg9 arg10 harg10 hc0 x0 x1 x2 x3 x4 x5 = body x0 x1 x2 x4 x5 (bias x3) (i 2).val := by
  unfold body finish diag
  unfold out0_A_6; rw [View.read_writes_eq_canon _ _ _ (cover0_A_6 c i arg3 harg3 arg4 harg4 arg5 harg5 arg6 harg6 arg7 harg7 arg8 harg8 arg9 harg9 arg10 harg10 hc0 x0 x1 x2 x3 x4 x5)]
  unfold kernelRun0_A; dsimp only; rw [View.canon_unit_zero (show (![0,0,0] : Fin 3 → Nat) = fun _ => 0 by decide)]
  rw [← ld_queryHalf x0 ![0, 0, 0] 0 rfl Facts₀.inb_S1x512x128_S1x512x64_0_0_0, ← ld_queryHalf x0 ![0, 0, 64] 64 rfl Facts₀.inb_S1x512x128_S1x512x64_0_0_64,
    ← ld_valueRows x2 _ _ (off2_eq i) (Facts₀.k0_off2_inb i), ← ld_keyRows x1 _ _ _ (off3_eq i) (Facts₀.k0_off3_inb i),
    ← ld_keyRows x1 _ _ _ (off4_eq i) (Facts₀.k0_off4_inb i), ← ld_biasTile (bias x3) _ _ (placed_k0_off1 i) (Facts₀.k0_off1_inb i)]
  sl_unfold_words
  refine Eq.trans (congrArg (fun s : Acc => k0_pay1 (k0_pay60 s.2.1 s.2.2.1 s.2.2.2.2.1 s.2.2.2.2.2 _) (k0_pay61 _)) (loops_eq Variants.none c none i arg3 harg3 arg4 harg4 arg5 harg5 arg6 harg6 arg7 harg7 arg8 harg8 arg9 harg9 arg10 harg10 _ _ _ _ _ _ _ _ _ _ _ _ _ _ _ _)) ?_
  dsimp only
  simp only [View.readAt_eq_ld, harg3.read_unread, harg4.read_unread, harg5.read_unread, harg6.read_unread, harg7.read_unread, harg8.read_unread, harg10.read_unread]
  rw [View.ld_unit_zero (show (![0,0] : Fin 2 → Nat) = fun _ => 0 by decide), View.ld_unit_zero (show (![0,0] : Fin 2 → Nat) = fun _ => 0 by decide)]
  simp only [readCov_pieces, read_writes_pieces]

/-- The scratch such a point leaves. -/
theorem sout_A (hc0 : cond0_0 i) :
    sout0_A_0 c i arg3 harg3 arg4 harg4 arg5 harg5 arg6 harg6 arg7 harg7 arg8 harg8 arg9 harg9 arg10 harg10 hc0 x0 x1 x2 x3 x4 x5 = bias x3 := by
  unfold sout0_A_0
  rw [View.read_writes_eq_canon _ _ _ (scover0_A_0 c i arg3 harg3 arg4 harg4 arg5 harg5 arg6 harg6 arg7 harg7 arg8 harg8 arg9 harg9 arg10 harg10 hc0 x0 x1 x2 x3 x4 x5)]
  unfold kernelRun0_A; dsimp only
  sl_unfold_words
  simp only [View.readAt_eq_ld, harg6.read_unread]
  exact canon_pieces x3

end Run

end Cert.Kernel7Ideal.Diff

end
-- ==== Proof.FirstRows.lean ====
/- For the first layer, one row of the kernel's block: every operation of the body acts on each query row by itself, so the running state of a row is
   the state of `Softmax.step` over that row's scores. -/
module

public import proofs.«01_k».proof.Proof.FirstBlock
public import proofs.«01_k».proof.Proof.Softmax

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx Softmax

/-- The maximum after a block of scores. -/
def nextMax (S : FVec Ideal S512x512 .f32) (m : FVec Ideal S512x1 .f32) : FVec Ideal S512x1 .f32 :=
  maximumf m (shapeCast S512x1 (multiReduction .maximumf [1] S512 S 0xFF800000#32 Facts₀.reduces_S512x512_S512 (.inl rfl) rfl) Facts₀.shapeCasts_S512_S512x1)

/-- The weights of a block of scores. -/
def weights (S : FVec Ideal S512x512 .f32) (m : FVec Ideal S512x1 .f32) : FVec Ideal S512x512 .f32 :=
  exp2 (subf S (broadcastTo S512x512 (nextMax S m) Facts₀.broadcasts_S512x1_S512x512))

/-- The sum of weights after a block of scores. -/
def nextSum (S : FVec Ideal S512x512 .f32) (m l : FVec Ideal S512x1 .f32) : FVec Ideal S512x1 .f32 :=
  addf (mulf (exp2 (subf m (nextMax S m))) l)
    (shapeCast S512x1 (multiReduction .add [1] S512 (weights S m) 0x00000000#32 Facts₀.reduces_S512x512_S512 (.inl rfl) rfl) Facts₀.shapeCasts_S512_S512x1)

/-- The weighted sum of the values after a block of scores. -/
def nextAcc (S : FVec Ideal S512x512 .f32) (V : FVec Ideal S512x128 .bf16) (m : FVec Ideal S512x1 .f32) (a : FVec Ideal S512x128 .f32) : FVec Ideal S512x128 .f32 :=
  addf (mulf (broadcastTo S512x128 (exp2 (subf m (nextMax S m))) Facts₀.broadcasts_S512x1_S512x128) a)
    (matmul dot_S512x512_S512x128_S512x128_1_0_0_1_n_n none (truncf .bf16 (weights S m) Facts₀.bitsLt_bf16_f32) V (constant S512x128 .f32 0x00000000#32))

/-- A step of the loop is the two softmaxes' updates. -/
theorem trip_eq_next (q0 q1 : FVec Ideal S512x64 .bf16) (b : Vec Ideal S1x512x512 .f32) (v : Vec Ideal S1x512x128 .bf16)
    (k0 k1 : Vec Ideal S1x512x64 .bf16) (s : Acc) :
    trip q0 q1 b v k0 k1 s
      = (nextMax (k0_pay7 q0 b k0) s.1, nextSum (k0_pay7 q0 b k0) s.1 s.2.1, nextAcc (k0_pay7 q0 b k0) (k0_pay6 v) s.1 s.2.2.1,
        nextMax (k0_pay13 q1 b k1) s.2.2.2.1, nextSum (k0_pay13 q1 b k1) s.2.2.2.1 s.2.2.2.2.1,
        nextAcc (k0_pay13 q1 b k1) (k0_pay6 v) s.2.2.2.1 s.2.2.2.2.2) := rfl

/-- The first step likewise. -/
theorem diag_eq_next (q0 q1 : FVec Ideal S512x64 .bf16) (x1 x2 : Vec Ideal S1x2048x128 .bf16) (B : Vec Ideal S4x512x512 .f32) (qs : Nat) :
    diag q0 q1 x1 x2 B qs
      = (nextMax (k0_pay42 k0_pay29 q0 (k0_pay40 (biasTile B 0)) (keyRows x1 qs 0)) k0_pay34,
        nextSum (k0_pay42 k0_pay29 q0 (k0_pay40 (biasTile B 0)) (keyRows x1 qs 0)) k0_pay34 k0_pay35,
        nextAcc (k0_pay42 k0_pay29 q0 (k0_pay40 (biasTile B 0)) (keyRows x1 qs 0)) (k0_pay41 (valueRows x2 qs)) k0_pay34 k0_pay36,
        nextMax (k0_pay48 k0_pay29 q1 (k0_pay40 (biasTile B 0)) (keyRows x1 qs 64)) k0_pay37,
        nextSum (k0_pay48 k0_pay29 q1 (k0_pay40 (biasTile B 0)) (keyRows x1 qs 64)) k0_pay37 k0_pay38,
        nextAcc (k0_pay48 k0_pay29 q1 (k0_pay40 (biasTile B 0)) (keyRows x1 qs 64)) (k0_pay41 (valueRows x2 qs)) k0_pay37 k0_pay39) := rfl

theorem ofBits_neg_inf : (FloatOps.ofBits .f32 0xFF800000#32 : Ideal .f32) = (⊥ : EReal) := by
  show Ideal.ofBits .f32 0xFF800000#32 = ⊥
  simp [Ideal.ofBits, Ideal.ieee]

/-- A row's column vector entry of a vector over the rows. -/
theorem column_apply (x : FVec Ideal S512 .f32) (r : Fin 512) :
    shapeCast S512x1 x Facts₀.shapeCasts_S512_S512x1 (ix2 r 0) = x (ix1 r) := by
  refine shapeCast_apply _ _ _ _ ?_
  rw [Shape.rowMajor_val_one, Shape.rowMajor_val_two]
  show r.val = r.val * 1 + 0
  omega

theorem nextMax_apply (S : FVec Ideal S512x512 .f32) (m : FVec Ideal S512x1 .f32) (r : Fin 512) :
    nextMax S m (ix2 r 0) = max (m (ix2 r 0)) (Finset.univ.fold max (⊥ : EReal) fun j : Fin 512 => S (ix2 r j)) := by
  unfold nextMax
  rw [maximumf_apply, column_apply]
  refine congrArg (max (m (ix2 r 0))) ((Ideal.multiReduction_maximumf_single S _ _ _ _ (ix1 r)).trans ?_)
  rw [ofBits_neg_inf]
  refine congrArg (fun f => Finset.univ.fold max (⊥ : EReal) f) (funext fun j => congrArg S ?_)
  exact funext fun a => match a with | ⟨0, _⟩ => rfl | ⟨1, _⟩ => rfl

theorem spread_apply (x : FVec Ideal S512x1 .f32) (r j : Fin 512) :
    broadcastTo S512x512 x Facts₀.broadcasts_S512x1_S512x512 (ix2 r j) = x (ix2 r 0) := by
  refine broadcastTo_apply _ _ _ _ fun a => ?_
  match a with
  | ⟨0, _⟩ => rfl
  | ⟨1, _⟩ => rfl

theorem spread128_apply (x : FVec Ideal S512x1 .f32) (r : Fin 512) (d : Fin 128) :
    broadcastTo S512x128 x Facts₀.broadcasts_S512x1_S512x128 (ix2 r d) = x (ix2 r 0) := by
  refine broadcastTo_apply _ _ _ _ fun a => ?_
  match a with
  | ⟨0, _⟩ => rfl
  | ⟨1, _⟩ => rfl

theorem weights_apply (S : FVec Ideal S512x512 .f32) (m : FVec Ideal S512x1 .f32) (r j : Fin 512) :
    weights S m (ix2 r j) = Ideal.exp2 (S (ix2 r j) - nextMax S m (ix2 r 0)) := by
  unfold weights
  show Ideal.exp2 (S (ix2 r j) - broadcastTo S512x512 (nextMax S m) Facts₀.broadcasts_S512x1_S512x512 (ix2 r j)) = _
  rw [spread_apply]

theorem nextSum_apply (S : FVec Ideal S512x512 .f32) (m l : FVec Ideal S512x1 .f32) (r : Fin 512) :
    nextSum S m l (ix2 r 0) = Ideal.exp2 (m (ix2 r 0) - nextMax S m (ix2 r 0)) * l (ix2 r 0)
      + ∑ j : Fin 512, Ideal.exp2 (S (ix2 r j) - nextMax S m (ix2 r 0)) := by
  unfold nextSum
  rw [addf_apply, column_apply]
  refine congrArg₂ (· + ·) rfl ((Ideal.multiReduction_add_single (weights S m) _ _ _ _ (ix1 r)).trans (Finset.sum_congr rfl fun j _ => ?_))
  have e : Shape.Reduces.lift Facts₀.reduces_S512x512_S512 (ix1 r) j = (ix2 r (j : Fin 512) : S512x512.Idx) :=
    funext fun a => match a with | ⟨0, _⟩ => rfl | ⟨1, _⟩ => rfl
  exact (congrArg (weights S m) e).trans (weights_apply S m r j)

theorem nextAcc_apply (S : FVec Ideal S512x512 .f32) (V : FVec Ideal S512x128 .bf16) (m : FVec Ideal S512x1 .f32) (a : FVec Ideal S512x128 .f32) (r : Fin 512) (d : Fin 128) :
    nextAcc S V m a (ix2 r d) = Ideal.exp2 (m (ix2 r 0) - nextMax S m (ix2 r 0)) * a (ix2 r d)
      + ∑ j : Fin 512, Ideal.exp2 (S (ix2 r j) - nextMax S m (ix2 r 0)) * V (ix2 j d) := by
  unfold nextAcc
  rw [addf_apply, mulf_apply, spread128_apply]
  refine congrArg₂ (· + ·) rfl ?_
  simp only [matmul]
  rw [Ideal.matmul_constant_zero_apply, ← Equiv.sum_comp (contrEquiv1 dot_S512x512_S512x128_S512x128_1_0_0_1_n_n 512 rfl rfl).symm]
  refine Finset.sum_congr rfl fun j _ => ?_
  refine congrArg₂ (· * ·) ?_ (congrArg V ?_)
  · rw [← weights_apply]
    refine congrArg (weights S m) (funext fun a => Fin.ext ?_)
    match a with
    | ⟨0, _⟩ => rfl
    | ⟨1, _⟩ => rw [DotDims.lhsIdx_val_of_single _ rfl]; exact contrEquiv1_symm_val _ 512 rfl rfl j
  · refine funext fun a => Fin.ext ?_
    match a with
    | ⟨0, _⟩ => rw [DotDims.rhsIdx_val_of_single _ rfl]; exact contrEquiv1_symm_val _ 512 rfl rfl j
    | ⟨1, _⟩ => rfl

/-- The state of one row. -/
def row (m l : FVec Ideal S512x1 .f32) (a : FVec Ideal S512x128 .f32) (r : Fin 512) : EReal × EReal × (Fin 128 → EReal) :=
  (m (ix2 r 0), l (ix2 r 0), fun d => a (ix2 r d))

/-- A block of scores advances each row's state. -/
theorem row_next (S : FVec Ideal S512x512 .f32) (V : FVec Ideal S512x128 .bf16) (m l : FVec Ideal S512x1 .f32) (a : FVec Ideal S512x128 .f32) (r : Fin 512) :
    row (nextMax S m) (nextSum S m l) (nextAcc S V m a) r
      = step (fun j : Fin 512 => S (ix2 r j)) (fun (j : Fin 512) (d : Fin 128) => V (ix2 j d)) (m (ix2 r 0)) (l (ix2 r 0)) (fun d => a (ix2 r d)) := by
  unfold row step
  rw [nextSum_apply, nextMax_apply]
  refine Prod.ext rfl (Prod.ext rfl (funext fun d => ?_))
  show nextAcc S V m a (ix2 r d) = _
  rw [nextAcc_apply, nextMax_apply]

/-! ### The scores -/

theorem dot64_apply (q k : FVec Ideal S512x64 .bf16) (r j : Fin 512) :
    matmul dot_S512x64_S512x64_S512x512_1_1_0_0_n_n none q k (constant S512x512 .f32 0x00000000#32) (ix2 r j)
      = ∑ e : Fin 64, q (ix2 r e) * k (ix2 j e) := by
  simp only [matmul]
  rw [Ideal.matmul_constant_zero_apply, ← Equiv.sum_comp (contrEquiv1 dot_S512x64_S512x64_S512x512_1_1_0_0_n_n 64 rfl rfl).symm]
  refine Finset.sum_congr rfl fun e _ => ?_
  refine congrArg₂ (· * ·) (congrArg q ?_) (congrArg k ?_)
  · refine funext fun a => Fin.ext ?_
    match a with
    | ⟨0, _⟩ => rfl
    | ⟨1, _⟩ => rw [DotDims.lhsIdx_val_of_single _ rfl]; exact contrEquiv1_symm_val _ 64 rfl rfl e
  · refine funext fun a => Fin.ext ?_
    match a with
    | ⟨0, _⟩ => rfl
    | ⟨1, _⟩ => rw [DotDims.rhsIdx_val_of_single _ rfl]; exact contrEquiv1_symm_val _ 64 rfl rfl e

theorem drop64_apply {φ : FTy} (x : FVec Ideal S1x512x64 φ) (r : Fin 512) (e : Fin 64) :
    shapeCast S512x64 x Facts₀.shapeCasts_S1x512x64_S512x64 (ix2 r e) = x (ix3 0 r e) := by
  refine shapeCast_apply _ _ _ _ ?_
  rw [Shape.rowMajor_val_three, Shape.rowMajor_val_two]
  show (0 * 512 + r.val) * 64 + e.val = r.val * 64 + e.val
  omega

theorem drop512_apply {φ : FTy} (x : FVec Ideal S1x512x512 φ) (r : Fin 512) (e : Fin 512) :
    shapeCast S512x512 x Facts₀.shapeCasts_S1x512x512_S512x512 (ix2 r e) = x (ix3 0 r e) := by
  refine shapeCast_apply _ _ _ _ ?_
  rw [Shape.rowMajor_val_three, Shape.rowMajor_val_two]
  show (0 * 512 + r.val) * 512 + e.val = r.val * 512 + e.val
  omega

theorem drop128_apply {φ : FTy} (x : FVec Ideal S1x512x128 φ) (r : Fin 512) (e : Fin 128) :
    shapeCast S512x128 x Facts₀.shapeCasts_S1x512x128_S512x128 (ix2 r e) = x (ix3 0 r e) := by
  refine shapeCast_apply _ _ _ _ ?_
  rw [Shape.rowMajor_val_three, Shape.rowMajor_val_two]
  show (0 * 512 + r.val) * 128 + e.val = r.val * 128 + e.val
  omega

theorem pay6_apply (v : Vec Ideal S1x512x128 .bf16) (j : Fin 512) (d : Fin 128) : k0_pay6 v (ix2 j d) = v (ix3 0 j d) := by
  unfold k0_pay6
  exact drop128_apply _ _ _

theorem pay41_apply (v : Vec Ideal S1x512x128 .bf16) (j : Fin 512) (d : Fin 128) : k0_pay41 v (ix2 j d) = v (ix3 0 j d) := by
  unfold k0_pay41
  exact drop128_apply _ _ _

/-- The factor the queries are scaled by. -/
def logitScale : EReal := (Named.named κ "logit_scale" 0x3E38AA3B#32 : Ideal .f32)

theorem pay30_apply (x : Vec Ideal S1x512x64 .bf16) (r : Fin 512) (e : Fin 64) : k0_pay30 x (ix2 r e) = x (ix3 0 r e) * logitScale := by
  unfold k0_pay30
  exact congrArg (· * logitScale) (drop64_apply (φ := .bf16) _ _ _)

theorem pay31_apply (x : Vec Ideal S1x512x64 .bf16) (r : Fin 512) (e : Fin 64) : k0_pay31 x (ix2 r e) = x (ix3 0 r e) * logitScale := by
  unfold k0_pay31
  exact congrArg (· * logitScale) (drop64_apply (φ := .bf16) _ _ _)

/-- The score of query row `r` at key row `j`. -/
theorem pay7_apply (q : FVec Ideal S512x64 .bf16) (b : Vec Ideal S1x512x512 .f32) (k : Vec Ideal S1x512x64 .bf16) (r j : Fin 512) :
    k0_pay7 q b k (ix2 r j) = (∑ e : Fin 64, q (ix2 r e) * k (ix3 0 j e)) + b (ix3 0 r j) := by
  unfold k0_pay7 k0_pay5
  dsimp only
  rw [addf_apply, dot64_apply, drop512_apply]
  refine congrArg₂ (· + ·) (Finset.sum_congr rfl fun e _ => ?_) rfl
  rw [drop64_apply]

theorem pay13_apply (q : FVec Ideal S512x64 .bf16) (b : Vec Ideal S1x512x512 .f32) (k : Vec Ideal S1x512x64 .bf16) (r j : Fin 512) :
    k0_pay13 q b k (ix2 r j) = (∑ e : Fin 64, q (ix2 r e) * k (ix3 0 j e)) + b (ix3 0 r j) := pay7_apply q b k r j

theorem mask_value : (Named.named κ "mask" 0xF149F2CA#32 : Ideal .f32) = (⊥ : EReal) :=
  IdealRules.named_const.ideal_named_scalar _ _ _ _ rfl

theorem pay29_apply (r j : Fin 512) : k0_pay29 (ix2 r j) = if j.val ≤ r.val then 1#1 else 0#1 := by
  unfold k0_pay29
  have h1 := r.isLt
  have h2 := j.isLt
  show IntOp.cmpi .sle (iota .tc S512x512 32 [1] Facts₀.iota_S512x512_d1_w32 (ix2 r j)) (iota .tc S512x512 32 [0] Facts₀.iota_S512x512_d0_w32 (ix2 r j)) = _
  rw [iota_single_apply, iota_single_apply]
  show BitVec.ofBool ((BitVec.ofNat 32 j.val).sle (BitVec.ofNat 32 r.val)) = _
  have e1 : (BitVec.ofNat 32 j.val).toInt = j.val := by
    rw [BitVec.toInt_eq_toNat_of_lt] <;> simp <;> omega
  have e2 : (BitVec.ofNat 32 r.val).toInt = r.val := by
    rw [BitVec.toInt_eq_toNat_of_lt] <;> simp <;> omega
  by_cases h : j.val ≤ r.val
  · rw [if_pos h, BitVec.sle_eq_decide, e1, e2]; simp [h]
  · rw [if_neg h, BitVec.sle_eq_decide, e1, e2]; simp [h]

/-- The masked score on the diagonal. -/
theorem pay42_apply (q : FVec Ideal S512x64 .bf16) (b : Vec Ideal S1x512x512 .f32) (k : Vec Ideal S1x512x64 .bf16) (r j : Fin 512) :
    k0_pay42 k0_pay29 q (k0_pay40 b) k (ix2 r j)
      = if j.val ≤ r.val then (∑ e : Fin 64, q (ix2 r e) * k (ix3 0 j e)) + b (ix3 0 r j) else ⊥ := by
  have h : k0_pay42 k0_pay29 q (k0_pay40 b) k (ix2 r j)
      = Scalar.select (k0_pay29 (ix2 r j)) (k0_pay7 q b k (ix2 r j)) (Named.named κ "mask" 0xF149F2CA#32 : Ideal .f32) := rfl
  rw [h, mask_value, pay29_apply, pay7_apply]
  unfold Scalar.select
  by_cases h : j.val ≤ r.val <;> simp [h]

theorem pay48_apply (q : FVec Ideal S512x64 .bf16) (b : Vec Ideal S1x512x512 .f32) (k : Vec Ideal S1x512x64 .bf16) (r j : Fin 512) :
    k0_pay48 k0_pay29 q (k0_pay40 b) k (ix2 r j)
      = if j.val ≤ r.val then (∑ e : Fin 64, q (ix2 r e) * k (ix3 0 j e)) + b (ix3 0 r j) else ⊥ := pay42_apply q b k r j

end Cert.Kernel7Ideal.Diff

end
-- ==== Proof.FirstRowState.lean ====
/- For the first layer, the two quotients of a query row: each is the softmax-weighted sum of the values over all keys, the scores after the query
   being `-∞`. -/
module

public import proofs.«01_k».proof.Proof.FirstRows

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx Softmax

/-- The score of query row `r` of span `qs` at key `t`, in half `o` (0 or 64) of the head. -/
def score (x0 : Vec Ideal S1x512x128 .bf16) (x1 : Vec Ideal S1x2048x128 .bf16) (B : Vec Ideal S4x512x512 .f32) (qs o : ℕ) (r : Fin 512) (t : ℕ) : EReal :=
  if t ≤ 512 * qs + r.val then
    (∑ e : Fin 64, (x0 (ix3 0 r (Fin.ofNat 128 (o + e.val))) * logitScale) * x1 (ix3 0 (Fin.ofNat 2048 t) (Fin.ofNat 128 (o + e.val))))
      + B (ix3 (Fin.ofNat 4 (qs - t / 512)) r (Fin.ofNat 512 t))
  else ⊥

/-- The value at key `t`. -/
def value (x2 : Vec Ideal S1x2048x128 .bf16) (t : ℕ) (d : Fin 128) : EReal := x2 (ix3 0 (Fin.ofNat 2048 t) d)

variable (x0 : Vec Ideal S1x512x128 .bf16) (x1 x2 : Vec Ideal S1x2048x128 .bf16) (B : Vec Ideal S4x512x512 .f32) (qs : ℕ) (r : Fin 512)

theorem ofNat_split (k : ℕ) (j : Fin 512) : Fin.ofNat 512 (512 * k + j.val) = j := by
  refine Fin.ext ?_
  show (512 * k + j.val) % 512 = j.val
  have := j.isLt
  omega

theorem score_past0 (n : ℕ) (hn : n < qs) (j : Fin 512) :
    k0_pay7 (k0_pay30 (queryHalf x0 0)) (biasTile B (qs - n)) (keyRows x1 n 0) (ix2 r j) = score x0 x1 B qs 0 r (512 * n + j.val) := by
  have hj := j.isLt
  rw [pay7_apply]
  unfold score
  rw [if_pos (by omega)]
  refine congrArg₂ (· + ·) (Finset.sum_congr rfl fun e _ => ?_) ?_
  · rw [pay30_apply]; rfl
  · rw [ofNat_split, show (512 * n + j.val) / 512 = n by omega]; rfl

theorem score_past1 (n : ℕ) (hn : n < qs) (j : Fin 512) :
    k0_pay13 (k0_pay31 (queryHalf x0 64)) (biasTile B (qs - n)) (keyRows x1 n 64) (ix2 r j) = score x0 x1 B qs 64 r (512 * n + j.val) := by
  have hj := j.isLt
  rw [pay13_apply]
  unfold score
  rw [if_pos (by omega)]
  refine congrArg₂ (· + ·) (Finset.sum_congr rfl fun e _ => ?_) ?_
  · rw [pay31_apply]; rfl
  · rw [ofNat_split, show (512 * n + j.val) / 512 = n by omega]; rfl

theorem score_diag0 (j : Fin 512) :
    k0_pay42 k0_pay29 (k0_pay30 (queryHalf x0 0)) (k0_pay40 (biasTile B 0)) (keyRows x1 qs 0) (ix2 r j) = score x0 x1 B qs 0 r (512 * qs + j.val) := by
  have hj := j.isLt
  rw [pay42_apply]
  unfold score
  by_cases h : j.val ≤ r.val
  · rw [if_pos h, if_pos (by omega)]
    refine congrArg₂ (· + ·) (Finset.sum_congr rfl fun e _ => ?_) ?_
    · rw [pay30_apply]; rfl
    · rw [ofNat_split, show qs - (512 * qs + j.val) / 512 = 0 by omega]; rfl
  · rw [if_neg h, if_neg (by omega)]

theorem score_diag1 (j : Fin 512) :
    k0_pay48 k0_pay29 (k0_pay31 (queryHalf x0 64)) (k0_pay40 (biasTile B 0)) (keyRows x1 qs 64) (ix2 r j) = score x0 x1 B qs 64 r (512 * qs + j.val) := by
  have hj := j.isLt
  rw [pay48_apply]
  unfold score
  by_cases h : j.val ≤ r.val
  · rw [if_pos h, if_pos (by omega)]
    refine congrArg₂ (· + ·) (Finset.sum_congr rfl fun e _ => ?_) ?_
    · rw [pay31_apply]; rfl
    · rw [ofNat_split, show qs - (512 * qs + j.val) / 512 = 0 by omega]; rfl
  · rw [if_neg h, if_neg (by omega)]

/-- The state of the block after `n` of the earlier spans. -/
def stateAt (n : ℕ) : Acc :=
  spans (k0_pay30 (queryHalf x0 0)) (k0_pay31 (queryHalf x0 64)) x1 x2 B qs
    (diag (k0_pay30 (queryHalf x0 0)) (k0_pay31 (queryHalf x0 64)) x1 x2 B qs) n

def row0 (s : Acc) := row s.1 s.2.1 s.2.2.1 r
def row1 (s : Acc) := row s.2.2.2.1 s.2.2.2.2.1 s.2.2.2.2.2 r

theorem zero_value : (Scalar.ofBits .f32 0x00000000#32 : Ideal .f32) = (0 : EReal) := Ideal.ofBits_zero_f32

theorem row0_zero : row0 r (stateAt x0 x1 x2 B qs 0)
    = step (fun j : Fin 512 => score x0 x1 B qs 0 r (512 * qs + j.val)) (fun (j : Fin 512) d => value x2 (512 * qs + j.val) d) ⊥ 0 (fun _ => 0) := by
  unfold stateAt spans row0
  rw [diag_eq_next]
  refine (row_next _ _ _ _ _ r).trans ?_
  rw [show (k0_pay34 : FVec Ideal S512x1 .f32) (ix2 r 0) = (⊥ : EReal) from mask_value, show (k0_pay35 : FVec Ideal S512x1 .f32) (ix2 r 0) = (0 : EReal) from zero_value,
    show (fun d : Fin 128 => (k0_pay36 : FVec Ideal S512x128 .f32) (ix2 r d)) = (fun _ => (0 : EReal)) from funext fun _ => zero_value]
  refine congrArg₂ (fun X V => step X V ⊥ 0 (fun _ => 0)) (funext fun j => score_diag0 x0 x1 B qs r j) (funext fun j => funext fun d => ?_)
  rw [pay41_apply]; rfl

theorem row1_zero : row1 r (stateAt x0 x1 x2 B qs 0)
    = step (fun j : Fin 512 => score x0 x1 B qs 64 r (512 * qs + j.val)) (fun (j : Fin 512) d => value x2 (512 * qs + j.val) d) ⊥ 0 (fun _ => 0) := by
  unfold stateAt spans row1
  rw [diag_eq_next]
  refine (row_next _ _ _ _ _ r).trans ?_
  rw [show (k0_pay37 : FVec Ideal S512x1 .f32) (ix2 r 0) = (⊥ : EReal) from mask_value, show (k0_pay38 : FVec Ideal S512x1 .f32) (ix2 r 0) = (0 : EReal) from zero_value,
    show (fun d : Fin 128 => (k0_pay39 : FVec Ideal S512x128 .f32) (ix2 r d)) = (fun _ => (0 : EReal)) from funext fun _ => zero_value]
  refine congrArg₂ (fun X V => step X V ⊥ 0 (fun _ => 0)) (funext fun j => score_diag1 x0 x1 B qs r j) (funext fun j => funext fun d => ?_)
  rw [pay41_apply]; rfl

theorem row0_succ (n : ℕ) (hn : n < qs) : row0 r (stateAt x0 x1 x2 B qs (n + 1))
    = step (fun j : Fin 512 => score x0 x1 B qs 0 r (512 * n + j.val)) (fun (j : Fin 512) d => value x2 (512 * n + j.val) d)
        (row0 r (stateAt x0 x1 x2 B qs n)).1 (row0 r (stateAt x0 x1 x2 B qs n)).2.1 (row0 r (stateAt x0 x1 x2 B qs n)).2.2 := by
  have h : stateAt x0 x1 x2 B qs (n + 1) = trip (k0_pay30 (queryHalf x0 0)) (k0_pay31 (queryHalf x0 64)) (biasTile B (qs - n)) (valueRows x2 n)
    (keyRows x1 n 0) (keyRows x1 n 64) (stateAt x0 x1 x2 B qs n) := rfl
  rw [h, trip_eq_next]
  refine (row_next _ _ _ _ _ r).trans ?_
  refine congrArg₂ (fun X V => step X V (row0 r (stateAt x0 x1 x2 B qs n)).1 (row0 r (stateAt x0 x1 x2 B qs n)).2.1 (row0 r (stateAt x0 x1 x2 B qs n)).2.2)
    (funext fun j => score_past0 x0 x1 B qs r n hn j) (funext fun j => funext fun d => ?_)
  rw [pay6_apply]; rfl

theorem row1_succ (n : ℕ) (hn : n < qs) : row1 r (stateAt x0 x1 x2 B qs (n + 1))
    = step (fun j : Fin 512 => score x0 x1 B qs 64 r (512 * n + j.val)) (fun (j : Fin 512) d => value x2 (512 * n + j.val) d)
        (row1 r (stateAt x0 x1 x2 B qs n)).1 (row1 r (stateAt x0 x1 x2 B qs n)).2.1 (row1 r (stateAt x0 x1 x2 B qs n)).2.2 := by
  have h : stateAt x0 x1 x2 B qs (n + 1) = trip (k0_pay30 (queryHalf x0 0)) (k0_pay31 (queryHalf x0 64)) (biasTile B (qs - n)) (valueRows x2 n)
    (keyRows x1 n 0) (keyRows x1 n 64) (stateAt x0 x1 x2 B qs n) := rfl
  rw [h, trip_eq_next]
  refine (row_next _ _ _ _ _ r).trans ?_
  refine congrArg₂ (fun X V => step X V (row1 r (stateAt x0 x1 x2 B qs n)).1 (row1 r (stateAt x0 x1 x2 B qs n)).2.1 (row1 r (stateAt x0 x1 x2 B qs n)).2.2)
    (funext fun j => score_past1 x0 x1 B qs r n hn j) (funext fun j => funext fun d => ?_)
  rw [pay6_apply]; rfl

theorem score_after (o t : ℕ) (h : 512 * (qs + 1) ≤ t) : score x0 x1 B qs o r t = ⊥ := by
  have := r.isLt
  unfold score
  rw [if_neg (by omega)]

variable (v : ℕ → Fin 128 → ℝ) (hqs : qs < 4) (hV : ∀ t d, t < 2048 → value x2 t d = (v t d : EReal))
include hqs hV

/-- The quotient of the first softmax at column `d`, -/
theorem quotient0 (hX : ∀ t, score x0 x1 B qs 0 r t ≠ ⊤) (h0 : score x0 x1 B qs 0 r (512 * qs) ≠ ⊥) (d : Fin 128) :
    Ideal.div ((stateAt x0 x1 x2 B qs qs).2.2.1 (ix2 r d)) ((stateAt x0 x1 x2 B qs qs).2.1 (ix2 r 0))
      = (((∑ t : Fin 2048, wt (score x0 x1 B qs 0 r t.val) * v t.val d) / ∑ t : Fin 2048, wt (score x0 x1 B qs 0 r t.val) : ℝ) : EReal) :=
  blocks_div (score x0 x1 B qs 0 r) (value x2) v qs hqs hV hX h0 (fun t h => score_after x0 x1 B qs r 0 t h)
    (fun n => row0 r (stateAt x0 x1 x2 B qs n)) (row0_zero x0 x1 x2 B qs r) (fun n hn => row0_succ x0 x1 x2 B qs r n hn) d

/-- and of the second. -/
theorem quotient1 (hX : ∀ t, score x0 x1 B qs 64 r t ≠ ⊤) (h0 : score x0 x1 B qs 64 r (512 * qs) ≠ ⊥) (d : Fin 128) :
    Ideal.div ((stateAt x0 x1 x2 B qs qs).2.2.2.2.2 (ix2 r d)) ((stateAt x0 x1 x2 B qs qs).2.2.2.2.1 (ix2 r 0))
      = (((∑ t : Fin 2048, wt (score x0 x1 B qs 64 r t.val) * v t.val d) / ∑ t : Fin 2048, wt (score x0 x1 B qs 64 r t.val) : ℝ) : EReal) :=
  blocks_div (score x0 x1 B qs 64 r) (value x2) v qs hqs hV hX h0 (fun t h => score_after x0 x1 B qs r 64 t h)
    (fun n => row1 r (stateAt x0 x1 x2 B qs n)) (row1_zero x0 x1 x2 B qs r) (fun n hn => row1_succ x0 x1 x2 B qs r n hn) d

end Cert.Kernel7Ideal.Diff

end
-- ==== Proof.FirstFinish.lean ====
/- For the first layer, the end of a block's body: the second quotient, times the mixing factor, is taken from the first, and the row is divided by
   its root mean square and scaled. -/
module

public import proofs.«01_k».proof.Proof.FirstRowState
public import proofs.«01_k».proof.Proof.Finish

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx Softmax

/-- The layer's two constants. -/
abbrev lam : EReal := (FloatOps.ofBits .f32 0x3E4CCCCD#32 : Ideal .f32)
abbrev rest : EReal := (FloatOps.ofBits .f32 0x3F4CCCCD#32 : Ideal .f32)

theorem mixRow_apply (x4 : Vec Ideal S4x64 .f32) (a : Fin 4) (off : Fin 2 → ℕ) (h : Shape.Slices S4x64 off S1x64)
    (e0 : off 0 = a.val) (e1 : off 1 = 0) (e : Fin 64) :
    extractStridedSlice S1x64 off x4 h (ix2 0 e) = x4 (ix2 a e) :=
  extractStridedSlice_apply _ _ _ _ (ix2 a e) fun b => match b with
    | ⟨0, _⟩ => by show a.val = off 0 + 0; omega
    | ⟨1, _⟩ => by show e.val = off 1 + e.val; omega

theorem sumRow_apply (x : FVec Ideal S1x64 .f32) :
    shapeCast S1x1 (multiReduction .add [1] S1 x 0x00000000#32 Facts₀.reduces_S1x64_S1 (.inl rfl) rfl) Facts₀.shapeCasts_S1_S1x1 (ix2 0 0)
      = ∑ e : Fin 64, x (ix2 0 e) := by
  refine (shapeCast_apply _ _ _ (ix1 0) ?_).trans ?_
  · rw [Shape.rowMajor_val_one, Shape.rowMajor_val_two]; rfl
  · refine (Ideal.multiReduction_add_single x _ _ _ _ (ix1 0)).trans (Finset.sum_congr rfl fun e _ => ?_)
    have h : Shape.Reduces.lift Facts₀.reduces_S1x64_S1 (ix1 0) e = (ix2 0 (e : Fin 64) : S1x64.Idx) :=
      funext fun a => match a with | ⟨0, _⟩ => rfl | ⟨1, _⟩ => rfl
    rw [h]

theorem sumCols_apply (x : FVec Ideal S512x128 .f32) (r : Fin 512) :
    multiReduction .add [1] S512 x 0x00000000#32 Facts₀.reduces_S512x128_S512 (.inl rfl) rfl (ix1 r) = ∑ d : Fin 128, x (ix2 r d) := by
  refine (Ideal.multiReduction_add_single x _ _ _ _ (ix1 r)).trans (Finset.sum_congr rfl fun e _ => ?_)
  have h : Shape.Reduces.lift Facts₀.reduces_S512x128_S512 (ix1 r) e = (ix2 r (e : Fin 128) : S512x128.Idx) :=
    funext fun a => match a with | ⟨0, _⟩ => rfl | ⟨1, _⟩ => rfl
  rw [h]

/-- The mixing factor as the body computes it, -/
def mixBlock (x4 : Vec Ideal S4x64 .f32) : FVec Ideal S1x1 .f32 :=
  addf (subf
    (exp (shapeCast S1x1 (multiReduction .add [1] S1 (mulf (extractStridedSlice S1x64 ![0, 0] x4 Facts₀.slices_S4x64_o0_0_S1x64)
      (extractStridedSlice S1x64 ![1, 0] x4 Facts₀.slices_S4x64_o1_0_S1x64)) 0x00000000#32 Facts₀.reduces_S1x64_S1 (.inl rfl) rfl) Facts₀.shapeCasts_S1_S1x1))
    (exp (shapeCast S1x1 (multiReduction .add [1] S1 (mulf (extractStridedSlice S1x64 ![2, 0] x4 Facts₀.slices_S4x64_o2_0_S1x64)
      (extractStridedSlice S1x64 ![3, 0] x4 Facts₀.slices_S4x64_o3_0_S1x64)) 0x00000000#32 Facts₀.reduces_S1x64_S1 (.inl rfl) rfl) Facts₀.shapeCasts_S1_S1x1)))
    (broadcast S1x1 (Scalar.ofBits .f32 0x3E4CCCCD#32))

theorem mixBlock_apply (x4 : Vec Ideal S4x64 .f32) : mixBlock x4 (ix2 0 0) = mixing lam fun a e => x4 (ix2 a e) := by
  unfold mixBlock mixing
  refine congrArg₂ (fun x y : EReal => (Ideal.exp x - Ideal.exp y) + (FloatOps.ofBits .f32 0x3E4CCCCD#32 : Ideal .f32))
    ((sumRow_apply _).trans (Finset.sum_congr rfl fun e _ => ?_)) ((sumRow_apply _).trans (Finset.sum_congr rfl fun e _ => ?_))
  · exact congrArg₂ (fun x y : EReal => x * y) (mixRow_apply x4 0 _ _ rfl rfl e) (mixRow_apply x4 1 _ _ rfl rfl e)
  · exact congrArg₂ (fun x y : EReal => x * y) (mixRow_apply x4 2 _ _ rfl rfl e) (mixRow_apply x4 3 _ _ rfl rfl e)

/-- and the difference of the quotients. -/
def mixed (l0 : FVec Ideal S512x1 .f32) (a0 : FVec Ideal S512x128 .f32) (l1 : FVec Ideal S512x1 .f32) (a1 : FVec Ideal S512x128 .f32)
    (x4 : Vec Ideal S4x64 .f32) : FVec Ideal S512x128 .f32 :=
  subf (divf a0 (broadcastTo S512x128 l0 Facts₀.broadcasts_S512x1_S512x128))
    (mulf (broadcastTo S512x128 (mixBlock x4) Facts₀.broadcasts_S1x1_S512x128) (divf a1 (broadcastTo S512x128 l1 Facts₀.broadcasts_S512x1_S512x128)))

theorem mixed_apply (l0 : FVec Ideal S512x1 .f32) (a0 : FVec Ideal S512x128 .f32) (l1 : FVec Ideal S512x1 .f32) (a1 : FVec Ideal S512x128 .f32)
    (x4 : Vec Ideal S4x64 .f32) (r : Fin 512) (d : Fin 128) :
    mixed l0 a0 l1 a1 x4 (ix2 r d) = Ideal.div (a0 (ix2 r d)) (l0 (ix2 r 0))
      - mixing lam (fun a e => x4 (ix2 a e)) * Ideal.div (a1 (ix2 r d)) (l1 (ix2 r 0)) := by
  have hb : broadcastTo S512x128 (mixBlock x4) Facts₀.broadcasts_S1x1_S512x128 (ix2 r d) = mixing lam fun a e => x4 (ix2 a e) :=
    (broadcastTo_apply _ _ _ (ix2 0 0) fun a => match a with | ⟨0, _⟩ => rfl | ⟨1, _⟩ => rfl).trans (mixBlock_apply x4)
  unfold mixed
  rw [subf_apply, mulf_apply, divf_apply, divf_apply, spread128_apply, spread128_apply, hb]

theorem pay60_eq (l0 : FVec Ideal S512x1 .f32) (a0 : FVec Ideal S512x128 .f32) (l1 : FVec Ideal S512x1 .f32) (a1 : FVec Ideal S512x128 .f32)
    (x4 : Vec Ideal S4x64 .f32) :
    k0_pay60 l0 a0 l1 a1 x4 = mulf (mixed l0 a0 l1 a1 x4) (broadcastTo S512x128 (rsqrt (addf (divf
      (shapeCast S512x1 (multiReduction .add [1] S512 (mulf (mixed l0 a0 l1 a1 x4) (mixed l0 a0 l1 a1 x4)) 0x00000000#32 Facts₀.reduces_S512x128_S512 (.inl rfl) rfl)
        Facts₀.shapeCasts_S512_S512x1) (broadcast S512x1 (Scalar.ofBits .f32 0x43000000#32))) (broadcast S512x1 (Scalar.ofBits .f32 0x3727C5AC#32))))
      Facts₀.broadcasts_S512x1_S512x128) := rfl

theorem gain_apply (x5 : Vec Ideal S1x128 .f32) (r : Fin 512) (d : Fin 128) : k0_pay61 x5 (ix2 r d) = x5 (ix2 0 d) := by
  unfold k0_pay61
  refine (broadcastTo_apply _ _ _ (ix2 0 d) fun a => match a with | ⟨0, _⟩ => rfl | ⟨1, _⟩ => rfl).trans ?_
  exact shapeCast_apply _ _ _ _ rfl

theorem rms_apply (o : FVec Ideal S512x128 .f32) (r : Fin 512) :
    rsqrt (addf (divf (shapeCast S512x1 (multiReduction .add [1] S512 (mulf o o) 0x00000000#32 Facts₀.reduces_S512x128_S512 (.inl rfl) rfl)
        Facts₀.shapeCasts_S512_S512x1) (broadcast S512x1 (Scalar.ofBits .f32 0x43000000#32))) (broadcast S512x1 (Scalar.ofBits .f32 0x3727C5AC#32))) (ix2 r 0)
      = Ideal.rsqrt (Ideal.div (∑ j : Fin 128, o (ix2 r j) * o (ix2 r j)) (FloatOps.ofBits .f32 0x43000000#32 : Ideal .f32)
        + (FloatOps.ofBits .f32 0x3727C5AC#32 : Ideal .f32)) :=
  congrArg (fun z : EReal => Ideal.rsqrt (Ideal.div z (FloatOps.ofBits .f32 0x43000000#32 : Ideal .f32) + (FloatOps.ofBits .f32 0x3727C5AC#32 : Ideal .f32)))
    ((column_apply _ r).trans (sumCols_apply _ r))

/-- What is written at row `r`, column `d`. -/
theorem finish_apply (s : Acc) (x4 : Vec Ideal S4x64 .f32) (x5 : Vec Ideal S1x128 .f32) (r : Fin 512) (d : Fin 128) :
    finish s x4 x5 (ix3 0 r d) = normalized rest (fun j => Ideal.div (s.2.2.1 (ix2 r j)) (s.2.1 (ix2 r 0))
      - mixing lam (fun a e => x4 (ix2 a e)) * Ideal.div (s.2.2.2.2.2 (ix2 r j)) (s.2.2.2.2.1 (ix2 r 0))) (x5 (ix2 0 d)) d := by
  unfold finish k0_pay1
  refine (shapeCast_apply _ _ _ (ix2 r d) ?_).trans ?_
  · rw [Shape.rowMajor_val_three, Shape.rowMajor_val_two]
    show r.val * 128 + d.val = (0 * 512 + r.val) * 128 + d.val
    omega
  rw [truncf_apply, mulf_apply, mulf_apply, gain_apply, pay60_eq, mulf_apply, spread128_apply, rms_apply]
  unfold normalized
  simp only [mixed_apply]
  rfl

end Cert.Kernel7Ideal.Diff

end
-- ==== Proof.FirstPoints.lean ====
/- For the first layer, the kernel's blocks at its grid points. Point `t` of the 128 works on head `t / 32`, batch row `t / 4 % 8` and query span `t % 4`;
   the bias tiles it reads are those of its head, made at the head's first point. -/
module

public import proofs.«01_k».proof.Proof.FirstFinish
public import proofs.«01_k».proof.Proof.Gen.Kernel7Ideal.Value
public import Idealize.ShloMosaic.Lib.Pipeline.ValueKit.Geometry

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx Softmax

theorem index0 : ∀ t : Fin cfg0.N, win0_0.index t = ![t.val / 4 % 8, t.val % 4, 12 + t.val / 32] := (by decide +kernel : ∀ t : Fin grid0.N, _)
theorem index1 : ∀ t : Fin cfg0.N, win0_1.index t = ![t.val / 4 % 8, 0, 16 + t.val / 32] := (by decide +kernel : ∀ t : Fin grid0.N, _)
theorem index2 : ∀ t : Fin cfg0.N, win0_2.index t = ![t.val / 4 % 8, 0, 20 + t.val / 32] := (by decide +kernel : ∀ t : Fin grid0.N, _)
theorem index3 : ∀ t : Fin cfg0.N, win0_3.index t = ![t.val / 32, 0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val / 4 % 8, t.val % 4, t.val / 32] := (by decide +kernel : ∀ t : Fin grid0.N, _)
theorem span : ∀ t : Fin cfg0.N, ((grid0.coords t) 2).val = t.val % 4 := (by decide +kernel : ∀ t : Fin grid0.N, _)

variable (m : (ℓ : Loc nD τ sig) → Buf (Elt Ideal) ℓ) (c : Dev nD) (t : Fin cfg0.N)

theorem point_lt : t.val < 128 := lt_of_lt_of_eq t.isLt N_0

/-- The queries of a point, -/
theorem block0 (r : Fin 512) (e : Fin 128) : iblk m c 0 t (ix3 0 r e)
    = m ((c : Thread nD τ).loc main_arg0) (ix3 (Fin.ofNat 8 (t.val / 4 % 8)) (Fin.ofNat 2048 (512 * (t.val % 4) + r.val)) (Fin.ofNat 3072 (128 * (12 + t.val / 32) + e.val))) := by
  have ht := point_lt t
  have hr := r.isLt
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 4 % 8 * 1 + 0 = t.val / 4 % 8 % 8; omega
  | ⟨1, _⟩ => refine (Pipeline.Window.rect_emb_val win0_0 t _ _).trans ?_; rw [index0]; show t.val % 4 * 512 + r.val = (512 * (t.val % 4) + r.val) % 2048; omega
  | ⟨2, _⟩ => refine (Pipeline.Window.rect_emb_val win0_0 t _ _).trans ?_; rw [index0]; show (12 + t.val / 32) * 128 + e.val = (128 * (12 + t.val / 32) + e.val) % 3072; omega

/-- its keys, -/
theorem block1 (r : Fin 2048) (e : Fin 128) : iblk m c 1 t (ix3 0 r e)
    = m ((c : Thread nD τ).loc main_arg0) (ix3 (Fin.ofNat 8 (t.val / 4 % 8)) r (Fin.ofNat 3072 (128 * (16 + t.val / 32) + e.val))) := by
  have ht := point_lt t
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_1 t _ _).trans ?_; rw [index1]; show t.val / 4 % 8 * 1 + 0 = t.val / 4 % 8 % 8; omega
  | ⟨1, _⟩ => refine (Pipeline.Window.rect_emb_val win0_1 t _ _).trans ?_; rw [index1]; show 0 * 2048 + r.val = r.val; omega
  | ⟨2, _⟩ => refine (Pipeline.Window.rect_emb_val win0_1 t _ _).trans ?_; rw [index1]; show (16 + t.val / 32) * 128 + e.val = (128 * (16 + t.val / 32) + e.val) % 3072; omega

/-- its values, -/
theorem block2 (r : Fin 2048) (e : Fin 128) : iblk m c 2 t (ix3 0 r e)
    = m ((c : Thread nD τ).loc main_arg0) (ix3 (Fin.ofNat 8 (t.val / 4 % 8)) r (Fin.ofNat 3072 (128 * (20 + t.val / 32) + e.val))) := by
  have ht := point_lt t
  have he := e.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_2 t _ _).trans ?_; rw [index2]; show t.val / 4 % 8 * 1 + 0 = t.val / 4 % 8 % 8; omega
  | ⟨1, _⟩ => refine (Pipeline.Window.rect_emb_val win0_2 t _ _).trans ?_; rw [index2]; show 0 * 2048 + r.val = r.val; omega
  | ⟨2, _⟩ => refine (Pipeline.Window.rect_emb_val win0_2 t _ _).trans ?_; rw [index2]; show (20 + t.val / 32) * 128 + e.val = (128 * (20 + t.val / 32) + e.val) % 3072; omega

/-- the bias vectors of its head, -/
theorem block3 (d : Fin 4) (n : Fin 1024) : iblk m c 3 t (ix4 0 d 0 n) = V m c main_v45 (ix4 (Fin.ofNat 4 (t.val / 32)) d 0 n) := by
  have ht := point_lt t
  blk_simp [iblk]
  refine congrArg (V m c main_v45) (funext fun a => Fin.ext ?_)
  match a with
  | ⟨0, _⟩ => refine (Pipeline.Window.rect_emb_val win0_3 t _ _).trans ?_; rw [index3]; show t.val / 32 * 1 + 0 = t.val / 32 % 4; omega
  | ⟨1, _⟩ => refine (Pipeline.Window.rect_emb_val win0_3 t _ _).trans ?_; rw [index3]; show 0 * 4 + d.val = d.val; omega
  | ⟨2, _⟩ => refine (Pipeline.Window.rect_emb_val win0_3 t _ _).trans ?_; rw [index3]; rfl
  | ⟨3, _⟩ => refine (Pipeline.Window.rect_emb_val win0_3 t _ _).trans ?_; rw [index3]; show 0 * 1024 + n.val = n.val; omega

/-- the mixing parameters -/
theorem block4 (a : Fin 4) (e : Fin 64) : iblk m c 4 t (ix2 a e) = m ((c : Thread nD τ).loc main_arg2) (ix2 a e) := by
  blk_simp [iblk]
  refine (congrFun (V_main_arg2 m c) _).trans (congrArg (m ((c : Thread nD τ).loc main_arg2)) (funext fun b => Fin.ext ?_))
  match b with
  | ⟨0, _⟩ => refine (Pipeline.Window.rect_emb_val win0_4 t _ _).trans ?_; rw [index4]; show 0 * 4 + a.val = a.val; omega
  | ⟨1, _⟩ => refine (Pipeline.Window.rect_emb_val win0_4 t _ _).trans ?_; rw [index4]; show 0 * 64 + e.val = e.val; omega

/-- and the gain. -/
theorem block5 (e : Fin 128) : iblk m c 5 t (ix2 0 e) = V m c main_v46 (ix2 0 e) := by
  blk_simp [iblk]
  refine congrArg (V m c main_v46) (funext fun b => Fin.ext ?_)
  match b with
  | ⟨0, _⟩ => refine (Pipeline.Window.rect_emb_val win0_5 t _ _).trans ?_; rw [index5]; rfl
  | ⟨1, _⟩ => refine (Pipeline.Window.rect_emb_val win0_5 t _ _).trans ?_; rw [index5]; show 0 * 128 + e.val = e.val; omega

/-- The bias of head `h` at place `n` of the vector for a distance of `d` spans, -/
def biasAt (h : ℕ) (d : Fin 4) (n : Fin 1024) : Ideal .f32 := V m c main_v45 (ix4 (Fin.ofNat 4 h) d 0 n)

/-- and the bias tiles of the head. -/
def headBias (h : ℕ) : Vec Ideal S4x512x512 .f32 := fun y =>
  biasAt m c h (y 0) (Fin.ofNat 1024 ((y 2).val + 1024 - (y 1).val)) * (Named.named κ "log2e" 0x3FB8AA3B#32 : Ideal .f32)

theorem bias_block : bias (iblk m c 3 t) = headBias m c (t.val / 32) :=
  funext fun y => congrArg (fun z : EReal => z * (Named.named κ "log2e" 0x3FB8AA3B#32 : Ideal .f32)) (block3 m c t _ _)

/-- Every point finds and leaves its head's bias tiles in the scratch, -/
theorem scratch_eq : ∀ (n : ℕ) (h : n < cfg0.N), (outsAt0 m c n h).2 = headBias m c (n / 32) := by
  intro n
  induction n with
  | zero =>
    intro h
    refine (congrArg Prod.snd (outsAt0_A m c ⟨0, h⟩ rfl)).trans ?_
    dsimp only
    rw [sout_A]
    exact bias_block m c ⟨0, h⟩
  | succ n ih =>
    intro h
    by_cases h0 : (n + 1) % 32 = 0
    · refine (congrArg Prod.snd (outsAt0_A m c ⟨n + 1, h⟩ h0)).trans ?_
      dsimp only
      rw [sout_A]
      exact bias_block m c ⟨n + 1, h⟩
    · refine (congrArg Prod.snd (outsAt0_B m c ⟨n + 1, h⟩ h0)).trans ?_
      show (outsAt0 m c n _).2 = _
      rw [ih]
      congr 1
      omega

/-- and writes the body of its blocks. -/
theorem out_eq : (outsAt0 m c t.val t.isLt).1
    = body (iblk m c 0 t) (iblk m c 1 t) (iblk m c 2 t) (iblk m c 4 t) (iblk m c 5 t) (headBias m c (t.val / 32)) (t.val % 4) := by
  by_cases h0 : t.val % 32 = 0
  · rw [outsAt0_A m c t h0]
    dsimp only
    rw [out_A, bias_block, span]
  · rw [outsAt0_B m c t h0]
    dsimp only
    rw [out_B, span, scratch_eq]
    have : (t.val - 1) / 32 = t.val / 32 := by omega
    rw [this]

end Cert.Kernel7Ideal.Diff

end
-- ==== Proof.FirstPrologue.lean ====
/- For the first layer, the host lines before the kernel: the bias vectors of a head and the gain row it is given. -/
module

public import proofs.«01_k».proof.Proof.FirstPoints
public import proofs.«01_k».proof.Proof.BiasTable

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx BiasTable

variable (m : (ℓ : Loc nD τ sig) → Buf (Elt Ideal) ℓ) (c : Dev nD)

/-- The signed distances the vectors are laid out for. -/
def distances : IVec S4x1024 32 :=
  addi
    (broadcastInDim S4x1024 ![0, 1] Facts₀.bcast_S4x1_S4x1024_0_1
      (muli (broadcastInDim S4x1 ![0] Facts₀.bcast_S4_S4x1_0 (iotaInDim S4 32 0)) (broadcastInDim S4x1 ![] Facts₀.bcast_S_S4x1 (constantI S_ 32 512#32))))
    (broadcastInDim S4x1024 ![0, 1] Facts₀.bcast_S1x1024_S4x1024_0_1 (broadcastInDim S1x1024 ![1] Facts₀.bcast_S1024_S1x1024_1
      (select (cmpi .slt (iotaInDim S1024 32 0) (broadcastInDim S1024 ![] Facts₀.bcast_S_S1024 (constantI S_ 32 512#32))) (negi (iotaInDim S1024 32 0))
        (subi (broadcastInDim S1024 ![] Facts₀.bcast_S_S1024 (constantI S_ 32 1024#32)) (iotaInDim S1024 32 0)))))

set_option maxHeartbeats 4000000 in
theorem vectors_eq : V m c main_v45
    = broadcastInDim S4x4x8x1024 ![0, 1, 2, 3] Facts₀.bcast_S4x4x1x1024_S4x4x8x1024_0_1_2_3
        (broadcastInDim S4x4x1x1024 ![0, 1, 3] Facts₀.bcast_S4x4x1024_S4x4x1x1024_0_1_3
          (transpose S4x4x1024 [2, 0, 1] (Host.gather gather_S32x4_S4x1024x1_S4x1024x4_2_0_n_n_0_2_14
            (extractStridedSlice S32x4 ![0, 8] (m ((c : Thread nD τ).loc main_arg1)) Facts₀.slices_S32x12_S32x4_0_8)
            (broadcastInDim S4x1024x1 ![0, 1] Facts₀.bcast_S4x1024_S4x1024x1_0_1 fun i => rowOf (distances i)))
            Facts₀.transposes_S4x1024x4_S4x4x1024_2_0_1)) := by
  dsimp only [V, hostOps0, hostOps0_1, hostOps0_2, hostOps0_3, hostOps0_4, List.flatten_cons, List.flatten_nil, List.append_nil, List.cons_append, List.nil_append]
  after_results
  rfl

set_option maxHeartbeats 4000000 in
theorem gain_eq : V m c main_v46 = shapeCast S1x128 (m ((c : Thread nD τ).loc main_arg3)) Facts₀.shapeCasts_S128_S1x128 := by
  dsimp only [V, hostOps0, hostOps0_1, hostOps0_2, hostOps0_3, hostOps0_4, List.flatten_cons, List.flatten_nil, List.append_nil, List.cons_append, List.nil_append]
  after_results
  rfl

end Cert.Kernel7Ideal.Diff

end
-- ==== Proof.FirstVectors.lean ====
/- For the first layer, the kernel's bias vectors and gain row, entry by entry. -/
module

public import proofs.«01_k».proof.Proof.FirstPrologue

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx BiasTable

variable (m : (ℓ : Loc nD τ sig) → Buf (Elt Ideal) ℓ) (c : Dev nD)

/-- The distance at place `n` of the vector for `d` spans. -/
theorem distances_apply (d : Fin 4) (n : Fin 1024) : distances (ix2 d n)
    = IntOp.addi (IntOp.muli (BitVec.ofNat 32 d.val) 512#32)
        (Scalar.select (IntOp.cmpi .slt (BitVec.ofNat 32 n.val) 512#32) (-BitVec.ofNat 32 n.val) (IntOp.subi 1024#32 (BitVec.ofNat 32 n.val))) := by
  unfold distances
  refine congrArg₂ IntOp.addi ?_ ?_
  · exact (broadcastInDim_apply _ _ _ _ (ix2 d 0) fun a => match a with | ⟨0, _⟩ => rfl | ⟨1, _⟩ => rfl).trans
      (congrArg₂ IntOp.muli (broadcastInDim_apply _ _ _ _ (ix1 d) fun a => match a with | ⟨0, _⟩ => rfl) rfl)
  · refine (broadcastInDim_apply _ _ _ _ (ix2 0 n) fun a => match a with | ⟨0, _⟩ => rfl | ⟨1, _⟩ => rfl).trans ?_
    exact (broadcastInDim_apply ![1] Facts₀.bcast_S1024_S1x1024_1 _ (ix2 0 n) (ix1 n) fun a => match a with | ⟨0, _⟩ => rfl).trans rfl

theorem slt_512 (a : ℕ) (h : a < 2048) : (BitVec.ofNat 32 a).slt 512#32 = decide (a < 512) := by
  have e : (BitVec.ofNat 32 a).toNat = a := by
    rw [BitVec.toNat_ofNat]
    exact Nat.mod_eq_of_lt (by omega)
  unfold BitVec.slt
  rw [BitVec.toInt_eq_toNat_of_lt (by rw [e]; omega), e]
  show decide ((a : Int) < 512) = _
  exact decide_eq_decide.mpr (by omega)

/-- The rotated vector holds, at row `r` and column `j`, the distance from query row `r` of span `qs` to key row `j` of span `k`. -/
theorem distances_rotated (qs k : ℕ) (hqs : qs < 4) (hk : k ≤ qs) (r j : Fin 512) :
    distances (ix2 (Fin.ofNat 4 (qs - k)) (Fin.ofNat 1024 (j.val + 1024 - r.val)))
      = IntOp.subi (BitVec.ofNat 32 (512 * qs + r.val)) (BitVec.ofNat 32 (512 * k + j.val)) := by
  have hr := r.isLt
  have hj := j.isLt
  rw [distances_apply]
  have hd : (Fin.ofNat 4 (qs - k)).val = qs - k := Nat.mod_eq_of_lt (by omega)
  have hn : (Fin.ofNat 1024 (j.val + 1024 - r.val)).val = (j.val + 1024 - r.val) % 1024 := rfl
  rw [hd, hn]
  by_cases h : r.val ≤ j.val
  · have e : (j.val + 1024 - r.val) % 1024 = j.val - r.val := by omega
    have hc : IntOp.cmpi .slt (BitVec.ofNat 32 (j.val - r.val)) 512#32 = 1#1 := by
      show BitVec.ofBool ((BitVec.ofNat 32 (j.val - r.val)).slt 512#32) = 1#1
      have : (BitVec.ofNat 32 (j.val - r.val)).slt 512#32 = true := by rw [slt_512 _ (by omega)]; exact decide_eq_true (by omega)
      rw [this]; rfl
    rw [e, hc, select_one]
    show BitVec.ofNat 32 (qs - k) * 512#32 + -BitVec.ofNat 32 (j.val - r.val) = BitVec.ofNat 32 (512 * qs + r.val) - BitVec.ofNat 32 (512 * k + j.val)
    apply BitVec.eq_of_toNat_eq
    simp only [BitVec.toNat_add, BitVec.toNat_mul, BitVec.toNat_neg, BitVec.toNat_sub, BitVec.toNat_ofNat]
    omega
  · have e : (j.val + 1024 - r.val) % 1024 = j.val + 1024 - r.val := by omega
    have hc : IntOp.cmpi .slt (BitVec.ofNat 32 (j.val + 1024 - r.val)) 512#32 = 0#1 := by
      show BitVec.ofBool ((BitVec.ofNat 32 (j.val + 1024 - r.val)).slt 512#32) = 0#1
      have : (BitVec.ofNat 32 (j.val + 1024 - r.val)).slt 512#32 = false := by rw [slt_512 _ (by omega)]; exact decide_eq_false (by omega)
      rw [this]; rfl
    rw [e, hc, select_zero]
    show BitVec.ofNat 32 (qs - k) * 512#32 + (1024#32 - BitVec.ofNat 32 (j.val + 1024 - r.val)) = BitVec.ofNat 32 (512 * qs + r.val) - BitVec.ofNat 32 (512 * k + j.val)
    apply BitVec.eq_of_toNat_eq
    simp only [BitVec.toNat_add, BitVec.toNat_mul, BitVec.toNat_sub, BitVec.toNat_ofNat]
    omega

/-- The bias vectors, from the table. -/
theorem biasAt_eq (h d : Fin 4) (n : Fin 1024) : biasAt m c h.val d n
    = m ((c : Thread nD τ).loc main_arg1) (ix2 (entry (distances (ix2 d n))) (Fin.ofNat 12 (8 + h.val))) := by
  have hh := h.isLt
  unfold biasAt
  rw [vectors_eq, show Fin.ofNat 4 h.val = h from Fin.ext (Nat.mod_eq_of_lt h.isLt)]
  refine (broadcastInDim_apply _ _ _ _ (ix4 h d 0 n) fun a => match a with | ⟨0, _⟩ => rfl | ⟨1, _⟩ => rfl | ⟨2, _⟩ => rfl | ⟨3, _⟩ => rfl).trans ?_
  refine (broadcastInDim_apply _ _ _ _ (ix3 h d n) fun a => match a with | ⟨0, _⟩ => rfl | ⟨1, _⟩ => rfl | ⟨2, _⟩ => rfl).trans ?_
  refine (transpose_apply _ _ _ _ (ix3 d n h) fun a => match a with | ⟨0, _⟩ => rfl | ⟨1, _⟩ => rfl | ⟨2, _⟩ => rfl).trans ?_
  refine (gather_rows (by decide) _ _ _ d n h).trans ?_
  have e : broadcastInDim S4x1024x1 ![0, 1] Facts₀.bcast_S4x1024_S4x1024x1_0_1 (fun i => rowOf (distances i)) (ix3 d n 0) = rowOf (distances (ix2 d n)) :=
    broadcastInDim_apply _ _ _ _ (ix2 d n) fun a => match a with | ⟨0, _⟩ => rfl | ⟨1, _⟩ => rfl
  refine extractStridedSlice_apply _ _ _ _ _ fun a => ?_
  match a with
  | ⟨0, _⟩ =>
    show min (rowOf (distances (ix2 d n))).toInt.toNat (32 - 1) = 0 + min _ (32 - 1)
    rw [e, Nat.zero_add]
  | ⟨1, _⟩ =>
    show (8 + h.val) % 12 = 8 + h.val
    omega

/-- The gain row. -/
theorem gainAt_eq (e : Fin 128) : V m c main_v46 (ix2 0 e) = m ((c : Thread nD τ).loc main_arg3) (ix1 e) := by
  rw [gain_eq]
  refine shapeCast_apply _ _ _ _ ?_
  show (S128.rowMajor (ix1 e)).val = (S1x128.rowMajor (ix2 0 e)).val
  rw [Shape.rowMajor_val_one, Shape.rowMajor_val_two]
  show e.val = 0 * 128 + e.val
  omega

end Cert.Kernel7Ideal.Diff

end
-- ==== Proof.FirstArray.lean ====
/- For the first layer, the kernel's result array: each block is differential attention's result on its rows. -/
module

public import proofs.«01_k».proof.Proof.Spec
public import proofs.«01_k».proof.Proof.FirstPoints
public import proofs.«01_k».proof.Proof.FirstVectors

@[expose] public section

set_option maxRecDepth 16384

noncomputable section

namespace Cert.Kernel7Ideal.Diff

open Cert.Kernel7Ideal Cert.Kernel7Ideal.Gen Idealize.ShloMosaic Idealize.ShloMosaic.TcCoe Idealize.SL.Sem
open Idealize.ShloMosaic.ValueIdx Softmax BiasTable Attention

theorem logitScale_eq : logitScale = (((Real.log 2)⁻¹ * 8⁻¹ : ℝ) : EReal) := IdealRules.named_const.ideal_named_scalar _ _ _ _ rfl

theorem log2e_eq : (Named.named κ "log2e" 0x3FB8AA3B#32 : Ideal .f32) = (((Real.log 2)⁻¹ : ℝ) : EReal) :=
  IdealRules.named_const.ideal_named_scalar _ _ _ _ rfl

variable (m : (ℓ : Loc nD τ sig) → Buf (Elt Ideal) ℓ) (c : Dev nD)

/-- The arguments. -/
abbrev argX : S8x2048x3072.Idx → EReal := m ((c : Thread nD τ).loc main_arg0)
abbrev argT : S32x12.Idx → EReal := m ((c : Thread nD τ).loc main_arg1)
abbrev argP : S4x64.Idx → EReal := m ((c : Thread nD τ).loc main_arg2)
abbrev argG : S128.Idx → EReal := m ((c : Thread nD τ).loc main_arg3)

variable (t : Fin cfg0.N)

/-- The bias tile's entry for query row `r` of span `qs` and key row `k`. -/
theorem headBias_apply (h qs : ℕ) (hh : h < 4) (hqs : qs < 4) (r : Fin 512) (k : ℕ) (hk : k ≤ 512 * qs + r.val) :
    headBias m c h (ix3 (Fin.ofNat 4 (qs - k / 512)) r (Fin.ofNat 512 k))
      = biasFor (argT m c) h (512 * qs + r.val) k * (((Real.log 2)⁻¹ : ℝ) : EReal) := by
  have hr := r.isLt
  refine congrArg₂ (fun x y : EReal => x * y) ?_ log2e_eq
  show biasAt m c h (Fin.ofNat 4 (qs - k / 512)) (Fin.ofNat 1024 (k % 512 + 1024 - r.val)) = _
  refine (biasAt_eq m c ⟨h, hh⟩ _ _).trans (congrArg (fun w => argT m c (ix2 (entry w) (Fin.ofNat 12 (8 + h)))) ?_)
  refine (distances_rotated qs (k / 512) hqs (by omega) r (Fin.ofNat 512 k)).trans ?_
  have : 512 * (k / 512) + (Fin.ofNat 512 k).val = k := by show 512 * (k / 512) + k % 512 = k; omega
  rw [this]

/-- The blocks' entries as the argument's. -/
theorem queryAt (r : Fin 512) (n : ℕ) (hn : n < 128) : iblk m c 0 t (ix3 0 r (Fin.ofNat 128 n))
    = entryAt (argX m c) (Fin.ofNat 8 (t.val / 4 % 8)) (Fin.ofNat 2048 (512 * (t.val % 4) + r.val)) 12 (t.val / 32) n := by
  refine (block0 m c t r _).trans ?_
  have : (Fin.ofNat 128 n).val = n := Nat.mod_eq_of_lt hn
  rw [this]; rfl

theorem keyAt (k : Fin 2048) (n : ℕ) (hn : n < 128) : iblk m c 1 t (ix3 0 (Fin.ofNat 2048 k.val) (Fin.ofNat 128 n))
    = entryAt (argX m c) (Fin.ofNat 8 (t.val / 4 % 8)) k 16 (t.val / 32) n := by
  have hk' : Fin.ofNat 2048 k.val = k := Fin.ext (Nat.mod_eq_of_lt k.isLt)
  rw [hk']
  refine (block1 m c t k _).trans ?_
  have : (Fin.ofNat 128 n).val = n := Nat.mod_eq_of_lt hn
  rw [this]; rfl

/-- The kernel's score is the logit over the logarithm of two. -/
theorem score_eq (hf : Finite (argX m c) (argT m c) (argP m c)) (o : ℕ) (ho : o < 2) (r : Fin 512) (k : Fin 2048) :
    score (iblk m c 0 t) (iblk m c 1 t) (headBias m c (t.val / 32)) (t.val % 4) (64 * o) r k.val
      = if k.val ≤ 512 * (t.val % 4) + r.val then
          ((logit (argX m c) (argT m c) (Fin.ofNat 8 (t.val / 4 % 8)) (t.val / 32) o (Fin.ofNat 2048 (512 * (t.val % 4) + r.val)) k / Real.log 2 : ℝ) : EReal)
        else ⊥ := by
  have ht := point_lt t
  have hr := r.isLt
  have hk := k.isLt
  unfold score
  by_cases hc : k.val ≤ 512 * (t.val % 4) + r.val
  · rw [if_pos hc, if_pos hc, headBias_apply m c (t.val / 32) (t.val % 4) (by omega) (by omega) r k.val hc,
      hf.biasFor _ (by omega)]
    have hq : (Fin.ofNat 2048 (512 * (t.val % 4) + r.val)).val = 512 * (t.val % 4) + r.val := Nat.mod_eq_of_lt (by omega)
    have hs : ∀ e : Fin 64, (fun x y : EReal => (x * logitScale) * y) (iblk m c 0 t (ix3 0 r (Fin.ofNat 128 (64 * o + e.val)))) (iblk m c 1 t (ix3 0 (Fin.ofNat 2048 k.val) (Fin.ofNat 128 (64 * o + e.val))))
        = ((((entryAt (argX m c) (Fin.ofNat 8 (t.val / 4 % 8)) (Fin.ofNat 2048 (512 * (t.val % 4) + r.val)) 12 (t.val / 32) (64 * o + e.val)).toReal
              * ((Real.log 2)⁻¹ * 8⁻¹))
            * (entryAt (argX m c) (Fin.ofNat 8 (t.val / 4 % 8)) k 16 (t.val / 32) (64 * o + e.val)).toReal : ℝ) : EReal) := fun e => by
      have he := e.isLt
      refine (congrArg₂ (fun x y : EReal => (x * logitScale) * y) (queryAt m c t r _ (by omega)) (keyAt m c t k _ (by omega))).trans ?_
      rw [logitScale_eq,
        hf.entryAt _ _ _ _ _ (by norm_num) (by omega), hf.entryAt _ _ 16 _ _ (by norm_num) (by omega)]
      simp only [EReal.toReal_coe, EReal.coe_mul]
    refine (congrArg₂ (fun x y : EReal => x + y) ((Finset.sum_congr rfl fun e _ => hs e).trans (sum_coe _)) rfl).trans ?_
    rw [← EReal.coe_mul, ← EReal.coe_add]
    congr 1
    unfold logit
    rw [hq, div_eq_mul_inv, add_mul, Finset.sum_mul, Finset.sum_mul]
    congr 1
    exact Finset.sum_congr rfl fun e _ => by ring
  · rw [if_neg hc, if_neg hc]

/-- so its weight to the base two is the masked logit's to the base e. -/
theorem weight_eq (hf : Finite (argX m c) (argT m c) (argP m c)) (o : ℕ) (ho : o < 2) (r : Fin 512) (k : Fin 2048) :
    wt (score (iblk m c 0 t) (iblk m c 1 t) (headBias m c (t.val / 32)) (t.val % 4) (64 * o) r k.val)
      = we (masked (argX m c) (argT m c) (Fin.ofNat 8 (t.val / 4 % 8)) (t.val / 32) o (Fin.ofNat 2048 (512 * (t.val % 4) + r.val)) k) := by
  have ht := point_lt t
  have hr := r.isLt
  have hq : (Fin.ofNat 2048 (512 * (t.val % 4) + r.val)).val = 512 * (t.val % 4) + r.val := Nat.mod_eq_of_lt (by omega)
  rw [score_eq m c t hf o ho]
  unfold masked
  rw [hq]
  split
  · exact wt_eq_we _
  · rw [wt_bot, we_bot]

theorem score_ne_top (hf : Finite (argX m c) (argT m c) (argP m c)) (o : ℕ) (ho : o < 2) (r : Fin 512) (k : ℕ) :
    score (iblk m c 0 t) (iblk m c 1 t) (headBias m c (t.val / 32)) (t.val % 4) (64 * o) r k ≠ ⊤ := by
  have ht := point_lt t
  have hr := r.isLt
  by_cases hk : k < 2048
  · rw [score_eq m c t hf o ho r ⟨k, hk⟩]
    split
    · exact EReal.coe_ne_top _
    · exact bot_ne_top
  · unfold score
    rw [if_neg (by omega)]
    exact bot_ne_top

theorem score_ne_bot (hf : Finite (argX m c) (argT m c) (argP m c)) (o : ℕ) (ho : o < 2) (r : Fin 512) :
    score (iblk m c 0 t) (iblk m c 1 t) (headBias m c (t.val / 32)) (t.val % 4) (64 * o) r (512 * (t.val % 4)) ≠ ⊥ := by
  have ht := point_lt t
  rw [score_eq m c t hf o ho r ⟨512 * (t.val % 4), by omega⟩, if_pos (by show 512 * (t.val % 4) ≤ _; omega)]
  exact EReal.coe_ne_bot _

/-- The values of the point. -/
theorem value_eq (hf : Finite (argX m c) (argT m c) (argP m c)) (k : ℕ) (d : Fin 128) (hk : k < 2048) :
    value (iblk m c 2 t) k d = ((entryAt (argX m c) (Fin.ofNat 8 (t.val / 4 % 8)) (Fin.ofNat 2048 k) 20 (t.val / 32) d.val).toReal : EReal) := by
  have ht := point_lt t
  have hd := d.isLt
  refine (block2 m c t (Fin.ofNat 2048 k) d).trans ?_
  exact hf.entryAt _ (Fin.ofNat 2048 k) 20 (t.val / 32) d.val (by norm_num) (by omega)

/-- A quotient of weighted sums is the attention. -/
theorem attend_eq (hf : Finite (argX m c) (argT m c) (argP m c)) (o : ℕ) (ho : o < 2) (r : Fin 512) (d : Fin 128) :
    (∑ k : Fin 2048, wt (score (iblk m c 0 t) (iblk m c 1 t) (headBias m c (t.val / 32)) (t.val % 4) (64 * o) r k.val)
        * (entryAt (argX m c) (Fin.ofNat 8 (t.val / 4 % 8)) (Fin.ofNat 2048 k.val) 20 (t.val / 32) d.val).toReal)
      / ∑ k : Fin 2048, wt (score (iblk m c 0 t) (iblk m c 1 t) (headBias m c (t.val / 32)) (t.val % 4) (64 * o) r k.val)
    = attend (argX m c) (argT m c) (Fin.ofNat 8 (t.val / 4 % 8)) (t.val / 32) o (Fin.ofNat 2048 (512 * (t.val % 4) + r.val)) d.val := by
  unfold attend
  have hk : ∀ k : Fin 2048, Fin.ofNat 2048 k.val = k := fun k => Fin.ext (Nat.mod_eq_of_lt k.isLt)
  simp only [weight_eq m c t hf o ho r, hk]

/-- Row `r` of the block a point writes. -/
theorem block_apply (hf : Finite (argX m c) (argT m c) (argP m c)) (r : Fin 512) (d : Fin 128) :
    (outsAt0 m c t.val t.isLt).1 (ix3 0 r d) = result (argX m c) (argT m c) (argP m c) (argG m c) lam rest
      (ix3 (Fin.ofNat 8 (t.val / 4 % 8)) (Fin.ofNat 2048 (512 * (t.val % 4) + r.val)) (Fin.ofNat 512 (128 * (t.val / 32) + d.val))) := by
  have ht := point_lt t
  have hd := d.isLt
  have h1 : (Fin.ofNat 512 (128 * (t.val / 32) + d.val)).val / 128 = t.val / 32 := by
    show (128 * (t.val / 32) + d.val) % 512 / 128 = _
    omega
  have h2 : Fin.ofNat 128 (Fin.ofNat 512 (128 * (t.val / 32) + d.val)).val = d := Fin.ext (by
    show (128 * (t.val / 32) + d.val) % 512 % 128 = _
    omega)
  rw [out_eq]
  refine (finish_apply (stateAt (iblk m c 0 t) (iblk m c 1 t) (iblk m c 2 t) (headBias m c (t.val / 32)) (t.val % 4) (t.val % 4)) _ _ r d).trans ?_
  unfold result
  show _ = normalized rest (fun j => (attend (argX m c) (argT m c) (Fin.ofNat 8 (t.val / 4 % 8)) ((Fin.ofNat 512 (128 * (t.val / 32) + d.val)).val / 128) 0 (Fin.ofNat 2048 (512 * (t.val % 4) + r.val)) j.val : EReal)
      - mixing lam (fun a e => argP m c (ix2 a e)) * (attend (argX m c) (argT m c) (Fin.ofNat 8 (t.val / 4 % 8)) ((Fin.ofNat 512 (128 * (t.val / 32) + d.val)).val / 128) 1 (Fin.ofNat 2048 (512 * (t.val % 4) + r.val)) j.val : EReal))
    (argG m c (ix1 (Fin.ofNat 128 (Fin.ofNat 512 (128 * (t.val / 32) + d.val)).val))) (Fin.ofNat 128 (Fin.ofNat 512 (128 * (t.val / 32) + d.val)).val)
  rw [h1, h2]
  have hp : (fun (a : Fin 4) (e : Fin 64) => iblk m c 4 t (ix2 a e)) = fun a e => argP m c (ix2 a e) := funext fun a => funext fun e => block4 m c t a e
  have hg : iblk m c 5 t (ix2 0 d) = argG m c (ix1 d) := (block5 m c t d).trans (gainAt_eq m c d)
  have ha : ∀ j : Fin 128, _ := fun j => (quotient0 (iblk m c 0 t) (iblk m c 1 t) (iblk m c 2 t) (headBias m c (t.val / 32)) (t.val % 4) r
    (fun k d => (entryAt (argX m c) (Fin.ofNat 8 (t.val / 4 % 8)) (Fin.ofNat 2048 k) 20 (t.val / 32) d.val).toReal) (by omega)
    (fun k d hk => value_eq m c t hf k d hk) (score_ne_top m c t hf 0 (by norm_num) r) (score_ne_bot m c t hf 0 (by norm_num) r) j).trans
    (congrArg (fun x : ℝ => (x : EReal)) (attend_eq m c t hf 0 (by norm_num) r j))
  have hb : ∀ j : Fin 128, _ := fun j => (quotient1 (iblk m c 0 t) (iblk m c 1 t) (iblk m c 2 t) (headBias m c (t.val / 32)) (t.val % 4) r
    (fun k d => (entryAt (argX m c) (Fin.ofNat 8 (t.val / 4 % 8)) (Fin.ofNat 2048 k) 20 (t.val / 32) d.val).toReal) (by omega)
    (fun k d hk => value_eq m c t hf k d hk) (score_ne_top m c t hf 1 (by norm_num) r) (score_ne_bot m c t hf 1 (by norm_num) r) j).trans
    (congrArg (fun x : ℝ => (x : EReal)) (attend_eq m c t hf 1 (by norm_num) r j))
  rw [hp, hg]
  exact congrArg (fun o => normalized rest o (argG m c (ix1 d)) d) (funext fun j =>
    congrArg₂ (fun x y : EReal => x - y) (ha j) (congrArg (fun y : EReal => mixing lam (fun a e => argP m c (ix2 a e)) * y) (hb j)))

/-- The result array. -/
theorem array_eq (hf : Finite (argX m c) (argT m c) (argP m c)) :
    (dats m 0 c).arrAt 6 cfg0.N = result (argX m c) (argT m c) (argP m c) (argG m c) lam rest := by
  refine (dats m 0 c).arrAt_eq_of_covers 6 (result (argX m c) (argT m c) (argP m c) (argG m c) lam rest) (by decide +kernel) fun t hft y => ?_
  blk_simp
  rw [after0_6]
  have ht := point_lt t
  obtain ⟨r, d, rfl⟩ : ∃ (r : Fin 512) (d : Fin 128), y = ix3 0 r d :=
    ⟨y 1, y 2, (eq_ix3 y).trans (congrArg (fun z => ix3 z (y 1) (y 2)) (Fin.ext (by have : (y 0).val < 1 := (y 0).isLt; show (y 0).val = 0; omega)))⟩
  have hr := r.isLt
  have hd := d.isLt
  refine (block_apply m c t hf r d).trans (congrArg (result (argX m c) (argT m c) (argP m c) (argG m c) lam rest) (funext fun a => Fin.ext ?_))
  match a with
  | ⟨0, _⟩ => refine ((Pipeline.Window.rect_emb_val win0_6 t _ _).trans ?_).symm; rw [index6]; show t.val / 4 % 8 * 1 + 0 = t.val / 4 % 8 % 8; omega
  | ⟨1, _⟩ => refine ((Pipeline.Window.rect_emb_val win0_6 t _ _).trans ?_).symm; rw [index6]; show t.val % 4 * 512 + r.val = (512 * (t.val % 4) + r.val) % 2048; omega
  | ⟨2, _⟩ => refine ((Pipeline.Window.rect_emb_val win0_6 t _ _).trans ?_).symm; rw [index6]; show t.val / 32 * 128 + d.val = (128 * (t.val / 32) + d.val) % 512; omega

end Cert.Kernel7Ideal.Diff

end
-- ==== Proof.FirstRef.lean ====
/- For the first layer, the reference's result. Its program differs from the second layer's in two constants, so every value
   that meets neither is the second layer's by definition. -/
module

public import proofs.«01_k».proof.Proof.RefResult
public import proofs.«01_k».proof.Proof.Gen.Reference7Ideal.Read

@[expose] public section

set_option maxRecDepth 16384

noncomputable section

namespace Cert.Reference7Ideal.Diff

open Idealize.ShloMosaic Cert.Reference7Ideal Cert.Reference7Ideal.Gen Cert.Reference7Ideal.Read
open Idealize.ShloMosaic.ValueIdx Softmax BiasTable Attention
open Cert.ReferenceIdeal.Diff (idx3 idx4 idx5)

variable {X : S8x2048x3072.Idx → EReal} {T : S32x12.Idx → EReal} {P : S4x64.Idx → EReal} {G : S128.Idx → EReal}

/-- The layer's two constants. -/
abbrev lam : EReal := (FloatOps.ofBits .f32 0x3E4CCCCD#32 : Ideal .f32)
abbrev rest : EReal := (FloatOps.ofBits .f32 0x3F4CCCCD#32 : Ideal .f32)

/-- A probability of the softmax. -/
theorem v77_eq (hf : Finite X T P) (b : Fin 8) (o : Fin 2) (h : Fin 4) (q t : Fin 2048) :
    val_main_v77 (F := Ideal) X T (ix5 b o h q t)
      = ((we (masked X T b h.val o.val q t) / ∑ k, we (masked X T b h.val o.val q k) : ℝ) : EReal) :=
  Cert.ReferenceIdeal.Diff.v77_eq hf b o h q t

/-- The values. -/
theorem v23_eq (b : Fin 8) (t : Fin 2048) (h : Fin 4) (d : Fin 128) :
    val_main_v23 (F := Ideal) X (ix4 b t h d) = entryAt X b t 20 h.val d.val :=
  Cert.ReferenceIdeal.Diff.v23_eq ..

/-- The mixing factor. -/
theorem v20_eq (j : S_.Idx) : val_main_v20 (F := Ideal) P j = mixing lam fun a e => P (ix2 a e) := by
  have sum64 : ∀ f : S64.Idx → EReal, ∑ i, f i = ∑ e : Fin 64, f (ix1 e) := fun f =>
    (Equiv.sum_comp (⟨fun e => ix1 e, fun i => i 0, fun _ => rfl, fun i => (eq_ix1 i).symm⟩ : Fin 64 ≃ S64.Idx) f).symm
  have e10 : val_main_v10 (F := Ideal) P j = ∑ e : Fin 64, P (ix2 0 e) * P (ix2 1 e) := by
    rw [val_main_v10_apply, sum64]
    refine (congrArg₂ (fun x y : EReal => x + y) (Ideal.ofBits_zero_f32) (Finset.sum_congr rfl fun e _ => ?_)).trans (zero_add _)
    rw [val_main_v9_apply, val_main_v6_apply, val_main_v5_apply, val_main_v8_apply, val_main_v7_apply]
    exact congrArg₂ (fun x y : EReal => x * y) (congrArg P (funext fun a => match a with | ⟨0, _⟩ => rfl | ⟨1, _⟩ => Fin.ext (Nat.mod_eq_of_lt e.isLt)))
      (congrArg P (funext fun a => match a with | ⟨0, _⟩ => rfl | ⟨1, _⟩ => Fin.ext (Nat.mod_eq_of_lt e.isLt)))
  have e17 : val_main_v17 (F := Ideal) P j = ∑ e : Fin 64, P (ix2 2 e) * P (ix2 3 e) := by
    rw [val_main_v17_apply, sum64]
    refine (congrArg₂ (fun x y : EReal => x + y) (Ideal.ofBits_zero_f32) (Finset.sum_congr rfl fun e _ => ?_)).trans (zero_add _)
    rw [val_main_v16_apply, val_main_v13_apply, val_main_v12_apply, val_main_v15_apply, val_main_v14_apply]
    exact congrArg₂ (fun x y : EReal => x * y) (congrArg P (funext fun a => match a with | ⟨0, _⟩ => rfl | ⟨1, _⟩ => Fin.ext (Nat.mod_eq_of_lt e.isLt)))
      (congrArg P (funext fun a => match a with | ⟨0, _⟩ => rfl | ⟨1, _⟩ => Fin.ext (Nat.mod_eq_of_lt e.isLt)))
  rw [val_main_v20_apply, val_main_v19_apply, val_main_v11_apply, val_main_v18_apply, e10, e17]
  rfl

/-- The mixing factor's constant is a real number. -/
theorem lam_real : ∃ r : ℝ, lam = (r : EReal) := by
  simp only [lam, Ideal.ofBits_def]
  simp [Ideal.ofBits, Ideal.ieee]
  exact ⟨_, (EReal.coe_mul _ _).symm⟩

/-- The two halves' attention, mixed. -/
theorem v86_eq (hf : Finite X T P) (b : Fin 8) (q : Fin 2048) (h : Fin 4) (d : Fin 128) :
    val_main_v86 (F := Ideal) X T P (ix4 b q h d)
      = (attend X T b h.val 0 q d.val : EReal) - mixing lam (fun a e => P (ix2 a e)) * (attend X T b h.val 1 q d.val : EReal) := by
  have hb := b.isLt; have hq := q.isLt; have hh := h.isLt; have hd := d.isLt
  obtain ⟨l, hl⟩ := mixing_real hf lam_real
  have e79 : ∀ t : Fin 2048, val_main_v79 (F := Ideal) X T (ix4 b h q t) = ((we (masked X T b h.val 0 q t) / ∑ k, we (masked X T b h.val 0 q k) : ℝ) : EReal) := fun t => by
    have ht := t.isLt
    rw [val_main_v79_apply, val_main_v78_apply]
    have ei : idx_main_v78 (idx_main_v79 (ix4 b h q t)) = ix5 b 0 h q t := idx5 _ _
      (by show (((b.val * 4 + h.val) * 2048 + q.val) * 2048 + t.val) / 16777216 = b.val; omega) rfl
      (by show (((b.val * 4 + h.val) * 2048 + q.val) * 2048 + t.val) / 4194304 % 4 = h.val; omega)
      (by show (((b.val * 4 + h.val) * 2048 + q.val) * 2048 + t.val) / 2048 % 2048 = q.val; omega)
      (by show (((b.val * 4 + h.val) * 2048 + q.val) * 2048 + t.val) % 2048 = t.val; omega)
    rw [ei, v77_eq hf]
    rfl
  have e81 : ∀ t : Fin 2048, val_main_v81 (F := Ideal) X T (ix4 b h q t) = ((we (masked X T b h.val 1 q t) / ∑ k, we (masked X T b h.val 1 q k) : ℝ) : EReal) := fun t => by
    have ht := t.isLt
    rw [val_main_v81_apply, val_main_v80_apply]
    have ei : idx_main_v80 (idx_main_v81 (ix4 b h q t)) = ix5 b 1 h q t := idx5 _ _
      (by show (((b.val * 4 + h.val) * 2048 + q.val) * 2048 + t.val) / 16777216 = b.val; omega) rfl
      (by show (((b.val * 4 + h.val) * 2048 + q.val) * 2048 + t.val) / 4194304 % 4 = h.val; omega)
      (by show (((b.val * 4 + h.val) * 2048 + q.val) * 2048 + t.val) / 2048 % 2048 = q.val; omega)
      (by show (((b.val * 4 + h.val) * 2048 + q.val) * 2048 + t.val) % 2048 = t.val; omega)
    rw [ei, v77_eq hf]
    rfl
  have e84 : ∀ t : Fin 2048, val_main_v84 (F := Ideal) X T P (ix4 b h q t)
      = ((we (masked X T b h.val 0 q t) / (∑ k, we (masked X T b h.val 0 q k)) - l * (we (masked X T b h.val 1 q t) / ∑ k, we (masked X T b h.val 1 q k)) : ℝ) : EReal) := fun t => by
    rw [val_main_v84_apply, val_main_v83_apply, val_main_v82_apply, v20_eq, e79, e81, hl, EReal.coe_sub, EReal.coe_mul l]
    rfl
  rw [val_main_v86_apply, val_main_v85_apply, hl, ← EReal.coe_mul, ← EReal.coe_sub]
  have hs : ∀ t : Fin 2048, val_main_v23 (F := Ideal) X (lidx_main_v85 (idx_main_v86 (ix4 b q h d)) t) * val_main_v84 (F := Ideal) X T P (ridx_main_v85 (idx_main_v86 (ix4 b q h d)) t)
      = (((entryAt X b t 20 h.val d.val).toReal * (we (masked X T b h.val 0 q t) / (∑ k, we (masked X T b h.val 0 q k)) - l * (we (masked X T b h.val 1 q t) / ∑ k, we (masked X T b h.val 1 q k))) : ℝ) : EReal) := fun t => by
    have el : lidx_main_v85 (idx_main_v86 (ix4 b q h d)) t = ix4 b t h d := idx4 _ _ rfl rfl rfl rfl
    have er : ridx_main_v85 (idx_main_v86 (ix4 b q h d)) t = ix4 b h q t := idx4 _ _ rfl rfl rfl rfl
    rw [el, er, v23_eq, e84, EReal.coe_mul, ← hf.entryAt _ _ _ _ _ (by norm_num) (by omega)]
  refine ((Finset.sum_congr rfl fun t _ => hs t).trans (sum_coe _)).trans (congrArg (fun r : ℝ => (r : EReal)) ?_)
  unfold attend
  rw [Finset.sum_div, Finset.sum_div, Finset.mul_sum, ← Finset.sum_sub_distrib]
  exact Finset.sum_congr rfl fun t _ => by ring

/-- The reference computes differential attention. -/
theorem result_eq (hf : Finite X T P) : val_main_v103 (F := Ideal) X T P G = result X T P G lam rest := by
  funext i
  obtain ⟨b, q, n, rfl⟩ : ∃ (b : Fin 8) (q : Fin 2048) (n : Fin 512), i = ix3 b q n := ⟨i 0, i 1, i 2, eq_ix3 i⟩
  have hb := b.isLt; have hq := q.isLt; have hn := n.isLt
  have ei : idx_main_v102 (ix3 b q n) = ix4 b q ⟨n.val / 128, by omega⟩ (Fin.ofNat 128 n.val) := idx4 _ _
    (by show ((b.val * 2048 + q.val) * 512 + n.val) / 1048576 = b.val; omega)
    (by show ((b.val * 2048 + q.val) * 512 + n.val) / 512 % 2048 = q.val; omega)
    (by show ((b.val * 2048 + q.val) * 512 + n.val) / 128 % 4 = n.val / 128; omega)
    (by show ((b.val * 2048 + q.val) * 512 + n.val) % 128 = n.val % 128; omega)
  have e88 : ∀ h : Fin 4, val_main_v88 (F := Ideal) X T P (ix3 b q h)
      = ∑ j : Fin 128, val_main_v86 (F := Ideal) X T P (ix4 b q h j) * val_main_v86 (F := Ideal) X T P (ix4 b q h j) := fun h => by
    rw [val_main_v88_apply]
    refine (congrArg₂ (fun x y : EReal => x + y) (Ideal.ofBits_zero_f32) (Finset.sum_congr rfl fun j _ => ?_)).trans (zero_add _)
    have ej : idx_main_v88 (ix3 b q h) j = ix4 b q h j := idx4 _ _ rfl rfl rfl rfl
    rw [ej]
    rfl
  have e95 : ∀ (h : Fin 4) (d : Fin 128), val_main_v95 (F := Ideal) X T P (ix4 b q h d)
      = Ideal.rsqrt (Ideal.div (∑ j : Fin 128, val_main_v86 (F := Ideal) X T P (ix4 b q h j) * val_main_v86 (F := Ideal) X T P (ix4 b q h j))
          (FloatOps.ofBits .f32 0x43000000#32 : Ideal .f32) + (FloatOps.ofBits .f32 0x3727C5AC#32 : Ideal .f32)) := fun h d => by
    rw [val_main_v95_apply, val_main_v94_apply, val_main_v93_apply, val_main_v92_apply, val_main_v91_apply, val_main_v90_apply, val_main_v89_apply]
    have ej : idx_main_v89 (idx_main_v95 (ix4 b q h d)) = ix3 b q h := idx3 _ _ rfl rfl rfl
    rw [ej, e88]
    rfl
  have e98 : ∀ (h : Fin 4) (d : Fin 128), val_main_v98 (F := Ideal) G (ix4 b q h d) = G (ix1 d) := fun h d => by
    rw [val_main_v98_apply, val_main_v97_apply]
    exact congrArg G (funext fun a => match a with | ⟨0, _⟩ => rfl)
  rw [val_main_v103_apply, val_main_v102_apply, ei, val_main_v101_apply, val_main_v99_apply, val_main_v96_apply, e95, e98, val_main_v100_apply]
  simp only [v86_eq hf]
  rfl

end Cert.Reference7Ideal.Diff

end
-- ==== Proof.MixerSpec.lean ====
/- The gated channel mixer of the layer's last step, row by row, as a formula: the row's root mean square norm with its scale and
   shift, the gated projection, the second projection, the residual, and the final norm. -/
module

public import Idealize.ShloMosaic.PureOps
public import Idealize.ShloMosaic.Lib.ValueIdx

@[expose] public section

noncomputable section

namespace Mixer

open Idealize.ShloMosaic

/-- A row's inverse root mean square, over 2048 channels. -/
def rms (x : Fin 2048 → EReal) : EReal :=
  Ideal.rsqrt (Ideal.div (∑ j : Fin 2048, x j * x j) (Ideal.ofBits .f32 0x45000000#32) + Ideal.ofBits .f32 0x358637BD#32)

/-- The normed row with its gain, scale and shift. -/
def modulated (x gain scale shift : Fin 2048 → EReal) (d : Fin 2048) : EReal :=
  x d * rms x * gain d * (1 + scale d) + shift d

/-- The gate: the first argument through the sigmoid linear unit, times the second. -/
def gate (a b : EReal) : EReal := a * Ideal.logistic a * b

/-- The row of hidden units. -/
def hidden {n : Nat} (h : Fin 2048 → EReal) (wg wu : Fin 2048 → Fin n → EReal) (k : Fin n) : EReal :=
  gate (∑ d : Fin 2048, h d * wg d k) (∑ d : Fin 2048, h d * wu d k)

/-- The projection back to the channels. -/
def mix {n : Nat} (h : Fin 2048 → EReal) (wg wu : Fin 2048 → Fin n → EReal) (w2 : Fin n → Fin 2048 → EReal) (d : Fin 2048) : EReal :=
  ∑ k : Fin n, hidden h wg wu k * w2 k d

/-- The residual and the final norm. -/
def finish (x g final y : Fin 2048 → EReal) (d : Fin 2048) : EReal :=
  (x d + g d * y d) * rms (fun j => x j + g j * y j) * final d

/-- One output row. -/
def result (x gain scale shift g final : Fin 2048 → EReal) (wg wu : Fin 2048 → Fin 5632 → EReal) (w2 : Fin 5632 → Fin 2048 → EReal) :
    Fin 2048 → EReal :=
  finish x g final (mix (modulated x gain scale shift) wg wu w2)

/-- Every output row, from the whole arrays: the residual stream, the norm's gain, its scale and shift and the residual's gate per
    batch entry, the two stacked gate matrices, the second projection, and the final norm's gain. -/
def output (x : (⟨3, ![8, 2048, 2048]⟩ : Shape).Idx → EReal) (gain : (⟨1, ![2048]⟩ : Shape).Idx → EReal)
    (scale shift g : (⟨3, ![8, 1, 2048]⟩ : Shape).Idx → EReal) (w13 : (⟨2, ![2048, 11264]⟩ : Shape).Idx → EReal)
    (w2 : (⟨2, ![5632, 2048]⟩ : Shape).Idx → EReal) (final : (⟨1, ![2048]⟩ : Shape).Idx → EReal)
    (b : Fin 8) (r : Fin 2048) : Fin 2048 → EReal :=
  result (fun d => x (ValueIdx.ix3 b r d)) (fun d => gain (ValueIdx.ix1 d)) (fun d => scale (ValueIdx.ix3 b 0 d)) (fun d => shift (ValueIdx.ix3 b 0 d))
    (fun d => g (ValueIdx.ix3 b 0 d)) (fun d => final (ValueIdx.ix1 d))
    (fun d k => w13 (ValueIdx.ix2 d ⟨k.val, by omega⟩)) (fun d k => w13 (ValueIdx.ix2 d ⟨5632 + k.val, by omega⟩))
    (fun k d => w2 (ValueIdx.ix2 k d))

/-- Every row of a layer before the last: the residual and no final norm. -/
def innerOutput (x : (⟨3, ![8, 2048, 2048]⟩ : Shape).Idx → EReal) (gain : (⟨1, ![2048]⟩ : Shape).Idx → EReal)
    (scale shift g : (⟨3, ![8, 1, 2048]⟩ : Shape).Idx → EReal) (w13 : (⟨2, ![2048, 11264]⟩ : Shape).Idx → EReal)
    (w2 : (⟨2, ![5632, 2048]⟩ : Shape).Idx → EReal) (b : Fin 8) (r d : Fin 2048) : EReal :=
  x (ValueIdx.ix3 b r d) + g (ValueIdx.ix3 b 0 d)
    * mix (modulated (fun d => x (ValueIdx.ix3 b r d)) (fun d => gain (ValueIdx.ix1 d)) (fun d => scale (ValueIdx.ix3 b 0 d)) (fun d => shift (ValueIdx.ix3 b 0 d)))
      (fun d k => w13 (ValueIdx.ix2 d ⟨k.val, by omega⟩)) (fun d k => w13 (ValueIdx.ix2 d ⟨5632 + k.val, by omega⟩)) (fun k d => w2 (ValueIdx.ix2 k d)) d

end Mixer

end
-- ==== Proof.MixerRows.lean ====
/- What the channel mixer's kernel computes at one grid point, entry by entry: each vector it stores is read as the formulas of
   `Mixer` over the rows of the blocks it loads. -/
module

public import proofs.«01_k».proof.Proof.Gen.Kernel2Ideal.Value
public import proofs.«01_k».proof.Proof.MixerSpec
public import Idealize.ShloMosaic.Lib.Pointwise

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- Row `r` of a block of 256 or 512 rows. -/
abbrev rowOf {n : Nat} (x : (⟨3, ![1, n, 2048]⟩ : Shape).Idx → EReal) (r : Fin n) : Fin 2048 → EReal := fun d => x (ix3 0 r d)

/-- A matrix by its two coordinates. -/
abbrev mat {a b : Nat} (x : (⟨2, ![a, b]⟩ : Shape).Idx → EReal) (r : Fin a) (d : Fin b) : EReal := x (ix2 r d)

/-- Row `k` of the pack of row vectors. -/
abbrev pack (x : (⟨3, ![1, 8, 2048]⟩ : Shape).Idx → EReal) (k : Fin 8) : Fin 2048 → EReal := fun d => x (ix3 0 k d)

/-- The first half's modulated rows. -/
theorem pay5_apply (x1 : Vec Ideal S1x8x2048 .f32) (x : Vec Ideal S1x256x2048 .f32) (r : Fin 256) (d : Fin 2048) :
    k0_pay5 (k0_pay1 x1) x (ix2 r d) = Mixer.modulated (rowOf x r) (pack x1 0) (pack x1 1) (pack x1 2) d := by
  pointwise [k0_pay5, k0_pay1]
  rfl

theorem pay3_apply (a : Vec Ideal S1x512x2048 .f32) (h : Vec Ideal S512x2048 .bf16) (x2 x3 : Vec Ideal S2048x512 .bf16) (x4 : Vec Ideal S512x2048 .bf16)
    (r : Fin 512) (d : Fin 2048) :
    k0_pay3 a h x2 x3 x4 (ix3 0 r d) = (fun x y : EReal => x + y) (a (ix3 0 r d)) (Mixer.mix (mat h r) (mat x2) (mat x3) (mat x4) d) := by
  pointwise [k0_pay3]
  rfl

theorem pay4_apply (x1 : Vec Ideal S1x8x2048 .f32) (x a : Vec Ideal S1x512x2048 .f32) (r : Fin 512) (d : Fin 2048) :
    k0_pay4 x1 x a (ix3 0 r d) = Mixer.finish (rowOf x r) (pack x1 3) (pack x1 4) (rowOf a r) d := by
  pointwise [k0_pay4, k0_pay1]
  rfl

/-- The second half's. -/
theorem pay8_apply (x1 : Vec Ideal S1x8x2048 .f32) (x : Vec Ideal S1x256x2048 .f32) (r : Fin 256) (d : Fin 2048) :
    k0_pay8 (k0_pay1 x1) x (ix2 r d) = Mixer.modulated (rowOf x r) (pack x1 0) (pack x1 1) (pack x1 2) d := by
  pointwise [k0_pay8, k0_pay1]
  rfl

theorem pay6_apply (x1 : Vec Ideal S1x8x2048 .f32) (x : Vec Ideal S1x256x2048 .f32) (r : Fin 256) (d : Fin 2048) :
    k0_pay6 (k0_pay1 x1) x (ix2 r d) = Mixer.modulated (rowOf x r) (pack x1 0) (pack x1 1) (pack x1 2) d := by
  rw [← pay5_apply]
  pointwise [k0_pay6]

theorem pay9_apply (x1 : Vec Ideal S1x8x2048 .f32) (x : Vec Ideal S1x256x2048 .f32) (r : Fin 256) (d : Fin 2048) :
    k0_pay9 (k0_pay1 x1) x (ix2 r d) = Mixer.modulated (rowOf x r) (pack x1 0) (pack x1 1) (pack x1 2) d := by
  rw [← pay8_apply]
  pointwise [k0_pay9]

theorem pay7_apply (x1 : Vec Ideal S1x8x2048 .f32) (x : Vec Ideal S1x256x2048 .f32) (x2 x3 : Vec Ideal S2048x512 .bf16) (x4 : Vec Ideal S512x2048 .bf16)
    (r : Fin 256) (d : Fin 2048) :
    k0_pay7 (k0_pay1 x1) x x2 x3 x4 (ix2 r d)
      = Mixer.mix (Mixer.modulated (rowOf x r) (pack x1 0) (pack x1 1) (pack x1 2)) (mat x2) (mat x3) (mat x4) d := by
  pointwise [k0_pay7]
  simp only [pay5_apply]
  rfl

theorem pay2_apply (x1 : Vec Ideal S1x8x2048 .f32) (x : Vec Ideal S1x256x2048 .f32) (x2 x3 : Vec Ideal S2048x512 .bf16) (x4 : Vec Ideal S512x2048 .bf16)
    (r : Fin 256) (d : Fin 2048) :
    k0_pay2 (k0_pay10 (k0_pay1 x1) x x2 x3) x4 (ix2 r d)
      = Mixer.mix (Mixer.modulated (rowOf x r) (pack x1 0) (pack x1 1) (pack x1 2)) (mat x2) (mat x3) (mat x4) d := by
  pointwise [k0_pay2, k0_pay10]
  simp only [pay8_apply]
  rfl

end Cert.Kernel2Ideal.Ffn

end
-- ==== Proof.MixerBlock.lean ====
/- What one grid point of the channel mixer's kernel leaves in its output block and in its scratch, in closed form: the first point of a
   run of eleven writes the block in two halves, the others add to it, and the last finishes it. -/
module

public import proofs.«01_k».proof.Proof.MixerRows
public import Idealize.ShloMosaic.Lib.VecWindow

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

/-- The scratch: the modulated rows of the block. -/
def normed (x0 : Vec Ideal S1x512x2048 .f32) (x1 : Vec Ideal S1x8x2048 .f32) : Vec Ideal S512x2048 .bf16 :=
  fun y => Mixer.modulated (rowOf x0 (y 0)) (pack x1 0) (pack x1 1) (pack x1 2) (y 1)

/-- What one point's 512 hidden units add to the block. -/
def part (h : Vec Ideal S512x2048 .bf16) (x2 x3 : Vec Ideal S2048x512 .bf16) (x4 : Vec Ideal S512x2048 .bf16) : Vec Ideal S1x512x2048 .f32 :=
  fun y => Mixer.mix (mat h (y 1)) (mat x2) (mat x3) (mat x4) (y 2)

theorem zero3 : (![0, 0, 0] : Fin 3 → Nat) = fun _ => 0 := by decide

theorem zero2 : (![0, 0] : Fin 2 → Nat) = fun _ => 0 := by decide

/-- A load of a whole block is the block. -/
theorem ld_x0 (X : Vec Ideal S1x512x2048 .f32) (h) :
    View.ld (Val := Elt Ideal) (S := S1x512x2048) (e' := .f32) X (Rect.unit ![0, 0, 0] ![1, 512, 2048] h) = X := View.ld_unit_zero zero3 h X

theorem ld_x1 (X : Vec Ideal S1x8x2048 .f32) (h) :
    View.ld (Val := Elt Ideal) (S := S1x8x2048) (e' := .f32) X (Rect.unit ![0, 0, 0] ![1, 8, 2048] h) = X := View.ld_unit_zero zero3 h X

theorem ld_x2 (X : Vec Ideal S2048x512 .bf16) (h) :
    View.ld (Val := Elt Ideal) (S := S2048x512) (e' := .bf16) X (Rect.unit ![0, 0] ![2048, 512] h) = X := View.ld_unit_zero zero2 h X

theorem ld_x4 (X : Vec Ideal S512x2048 .bf16) (h) :
    View.ld (Val := Elt Ideal) (S := S512x2048) (e' := .bf16) X (Rect.unit ![0, 0] ![512, 2048] h) = X := View.ld_unit_zero zero2 h X

/-- A load of the whole block after a store of the whole block. -/
theorem readCov_whole {κ : Kind} {sp : Space} (v : View sig κ sp S1x512x2048 .f32) (w : Vec Ideal S1x512x2048 .f32) (h h') :
    v.readCov (Val := Elt Ideal) [⟨Rect.unit ![0, 0, 0] ![1, 512, 2048] h, w⟩] (Rect.unit ![0, 0, 0] ![1, 512, 2048] h').toLoadRect = w :=
  View.readCov_full v h' h w []

/-- A load of the first half of a block, by rows. -/
theorem ld_low (X : Vec Ideal S1x512x2048 .f32) (h) (r : Fin 256) :
    rowOf (View.ld (Val := Elt Ideal) (S := S1x512x2048) (e' := .f32) X (Rect.unit ![0, 0, 0] ![1, 256, 2048] h)) r = rowOf X ⟨r.val, by omega⟩ := by
  funext d
  refine congrArg X (funext fun a => Fin.ext ?_)
  match a with
  | ⟨0, _⟩ => rfl
  | ⟨1, _⟩ => show 0 + 1 * r.val = r.val; omega
  | ⟨2, _⟩ => show 0 + 1 * d.val = d.val; omega

/-- A load of the second half. -/
theorem ld_high (X : Vec Ideal S1x512x2048 .f32) (h) (r : Fin 256) :
    rowOf (View.ld (Val := Elt Ideal) (S := S1x512x2048) (e' := .f32) X (Rect.unit ![0, 256, 0] ![1, 256, 2048] h)) r = rowOf X ⟨256 + r.val, by omega⟩ := by
  funext d
  refine congrArg X (funext fun a => Fin.ext ?_)
  match a with
  | ⟨0, _⟩ => rfl
  | ⟨1, _⟩ => show 256 + 1 * r.val = 256 + r.val; omega
  | ⟨2, _⟩ => show 0 + 1 * d.val = d.val; omega

/-- The two halves of what the first point writes, at an entry of the block. -/
theorem part_at (x0 : Vec Ideal S1x512x2048 .f32) (x1 : Vec Ideal S1x8x2048 .f32) (x2 x3 : Vec Ideal S2048x512 .bf16) (x4 : Vec Ideal S512x2048 .bf16)
    (y : S1x512x2048.Idx) (r : Fin 512) (d : Fin 2048) (hr : (y 1).val = r.val) (hd : (y 2).val = d.val) :
    part (normed x0 x1) x2 x3 x4 y
      = Mixer.mix (Mixer.modulated (rowOf x0 r) (pack x1 0) (pack x1 1) (pack x1 2)) (mat x2) (mat x3) (mat x4) d := by
  obtain rfl : y 1 = r := Fin.ext hr
  obtain rfl : y 2 = d := Fin.ext hd
  rfl

theorem normed_at (x0 : Vec Ideal S1x512x2048 .f32) (x1 : Vec Ideal S1x8x2048 .f32)
    (y : S512x2048.Idx) (r : Fin 512) (d : Fin 2048) (hr : (y 0).val = r.val) (hd : (y 1).val = d.val) :
    normed x0 x1 y = Mixer.modulated (rowOf x0 r) (pack x1 0) (pack x1 1) (pack x1 2) d := by
  obtain rfl : y 0 = r := Fin.ext hr
  obtain rfl : y 1 = d := Fin.ext hd
  rfl

section Run
variable (c : Dev nD) (i : grid0.Coords) (arg3 : Memref sig .tc .vmem S1x512x2048 .f32) (harg3 : arg3.IsWhole) (arg4 : Memref sig .tc .vmem S1x8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1x512x2048 .f32) (harg8 : arg8.IsWhole) (arg9 : Memref sig .tc .vmem S512x2048 .bf16) (harg9 : arg9.IsWhole)
  (x0 : Vec Ideal S1x512x2048 .f32) (x1 : Vec Ideal S1x8x2048 .f32) (x2 : Vec Ideal S2048x512 .bf16) (x3 : Vec Ideal S2048x512 .bf16) (x4 : Vec Ideal S512x2048 .bf16)

theorem outB (hc0 : ¬cond0_0 i) (hc1 : cond0_1 i) (hc2 : ¬cond0_2 i) (xo5 : Vec Ideal S1x512x2048 .f32) (xs0 : Vec Ideal S512x2048 .bf16) :
    out0_B_5 (F := Ideal) c i arg3 harg3 arg4 harg4 arg5 harg5 arg6 harg6 arg7 harg7 arg8 harg8 arg9 harg9 hc0 hc1 hc2 x0 x1 x2 x3 x4 xo5 xs0 = k0_pay3 xo5 xs0 x2 x3 x4 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 x4 xo5 xs0)]
  unfold kernelRun0_B
  dsimp only
  rw [View.canon_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [ld_x0, ld_x2, ld_x2, ld_x4, ld_x4]

theorem outC (hc0 : ¬cond0_0 i) (hc1 : cond0_1 i) (hc2 : cond0_2 i) (xo5 : Vec Ideal S1x512x2048 .f32) (xs0 : Vec Ideal S512x2048 .bf16) :
    out0_C_5 (F := Ideal) c i arg3 harg3 arg4 harg4 arg5 harg5 arg6 harg6 arg7 harg7 arg8 harg8 arg9 harg9 hc0 hc1 hc2 x0 x1 x2 x3 x4 xo5 xs0 = k0_pay4 x1 x0 (k0_pay3 xo5 xs0 x2 x3 x4) := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xo5 xs0)]
  unfold kernelRun0_C
  dsimp only
  rw [View.canon_cons_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [readCov_whole, ld_x0, ld_x0, ld_x1, ld_x2, ld_x2, ld_x4, ld_x4]

theorem outA (hc0 : cond0_0 i) (hc1 : ¬cond0_1 i) (hc2 : ¬cond0_2 i) :
    out0_A_5 (F := Ideal) c i arg3 harg3 arg4 harg4 arg5 harg5 arg6 harg6 arg7 harg7 arg8 harg8 arg9 harg9 hc0 hc1 hc2 x0 x1 x2 x3 x4 = part (normed x0 x1) x2 x3 x4 := by
  unfold out0_A_5
  rw [View.read_writes_eq_canon _ _ _ (cover0_A_5 c i arg3 harg3 arg4 harg4 arg5 harg5 arg6 harg6 arg7 harg7 arg8 harg8 arg9 harg9 hc0 hc1 hc2 x0 x1 x2 x3 x4)]
  funext y
  refine View.canon_apply_of_pieces (part (normed x0 x1) x2 x3 x4) _ ?_ y (cover0_A_5 c i arg3 harg3 arg4 harg4 arg5 harg5 arg6 harg6 arg7 harg7 arg8 harg8 arg9 harg9 hc0 hc1 hc2 x0 x1 x2 x3 x4 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl
  · dsimp only
    refine (Rect.payAlong_consLift (V := Elt Ideal .f32) (Rect.unit (s := S512x2048) ![256, 0] ![256, 2048] inb_S512x2048_S256x2048_256_0) ![1, 512, 2048] _ _ _ _ x
      (ix2 (⟨(x 1).val, (x 1).isLt⟩ : Fin 256) (⟨(x 2).val, (x 2).isLt⟩ : Fin 2048)) fun i => match i with | ⟨0, _⟩ => rfl | ⟨1, _⟩ => rfl).trans ?_
    rw [ld_x1, ld_x2, ld_x2, ld_x4, pay2_apply, ld_high]
    refine (part_at x0 x1 x2 x3 x4 _ _ _ ?_ ?_).symm
    · show (0 + 256) + 1 * (x 1).val = 256 + (x 1).val; omega
    · show (0 + 0) + 1 * (x 2).val = (x 2).val; omega
  · dsimp only
    refine (Rect.payAlong_consLift (V := Elt Ideal .f32) (Rect.unit (s := S512x2048) ![0, 0] ![256, 2048] inb_S512x2048_S256x2048_0_0) ![1, 512, 2048] _ _ _ _ x
      (ix2 (⟨(x 1).val, (x 1).isLt⟩ : Fin 256) (⟨(x 2).val, (x 2).isLt⟩ : Fin 2048)) fun i => match i with | ⟨0, _⟩ => rfl | ⟨1, _⟩ => rfl).trans ?_
    rw [ld_x1, ld_x2, ld_x2, ld_x4, pay7_apply, ld_low]
    refine (part_at x0 x1 x2 x3 x4 _ _ _ ?_ ?_).symm
    · show (0 + 0) + 1 * (x 1).val = (x 1).val; omega
    · show (0 + 0) + 1 * (x 2).val = (x 2).val; omega

theorem soutA (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 hc0 hc1 hc2 x0 x1 x2 x3 x4 = normed x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  funext y
  refine View.canon_apply_of_pieces (normed x0 x1) _ ?_ y (scover0_A_0 c i arg3 harg3 arg4 harg4 arg5 harg5 arg6 harg6 arg7 harg7 arg8 harg8 arg9 harg9 hc0 hc1 hc2 x0 x1 x2 x3 x4 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay9_apply, ld_high]
    refine (normed_at x0 x1 _ _ _ ?_ ?_).symm
    · show 256 + 1 * (x 0).val = 256 + (x 0).val; omega
    · show 0 + 1 * (x 1).val = (x 1).val; omega
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay6_apply, ld_low]
    refine (normed_at x0 x1 _ _ _ ?_ ?_).symm
    · show 0 + 1 * (x 0).val = (x 0).val; omega
    · show 0 + 1 * (x 1).val = (x 1).val; omega

end Run

end Cert.Kernel2Ideal.Ffn

end
-- ==== Proof.MixerPoints.lean ====
/- The blocks of the channel mixer's kernel at its grid points. Point `t` of the 352 works on batch entry `t / 44`, rows
   `512 * (t / 11 % 4)` and following, and hidden units `512 * (t % 11)` and following. -/
module

public import proofs.«01_k».proof.Proof.MixerBlock
public import Idealize.ShloMosaic.Lib.Pipeline.ValueKit.Geometry

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

theorem index0 : ∀ t : Fin cfg0.N, win0_0.index t = ![t.val / 44, t.val / 11 % 4, 0] := (by decide +kernel : ∀ t : Fin grid0.N, _)
theorem index1 : ∀ t : Fin cfg0.N, win0_1.index t = ![t.val / 44, 0, 0] := (by decide +kernel : ∀ t : Fin grid0.N, _)
theorem index2 : ∀ t : Fin cfg0.N, win0_2.index t = ![0, t.val % 11] := (by decide +kernel : ∀ t : Fin grid0.N, _)
theorem index3 : ∀ t : Fin cfg0.N, win0_3.index t = ![0, t.val % 11 + 11] := (by decide +kernel : ∀ t : Fin grid0.N, _)
theorem index4 : ∀ t : Fin cfg0.N, win0_4.index t = ![t.val % 11, 0] := (by decide +kernel : ∀ t : Fin grid0.N, _)
theorem index5 : ∀ t : Fin cfg0.N, win0_5.index t = ![t.val / 44, t.val / 11 % 4, 0] := (by decide +kernel : ∀ t : Fin grid0.N, _)

variable (m : (ℓ : Loc nD τ sig) → Buf (Elt Ideal) ℓ) (c : Dev nD)

/-- The arguments. -/
abbrev argX : S8x2048x2048.Idx → EReal := m ((c : Thread nD τ).loc main_arg0)
abbrev argGain : S2048.Idx → EReal := m ((c : Thread nD τ).loc main_arg1)
abbrev argScale : S8x1x2048.Idx → EReal := m ((c : Thread nD τ).loc main_arg2)
abbrev argShift : S8x1x2048.Idx → EReal := m ((c : Thread nD τ).loc main_arg3)
abbrev argGate : S8x1x2048.Idx → EReal := m ((c : Thread nD τ).loc main_arg4)
abbrev argW13 : S2048x11264.Idx → EReal := m ((c : Thread nD τ).loc main_arg5)
abbrev argW2 : S5632x2048.Idx → EReal := m ((c : Thread nD τ).loc main_arg6)
abbrev argFinal : S2048.Idx → EReal := m ((c : Thread nD τ).loc main_arg7)

/-! ### The host lines before the kernel -/

set_option maxHeartbeats 4000000 in
theorem w13_eq : V m c main_v1 = (truncf (F := Ideal) .bf16 (m ((c : Thread nD τ).loc main_arg5)) Facts₀.bitsLt_bf16_f32 : FVec Ideal S2048x11264 .bf16) := by
  dsimp only [V, hostOps0, List.flatten_cons, List.flatten_nil, List.append_nil, List.cons_append, List.nil_append]
  after_results

set_option maxHeartbeats 4000000 in
theorem w2_eq : V m c main_v2 = (truncf (F := Ideal) .bf16 (m ((c : Thread nD τ).loc main_arg6)) Facts₀.bitsLt_bf16_f32 : FVec Ideal S5632x2048 .bf16) := by
  dsimp only [V, hostOps0, List.flatten_cons, List.flatten_nil, List.append_nil, List.cons_append, List.nil_append]
  after_results

/-- The pack of row vectors: the gain, the scale, the shift, the residual's gate, the final gain, and three rows of zeros. -/
def packed (x1 : FVec Ideal S2048 .f32) (x2 x3 x4 : FVec Ideal S8x1x2048 .f32) (x7 : FVec Ideal S2048 .f32) : FVec Ideal S8x8x2048 .f32 :=
  concatenate S8x8x2048 1
    [⟨S8x1x2048, broadcastInDim S8x1x2048 ![0, 1, 2] Facts₀.bcast_S1x1x2048_S8x1x2048_0_1_2
        (shapeCast S1x1x2048 (shapeCast S1x2048 x1 Facts₀.shapeCasts_S2048_S1x2048) Facts₀.shapeCasts_S1x2048_S1x1x2048)⟩,
      ⟨S8x1x2048, x2⟩, ⟨S8x1x2048, x3⟩, ⟨S8x1x2048, x4⟩,
      ⟨S8x1x2048, broadcastInDim S8x1x2048 ![0, 1, 2] Facts₀.bcast_S1x1x2048_S8x1x2048_0_1_2
        (shapeCast S1x1x2048 (shapeCast S1x2048 x7 Facts₀.shapeCasts_S2048_S1x2048) Facts₀.shapeCasts_S1x2048_S1x1x2048)⟩,
      ⟨S8x3x2048, broadcastInDim S8x3x2048 ![] Facts₀.bcast_S_S8x3x2048 (constant S_ .f32 0x00000000#32)⟩]
    Facts₀.concatenates_S8x1x2048_S8x1x2048_S8x1x2048_S8x1x2048_S8x1x2048_S8x3x2048_S8x8x2048_d1

set_option maxHeartbeats 4000000 in
theorem pack_eq : V m c main_v9 = packed (m ((c : Thread nD τ).loc main_arg1)) (m ((c : Thread nD τ).loc main_arg2)) (m ((c : Thread nD τ).loc main_arg3))
    (m ((c : Thread nD τ).loc main_arg4)) (m ((c : Thread nD τ).loc main_arg7)) := by
  dsimp only [V, hostOps0, List.flatten_cons, List.flatten_nil, List.append_nil, List.cons_append, List.nil_append]
  after_results
  rfl

section Packed
variable (x1 : FVec Ideal S2048 .f32) (x2 x3 x4 : FVec Ideal S8x1x2048 .f32) (x7 : FVec Ideal S2048 .f32) (b : Fin 8) (d : Fin 2048)

theorem packed0 : packed x1 x2 x3 x4 x7 (ix3 b 0 d) = x1 (ix1 d) := by
  pointwise [packed]

theorem packed1 : packed x1 x2 x3 x4 x7 (ix3 b 1 d) = x2 (ix3 b 0 d) := by
  pointwise [packed]

theorem packed2 : packed x1 x2 x3 x4 x7 (ix3 b 2 d) = x3 (ix3 b 0 d) := by
  pointwise [packed]

theorem packed3 : packed x1 x2 x3 x4 x7 (ix3 b 3 d) = x4 (ix3 b 0 d) := by
  pointwise [packed]

theorem packed4 : packed x1 x2 x3 x4 x7 (ix3 b 4 d) = x7 (ix1 d) := by
  pointwise [packed]

end Packed

/-! ### The blocks -/

variable (t : Fin cfg0.N)

theorem point_lt : t.val < 352 := lt_of_lt_of_eq t.isLt N_0

/-- The rows of a point, -/
theorem block0 (r : Fin 512) (d : Fin 2048) :
    iblk m c 0 t (ix3 0 r d) = argX m c (ix3 (Fin.ofNat 8 (t.val / 44)) (Fin.ofNat 2048 (512 * (t.val / 11 % 4) + r.val)) d) := by
  have ht := point_lt t
  have hr := r.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 44 * 1 + 0 = t.val / 44 % 8; omega
  | ⟨1, _⟩ => refine (Pipeline.Window.rect_emb_val win0_0 t _ _).trans ?_; rw [index0]; show t.val / 11 % 4 * 512 + r.val = (512 * (t.val / 11 % 4) + r.val) % 2048; omega
  | ⟨2, _⟩ => refine (Pipeline.Window.rect_emb_val win0_0 t _ _).trans ?_; rw [index0]; show 0 * 2048 + d.val = d.val; omega

/-- its row vectors, -/
theorem block1 (k : Fin 8) (d : Fin 2048) : iblk m c 1 t (ix3 0 k d) = V m c main_v9 (ix3 (Fin.ofNat 8 (t.val / 44)) k d) := by
  have ht := point_lt t
  blk_simp [iblk]
  refine congrArg (V m c main_v9) (funext fun a => Fin.ext ?_)
  match a with
  | ⟨0, _⟩ => refine (Pipeline.Window.rect_emb_val win0_1 t _ _).trans ?_; rw [index1]; show t.val / 44 * 1 + 0 = t.val / 44 % 8; omega
  | ⟨1, _⟩ => refine (Pipeline.Window.rect_emb_val win0_1 t _ _).trans ?_; rw [index1]; show 0 * 8 + k.val = k.val; omega
  | ⟨2, _⟩ => refine (Pipeline.Window.rect_emb_val win0_1 t _ _).trans ?_; rw [index1]; show 0 * 2048 + d.val = d.val; omega

/-- the columns of its hidden units in the first matrix and in the second, -/
theorem block2 (d : Fin 2048) (j : Fin 512) :
    iblk m c 2 t (ix2 d j) = argW13 m c (ix2 d ⟨(Fin.ofNat 5632 (512 * (t.val % 11) + j.val)).val, by omega⟩) := by
  have ht := point_lt t
  have hj := j.isLt
  blk_simp [iblk]
  refine (congrFun (w13_eq m c) _).trans (congrArg (m ((c : Thread nD τ).loc main_arg5)) (funext fun a => Fin.ext ?_))
  match a with
  | ⟨0, _⟩ => refine (Pipeline.Window.rect_emb_val win0_2 t _ _).trans ?_; rw [index2]; show 0 * 2048 + d.val = d.val; omega
  | ⟨1, _⟩ => refine (Pipeline.Window.rect_emb_val win0_2 t _ _).trans ?_; rw [index2]; show t.val % 11 * 512 + j.val = (512 * (t.val % 11) + j.val) % 5632; omega

theorem block3 (d : Fin 2048) (j : Fin 512) :
    iblk m c 3 t (ix2 d j) = argW13 m c (ix2 d ⟨5632 + (Fin.ofNat 5632 (512 * (t.val % 11) + j.val)).val, by omega⟩) := by
  have ht := point_lt t
  have hj := j.isLt
  blk_simp [iblk]
  refine (congrFun (w13_eq m c) _).trans (congrArg (m ((c : Thread nD τ).loc main_arg5)) (funext fun a => Fin.ext ?_))
  match a with
  | ⟨0, _⟩ => refine (Pipeline.Window.rect_emb_val win0_3 t _ _).trans ?_; rw [index3]; show 0 * 2048 + d.val = d.val; omega
  | ⟨1, _⟩ => refine (Pipeline.Window.rect_emb_val win0_3 t _ _).trans ?_; rw [index3]; show (t.val % 11 + 11) * 512 + j.val = 5632 + (512 * (t.val % 11) + j.val) % 5632; omega

/-- and their rows in the projection back. -/
theorem block4 (j : Fin 512) (d : Fin 2048) :
    iblk m c 4 t (ix2 j d) = argW2 m c (ix2 (Fin.ofNat 5632 (512 * (t.val % 11) + j.val)) d) := by
  have ht := point_lt t
  have hj := j.isLt
  blk_simp [iblk]
  refine (congrFun (w2_eq m c) _).trans (congrArg (m ((c : Thread nD τ).loc main_arg6)) (funext fun a => Fin.ext ?_))
  match a with
  | ⟨0, _⟩ => refine (Pipeline.Window.rect_emb_val win0_4 t _ _).trans ?_; rw [index4]; show t.val % 11 * 512 + j.val = (512 * (t.val % 11) + j.val) % 5632; omega
  | ⟨1, _⟩ => refine (Pipeline.Window.rect_emb_val win0_4 t _ _).trans ?_; rw [index4]; show 0 * 2048 + d.val = d.val; omega

/-- The row vectors of a point, one by one. -/
theorem pack0 : pack (iblk m c 1 t) 0 = fun d => argGain m c (ix1 d) :=
  funext fun d => (block1 m c t 0 d).trans ((congrFun (pack_eq m c) _).trans (packed0 _ _ _ _ _ _ d))

theorem pack1 : pack (iblk m c 1 t) 1 = fun d => argScale m c (ix3 (Fin.ofNat 8 (t.val / 44)) 0 d) :=
  funext fun d => (block1 m c t 1 d).trans ((congrFun (pack_eq m c) _).trans (packed1 _ _ _ _ _ _ d))

theorem pack2 : pack (iblk m c 1 t) 2 = fun d => argShift m c (ix3 (Fin.ofNat 8 (t.val / 44)) 0 d) :=
  funext fun d => (block1 m c t 2 d).trans ((congrFun (pack_eq m c) _).trans (packed2 _ _ _ _ _ _ d))

theorem pack3 : pack (iblk m c 1 t) 3 = fun d => argGate m c (ix3 (Fin.ofNat 8 (t.val / 44)) 0 d) :=
  funext fun d => (block1 m c t 3 d).trans ((congrFun (pack_eq m c) _).trans (packed3 _ _ _ _ _ _ d))

theorem pack4 : pack (iblk m c 1 t) 4 = fun d => argFinal m c (ix1 d) :=
  funext fun d => (block1 m c t 4 d).trans ((congrFun (pack_eq m c) _).trans (packed4 _ _ _ _ _ _ d))

end Cert.Kernel2Ideal.Ffn

end
-- ==== Proof.MixerRef.lean ====
/- The channel mixer's reference computes `Mixer.output`: its operations read entry by entry. -/
module

public import proofs.«01_k».proof.Proof.Gen.Reference2Ideal.Read
public import proofs.«01_k».proof.Proof.MixerSpec
public import Idealize.ShloMosaic.Lib.ValueIdx
public import Idealize.ShloMosaic.Lib.Pointwise

@[expose] public section

set_option maxRecDepth 16384

noncomputable section

namespace Cert.Reference2Ideal.Ffn

open Cert.Reference2Ideal Cert.Reference2Ideal.Read Idealize.ShloMosaic Idealize.ShloMosaic.TcCoe Idealize.SL.Sem

/-- The normed, scaled and shifted rows. -/
theorem modulated_apply (x0 : (⟨S8x2048x2048, .f32⟩ : BufTy).Contents (Elt Ideal)) (x1 : (⟨S2048, .f32⟩ : BufTy).Contents (Elt Ideal)) (x2 x3 : (⟨S8x1x2048, .f32⟩ : BufTy).Contents (Elt Ideal)) (b : Fin 8) (r d : Fin 2048) :
    val_main_v18 (F := Ideal) x0 x1 x2 x3 (ix3 b r d)
      = Mixer.modulated (fun j => x0 (ix3 b r j)) (fun j => x1 (ix1 j)) (fun j => x2 (ix3 b 0 j)) (fun j => x3 (ix3 b 0 j)) d := by
  pointwise [val_main_v18, val_main_v17, val_main_v16, val_main_v15, val_main_v14, val_main_v13, val_main_cst_2, val_main_v12, val_main_v11,
    val_main_v10, val_main_v9, val_main_v8, val_main_v7, val_main_v6, val_main_v5, val_main_cst_1, val_main_v4, val_main_v3, val_main_cst_0,
    val_main_v2, val_main_v1, val_main_cst, val_main_v0]
  rfl

/-- The hidden units. -/
theorem hidden_apply (x0 : (⟨S8x2048x2048, .f32⟩ : BufTy).Contents (Elt Ideal)) (x1 : (⟨S2048, .f32⟩ : BufTy).Contents (Elt Ideal)) (x2 x3 : (⟨S8x1x2048, .f32⟩ : BufTy).Contents (Elt Ideal)) (x5 : (⟨S2048x11264, .f32⟩ : BufTy).Contents (Elt Ideal)) (b : Fin 8) (r : Fin 2048) (k : Fin 5632) :
    val_main_v23 (F := Ideal) x0 x1 x2 x3 x5 (ix3 b r k)
      = Mixer.hidden (Mixer.modulated (fun j => x0 (ix3 b r j)) (fun j => x1 (ix1 j)) (fun j => x2 (ix3 b 0 j)) (fun j => x3 (ix3 b 0 j)))
          (fun d k => x5 (ix2 d ⟨k.val, by omega⟩)) (fun d k => x5 (ix2 d ⟨5632 + k.val, by omega⟩)) k := by
  pointwise [val_main_v23, val_main_v22, val_main_v21, val_main_v20, val_main_v19, val_main_call0_v5, val_main_call0_v4, val_main_call0_cst_0,
    val_main_call0_v3, val_main_call0_v2, val_main_call0_cst, val_main_call0_v1, val_main_call0_v0]
  simp only [modulated_apply]
  rfl

/-- The residual stream after the mixer. -/
theorem residual_apply (x0 : (⟨S8x2048x2048, .f32⟩ : BufTy).Contents (Elt Ideal)) (x1 : (⟨S2048, .f32⟩ : BufTy).Contents (Elt Ideal)) (x2 x3 x4 : (⟨S8x1x2048, .f32⟩ : BufTy).Contents (Elt Ideal)) (x5 : (⟨S2048x11264, .f32⟩ : BufTy).Contents (Elt Ideal)) (x6 : (⟨S5632x2048, .f32⟩ : BufTy).Contents (Elt Ideal)) (b : Fin 8) (r d : Fin 2048) :
    val_main_v27 (F := Ideal) x0 x1 x2 x3 x4 x5 x6 (ix3 b r d)
      = (fun x y : EReal => x + y) (x0 (ix3 b r d)) ((fun x y : EReal => x * y) (x4 (ix3 b 0 d))
          (Mixer.mix (Mixer.modulated (fun j => x0 (ix3 b r j)) (fun j => x1 (ix1 j)) (fun j => x2 (ix3 b 0 j)) (fun j => x3 (ix3 b 0 j)))
            (fun d k => x5 (ix2 d ⟨k.val, by omega⟩)) (fun d k => x5 (ix2 d ⟨5632 + k.val, by omega⟩)) (fun k d => x6 (ix2 k d)) d)) := by
  pointwise [val_main_v27, val_main_v26, val_main_v25, val_main_v24]
  simp only [hidden_apply]
  rfl

/-- The reference's result. -/
theorem result_apply (x0 : (⟨S8x2048x2048, .f32⟩ : BufTy).Contents (Elt Ideal)) (x1 : (⟨S2048, .f32⟩ : BufTy).Contents (Elt Ideal)) (x2 x3 x4 : (⟨S8x1x2048, .f32⟩ : BufTy).Contents (Elt Ideal)) (x5 : (⟨S2048x11264, .f32⟩ : BufTy).Contents (Elt Ideal)) (x6 : (⟨S5632x2048, .f32⟩ : BufTy).Contents (Elt Ideal)) (x7 : (⟨S2048, .f32⟩ : BufTy).Contents (Elt Ideal)) (b : Fin 8) (r d : Fin 2048) :
    val_main_v40 (F := Ideal) x0 x1 x2 x3 x4 x5 x6 x7 (ix3 b r d) = Mixer.output x0 x1 x2 x3 x4 x5 x6 x7 b r d := by
  pointwise [val_main_v40, val_main_v39, val_main_v38, val_main_v37, val_main_v36, val_main_v35, val_main_v34, val_main_v33, val_main_cst_5,
    val_main_v32, val_main_v31, val_main_cst_4, val_main_v30, val_main_v29, val_main_cst_3, val_main_v28]
  simp only [residual_apply]
  rfl

end Cert.Reference2Ideal.Ffn

end
-- ==== Proof.Projection.lean ====
/- The output projection: the four mixers' columns side by side through one matrix, times the residual's gate, plus the residual
   stream. The formula, and the reference's result and the kernel's block read off it. -/
module

public import proofs.«01_k».proof.Proof.Gen.Kernel3Ideal.Value
public import proofs.«01_k».proof.Proof.Gen.Reference3Ideal.Read
public import Idealize.ShloMosaic.Lib.Pointwise
public import Idealize.ShloMosaic.Lib.VecWindow

@[expose] public section

set_option maxRecDepth 16384

noncomputable section

namespace Projection

open Idealize.ShloMosaic

/-- The product of a row of one mixer with its 512 rows of the matrix. -/
def product (y : Fin 512 → EReal) (w : Fin 512 → Fin 2048 → EReal) (d : Fin 2048) : EReal := ∑ k : Fin 512, y k * w k d

/-- One output row. -/
def row (ya yb yc yd : Fin 512 → EReal) (wa wb wc wd : Fin 512 → Fin 2048 → EReal) (x g : Fin 2048 → EReal) (d : Fin 2048) : EReal :=
  x d + g d * (product ya wa d + product yb wb d + product yc wc d + product yd wd d)

/-- Every output row, from the whole arrays. -/
def output (ya yb yc yd : (⟨3, ![8, 2048, 512]⟩ : Shape).Idx → EReal) (w : (⟨2, ![2048, 2048]⟩ : Shape).Idx → EReal)
    (x : (⟨3, ![8, 2048, 2048]⟩ : Shape).Idx → EReal) (g : (⟨3, ![8, 1, 2048]⟩ : Shape).Idx → EReal) (b : Fin 8) (r : Fin 2048) : Fin 2048 → EReal :=
  row (fun k => ya (ValueIdx.ix3 b r k)) (fun k => yb (ValueIdx.ix3 b r k)) (fun k => yc (ValueIdx.ix3 b r k)) (fun k => yd (ValueIdx.ix3 b r k))
    (fun k d => w (ValueIdx.ix2 ⟨k.val, by omega⟩ d)) (fun k d => w (ValueIdx.ix2 ⟨512 + k.val, by omega⟩ d))
    (fun k d => w (ValueIdx.ix2 ⟨1024 + k.val, by omega⟩ d)) (fun k d => w (ValueIdx.ix2 ⟨1536 + k.val, by omega⟩ d))
    (fun d => x (ValueIdx.ix3 b r d)) (fun d => g (ValueIdx.ix3 b 0 d))

/-- A sum of 2048 terms by its quarters. -/
theorem sum_quarters (F : Fin 2048 → EReal) : ∑ k : Fin 2048, F k
    = ∑ k : Fin 512, F ⟨k.val, by omega⟩ + ∑ k : Fin 512, F ⟨512 + k.val, by omega⟩ + ∑ k : Fin 512, F ⟨1024 + k.val, by omega⟩ + ∑ k : Fin 512, F ⟨1536 + k.val, by omega⟩ := by
  have h1 := Fin.sum_univ_add (a := 1536) (b := 512) F
  have h2 := Fin.sum_univ_add (a := 1024) (b := 512) fun k => F (Fin.castAdd 512 k)
  have h3 := Fin.sum_univ_add (a := 512) (b := 512) fun k => F (Fin.castAdd 512 (Fin.castAdd 512 k))
  refine h1.trans (congrArg₂ (fun x y : EReal => x + y) (h2.trans (congrArg₂ (fun x y : EReal => x + y) (h3.trans ?_) ?_)) ?_) <;> rfl

end Projection

namespace Cert.Reference3Ideal.Out

open Cert.Reference3Ideal Cert.Reference3Ideal.Read Idealize.ShloMosaic

theorem result_apply (x0 x1 x2 x3 : (⟨S8x2048x512, .bf16⟩ : BufTy).Contents (Elt Ideal)) (x4 : (⟨S2048x2048, .f32⟩ : BufTy).Contents (Elt Ideal))
    (x5 : (⟨S8x2048x2048, .f32⟩ : BufTy).Contents (Elt Ideal)) (x6 : (⟨S8x1x2048, .f32⟩ : BufTy).Contents (Elt Ideal)) (b : Fin 8) (r d : Fin 2048) :
    val_main_v5 (F := Ideal) x0 x1 x2 x3 x4 x5 x6 (ix3 b r d) = Projection.output x0 x1 x2 x3 x4 x5 x6 b r d := by
  pointwise [val_main_v0, val_main_v1, val_main_v2, val_main_v3, val_main_v4, val_main_v5]
  unfold Projection.output Projection.row Projection.product
  refine congrArg₂ (fun x y : EReal => x + y) rfl (congrArg₂ (fun x y : EReal => x * y) rfl ((Projection.sum_quarters _).trans ?_))
  refine congrArg₂ (fun x y : EReal => x + y) (congrArg₂ (fun x y : EReal => x + y) (congrArg₂ (fun x y : EReal => x + y) ?_ ?_) ?_) ?_
  all_goals refine Finset.sum_congr rfl fun k _ => congrArg₂ (fun x y : EReal => x * y) ?_ rfl
  all_goals have hk := k.isLt
  · rw [dif_pos (show k.val < 512 by omega)]
    rfl
  · rw [dif_neg (show ¬512 + k.val < 512 by omega), dif_pos (show 512 + k.val - 512 < 512 by omega)]
    exact congrArg x1 (congrArg (fun z => ix3 b r z) (Fin.ext (by show 512 + k.val - 512 = k.val; omega)))
  · rw [dif_neg (show ¬1024 + k.val < 512 by omega), dif_neg (show ¬1024 + k.val - 512 < 512 by omega), dif_pos (show 1024 + k.val - 512 - 512 < 512 by omega)]
    exact congrArg x2 (congrArg (fun z => ix3 b r z) (Fin.ext (by show 1024 + k.val - 512 - 512 = k.val; omega)))
  · rw [dif_neg (show ¬1536 + k.val < 512 by omega), dif_neg (show ¬1536 + k.val - 512 < 512 by omega), dif_neg (show ¬1536 + k.val - 512 - 512 < 512 by omega)]
    exact congrArg x3 (congrArg (fun z => ix3 b r z) (Fin.ext (by show 1536 + k.val - 512 - 512 - 512 = k.val; omega)))

end Cert.Reference3Ideal.Out

namespace Cert.Kernel3Ideal.Out

open Cert.Kernel3Ideal Cert.Kernel3Ideal.Gen Idealize.ShloMosaic

theorem block_apply (x0 x1 x2 x3 : Vec Ideal S1x512x512 .bf16) (x4 : Vec Ideal S2048x2048 .bf16) (x5 : Vec Ideal S1x512x2048 .f32) (x6 : Vec Ideal S1x1x2048 .f32)
    (r : Fin 512) (d : Fin 2048) : out0_7 x0 x1 x2 x3 x4 x5 x6 (ix3 0 r d)
    = Projection.row (fun k => x0 (ix3 0 r k)) (fun k => x1 (ix3 0 r k)) (fun k => x2 (ix3 0 r k)) (fun k => x3 (ix3 0 r k))
      (fun k d => x4 (ix2 ⟨k.val, by omega⟩ d)) (fun k d => x4 (ix2 ⟨512 + k.val, by omega⟩ d))
      (fun k d => x4 (ix2 ⟨1024 + k.val, by omega⟩ d)) (fun k d => x4 (ix2 ⟨1536 + k.val, by omega⟩ d))
      (fun d => x5 (ix3 0 r d)) (fun d => x6 (ix3 0 0 d)) d := by
  unfold out0_7
  rw [View.canon_unit_zero (show (![0, 0, 0] : Fin 3 → Nat) = fun _ => 0 by decide)]
  pointwise [k0_pay1, k0_pay2, k0_pay3, k0_pay4]
  rfl

end Cert.Kernel3Ideal.Out

end
-- ==== Proof.ProjectionArray.lean ====
/- The output projection's result array: the blocks its 32 grid points read and write, and the array they make. Point `t` works on
   batch entry `t / 4` and on rows `512 * (t % 4)` and following. -/
module

public import proofs.«01_k».proof.Proof.Projection
public import Idealize.ShloMosaic.Lib.Pipeline.ValueKit.Geometry

@[expose] public section

set_option maxRecDepth 16384

noncomputable section

namespace Cert.Kernel3Ideal.Out

open Cert.Kernel3Ideal Cert.Kernel3Ideal.Gen Idealize.ShloMosaic Idealize.ShloMosaic.TcCoe Idealize.SL.Sem

theorem index0 : ∀ t : Fin cfg0.N, win0_0.index t = ![t.val / 4, t.val % 4, 0] := (by decide +kernel : ∀ t : Fin grid0.N, _)
theorem index1 : ∀ t : Fin cfg0.N, win0_1.index t = ![t.val / 4, t.val % 4, 0] := (by decide +kernel : ∀ t : Fin grid0.N, _)
theorem index2 : ∀ t : Fin cfg0.N, win0_2.index t = ![t.val / 4, t.val % 4, 0] := (by decide +kernel : ∀ t : Fin grid0.N, _)
theorem index3 : ∀ t : Fin cfg0.N, win0_3.index t = ![t.val / 4, t.val % 4, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val / 4, t.val % 4, 0] := (by decide +kernel : ∀ t : Fin grid0.N, _)
theorem index6 : ∀ t : Fin cfg0.N, win0_6.index t = ![t.val / 4, 0, 0] := (by decide +kernel : ∀ t : Fin grid0.N, _)
theorem index7 : ∀ t : Fin cfg0.N, win0_7.index t = ![t.val / 4, t.val % 4, 0] := (by decide +kernel : ∀ t : Fin grid0.N, _)

variable (m : (ℓ : Loc nD τ sig) → Buf (Elt Ideal) ℓ) (c : Dev nD)

/-- The arguments. -/
abbrev argA : S8x2048x512.Idx → EReal := m ((c : Thread nD τ).loc main_arg0)
abbrev argB : S8x2048x512.Idx → EReal := m ((c : Thread nD τ).loc main_arg1)
abbrev argC : S8x2048x512.Idx → EReal := m ((c : Thread nD τ).loc main_arg2)
abbrev argD : S8x2048x512.Idx → EReal := m ((c : Thread nD τ).loc main_arg3)
abbrev argW : S2048x2048.Idx → EReal := m ((c : Thread nD τ).loc main_arg4)
abbrev argX : S8x2048x2048.Idx → EReal := m ((c : Thread nD τ).loc main_arg5)
abbrev argGate : S8x1x2048.Idx → EReal := m ((c : Thread nD τ).loc main_arg6)

theorem w_eq : V m c main_v0 = (truncf (F := Ideal) .bf16 (m ((c : Thread nD τ).loc main_arg4)) Facts₀.bitsLt_bf16_f32 : FVec Ideal S2048x2048 .bf16) := by
  dsimp only [V, hostOps0]
  after_results

/-- The batch entry and the row of a point. -/
def entryOf (n : ℕ) : Fin 8 := Fin.ofNat 8 (n / 4)
def rowAt (n : ℕ) (r : Fin 512) : Fin 2048 := Fin.ofNat 2048 (512 * (n % 4) + r.val)

variable (t : Fin cfg0.N)

theorem point_lt : t.val < 32 := lt_of_lt_of_eq t.isLt (show cfg0.N = 32 from N_0)

/-- The four mixers' rows, -/
theorem block0 (r : Fin 512) (k : Fin 512) : iblk m c 0 t (ix3 0 r k) = argA m c (ix3 (entryOf t.val) (rowAt t.val r) k) := by
  have ht := point_lt t
  have hr := r.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 4 * 1 + 0 = t.val / 4 % 8; omega
  | ⟨1, _⟩ => refine (Pipeline.Window.rect_emb_val win0_0 t _ _).trans ?_; rw [index0]; show t.val % 4 * 512 + r.val = (512 * (t.val % 4) + r.val) % 2048; omega
  | ⟨2, _⟩ => refine (Pipeline.Window.rect_emb_val win0_0 t _ _).trans ?_; rw [index0]; show 0 * 512 + k.val = k.val; omega

theorem block1 (r : Fin 512) (k : Fin 512) : iblk m c 1 t (ix3 0 r k) = argB m c (ix3 (entryOf t.val) (rowAt t.val r) k) := by
  have ht := point_lt t
  have hr := r.isLt
  blk_simp [iblk]
  refine (congrFun (V_main_arg1 m c) _).trans (congrArg (m ((c : Thread nD τ).loc main_arg1)) (funext fun a => Fin.ext ?_))
  match a with
  | ⟨0, _⟩ => refine (Pipeline.Window.rect_emb_val win0_1 t _ _).trans ?_; rw [index1]; show t.val / 4 * 1 + 0 = t.val / 4 % 8; omega
  | ⟨1, _⟩ => refine (Pipeline.Window.rect_emb_val win0_1 t _ _).trans ?_; rw [index1]; show t.val % 4 * 512 + r.val = (512 * (t.val % 4) + r.val) % 2048; omega
  | ⟨2, _⟩ => refine (Pipeline.Window.rect_emb_val win0_1 t _ _).trans ?_; rw [index1]; show 0 * 512 + k.val = k.val; omega

theorem block2 (r : Fin 512) (k : Fin 512) : iblk m c 2 t (ix3 0 r k) = argC m c (ix3 (entryOf t.val) (rowAt t.val r) k) := by
  have ht := point_lt t
  have hr := r.isLt
  blk_simp [iblk]
  refine (congrFun (V_main_arg2 m c) _).trans (congrArg (m ((c : Thread nD τ).loc main_arg2)) (funext fun a => Fin.ext ?_))
  match a with
  | ⟨0, _⟩ => refine (Pipeline.Window.rect_emb_val win0_2 t _ _).trans ?_; rw [index2]; show t.val / 4 * 1 + 0 = t.val / 4 % 8; omega
  | ⟨1, _⟩ => refine (Pipeline.Window.rect_emb_val win0_2 t _ _).trans ?_; rw [index2]; show t.val % 4 * 512 + r.val = (512 * (t.val % 4) + r.val) % 2048; omega
  | ⟨2, _⟩ => refine (Pipeline.Window.rect_emb_val win0_2 t _ _).trans ?_; rw [index2]; show 0 * 512 + k.val = k.val; omega

theorem block3 (r : Fin 512) (k : Fin 512) : iblk m c 3 t (ix3 0 r k) = argD m c (ix3 (entryOf t.val) (rowAt t.val r) k) := by
  have ht := point_lt t
  have hr := r.isLt
  blk_simp [iblk]
  refine (congrFun (V_main_arg3 m c) _).trans (congrArg (m ((c : Thread nD τ).loc main_arg3)) (funext fun a => Fin.ext ?_))
  match a with
  | ⟨0, _⟩ => refine (Pipeline.Window.rect_emb_val win0_3 t _ _).trans ?_; rw [index3]; show t.val / 4 * 1 + 0 = t.val / 4 % 8; omega
  | ⟨1, _⟩ => refine (Pipeline.Window.rect_emb_val win0_3 t _ _).trans ?_; rw [index3]; show t.val % 4 * 512 + r.val = (512 * (t.val % 4) + r.val) % 2048; omega
  | ⟨2, _⟩ => refine (Pipeline.Window.rect_emb_val win0_3 t _ _).trans ?_; rw [index3]; show 0 * 512 + k.val = k.val; omega

/-- the matrix, -/
theorem block4 (k : Fin 2048) (d : Fin 2048) : iblk m c 4 t (ix2 k d) = argW m c (ix2 k d) := by
  blk_simp [iblk]
  refine (congrFun (w_eq m c) _).trans (congrArg (m ((c : Thread nD τ).loc main_arg4)) (funext fun a => Fin.ext ?_))
  match a with
  | ⟨0, _⟩ => refine (Pipeline.Window.rect_emb_val win0_4 t _ _).trans ?_; rw [index4]; show 0 * 2048 + k.val = k.val; omega
  | ⟨1, _⟩ => refine (Pipeline.Window.rect_emb_val win0_4 t _ _).trans ?_; rw [index4]; show 0 * 2048 + d.val = d.val; omega

/-- the residual stream's rows, -/
theorem block5 (r : Fin 512) (d : Fin 2048) : iblk m c 5 t (ix3 0 r d) = argX m c (ix3 (entryOf t.val) (rowAt t.val r) d) := by
  have ht := point_lt t
  have hr := r.isLt
  blk_simp [iblk]
  refine (congrFun (V_main_arg5 m c) _).trans (congrArg (m ((c : Thread nD τ).loc main_arg5)) (funext fun a => Fin.ext ?_))
  match a with
  | ⟨0, _⟩ => refine (Pipeline.Window.rect_emb_val win0_5 t _ _).trans ?_; rw [index5]; show t.val / 4 * 1 + 0 = t.val / 4 % 8; omega
  | ⟨1, _⟩ => refine (Pipeline.Window.rect_emb_val win0_5 t _ _).trans ?_; rw [index5]; show t.val % 4 * 512 + r.val = (512 * (t.val % 4) + r.val) % 2048; omega
  | ⟨2, _⟩ => refine (Pipeline.Window.rect_emb_val win0_5 t _ _).trans ?_; rw [index5]; show 0 * 2048 + d.val = d.val; omega

/-- and its gate. -/
theorem block6 (d : Fin 2048) : iblk m c 6 t (ix3 0 0 d) = argGate m c (ix3 (entryOf t.val) 0 d) := by
  have ht := point_lt t
  blk_simp [iblk]
  refine (congrFun (V_main_arg6 m c) _).trans (congrArg (m ((c : Thread nD τ).loc main_arg6)) (funext fun a => Fin.ext ?_))
  match a with
  | ⟨0, _⟩ => refine (Pipeline.Window.rect_emb_val win0_6 t _ _).trans ?_; rw [index6]; show t.val / 4 * 1 + 0 = t.val / 4 % 8; omega
  | ⟨1, _⟩ => refine (Pipeline.Window.rect_emb_val win0_6 t _ _).trans ?_; rw [index6]; rfl
  | ⟨2, _⟩ => refine (Pipeline.Window.rect_emb_val win0_6 t _ _).trans ?_; rw [index6]; show 0 * 2048 + d.val = d.val; omega

/-- Row `r` of the block a point writes. -/
theorem row_apply (r : Fin 512) (d : Fin 2048) :
    out0_7 (iblk m c 0 t) (iblk m c 1 t) (iblk m c 2 t) (iblk m c 3 t) (iblk m c 4 t) (iblk m c 5 t) (iblk m c 6 t) (ix3 0 r d)
      = Projection.output (argA m c) (argB m c) (argC m c) (argD m c) (argW m c) (argX m c) (argGate m c) (entryOf t.val) (rowAt t.val r) d := by
  refine (block_apply _ _ _ _ _ _ _ r d).trans ?_
  simp only [block0, block1, block2, block3, block4, block5, block6]
  rfl

/-- The result array. -/
theorem array_eq : (dats m 0 c).arrAt 7 cfg0.N = fun y : S8x2048x2048.Idx =>
    Projection.output (argA m c) (argB m c) (argC m c) (argD m c) (argW m c) (argX m c) (argGate m c) (y 0) (y 1) (y 2) := by
  refine (dats m 0 c).arrAt_eq_of_covers 7 (fun y : S8x2048x2048.Idx =>
    Projection.output (argA m c) (argB m c) (argC m c) (argD m c) (argW m c) (argX m c) (argGate m c) (y 0) (y 1) (y 2)) (by decide +kernel) fun t _ y => ?_
  blk_simp
  rw [after0_7]
  have ht := point_lt t
  obtain ⟨r, d, rfl⟩ : ∃ (r : Fin 512) (d : Fin 2048), y = ix3 0 r d :=
    ⟨y 1, y 2, (ValueIdx.eq_ix3 y).trans (congrArg (fun z => ValueIdx.ix3 z (y 1) (y 2)) (Fin.ext (by have : (y 0).val < 1 := (y 0).isLt; show (y 0).val = 0; omega)))⟩
  have hr := r.isLt
  refine (row_apply m c t r d).trans ?_
  have e0 : entryOf t.val = ((win0_7.rect t).emb (ix3 0 r d) : S8x2048x2048.Idx) 0 := Fin.ext (by
    refine ((Pipeline.Window.rect_emb_val win0_7 t _ _).trans ?_).symm; rw [index7]; show t.val / 4 * 1 + 0 = t.val / 4 % 8; omega)
  have e1 : rowAt t.val r = ((win0_7.rect t).emb (ix3 0 r d) : S8x2048x2048.Idx) 1 := Fin.ext (by
    refine ((Pipeline.Window.rect_emb_val win0_7 t _ _).trans ?_).symm; rw [index7]; show t.val % 4 * 512 + r.val = (512 * (t.val % 4) + r.val) % 2048; omega)
  have e2 : d = ((win0_7.rect t).emb (ix3 0 r d) : S8x2048x2048.Idx) 2 := Fin.ext (by
    refine ((Pipeline.Window.rect_emb_val win0_7 t _ _).trans ?_).symm; rw [index7]; show 0 * 2048 + d.val = d.val; omega)
  exact congr (congr (congrArg (Projection.output (argA m c) (argB m c) (argC m c) (argD m c) (argW m c) (argX m c) (argGate m c)) e0) e1) e2

end Cert.Kernel3Ideal.Out

end
-- ==== Proof.InnerRows.lean ====
/- The channel mixer of a layer before the last: what its kernel computes at one grid point, entry by entry. Its vectors are those of
   the last layer's kernel but for the finished block, which is not normed. -/
module

public import proofs.«01_k».proof.Proof.Gen.Kernel4Ideal.Value
public import proofs.«01_k».proof.Proof.MixerRun
public import Idealize.ShloMosaic.Lib.Pointwise

@[expose] public section

set_option maxRecDepth 16384

noncomputable section

namespace Cert.Kernel4Ideal.Ffn

open Cert.Kernel2Ideal.Ffn (rowOf mat pack)
open Cert.Kernel4Ideal Cert.Kernel4Ideal.Gen Idealize.ShloMosaic Idealize.ShloMosaic.TcCoe Idealize.SL.Sem

/-- The first half's modulated rows. -/
theorem pay5_apply (x1 : Vec Ideal S1x8x2048 .f32) (x : Vec Ideal S1x256x2048 .f32) (r : Fin 256) (d : Fin 2048) :
    k0_pay5 (k0_pay1 x1) x (ix2 r d) = Mixer.modulated (rowOf x r) (pack x1 0) (pack x1 1) (pack x1 2) d :=
  Cert.Kernel2Ideal.Ffn.pay5_apply x1 x r d

theorem pay3_apply (a : Vec Ideal S1x512x2048 .f32) (h : Vec Ideal S512x2048 .bf16) (x2 x3 : Vec Ideal S2048x512 .bf16) (x4 : Vec Ideal S512x2048 .bf16)
    (r : Fin 512) (d : Fin 2048) :
    k0_pay3 a h x2 x3 x4 (ix3 0 r d) = (fun x y : EReal => x + y) (a (ix3 0 r d)) (Mixer.mix (mat h r) (mat x2) (mat x3) (mat x4) d) :=
  Cert.Kernel2Ideal.Ffn.pay3_apply a h x2 x3 x4 r d

theorem pay4_apply (x1 : Vec Ideal S1x8x2048 .f32) (x a : Vec Ideal S1x512x2048 .f32) (r : Fin 512) (d : Fin 2048) :
    k0_pay4 x1 x a (ix3 0 r d) = (fun x y : EReal => x + y) (rowOf x r d) ((fun x y : EReal => x * y) (pack x1 3 d) (rowOf a r d)) := by
  pointwise [k0_pay4, k0_pay1]

/-- The second half's. -/
theorem pay8_apply (x1 : Vec Ideal S1x8x2048 .f32) (x : Vec Ideal S1x256x2048 .f32) (r : Fin 256) (d : Fin 2048) :
    k0_pay8 (k0_pay1 x1) x (ix2 r d) = Mixer.modulated (rowOf x r) (pack x1 0) (pack x1 1) (pack x1 2) d :=
  Cert.Kernel2Ideal.Ffn.pay8_apply x1 x r d

theorem pay6_apply (x1 : Vec Ideal S1x8x2048 .f32) (x : Vec Ideal S1x256x2048 .f32) (r : Fin 256) (d : Fin 2048) :
    k0_pay6 (k0_pay1 x1) x (ix2 r d) = Mixer.modulated (rowOf x r) (pack x1 0) (pack x1 1) (pack x1 2) d :=
  Cert.Kernel2Ideal.Ffn.pay6_apply x1 x r d

theorem pay9_apply (x1 : Vec Ideal S1x8x2048 .f32) (x : Vec Ideal S1x256x2048 .f32) (r : Fin 256) (d : Fin 2048) :
    k0_pay9 (k0_pay1 x1) x (ix2 r d) = Mixer.modulated (rowOf x r) (pack x1 0) (pack x1 1) (pack x1 2) d :=
  Cert.Kernel2Ideal.Ffn.pay9_apply x1 x r d

theorem pay7_apply (x1 : Vec Ideal S1x8x2048 .f32) (x : Vec Ideal S1x256x2048 .f32) (x2 x3 : Vec Ideal S2048x512 .bf16) (x4 : Vec Ideal S512x2048 .bf16)
    (r : Fin 256) (d : Fin 2048) :
    k0_pay7 (k0_pay1 x1) x x2 x3 x4 (ix2 r d)
      = Mixer.mix (Mixer.modulated (rowOf x r) (pack x1 0) (pack x1 1) (pack x1 2)) (mat x2) (mat x3) (mat x4) d :=
  Cert.Kernel2Ideal.Ffn.pay7_apply x1 x x2 x3 x4 r d

theorem pay2_apply (x1 : Vec Ideal S1x8x2048 .f32) (x : Vec Ideal S1x256x2048 .f32) (x2 x3 : Vec Ideal S2048x512 .bf16) (x4 : Vec Ideal S512x2048 .bf16)
    (r : Fin 256) (d : Fin 2048) :
    k0_pay2 (k0_pay10 (k0_pay1 x1) x x2 x3) x4 (ix2 r d)
      = Mixer.mix (Mixer.modulated (rowOf x r) (pack x1 0) (pack x1 1) (pack x1 2)) (mat x2) (mat x3) (mat x4) d :=
  Cert.Kernel2Ideal.Ffn.pay2_apply x1 x x2 x3 x4 r d

end Cert.Kernel4Ideal.Ffn

end
-- ==== Proof.InnerBlock.lean ====
/- The channel mixer of a layer before the last: what one grid point of its kernel leaves in its output block and in its scratch, in closed form: the first point of a
   run of eleven writes the block in two halves, the others add to it, and the last finishes it. -/
module

public import proofs.«01_k».proof.Proof.InnerRows
public import Idealize.ShloMosaic.Lib.VecWindow

@[expose] public section

set_option maxRecDepth 16384

noncomputable section

namespace Cert.Kernel4Ideal.Ffn

open Cert.Kernel2Ideal.Ffn (rowOf mat pack normed part ld_x0 ld_x1 ld_x2 ld_x4 ld_low ld_high part_at normed_at)
open Cert.Kernel4Ideal Cert.Kernel4Ideal.Gen Idealize.ShloMosaic Idealize.ShloMosaic.TcCoe Idealize.SL.Sem

/-- A load of the whole block after a store of the whole block. -/
theorem readCov_whole {κ : Kind} {sp : Space} (v : View sig κ sp S1x512x2048 .f32) (w : Vec Ideal S1x512x2048 .f32) (h h') :
    v.readCov (Val := Elt Ideal) [⟨Rect.unit ![0, 0, 0] ![1, 512, 2048] h, w⟩] (Rect.unit ![0, 0, 0] ![1, 512, 2048] h').toLoadRect = w :=
  View.readCov_full v h' h w []

section Run
variable (c : Dev nD) (i : grid0.Coords) (arg3 : Memref sig .tc .vmem S1x512x2048 .f32) (harg3 : arg3.IsWhole) (arg4 : Memref sig .tc .vmem S1x8x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1x512x2048 .f32) (harg8 : arg8.IsWhole) (arg9 : Memref sig .tc .vmem S512x2048 .bf16) (harg9 : arg9.IsWhole)
  (x0 : Vec Ideal S1x512x2048 .f32) (x1 : Vec Ideal S1x8x2048 .f32) (x2 : Vec Ideal S2048x512 .bf16) (x3 : Vec Ideal S2048x512 .bf16) (x4 : Vec Ideal S512x2048 .bf16)

theorem outB (hc0 : ¬cond0_0 i) (hc1 : cond0_1 i) (hc2 : ¬cond0_2 i) (xo5 : Vec Ideal S1x512x2048 .f32) (xs0 : Vec Ideal S512x2048 .bf16) :
    out0_B_5 (F := Ideal) c i arg3 harg3 arg4 harg4 arg5 harg5 arg6 harg6 arg7 harg7 arg8 harg8 arg9 harg9 hc0 hc1 hc2 x0 x1 x2 x3 x4 xo5 xs0 = k0_pay3 xo5 xs0 x2 x3 x4 := by
  unfold out0_B_5
  rw [View.read_writes_eq_canon _ _ _ (cover0_B_5 c i arg3 harg3 arg4 harg4 arg5 harg5 arg6 harg6 arg7 harg7 arg8 harg8 arg9 harg9 hc0 hc1 hc2 x0 x1 x2 x3 x4 xo5 xs0)]
  unfold kernelRun0_B
  dsimp only
  rw [View.canon_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [ld_x0, ld_x2, ld_x2, ld_x4, ld_x4]

theorem outC (hc0 : ¬cond0_0 i) (hc1 : cond0_1 i) (hc2 : cond0_2 i) (xo5 : Vec Ideal S1x512x2048 .f32) (xs0 : Vec Ideal S512x2048 .bf16) :
    out0_C_5 (F := Ideal) c i arg3 harg3 arg4 harg4 arg5 harg5 arg6 harg6 arg7 harg7 arg8 harg8 arg9 harg9 hc0 hc1 hc2 x0 x1 x2 x3 x4 xo5 xs0 = k0_pay4 x1 x0 (k0_pay3 xo5 xs0 x2 x3 x4) := by
  unfold out0_C_5
  rw [View.read_writes_eq_canon _ _ _ (cover0_C_5 c i arg3 harg3 arg4 harg4 arg5 harg5 arg6 harg6 arg7 harg7 arg8 harg8 arg9 harg9 hc0 hc1 hc2 x0 x1 x2 x3 x4 xo5 xs0)]
  unfold kernelRun0_C
  dsimp only
  rw [View.canon_cons_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [readCov_whole, ld_x0, ld_x0, ld_x1, ld_x2, ld_x2, ld_x4, ld_x4]

theorem outA (hc0 : cond0_0 i) (hc1 : ¬cond0_1 i) (hc2 : ¬cond0_2 i) :
    out0_A_5 (F := Ideal) c i arg3 harg3 arg4 harg4 arg5 harg5 arg6 harg6 arg7 harg7 arg8 harg8 arg9 harg9 hc0 hc1 hc2 x0 x1 x2 x3 x4 = part (normed x0 x1) x2 x3 x4 := by
  unfold out0_A_5
  rw [View.read_writes_eq_canon _ _ _ (cover0_A_5 c i arg3 harg3 arg4 harg4 arg5 harg5 arg6 harg6 arg7 harg7 arg8 harg8 arg9 harg9 hc0 hc1 hc2 x0 x1 x2 x3 x4)]
  funext y
  refine View.canon_apply_of_pieces (part (normed x0 x1) x2 x3 x4) _ ?_ y (cover0_A_5 c i arg3 harg3 arg4 harg4 arg5 harg5 arg6 harg6 arg7 harg7 arg8 harg8 arg9 harg9 hc0 hc1 hc2 x0 x1 x2 x3 x4 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl
  · dsimp only
    refine (Rect.payAlong_consLift (V := Elt Ideal .f32) (Rect.unit (s := S512x2048) ![256, 0] ![256, 2048] inb_S512x2048_S256x2048_256_0) ![1, 512, 2048] _ _ _ _ x
      (ix2 (⟨(x 1).val, (x 1).isLt⟩ : Fin 256) (⟨(x 2).val, (x 2).isLt⟩ : Fin 2048)) fun i => match i with | ⟨0, _⟩ => rfl | ⟨1, _⟩ => rfl).trans ?_
    rw [ld_x1, ld_x2, ld_x2, ld_x4, pay2_apply, ld_high]
    refine (part_at x0 x1 x2 x3 x4 _ _ _ ?_ ?_).symm
    · show (0 + 256) + 1 * (x 1).val = 256 + (x 1).val; omega
    · show (0 + 0) + 1 * (x 2).val = (x 2).val; omega
  · dsimp only
    refine (Rect.payAlong_consLift (V := Elt Ideal .f32) (Rect.unit (s := S512x2048) ![0, 0] ![256, 2048] inb_S512x2048_S256x2048_0_0) ![1, 512, 2048] _ _ _ _ x
      (ix2 (⟨(x 1).val, (x 1).isLt⟩ : Fin 256) (⟨(x 2).val, (x 2).isLt⟩ : Fin 2048)) fun i => match i with | ⟨0, _⟩ => rfl | ⟨1, _⟩ => rfl).trans ?_
    rw [ld_x1, ld_x2, ld_x2, ld_x4, pay7_apply, ld_low]
    refine (part_at x0 x1 x2 x3 x4 _ _ _ ?_ ?_).symm
    · show (0 + 0) + 1 * (x 1).val = (x 1).val; omega
    · show (0 + 0) + 1 * (x 2).val = (x 2).val; omega

theorem soutA (hc0 : cond0_0 i) (hc1 : ¬cond0_1 i) (hc2 : ¬cond0_2 i) :
    sout0_A_0 (F := Ideal) c i arg3 harg3 arg4 harg4 arg5 harg5 arg6 harg6 arg7 harg7 arg8 harg8 arg9 harg9 hc0 hc1 hc2 x0 x1 x2 x3 x4 = normed x0 x1 := by
  unfold sout0_A_0
  rw [View.read_writes_eq_canon _ _ _ (scover0_A_0 c i arg3 harg3 arg4 harg4 arg5 harg5 arg6 harg6 arg7 harg7 arg8 harg8 arg9 harg9 hc0 hc1 hc2 x0 x1 x2 x3 x4)]
  funext y
  refine View.canon_apply_of_pieces (normed x0 x1) _ ?_ y (scover0_A_0 c i arg3 harg3 arg4 harg4 arg5 harg5 arg6 harg6 arg7 harg7 arg8 harg8 arg9 harg9 hc0 hc1 hc2 x0 x1 x2 x3 x4 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay9_apply, ld_high]
    refine (normed_at x0 x1 _ _ _ ?_ ?_).symm
    · show 256 + 1 * (x 0).val = 256 + (x 0).val; omega
    · show 0 + 1 * (x 1).val = (x 1).val; omega
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay6_apply, ld_low]
    refine (normed_at x0 x1 _ _ _ ?_ ?_).symm
    · show 0 + 1 * (x 0).val = (x 0).val; omega
    · show 0 + 1 * (x 1).val = (x 1).val; omega

end Run

end Cert.Kernel4Ideal.Ffn

end
-- ==== Proof.InnerPoints.lean ====
/- The channel mixer of a layer before the last: the blocks of its kernel at its grid points. Point `t` of the 352 works on batch entry `t / 44`, rows
   `512 * (t / 11 % 4)` and following, and hidden units `512 * (t % 11)` and following. -/
module

public import proofs.«01_k».proof.Proof.InnerBlock
public import Idealize.ShloMosaic.Lib.Pipeline.ValueKit.Geometry

@[expose] public section

set_option maxRecDepth 16384

noncomputable section

namespace Cert.Kernel4Ideal.Ffn

open Cert.Kernel2Ideal.Ffn (pack packed packed0 packed1 packed2 packed3)
open Cert.Kernel4Ideal Cert.Kernel4Ideal.Gen Idealize.ShloMosaic Idealize.ShloMosaic.TcCoe Idealize.SL.Sem

theorem index0 : ∀ t : Fin cfg0.N, win0_0.index t = ![t.val / 44, t.val / 11 % 4, 0] := (by decide +kernel : ∀ t : Fin grid0.N, _)
theorem index1 : ∀ t : Fin cfg0.N, win0_1.index t = ![t.val / 44, 0, 0] := (by decide +kernel : ∀ t : Fin grid0.N, _)
theorem index2 : ∀ t : Fin cfg0.N, win0_2.index t = ![0, t.val % 11] := (by decide +kernel : ∀ t : Fin grid0.N, _)
theorem index3 : ∀ t : Fin cfg0.N, win0_3.index t = ![0, t.val % 11 + 11] := (by decide +kernel : ∀ t : Fin grid0.N, _)
theorem index4 : ∀ t : Fin cfg0.N, win0_4.index t = ![t.val % 11, 0] := (by decide +kernel : ∀ t : Fin grid0.N, _)
theorem index5 : ∀ t : Fin cfg0.N, win0_5.index t = ![t.val / 44, t.val / 11 % 4, 0] := (by decide +kernel : ∀ t : Fin grid0.N, _)

variable (m : (ℓ : Loc nD τ sig) → Buf (Elt Ideal) ℓ) (c : Dev nD)

/-- The arguments. -/
abbrev argX : S8x2048x2048.Idx → EReal := m ((c : Thread nD τ).loc main_arg0)
abbrev argGain : S2048.Idx → EReal := m ((c : Thread nD τ).loc main_arg1)
abbrev argScale : S8x1x2048.Idx → EReal := m ((c : Thread nD τ).loc main_arg2)
abbrev argShift : S8x1x2048.Idx → EReal := m ((c : Thread nD τ).loc main_arg3)
abbrev argGate : S8x1x2048.Idx → EReal := m ((c : Thread nD τ).loc main_arg4)
abbrev argW13 : S2048x11264.Idx → EReal := m ((c : Thread nD τ).loc main_arg5)
abbrev argW2 : S5632x2048.Idx → EReal := m ((c : Thread nD τ).loc main_arg6)
abbrev argFinal : S2048.Idx → EReal := m ((c : Thread nD τ).loc main_arg7)

/-! ### The host lines before the kernel -/

set_option maxHeartbeats 4000000 in
theorem w13_eq : V m c main_v1 = (truncf (F := Ideal) .bf16 (m ((c : Thread nD τ).loc main_arg5)) Facts₀.bitsLt_bf16_f32 : FVec Ideal S2048x11264 .bf16) := by
  dsimp only [V, hostOps0, List.flatten_cons, List.flatten_nil, List.append_nil, List.cons_append, List.nil_append]
  after_results

set_option maxHeartbeats 4000000 in
theorem w2_eq : V m c main_v2 = (truncf (F := Ideal) .bf16 (m ((c : Thread nD τ).loc main_arg6)) Facts₀.bitsLt_bf16_f32 : FVec Ideal S5632x2048 .bf16) := by
  dsimp only [V, hostOps0, List.flatten_cons, List.flatten_nil, List.append_nil, List.cons_append, List.nil_append]
  after_results

set_option maxHeartbeats 4000000 in
theorem pack_eq : V m c main_v9 = packed (m ((c : Thread nD τ).loc main_arg1)) (m ((c : Thread nD τ).loc main_arg2)) (m ((c : Thread nD τ).loc main_arg3))
    (m ((c : Thread nD τ).loc main_arg4)) (m ((c : Thread nD τ).loc main_arg7)) := by
  dsimp only [V, hostOps0, List.flatten_cons, List.flatten_nil, List.append_nil, List.cons_append, List.nil_append]
  after_results
  rfl

/-! ### The blocks -/

variable (t : Fin cfg0.N)

theorem point_lt : t.val < 352 := lt_of_lt_of_eq t.isLt N_0

/-- The rows of a point, -/
theorem block0 (r : Fin 512) (d : Fin 2048) :
    iblk m c 0 t (ix3 0 r d) = argX m c (ix3 (Fin.ofNat 8 (t.val / 44)) (Fin.ofNat 2048 (512 * (t.val / 11 % 4) + r.val)) d) := by
  have ht := point_lt t
  have hr := r.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 44 * 1 + 0 = t.val / 44 % 8; omega
  | ⟨1, _⟩ => refine (Pipeline.Window.rect_emb_val win0_0 t _ _).trans ?_; rw [index0]; show t.val / 11 % 4 * 512 + r.val = (512 * (t.val / 11 % 4) + r.val) % 2048; omega
  | ⟨2, _⟩ => refine (Pipeline.Window.rect_emb_val win0_0 t _ _).trans ?_; rw [index0]; show 0 * 2048 + d.val = d.val; omega

/-- its row vectors, -/
theorem block1 (k : Fin 8) (d : Fin 2048) : iblk m c 1 t (ix3 0 k d) = V m c main_v9 (ix3 (Fin.ofNat 8 (t.val / 44)) k d) := by
  have ht := point_lt t
  blk_simp [iblk]
  refine congrArg (V m c main_v9) (funext fun a => Fin.ext ?_)
  match a with
  | ⟨0, _⟩ => refine (Pipeline.Window.rect_emb_val win0_1 t _ _).trans ?_; rw [index1]; show t.val / 44 * 1 + 0 = t.val / 44 % 8; omega
  | ⟨1, _⟩ => refine (Pipeline.Window.rect_emb_val win0_1 t _ _).trans ?_; rw [index1]; show 0 * 8 + k.val = k.val; omega
  | ⟨2, _⟩ => refine (Pipeline.Window.rect_emb_val win0_1 t _ _).trans ?_; rw [index1]; show 0 * 2048 + d.val = d.val; omega

/-- the columns of its hidden units in the first matrix and in the second, -/
theorem block2 (d : Fin 2048) (j : Fin 512) :
    iblk m c 2 t (ix2 d j) = argW13 m c (ix2 d ⟨(Fin.ofNat 5632 (512 * (t.val % 11) + j.val)).val, by omega⟩) := by
  have ht := point_lt t
  have hj := j.isLt
  blk_simp [iblk]
  refine (congrFun (w13_eq m c) _).trans (congrArg (m ((c : Thread nD τ).loc main_arg5)) (funext fun a => Fin.ext ?_))
  match a with
  | ⟨0, _⟩ => refine (Pipeline.Window.rect_emb_val win0_2 t _ _).trans ?_; rw [index2]; show 0 * 2048 + d.val = d.val; omega
  | ⟨1, _⟩ => refine (Pipeline.Window.rect_emb_val win0_2 t _ _).trans ?_; rw [index2]; show t.val % 11 * 512 + j.val = (512 * (t.val % 11) + j.val) % 5632; omega

theorem block3 (d : Fin 2048) (j : Fin 512) :
    iblk m c 3 t (ix2 d j) = argW13 m c (ix2 d ⟨5632 + (Fin.ofNat 5632 (512 * (t.val % 11) + j.val)).val, by omega⟩) := by
  have ht := point_lt t
  have hj := j.isLt
  blk_simp [iblk]
  refine (congrFun (w13_eq m c) _).trans (congrArg (m ((c : Thread nD τ).loc main_arg5)) (funext fun a => Fin.ext ?_))
  match a with
  | ⟨0, _⟩ => refine (Pipeline.Window.rect_emb_val win0_3 t _ _).trans ?_; rw [index3]; show 0 * 2048 + d.val = d.val; omega
  | ⟨1, _⟩ => refine (Pipeline.Window.rect_emb_val win0_3 t _ _).trans ?_; rw [index3]; show (t.val % 11 + 11) * 512 + j.val = 5632 + (512 * (t.val % 11) + j.val) % 5632; omega

/-- and their rows in the projection back. -/
theorem block4 (j : Fin 512) (d : Fin 2048) :
    iblk m c 4 t (ix2 j d) = argW2 m c (ix2 (Fin.ofNat 5632 (512 * (t.val % 11) + j.val)) d) := by
  have ht := point_lt t
  have hj := j.isLt
  blk_simp [iblk]
  refine (congrFun (w2_eq m c) _).trans (congrArg (m ((c : Thread nD τ).loc main_arg6)) (funext fun a => Fin.ext ?_))
  match a with
  | ⟨0, _⟩ => refine (Pipeline.Window.rect_emb_val win0_4 t _ _).trans ?_; rw [index4]; show t.val % 11 * 512 + j.val = (512 * (t.val % 11) + j.val) % 5632; omega
  | ⟨1, _⟩ => refine (Pipeline.Window.rect_emb_val win0_4 t _ _).trans ?_; rw [index4]; show 0 * 2048 + d.val = d.val; omega

/-- The row vectors of a point, one by one. -/
theorem pack0 : pack (iblk m c 1 t) 0 = fun d => argGain m c (ix1 d) :=
  funext fun d => (block1 m c t 0 d).trans ((congrFun (pack_eq m c) _).trans (packed0 _ _ _ _ _ _ d))

theorem pack1 : pack (iblk m c 1 t) 1 = fun d => argScale m c (ix3 (Fin.ofNat 8 (t.val / 44)) 0 d) :=
  funext fun d => (block1 m c t 1 d).trans ((congrFun (pack_eq m c) _).trans (packed1 _ _ _ _ _ _ d))

theorem pack2 : pack (iblk m c 1 t) 2 = fun d => argShift m c (ix3 (Fin.ofNat 8 (t.val / 44)) 0 d) :=
  funext fun d => (block1 m c t 2 d).trans ((congrFun (pack_eq m c) _).trans (packed2 _ _ _ _ _ _ d))

theorem pack3 : pack (iblk m c 1 t) 3 = fun d => argGate m c (ix3 (Fin.ofNat 8 (t.val / 44)) 0 d) :=
  funext fun d => (block1 m c t 3 d).trans ((congrFun (pack_eq m c) _).trans (packed3 _ _ _ _ _ _ d))

end Cert.Kernel4Ideal.Ffn

end
-- ==== Proof.InnerRun.lean ====
/- The channel mixer of a layer before the last: what its kernel leaves after each of its grid points, and so in its result. It differs
   from the last layer's in the last of the eleven points of a row block, which adds the residual and does not norm. -/
module

public import proofs.«01_k».proof.Proof.InnerPoints

@[expose] public section

set_option maxRecDepth 16384

noncomputable section

namespace Cert.Kernel4Ideal.Ffn

open Cert.Kernel2Ideal.Ffn (rowOf mat pack normed part entryOf rowAt sum_tiles)
open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- A normed row, -/
def normedRow (b : Fin 8) (s : Fin 2048) : Fin 2048 → EReal :=
  Mixer.modulated (fun d => argX m c (ix3 b s d)) (fun d => argGain m c (ix1 d)) (fun d => argScale m c (ix3 b 0 d)) (fun d => argShift m c (ix3 b 0 d))

/-- and the summand of its hidden unit `k` in channel `d`. -/
def summand (b : Fin 8) (s d : Fin 2048) (k : Fin 5632) : EReal :=
  Mixer.hidden (normedRow m c b s) (fun d (k : Fin 5632) => argW13 m c (ix2 d ⟨k.val, by omega⟩)) (fun d (k : Fin 5632) => argW13 m c (ix2 d ⟨5632 + k.val, by omega⟩)) k
    * argW2 m c (ix2 k d)

/-- The 512 summands of tile `f`. -/
def tileSum (b : Fin 8) (s d : Fin 2048) (f : ℕ) : EReal := ∑ j : Fin 512, summand m c b s d (Fin.ofNat 5632 (512 * f + j.val))

/-- The normed rows of block `q`, -/
def normedBlock (q : ℕ) : Vec Ideal S512x2048 .bf16 := fun y => normedRow m c (entryOf q) (rowAt q (y 0)) (y 1)

/-- and the sum of its first `n` tiles. -/
def tiles (q n : ℕ) : Vec Ideal S1x512x2048 .f32 := fun y => ∑ f ∈ Finset.range n, tileSum m c (entryOf q) (rowAt q (y 1)) (y 2) f

variable (t : Fin cfg0.N)

theorem quarter : t.val / 11 / 4 = t.val / 44 := by omega

theorem row_block (r : Fin 512) : rowOf (iblk m c 0 t) r = fun d => argX m c (ix3 (entryOf (t.val / 11)) (rowAt (t.val / 11) r) d) := by
  unfold entryOf rowAt
  rw [quarter]
  exact funext fun d => block0 m c t r d

theorem normed_eq : normed (iblk m c 0 t) (iblk m c 1 t) = normedBlock m c (t.val / 11) := by
  funext y
  obtain ⟨r, d, rfl⟩ : ∃ (r : Fin 512) (d : Fin 2048), y = ix2 r d := ⟨y 0, y 1, ValueIdx.eq_ix2 y⟩
  unfold normed normedBlock normedRow
  show Mixer.modulated (rowOf (iblk m c 0 t) r) (pack (iblk m c 1 t) 0) (pack (iblk m c 1 t) 1) (pack (iblk m c 1 t) 2) d = _
  rw [row_block, pack0, pack1, pack2]
  unfold entryOf
  rw [quarter]
  rfl

/-- The product of a point's tile with the normed rows. -/
theorem part_eq : part (normedBlock m c (t.val / 11)) (iblk m c 2 t) (iblk m c 3 t) (iblk m c 4 t)
    = fun y => tileSum m c (entryOf (t.val / 11)) (rowAt (t.val / 11) (y 1)) (y 2) (t.val % 11) := by
  funext y
  unfold part
  have hg : mat (iblk m c 2 t) = fun d j => argW13 m c (ix2 d ⟨(Fin.ofNat 5632 (512 * (t.val % 11) + j.val)).val, by omega⟩) :=
    funext fun d => funext fun j => block2 m c t d j
  have hu : mat (iblk m c 3 t) = fun d j => argW13 m c (ix2 d ⟨5632 + (Fin.ofNat 5632 (512 * (t.val % 11) + j.val)).val, by omega⟩) :=
    funext fun d => funext fun j => block3 m c t d j
  have hw : mat (iblk m c 4 t) = fun j d => argW2 m c (ix2 (Fin.ofNat 5632 (512 * (t.val % 11) + j.val)) d) :=
    funext fun j => funext fun d => block4 m c t j d
  rw [hg, hu, hw]
  rfl

/-- One more tile. -/
theorem add_tile (q n : ℕ) (hq : t.val / 11 = q) (hn : t.val % 11 = n) :
    k0_pay3 (tiles m c q n) (normedBlock m c q) (iblk m c 2 t) (iblk m c 3 t) (iblk m c 4 t) = tiles m c q (n + 1) := by
  subst hq hn
  funext y
  obtain ⟨r, d, rfl⟩ : ∃ (r : Fin 512) (d : Fin 2048), y = ix3 0 r d :=
    ⟨y 1, y 2, (ValueIdx.eq_ix3 y).trans (congrArg (fun z => ValueIdx.ix3 z (y 1) (y 2)) (Fin.ext (by have : (y 0).val < 1 := (y 0).isLt; show (y 0).val = 0; omega)))⟩
  refine (pay3_apply _ _ _ _ _ r d).trans ?_
  refine Eq.trans (congrArg (fun z : EReal => (fun x y : EReal => x + y) (tiles m c (t.val / 11) (t.val % 11) (ix3 0 r d)) z) (congrFun (part_eq m c t) (ix3 0 r d))) ?_
  exact (Finset.sum_range_succ _ _).symm

/-- The first tile. -/
theorem first_tile (q : ℕ) (hq : t.val / 11 = q) (hn : t.val % 11 = 0) :
    part (normedBlock m c q) (iblk m c 2 t) (iblk m c 3 t) (iblk m c 4 t) = tiles m c q 1 := by
  subst hq
  rw [part_eq, hn]
  funext y
  exact (Finset.sum_range_one _).symm

/-- Every point leaves its block's normed rows in the scratch, -/
theorem scratch_eq : ∀ (n : ℕ) (h : n < cfg0.N), (outsAt0 m c n h).2 = normedBlock m c (n / 11) := by
  intro n
  induction n with
  | zero =>
    intro h
    refine (congrArg Prod.snd (outsAt0_A m c ⟨0, h⟩ rfl (by show ¬1 ≤ 0 % 11; decide) (by show ¬0 % 11 = 10; decide))).trans ?_
    dsimp only
    rw [soutA]
    exact normed_eq m c ⟨0, h⟩
  | succ n ih =>
    intro h
    by_cases h0 : (n + 1) % 11 = 0
    · refine (congrArg Prod.snd (outsAt0_A m c ⟨n + 1, h⟩ h0 (by show ¬1 ≤ (n + 1) % 11; omega) (by show ¬(n + 1) % 11 = 10; omega))).trans ?_
      dsimp only
      rw [soutA]
      exact normed_eq m c ⟨n + 1, h⟩
    · have hd : n / 11 = (n + 1) / 11 := by omega
      by_cases h2 : (n + 1) % 11 = 10
      · refine (congrArg Prod.snd (outsAt0_C m c ⟨n + 1, h⟩ h0 (by show 1 ≤ (n + 1) % 11; omega) h2)).trans ?_
        dsimp only [sout0_B_0, sout0_C_0]
        show (outsAt0 m c n _).2 = _
        rw [ih, hd]
      · refine (congrArg Prod.snd (outsAt0_B m c ⟨n + 1, h⟩ h0 (by show 1 ≤ (n + 1) % 11; omega) h2)).trans ?_
        dsimp only [sout0_B_0, sout0_C_0]
        show (outsAt0 m c n _).2 = _
        rw [ih, hd]

/-- every point but the last of its row block leaves the sum of the tiles so far in the output block, -/
theorem partial_eq : ∀ (n : ℕ) (h : n < cfg0.N), n % 11 ≠ 10 → (outsAt0 m c n h).1 = tiles m c (n / 11) (n % 11 + 1) := by
  intro n
  induction n with
  | zero =>
    intro h _
    refine (congrArg Prod.fst (outsAt0_A m c ⟨0, h⟩ rfl (by show ¬1 ≤ 0 % 11; decide) (by show ¬0 % 11 = 10; decide))).trans ?_
    dsimp only
    rw [outA, normed_eq]
    exact first_tile m c ⟨0, h⟩ _ rfl rfl
  | succ n ih =>
    intro h h2
    by_cases h0 : (n + 1) % 11 = 0
    · refine (congrArg Prod.fst (outsAt0_A m c ⟨n + 1, h⟩ h0 (by show ¬1 ≤ (n + 1) % 11; omega) h2)).trans ?_
      dsimp only
      rw [outA, normed_eq, h0]
      exact first_tile m c ⟨n + 1, h⟩ _ rfl h0
    · refine (congrArg Prod.fst (outsAt0_B m c ⟨n + 1, h⟩ h0 (by show 1 ≤ (n + 1) % 11; omega) h2)).trans ?_
      dsimp only
      rw [outB]
      show k0_pay3 (outsAt0 m c n _).1 (outsAt0 m c n _).2 _ _ _ = _
      rw [ih _ (by omega), scratch_eq]
      have hd : n / 11 = (n + 1) / 11 := by omega
      have hn : n % 11 + 1 = (n + 1) % 11 := by omega
      rw [hd, hn]
      exact add_tile m c ⟨n + 1, h⟩ _ _ rfl rfl

/-- and the last one the residual with the whole sum. -/
theorem last_eq (h2 : t.val % 11 = 10) :
    (outsAt0 m c t.val t.isLt).1 = k0_pay4 (iblk m c 1 t) (iblk m c 0 t) (tiles m c (t.val / 11) 11) := by
  have ht := t.isLt
  have hd : (t.val - 1) / 11 = t.val / 11 := by omega
  have hn : (t.val - 1) % 11 + 1 = 10 := by omega
  rw [outsAt0_C m c t (by omega) (by omega) h2]
  dsimp only
  rw [outC, partial_eq m c _ _ (by omega), scratch_eq, hd, hn]
  exact congrArg _ (add_tile m c t _ _ rfl h2)

/-- Row `r` of the block the last point of a row block writes. -/
theorem block_apply (h2 : t.val % 11 = 10) (r : Fin 512) (d : Fin 2048) : (outsAt0 m c t.val t.isLt).1 (ix3 0 r d)
    = Mixer.innerOutput (argX m c) (argGain m c) (argScale m c) (argShift m c) (argGate m c) (argW13 m c) (argW2 m c)
      (entryOf (t.val / 11)) (rowAt (t.val / 11) r) d := by
  rw [last_eq m c t h2]
  refine (pay4_apply _ _ _ r d).trans ?_
  have hx : rowOf (tiles m c (t.val / 11) 11) r = fun d => ∑ k : Fin 5632, summand m c (entryOf (t.val / 11)) (rowAt (t.val / 11) r) d k :=
    funext fun d => sum_tiles (summand m c (entryOf (t.val / 11)) (rowAt (t.val / 11) r) d)
  rw [row_block, pack3, hx]
  unfold entryOf
  rw [quarter]
  rfl

/-- The result array. -/
theorem array_eq : (dats m 0 c).arrAt 5 cfg0.N = fun y : S8x2048x2048.Idx =>
    Mixer.innerOutput (argX m c) (argGain m c) (argScale m c) (argShift m c) (argGate m c) (argW13 m c) (argW2 m c) (y 0) (y 1) (y 2) := by
  refine (dats m 0 c).arrAt_eq_of_covers 5 (fun y : S8x2048x2048.Idx =>
    Mixer.innerOutput (argX m c) (argGain m c) (argScale m c) (argShift m c) (argGate m c) (argW13 m c) (argW2 m c) (y 0) (y 1) (y 2))
    (by decide +kernel) fun t hft y => ?_
  blk_simp
  rw [after0_5]
  have ht := point_lt t
  have h2 : t.val % 11 = 10 := (flush0_5 t).1 hft
  obtain ⟨r, d, rfl⟩ : ∃ (r : Fin 512) (d : Fin 2048), y = ix3 0 r d :=
    ⟨y 1, y 2, (ValueIdx.eq_ix3 y).trans (congrArg (fun z => ValueIdx.ix3 z (y 1) (y 2)) (Fin.ext (by have : (y 0).val < 1 := (y 0).isLt; show (y 0).val = 0; omega)))⟩
  have hr := r.isLt
  refine (block_apply m c t h2 r d).trans ?_
  have e0 : entryOf (t.val / 11) = ((win0_5.rect t).emb (ix3 0 r d) : S8x2048x2048.Idx) 0 := Fin.ext (by
    refine ((Pipeline.Window.rect_emb_val win0_5 t _ _).trans ?_).symm; rw [index5]; show t.val / 44 * 1 + 0 = t.val / 11 / 4 % 8; omega)
  have e1 : rowAt (t.val / 11) r = ((win0_5.rect t).emb (ix3 0 r d) : S8x2048x2048.Idx) 1 := Fin.ext (by
    refine ((Pipeline.Window.rect_emb_val win0_5 t _ _).trans ?_).symm; rw [index5]; show t.val / 11 % 4 * 512 + r.val = (512 * (t.val / 11 % 4) + r.val) % 2048; omega)
  have e2 : d = ((win0_5.rect t).emb (ix3 0 r d) : S8x2048x2048.Idx) 2 := Fin.ext (by
    refine ((Pipeline.Window.rect_emb_val win0_5 t _ _).trans ?_).symm; rw [index5]; show 0 * 2048 + d.val = d.val; omega)
  exact congr (congr (congrArg (Mixer.innerOutput (argX m c) (argGain m c) (argScale m c) (argShift m c) (argGate m c) (argW13 m c) (argW2 m c)) e0) e1) e2

end Cert.Kernel4Ideal.Ffn

end
-- ==== Proof.InnerRef.lean ====
/- The channel mixer of a layer before the last: its reference is the last layer's without the final norm. -/
module

public import proofs.«01_k».proof.Proof.Gen.Reference4Ideal.Read
public import proofs.«01_k».proof.Proof.MixerRef

@[expose] public section

set_option maxRecDepth 16384

noncomputable section

namespace Cert.Reference4Ideal.Ffn

open Cert.Reference4Ideal Cert.Reference4Ideal.Read Idealize.ShloMosaic Idealize.ShloMosaic.TcCoe Idealize.SL.Sem

/-- The reference's result. -/
theorem result_apply (x0 : (⟨S8x2048x2048, .f32⟩ : BufTy).Contents (Elt Ideal)) (x1 : (⟨S2048, .f32⟩ : BufTy).Contents (Elt Ideal)) (x2 x3 x4 : (⟨S8x1x2048, .f32⟩ : BufTy).Contents (Elt Ideal)) (x5 : (⟨S2048x11264, .f32⟩ : BufTy).Contents (Elt Ideal)) (x6 : (⟨S5632x2048, .f32⟩ : BufTy).Contents (Elt Ideal)) (b : Fin 8) (r d : Fin 2048) :
    val_main_v27 (F := Ideal) x0 x1 x2 x3 x4 x5 x6 (ix3 b r d) = Mixer.innerOutput x0 x1 x2 x3 x4 x5 x6 b r d :=
  Cert.Reference2Ideal.Ffn.residual_apply x0 x1 x2 x3 x4 x5 x6 b r d

end Cert.Reference4Ideal.Ffn

end
-- ==== Proof.ColumnsCases.lean ====
/- The input projection's grid points by cases: the first point of a row block norms the rows into the scratch and
   multiplies them with the first columns; the others multiply the scratch with theirs, and store into the output that has them. -/
module

public import proofs.«01_k».proof.Proof.Gen.Kernel5Ideal.Frame
public import proofs.«01_k».proof.Proof.Gen.Kernel5Ideal.Skeleton
public import Idealize.ShloMosaic.Lib.Pipeline.TableIdle

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := k0_cond1 i = 1#1
theorem hcond0_0 : ∀ t : Fin cfg0.N, cond0_0 (grid0.coords t) ↔ t.val % 9 = 0 :=
  (fun t => by
    have ht : t.val < 144 := Nat.lt_of_lt_of_eq t.isLt N_0
    have e0 : (grid0.coords t 0).val = t.val / 18 % 8 := Pipeline.Grid.coords_val t 0 (by decide) rfl
    have e1 : (grid0.coords t 1).val = t.val / 9 % 2 := Pipeline.Grid.coords_val t 1 (by decide) rfl
    have e2 : (grid0.coords t 2).val = t.val / 1 % 9 := Pipeline.Grid.coords_val t 2 (by decide) rfl
    simp only [cond0_0, k0_cond1, e0, e1, e2]
    word_cmp
   : ∀ t : Fin grid0.N, cond0_0 (grid0.coords t) ↔ t.val % 9 = 0)

abbrev cond0_1 (i : grid0.Coords) : Prop := k0_cond2 i = 1#1
theorem hcond0_1 : ∀ t : Fin cfg0.N, cond0_1 (grid0.coords t) ↔ (1 ≤ t.val % 9 ∧ t.val % 9 ≤ 2) :=
  (by decide +kernel : ∀ t : Fin grid0.N, cond0_1 (grid0.coords t) ↔ (1 ≤ t.val % 9 ∧ t.val % 9 ≤ 2))

abbrev cond0_2 (i : grid0.Coords) : Prop := k0_cond3 i = 1#1
theorem hcond0_2 : ∀ t : Fin cfg0.N, cond0_2 (grid0.coords t) ↔ (3 ≤ t.val % 9 ∧ t.val % 9 ≤ 6) :=
  (by decide +kernel : ∀ t : Fin grid0.N, cond0_2 (grid0.coords t) ↔ (3 ≤ t.val % 9 ∧ t.val % 9 ≤ 6))

abbrev cond0_3 (i : grid0.Coords) : Prop := k0_cond4 i = 1#1
theorem hcond0_3 : ∀ t : Fin cfg0.N, cond0_3 (grid0.coords t) ↔ 7 ≤ t.val % 9 :=
  (by decide +kernel : ∀ t : Fin grid0.N, cond0_3 (grid0.coords t) ↔ 7 ≤ t.val % 9)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

abbrev conds0_A (i : grid0.Coords) : Prop := cond0_0 i ∧ ¬cond0_1 i ∧ ¬cond0_2 i ∧ ¬cond0_3 i
instance conds0_A.dec (i : grid0.Coords) : Decidable (conds0_A i) :=
  @instDecidableAnd _ _ inferInstance (@instDecidableAnd _ _ inferInstance (@instDecidableAnd _ _ inferInstance inferInstance))
abbrev conds0_B (i : grid0.Coords) : Prop := ¬cond0_0 i ∧ cond0_1 i ∧ ¬cond0_2 i ∧ ¬cond0_3 i
instance conds0_B.dec (i : grid0.Coords) : Decidable (conds0_B i) :=
  @instDecidableAnd _ _ inferInstance (@instDecidableAnd _ _ inferInstance (@instDecidableAnd _ _ inferInstance inferInstance))
abbrev conds0_C (i : grid0.Coords) : Prop := ¬cond0_0 i ∧ ¬cond0_1 i ∧ cond0_2 i ∧ ¬cond0_3 i
instance conds0_C.dec (i : grid0.Coords) : Decidable (conds0_C i) :=
  @instDecidableAnd _ _ inferInstance (@instDecidableAnd _ _ inferInstance (@instDecidableAnd _ _ inferInstance inferInstance))
abbrev conds0_D (i : grid0.Coords) : Prop := ¬cond0_0 i ∧ ¬cond0_1 i ∧ ¬cond0_2 i ∧ cond0_3 i
instance conds0_D.dec (i : grid0.Coords) : Decidable (conds0_D i) :=
  @instDecidableAnd _ _ inferInstance (@instDecidableAnd _ _ inferInstance (@instDecidableAnd _ _ inferInstance inferInstance))
/-- Where mixer A's block holds nothing that a point stored, by position in a row block. -/
def freshTab0_3 : ℕ → Bool
  | 0 => true
  | n + 1 => (0x81c0e070381c0e070381c0e070381c0e0703 : ℕ).testBit n
theorem freshTab0_3_step : ∀ t : Fin cfg0.N,
    freshTab0_3 (t.val + 1) = ((cfg0.win 3).flush t || (cfg0.idle 3 (cfg0.grid.coords t) && freshTab0_3 t.val)) := by decide +kernel
theorem fresh0_3_eq (t : Fin cfg0.N) : cfg0.fresh 3 t.val = freshTab0_3 t.val :=
  Pipeline.Cfg.fresh_tab cfg0 3 freshTab0_3 rfl freshTab0_3_step t.val (Nat.le_of_lt t.isLt)
/-- Mixer A's block is stored into at the first point of a row block. -/
theorem liveAt0_3_A : ∀ t : Fin cfg0.N, cond0_0 (grid0.coords t) → ¬cond0_1 (grid0.coords t) → ¬cond0_2 (grid0.coords t) → ¬cond0_3 (grid0.coords t) → cfg0.idle 3 (grid0.coords t) = false :=
  fun t h0 h1 h2 h3 => (by decide +kernel : ∀ t : Fin cfg0.N, conds0_A (grid0.coords t) → cfg0.idle 3 (grid0.coords t) = false) t ⟨h0, h1, h2, h3⟩
/-- Mixer A's block is stored into at the other points of mixer A's columns. -/
theorem liveAt0_3_B : ∀ t : Fin cfg0.N, ¬cond0_0 (grid0.coords t) → cond0_1 (grid0.coords t) → ¬cond0_2 (grid0.coords t) → ¬cond0_3 (grid0.coords t) → cfg0.idle 3 (grid0.coords t) = false :=
  fun t h0 h1 h2 h3 => (by decide +kernel : ∀ t : Fin cfg0.N, conds0_B (grid0.coords t) → cfg0.idle 3 (grid0.coords t) = false) t ⟨h0, h1, h2, h3⟩
/-- Mixer A's block is left alone at the points of the columns of mixers B and D. -/
theorem idleAt0_3_C : ∀ t : Fin cfg0.N, ¬cond0_0 (grid0.coords t) → ¬cond0_1 (grid0.coords t) → cond0_2 (grid0.coords t) → ¬cond0_3 (grid0.coords t) → cfg0.idle 3 (grid0.coords t) = true :=
  fun t h0 h1 h2 h3 => (by decide +kernel : ∀ t : Fin cfg0.N, conds0_C (grid0.coords t) → cfg0.idle 3 (grid0.coords t) = true) t ⟨h0, h1, h2, h3⟩
/-- Mixer A's block holds what an earlier point stored at the points of the columns of mixers B and D. -/
theorem notFresh0_3_C : ∀ t : Fin cfg0.N, ¬cond0_0 (grid0.coords t) → ¬cond0_1 (grid0.coords t) → cond0_2 (grid0.coords t) → ¬cond0_3 (grid0.coords t) → cfg0.fresh 3 t.val = false :=
  fun t h0 h1 h2 h3 => (by intro t; rw [fresh0_3_eq t]; revert t; decide +kernel : ∀ t : Fin cfg0.N, conds0_C (grid0.coords t) → cfg0.fresh 3 t.val = false) t ⟨h0, h1, h2, h3⟩
/-- Mixer A's block is left alone at the points of mixer C's columns. -/
theorem idleAt0_3_D : ∀ t : Fin cfg0.N, ¬cond0_0 (grid0.coords t) → ¬cond0_1 (grid0.coords t) → ¬cond0_2 (grid0.coords t) → cond0_3 (grid0.coords t) → cfg0.idle 3 (grid0.coords t) = true :=
  fun t h0 h1 h2 h3 => (by decide +kernel : ∀ t : Fin cfg0.N, conds0_D (grid0.coords t) → cfg0.idle 3 (grid0.coords t) = true) t ⟨h0, h1, h2, h3⟩
/-- Mixer A's block holds what an earlier point stored at the points of mixer C's columns. -/
theorem notFresh0_3_D : ∀ t : Fin cfg0.N, ¬cond0_0 (grid0.coords t) → ¬cond0_1 (grid0.coords t) → ¬cond0_2 (grid0.coords t) → cond0_3 (grid0.coords t) → cfg0.fresh 3 t.val = false :=
  fun t h0 h1 h2 h3 => (by intro t; rw [fresh0_3_eq t]; revert t; decide +kernel : ∀ t : Fin cfg0.N, conds0_D (grid0.coords t) → cfg0.fresh 3 t.val = false) t ⟨h0, h1, h2, h3⟩
/-- Where the block of mixers B and D holds nothing that a point stored, by position in a row block. -/
def freshTab0_4 : ℕ → Bool
  | 0 => true
  | n + 1 => (0x9fcfe7f3f9fcfe7f3f9fcfe7f3f9fcfe7f3f : ℕ).testBit n
theorem freshTab0_4_step : ∀ t : Fin cfg0.N,
    freshTab0_4 (t.val + 1) = ((cfg0.win 4).flush t || (cfg0.idle 4 (cfg0.grid.coords t) && freshTab0_4 t.val)) := by decide +kernel
theorem fresh0_4_eq (t : Fin cfg0.N) : cfg0.fresh 4 t.val = freshTab0_4 t.val :=
  Pipeline.Cfg.fresh_tab cfg0 4 freshTab0_4 rfl freshTab0_4_step t.val (Nat.le_of_lt t.isLt)
/-- The block of mixers B and D is left alone at the first point of a row block. -/
theorem idleAt0_4_A : ∀ t : Fin cfg0.N, cond0_0 (grid0.coords t) → ¬cond0_1 (grid0.coords t) → ¬cond0_2 (grid0.coords t) → ¬cond0_3 (grid0.coords t) → cfg0.idle 4 (grid0.coords t) = true :=
  fun t h0 h1 h2 h3 => (by decide +kernel : ∀ t : Fin cfg0.N, conds0_A (grid0.coords t) → cfg0.idle 4 (grid0.coords t) = true) t ⟨h0, h1, h2, h3⟩
/-- The block of mixers B and D is not written back at the first point of a row block. -/
theorem noFlush0_4_A : ∀ t : Fin cfg0.N, cond0_0 (grid0.coords t) → ¬cond0_1 (grid0.coords t) → ¬cond0_2 (grid0.coords t) → ¬cond0_3 (grid0.coords t) → (cfg0.win 4).flush t = false :=
  fun t h0 h1 h2 h3 => (by decide +kernel : ∀ t : Fin cfg0.N, conds0_A (grid0.coords t) → (cfg0.win 4).flush t = false) t ⟨h0, h1, h2, h3⟩
/-- The block of mixers B and D is left alone at the other points of mixer A's columns. -/
theorem idleAt0_4_B : ∀ t : Fin cfg0.N, ¬cond0_0 (grid0.coords t) → cond0_1 (grid0.coords t) → ¬cond0_2 (grid0.coords t) → ¬cond0_3 (grid0.coords t) → cfg0.idle 4 (grid0.coords t) = true :=
  fun t h0 h1 h2 h3 => (by decide +kernel : ∀ t : Fin cfg0.N, conds0_B (grid0.coords t) → cfg0.idle 4 (grid0.coords t) = true) t ⟨h0, h1, h2, h3⟩
/-- The block of mixers B and D is not written back at the other points of mixer A's columns. -/
theorem noFlush0_4_B : ∀ t : Fin cfg0.N, ¬cond0_0 (grid0.coords t) → cond0_1 (grid0.coords t) → ¬cond0_2 (grid0.coords t) → ¬cond0_3 (grid0.coords t) → (cfg0.win 4).flush t = false :=
  fun t h0 h1 h2 h3 => (by decide +kernel : ∀ t : Fin cfg0.N, conds0_B (grid0.coords t) → (cfg0.win 4).flush t = false) t ⟨h0, h1, h2, h3⟩
/-- The block of mixers B and D is stored into at the points of the columns of mixers B and D. -/
theorem liveAt0_4_C : ∀ t : Fin cfg0.N, ¬cond0_0 (grid0.coords t) → ¬cond0_1 (grid0.coords t) → cond0_2 (grid0.coords t) → ¬cond0_3 (grid0.coords t) → cfg0.idle 4 (grid0.coords t) = false :=
  fun t h0 h1 h2 h3 => (by decide +kernel : ∀ t : Fin cfg0.N, conds0_C (grid0.coords t) → cfg0.idle 4 (grid0.coords t) = false) t ⟨h0, h1, h2, h3⟩
/-- The block of mixers B and D is left alone at the points of mixer C's columns. -/
theorem idleAt0_4_D : ∀ t : Fin cfg0.N, ¬cond0_0 (grid0.coords t) → ¬cond0_1 (grid0.coords t) → ¬cond0_2 (grid0.coords t) → cond0_3 (grid0.coords t) → cfg0.idle 4 (grid0.coords t) = true :=
  fun t h0 h1 h2 h3 => (by decide +kernel : ∀ t : Fin cfg0.N, conds0_D (grid0.coords t) → cfg0.idle 4 (grid0.coords t) = true) t ⟨h0, h1, h2, h3⟩
/-- The block of mixers B and D holds what an earlier point stored at the points of mixer C's columns. -/
theorem notFresh0_4_D : ∀ t : Fin cfg0.N, ¬cond0_0 (grid0.coords t) → ¬cond0_1 (grid0.coords t) → ¬cond0_2 (grid0.coords t) → cond0_3 (grid0.coords t) → cfg0.fresh 4 t.val = false :=
  fun t h0 h1 h2 h3 => (by intro t; rw [fresh0_4_eq t]; revert t; decide +kernel : ∀ t : Fin cfg0.N, conds0_D (grid0.coords t) → cfg0.fresh 4 t.val = false) t ⟨h0, h1, h2, h3⟩
/-- Mixer C's block is left alone at the first point of a row block. -/
theorem idleAt0_5_A : ∀ t : Fin cfg0.N, cond0_0 (grid0.coords t) → ¬cond0_1 (grid0.coords t) → ¬cond0_2 (grid0.coords t) → ¬cond0_3 (grid0.coords t) → cfg0.idle 5 (grid0.coords t) = true :=
  fun t h0 h1 h2 h3 => (by decide +kernel : ∀ t : Fin cfg0.N, conds0_A (grid0.coords t) → cfg0.idle 5 (grid0.coords t) = true) t ⟨h0, h1, h2, h3⟩
/-- Mixer C's block is not written back at the first point of a row block. -/
theorem noFlush0_5_A : ∀ t : Fin cfg0.N, cond0_0 (grid0.coords t) → ¬cond0_1 (grid0.coords t) → ¬cond0_2 (grid0.coords t) → ¬cond0_3 (grid0.coords t) → (cfg0.win 5).flush t = false :=
  fun t h0 h1 h2 h3 => (by decide +kernel : ∀ t : Fin cfg0.N, conds0_A (grid0.coords t) → (cfg0.win 5).flush t = false) t ⟨h0, h1, h2, h3⟩
/-- Mixer C's block is left alone at the other points of mixer A's columns. -/
theorem idleAt0_5_B : ∀ t : Fin cfg0.N, ¬cond0_0 (grid0.coords t) → cond0_1 (grid0.coords t) → ¬cond0_2 (grid0.coords t) → ¬cond0_3 (grid0.coords t) → cfg0.idle 5 (grid0.coords t) = true :=
  fun t h0 h1 h2 h3 => (by decide +kernel : ∀ t : Fin cfg0.N, conds0_B (grid0.coords t) → cfg0.idle 5 (grid0.coords t) = true) t ⟨h0, h1, h2, h3⟩
/-- Mixer C's block is not written back at the other points of mixer A's columns. -/
theorem noFlush0_5_B : ∀ t : Fin cfg0.N, ¬cond0_0 (grid0.coords t) → cond0_1 (grid0.coords t) → ¬cond0_2 (grid0.coords t) → ¬cond0_3 (grid0.coords t) → (cfg0.win 5).flush t = false :=
  fun t h0 h1 h2 h3 => (by decide +kernel : ∀ t : Fin cfg0.N, conds0_B (grid0.coords t) → (cfg0.win 5).flush t = false) t ⟨h0, h1, h2, h3⟩
/-- Mixer C's block is left alone at the points of the columns of mixers B and D. -/
theorem idleAt0_5_C : ∀ t : Fin cfg0.N, ¬cond0_0 (grid0.coords t) → ¬cond0_1 (grid0.coords t) → cond0_2 (grid0.coords t) → ¬cond0_3 (grid0.coords t) → cfg0.idle 5 (grid0.coords t) = true :=
  fun t h0 h1 h2 h3 => (by decide +kernel : ∀ t : Fin cfg0.N, conds0_C (grid0.coords t) → cfg0.idle 5 (grid0.coords t) = true) t ⟨h0, h1, h2, h3⟩
/-- Mixer C's block is not written back at the points of the columns of mixers B and D. -/
theorem noFlush0_5_C : ∀ t : Fin cfg0.N, ¬cond0_0 (grid0.coords t) → ¬cond0_1 (grid0.coords t) → cond0_2 (grid0.coords t) → ¬cond0_3 (grid0.coords t) → (cfg0.win 5).flush t = false :=
  fun t h0 h1 h2 h3 => (by decide +kernel : ∀ t : Fin cfg0.N, conds0_C (grid0.coords t) → (cfg0.win 5).flush t = false) t ⟨h0, h1, h2, h3⟩
/-- Mixer C's block is stored into at the points of mixer C's columns. -/
theorem liveAt0_5_D : ∀ t : Fin cfg0.N, ¬cond0_0 (grid0.coords t) → ¬cond0_1 (grid0.coords t) → ¬cond0_2 (grid0.coords t) → cond0_3 (grid0.coords t) → cfg0.idle 5 (grid0.coords t) = false :=
  fun t h0 h1 h2 h3 => (by decide +kernel : ∀ t : Fin cfg0.N, conds0_D (grid0.coords t) → cfg0.idle 5 (grid0.coords t) = false) t ⟨h0, h1, h2, h3⟩

abbrev VO0_3 : View sig .tc .vmem S1x1024x768 .f32 := (Memref.whole cc0_stg3_0 : Memref sig .tc .vmem S1x1024x768 .f32).view
abbrev VO0_4 : View sig .tc .vmem S1x1024x768 .bf16 := (Memref.whole cc0_stg4_0 : Memref sig .tc .vmem S1x1024x768 .bf16).view
abbrev VO0_5 : View sig .tc .vmem S1x1024x768 .f32 := (Memref.whole cc0_stg5_0 : Memref sig .tc .vmem S1x1024x768 .f32).view
abbrev ms0_0 (t : Fin cfg0.N) : Memref sig .tc .vmem S1x1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x768 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x768 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x768 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x768 .f32 := win0_5.stage (cfg0.slots t 5)
abbrev hs0_5 (t : Fin cfg0.N) : (ms0_5 t).IsWhole := hstage0_5 ((cfg0.slots t 5).cast nbuf0_5)
abbrev scM0_0 : Memref sig .tc .vmem S1024x2048 .bf16 := Memref.whole cc0_scratch0
abbrev VS0_0 : View sig .tc .vmem S1024x2048 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel5Ideal.Columns

end
-- ==== Proof.ColumnsRunA.lean ====
/- The input projection's body at the first point of a row block. -/
module

public import proofs.«01_k».proof.Proof.ColumnsCases

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the first point of a row block: the stores that its run makes into the output blocks and the scratch, and that it runs. -/
noncomputable def kernelRun0_A (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) :
    Σ' (L3 : List (View.Piece (Elt F) S1x1024x768 .f32)), Σ' (L4 : List (View.Piece (Elt F) S1x1024x768 .bf16)), Σ' (L5 : List (View.Piece (Elt F) S1x1024x768 .f32)), { LS0 : List (View.Piece (Elt F) S1024x2048 .bf16) //
      ∀ (xi4 : Vec F S1x1024x768 .bf16) (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xi5 ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ owns (c : Thread nD τ) arg8 fullShare xi5 ∗ (∃ f, arg9.view.loc (c : Thread nD τ) ↦[arg9.view.set]{fullShare} arg9.view.writes (Elt F) f LS0)) -∗ K ⟨⟩))
          ⊢ wp frame (wpE (defs₀ (F := F)) Variants.none c none) E (cc0_in_proj i arg3 harg3 arg4 harg4 arg5 harg5 arg6 harg6 arg7 harg7 arg8 harg8 arg9 harg9) K } := by
  refine ⟨?_, [], [], ?_, fun xi4 xi5 E K => ?run⟩
  case run =>
    simp only [cc0_in_proj_eq_skeleton]; unfold cc0_in_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%ds0, %fs0, -, HS0⟩, Hk⟩
    obtain rfl := harg3.eq_unread hf0; obtain rfl := harg4.eq_unread hf1; obtain rfl := harg5.eq_unread hf2; obtain rfl := harg7.eq_unread hf4; obtain rfl := harg8.eq_unread hf5
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [H5]
    · iexists _; isplitr; · ipureintro; exact harg8.read_unread _
      iexact H5
    iexists _; iexact HS0

end Cert.Kernel5Ideal.Columns

end
-- ==== Proof.ColumnsRunB.lean ====
/- The input projection's body at the other points of mixer A's columns. -/
module

public import proofs.«01_k».proof.Proof.ColumnsRunA

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the other points of mixer A's columns: the stores that its run makes into the output blocks and the scratch, and that it runs. -/
noncomputable def kernelRun0_B (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) :
    Σ' (L3 : List (View.Piece (Elt F) S1x1024x768 .f32)), Σ' (L4 : List (View.Piece (Elt F) S1x1024x768 .bf16)), Σ' (L5 : List (View.Piece (Elt F) S1x1024x768 .f32)), { LS0 : List (View.Piece (Elt F) S1024x2048 .bf16) //
      ∀ (xi4 : Vec F S1x1024x768 .bf16) (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xi4 ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xi4 ∗ owns (c : Thread nD τ) arg8 fullShare xi5 ∗ owns (c : Thread nD τ) arg9 fullShare xs0) -∗ K ⟨⟩))
          ⊢ wp frame (wpE (defs₀ (F := F)) Variants.none c none) E (cc0_in_proj i arg3 harg3 arg4 harg4 arg5 harg5 arg6 harg6 arg7 harg7 arg8 harg8 arg9 harg9) K } := by
  refine ⟨?_, [], [], [], fun xi4 xi5 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg7.eq_unread hf4; obtain rfl := harg8.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [H4]
    · iexists _; isplitr; · ipureintro; exact harg7.read_unread _
      iexact H4
    isplitl [H5]
    · iexists _; isplitr; · ipureintro; exact harg8.read_unread _
      iexact H5
    iexists _; isplitr; · ipureintro; exact harg9.read_unread _
    iexact HS0

end Cert.Kernel5Ideal.Columns

end
-- ==== Proof.ColumnsRunC.lean ====
/- The input projection's body at the points of the columns of mixers B and D. -/
module

public import proofs.«01_k».proof.Proof.ColumnsRunB

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the points of the columns of mixers B and D: the stores that its run makes into the output blocks and the scratch, and that it runs. -/
noncomputable def kernelRun0_C (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) :
    Σ' (L3 : List (View.Piece (Elt F) S1x1024x768 .f32)), Σ' (L4 : List (View.Piece (Elt F) S1x1024x768 .bf16)), Σ' (L5 : List (View.Piece (Elt F) S1x1024x768 .f32)), { LS0 : List (View.Piece (Elt F) S1024x2048 .bf16) //
      ∀ (xi5 : Vec F S1x1024x768 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3 ∗ (∃ d, owns (c : Thread nD τ) arg7 fullShare d) ∗ owns (c : Thread nD τ) arg8 fullShare xi5 ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xo3 ∗ (∃ f, arg7.view.loc (c : Thread nD τ) ↦[arg7.view.set]{fullShare} arg7.view.writes (Elt F) f L4) ∗ owns (c : Thread nD τ) arg8 fullShare xi5 ∗ owns (c : Thread nD τ) arg9 fullShare xs0) -∗ K ⟨⟩))
          ⊢ wp frame (wpE (defs₀ (F := F)) Variants.none c none) E (cc0_in_proj i arg3 harg3 arg4 harg4 arg5 harg5 arg6 harg6 arg7 harg7 arg8 harg8 arg9 harg9) K } := by
  refine ⟨[], ?_, [], [], fun xi5 E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg8.eq_unread hf5; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]
    · iexists _; isplitr; · ipureintro; exact harg8.read_unread _
      iexact H5
    iexists _; isplitr; · ipureintro; exact harg9.read_unread _
    iexact HS0

end Cert.Kernel5Ideal.Columns

end
-- ==== Proof.ColumnsRunD.lean ====
/- The input projection's body at the points of mixer C's columns. -/
module

public import proofs.«01_k».proof.Proof.ColumnsRunC

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body at the points of mixer C's columns: the stores that its run makes into the output blocks and the scratch, and that it runs. -/
noncomputable def kernelRun0_D (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) :
    Σ' (L3 : List (View.Piece (Elt F) S1x1024x768 .f32)), Σ' (L4 : List (View.Piece (Elt F) S1x1024x768 .bf16)), Σ' (L5 : List (View.Piece (Elt F) S1x1024x768 .f32)), { LS0 : List (View.Piece (Elt F) S1024x2048 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3 ∗ owns (c : Thread nD τ) arg7 fullShare xo4 ∗ (∃ d, owns (c : Thread nD τ) arg8 fullShare d) ∗ owns (c : Thread nD τ) arg9 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xo3 ∗ owns (c : Thread nD τ) arg7 fullShare xo4 ∗ (∃ f, arg8.view.loc (c : Thread nD τ) ↦[arg8.view.set]{fullShare} arg8.view.writes (Elt F) f L5) ∗ owns (c : Thread nD τ) arg9 fullShare xs0) -∗ K ⟨⟩))
          ⊢ wp frame (wpE (defs₀ (F := F)) Variants.none c none) E (cc0_in_proj i arg3 harg3 arg4 harg4 arg5 harg5 arg6 harg6 arg7 harg7 arg8 harg8 arg9 harg9) K } := by
  refine ⟨[], [], ?_, [], fun E K => ?run⟩
  case run =>
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg9.eq_unread hfs0
    sl_exec (disch := first | sl_exact hc0 | sl_exact hc1 | sl_exact hc2 | sl_exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    iexists _; isplitr; · ipureintro; exact harg9.read_unread _
    iexact HS0

end Cert.Kernel5Ideal.Columns

end
-- ==== Proof.ColumnsFrame.lean ====
/- The input projection's frame: what its output blocks and its scratch hold after each point, and the run of the whole program.
   A point that stores nothing into an output block leaves in it what it found, and the last point of a row block writes that back. -/
module

public import proofs.«01_k».proof.Proof.ColumnsRunD
public import Idealize.ShloMosaic.Lib.Claim
public import Idealize.ShloMosaic.Lib.Pipeline.Value

@[expose] public section

set_option maxRecDepth 16384

noncomputable section

namespace Cert.Kernel5Ideal.Columns

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At the first point of a row block the stores fill mixer A's block. -/
theorem cover0_A_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) (y : S1x1024x768.Idx) :
    ∃ pc ∈ (kernelRun0_A c i arg3 harg3 arg4 harg4 arg5 harg5 arg6 harg6 arg7 harg7 arg8 harg8 arg9 harg9 hc0 hc1 hc2 hc3 x0 x1 x2).1, y ∈ pc.1.set :=
  View.cover_of_tiledL (kernelRun0_A c i arg3 harg3 arg4 harg4 arg5 harg5 arg6 harg6 arg7 harg7 arg8 harg8 arg9 harg9 hc0 hc1 hc2 hc3 x0 x1 x2).1 S1x256x768.size (by sl_kernel_rfl) y

/-- What the first point of a row block leaves in mixer A's block. -/
def out0_A_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) : Vec F S1x1024x768 .f32 :=
  VO0_3.read (Elt F) (VO0_3.writes (Elt F) VO0_3.junk (kernelRun0_A c i arg3 harg3 arg4 harg4 arg5 harg5 arg6 harg6 arg7 harg7 arg8 harg8 arg9 harg9 hc0 hc1 hc2 hc3 x0 x1 x2).1)

/-- What the first point of a row block leaves in the block of mixers B and D. -/
def out0_A_4 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) (xo4 : Vec F S1x1024x768 .bf16) : Vec F S1x1024x768 .bf16 := xo4

/-- What the first point of a row block leaves in mixer C's block. -/
def out0_A_5 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) : Vec F S1x1024x768 .f32 :=
  VO0_5.read (Elt F) (VO0_5.writes (Elt F) VO0_5.junk (kernelRun0_A c i arg3 harg3 arg4 harg4 arg5 harg5 arg6 harg6 arg7 harg7 arg8 harg8 arg9 harg9 hc0 hc1 hc2 hc3 x0 x1 x2).2.2.1)

/-- At the first point of a row block the stores fill the scratch. -/
theorem scover0_A_0 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) (y : S1024x2048.Idx) :
    ∃ pc ∈ (kernelRun0_A c i arg3 harg3 arg4 harg4 arg5 harg5 arg6 harg6 arg7 harg7 arg8 harg8 arg9 harg9 hc0 hc1 hc2 hc3 x0 x1 x2).2.2.2.1, y ∈ pc.1.set :=
  View.cover_of_tiledL (kernelRun0_A c i arg3 harg3 arg4 harg4 arg5 harg5 arg6 harg6 arg7 harg7 arg8 harg8 arg9 harg9 hc0 hc1 hc2 hc3 x0 x1 x2).2.2.2.1 S256x2048.size (by sl_kernel_rfl) y

/-- What the first point of a row block leaves in the scratch. -/
def sout0_A_0 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : cond0_0 i) (hc1 : ¬cond0_1 i) (hc2 : ¬cond0_2 i) (hc3 : ¬cond0_3 i)
    (x0 : Vec F S1x1024x2048 .f32) (x1 : Vec F S1x8x2048 .f32) (x2 : Vec F S2048x768 .bf16) : Vec F S1024x2048 .bf16 :=
  VS0_0.read (Elt F) (VS0_0.writes (Elt F) VS0_0.junk (kernelRun0_A c i arg3 harg3 arg4 harg4 arg5 harg5 arg6 harg6 arg7 harg7 arg8 harg8 arg9 harg9 hc0 hc1 hc2 hc3 x0 x1 x2).2.2.2.1)

/-- At the other points of mixer A's columns the stores fill mixer A's block. -/
theorem cover0_B_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) (y : S1x1024x768.Idx) :
    ∃ pc ∈ (kernelRun0_B c i arg3 harg3 arg4 harg4 arg5 harg5 arg6 harg6 arg7 harg7 arg8 harg8 arg9 harg9 hc0 hc1 hc2 hc3 x0 x1 x2 xs0).1, y ∈ pc.1.set :=
  View.cover_of_tiledL (kernelRun0_B c i arg3 harg3 arg4 harg4 arg5 harg5 arg6 harg6 arg7 harg7 arg8 harg8 arg9 harg9 hc0 hc1 hc2 hc3 x0 x1 x2 xs0).1 S1x1024x768.size (by sl_kernel_rfl) y

/-- What the other points of mixer A's columns leave in mixer A's block. -/
def out0_B_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) : Vec F S1x1024x768 .f32 :=
  VO0_3.read (Elt F) (VO0_3.writes (Elt F) VO0_3.junk (kernelRun0_B c i arg3 harg3 arg4 harg4 arg5 harg5 arg6 harg6 arg7 harg7 arg8 harg8 arg9 harg9 hc0 hc1 hc2 hc3 x0 x1 x2 xs0).1)

/-- What the other points of mixer A's columns leave in the block of mixers B and D. -/
def out0_B_4 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) (xo4 : Vec F S1x1024x768 .bf16) : Vec F S1x1024x768 .bf16 := xo4

/-- What the other points of mixer A's columns leave in mixer C's block. -/
def out0_B_5 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) : Vec F S1x1024x768 .f32 :=
  VO0_5.read (Elt F) (VO0_5.writes (Elt F) VO0_5.junk (kernelRun0_B c i arg3 harg3 arg4 harg4 arg5 harg5 arg6 harg6 arg7 harg7 arg8 harg8 arg9 harg9 hc0 hc1 hc2 hc3 x0 x1 x2 xs0).2.2.1)

/-- What the other points of mixer A's columns leave in the scratch. -/
def sout0_B_0 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : cond0_1 i) (hc2 : ¬cond0_2 i) (hc3 : ¬cond0_3 i)
    (x0 : Vec F S1x1024x2048 .f32) (x1 : Vec F S1x8x2048 .f32) (x2 : Vec F S2048x768 .bf16) (xs0 : Vec F S1024x2048 .bf16) : Vec F S1024x2048 .bf16 := xs0

/-- What the points of the columns of mixers B and D leave in mixer A's block. -/
def out0_C_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) : Vec F S1x1024x768 .f32 := xo3

/-- At the points of the columns of mixers B and D the stores fill the block of mixers B and D. -/
theorem cover0_C_4 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) (y : S1x1024x768.Idx) :
    ∃ pc ∈ (kernelRun0_C c i arg3 harg3 arg4 harg4 arg5 harg5 arg6 harg6 arg7 harg7 arg8 harg8 arg9 harg9 hc0 hc1 hc2 hc3 x0 x1 x2 xo3 xs0).2.1, y ∈ pc.1.set :=
  View.cover_of_tiledL (kernelRun0_C c i arg3 harg3 arg4 harg4 arg5 harg5 arg6 harg6 arg7 harg7 arg8 harg8 arg9 harg9 hc0 hc1 hc2 hc3 x0 x1 x2 xo3 xs0).2.1 S1x1024x768.size (by sl_kernel_rfl) y

/-- What the points of the columns of mixers B and D leave in the block of mixers B and D. -/
def out0_C_4 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) : Vec F S1x1024x768 .bf16 :=
  VO0_4.read (Elt F) (VO0_4.writes (Elt F) VO0_4.junk (kernelRun0_C c i arg3 harg3 arg4 harg4 arg5 harg5 arg6 harg6 arg7 harg7 arg8 harg8 arg9 harg9 hc0 hc1 hc2 hc3 x0 x1 x2 xo3 xs0).2.1)

/-- What the points of the columns of mixers B and D leave in mixer C's block. -/
def out0_C_5 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) : Vec F S1x1024x768 .f32 :=
  VO0_5.read (Elt F) (VO0_5.writes (Elt F) VO0_5.junk (kernelRun0_C c i arg3 harg3 arg4 harg4 arg5 harg5 arg6 harg6 arg7 harg7 arg8 harg8 arg9 harg9 hc0 hc1 hc2 hc3 x0 x1 x2 xo3 xs0).2.2.1)

/-- What the points of the columns of mixers B and D leave in the scratch. -/
def sout0_C_0 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : cond0_2 i) (hc3 : ¬cond0_3 i)
    (x0 : Vec F S1x1024x2048 .f32) (x1 : Vec F S1x8x2048 .f32) (x2 : Vec F S2048x768 .bf16) (xo3 : Vec F S1x1024x768 .f32) (xs0 : Vec F S1024x2048 .bf16) : Vec F S1024x2048 .bf16 := xs0

/-- What the points of mixer C's columns leave in mixer A's block. -/
def out0_D_3 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) : Vec F S1x1024x768 .f32 := xo3

/-- What the points of mixer C's columns leave in the block of mixers B and D. -/
def out0_D_4 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) : Vec F S1x1024x768 .bf16 := xo4

/-- At the points of mixer C's columns the stores fill mixer C's block. -/
theorem cover0_D_5 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) (y : S1x1024x768.Idx) :
    ∃ pc ∈ (kernelRun0_D c i arg3 harg3 arg4 harg4 arg5 harg5 arg6 harg6 arg7 harg7 arg8 harg8 arg9 harg9 hc0 hc1 hc2 hc3 x0 x1 x2 xo3 xo4 xs0).2.2.1, y ∈ pc.1.set :=
  View.cover_of_tiledL (kernelRun0_D c i arg3 harg3 arg4 harg4 arg5 harg5 arg6 harg6 arg7 harg7 arg8 harg8 arg9 harg9 hc0 hc1 hc2 hc3 x0 x1 x2 xo3 xo4 xs0).2.2.1 S1x1024x768.size (by sl_kernel_rfl) y

/-- What the points of mixer C's columns leave in mixer C's block. -/
def out0_D_5 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) : Vec F S1x1024x768 .f32 :=
  VO0_5.read (Elt F) (VO0_5.writes (Elt F) VO0_5.junk (kernelRun0_D c i arg3 harg3 arg4 harg4 arg5 harg5 arg6 harg6 arg7 harg7 arg8 harg8 arg9 harg9 hc0 hc1 hc2 hc3 x0 x1 x2 xo3 xo4 xs0).2.2.1)

/-- What the points of mixer C's columns leave in the scratch. -/
def sout0_D_0 (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole) (hc0 : ¬cond0_0 i) (hc1 : ¬cond0_1 i) (hc2 : ¬cond0_2 i) (hc3 : cond0_3 i)
    (x0 : Vec F S1x1024x2048 .f32) (x1 : Vec F S1x8x2048 .f32) (x2 : Vec F S2048x768 .bf16) (xo3 : Vec F S1x1024x768 .f32) (xo4 : Vec F S1x1024x768 .bf16) (xs0 : Vec F S1024x2048 .bf16) : Vec F S1024x2048 .bf16 := xs0

/-- What the three output blocks and the scratch hold after each point. -/
def outsAt0 (c : Dev nD) : (n : ℕ) → n < cfg0.N → Vec F S1x1024x768 .f32 × Vec F S1x1024x768 .bf16 × Vec F S1x1024x768 .f32 × Vec F S1024x2048 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩), out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩) ((VO0_3.read (Elt F) VO0_3.junk, VO0_4.read (Elt F) VO0_4.junk, VO0_5.read (Elt F) VO0_5.junk, VS0_0.read (Elt F) VS0_0.junk) : Vec F S1x1024x768 .f32 × Vec F S1x1024x768 .bf16 × Vec F S1x1024x768 .f32 × Vec F S1024x2048 .bf16).2.1, out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr (Nat.zero_mod _)) (fun h => (fun h => by (try dsimp only at h); omega) ((hcond0_1 ⟨0, hn⟩).mp h)) (fun h => (fun h => by (try dsimp only at h); omega) ((hcond0_2 ⟨0, hn⟩).mp h)) (fun h => (fun h => by (try dsimp only at h); omega) ((hcond0_3 ⟨0, hn⟩).mp h)) (iblk m c 0 ⟨0, hn⟩) (iblk m c 1 ⟨0, hn⟩) (iblk m c 2 ⟨0, hn⟩))
  | n + 1, hn =>
    if h0 : (n + 1) % 9 = 0 then
      if h1 : (1 ≤ (n + 1) % 9 ∧ (n + 1) % 9 ≤ 2) then
        False.elim (by have hN : n + 1 < 144 := lt_of_lt_of_eq hn (show cfg0.N = 144 from N_0); omega)
      else
        if h2 : (3 ≤ (n + 1) % 9 ∧ (n + 1) % 9 ≤ 6) then
          False.elim (by have hN : n + 1 < 144 := lt_of_lt_of_eq hn (show cfg0.N = 144 from N_0); omega)
        else
          if h3 : 7 ≤ (n + 1) % 9 then
            False.elim (by have hN : n + 1 < 144 := lt_of_lt_of_eq hn (show cfg0.N = 144 from N_0); omega)
          else
            (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩), out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.1, out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) ((hcond0_0 ⟨n + 1, hn⟩).mpr h0) (fun h => h1 ((hcond0_1 ⟨n + 1, hn⟩).mp h)) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩))
    else
      if h1 : (1 ≤ (n + 1) % 9 ∧ (n + 1) % 9 ≤ 2) then
        if h2 : (3 ≤ (n + 1) % 9 ∧ (n + 1) % 9 ≤ 6) then
          False.elim (by have hN : n + 1 < 144 := lt_of_lt_of_eq hn (show cfg0.N = 144 from N_0); omega)
        else
          if h3 : 7 ≤ (n + 1) % 9 then
            False.elim (by have hN : n + 1 < 144 := lt_of_lt_of_eq hn (show cfg0.N = 144 from N_0); omega)
          else
            (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2, out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2 (outsAt0 c n (Nat.lt_of_succ_lt hn)).2.1, out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) ((hcond0_1 ⟨n + 1, hn⟩).mpr h1) (fun h => h2 ((hcond0_2 ⟨n + 1, hn⟩).mp h)) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).2.2.2)
      else
        if h2 : (3 ≤ (n + 1) % 9 ∧ (n + 1) % 9 ≤ 6) then
          if h3 : 7 ≤ (n + 1) % 9 then
            False.elim (by have hN : n + 1 < 144 := lt_of_lt_of_eq hn (show cfg0.N = 144 from N_0); omega)
          else
            (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) ((hcond0_2 ⟨n + 1, hn⟩).mpr h2) (fun h => h3 ((hcond0_3 ⟨n + 1, hn⟩).mp h)) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.2.2)
        else
          if h3 : 7 ≤ (n + 1) % 9 then
            (out0_D_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.2, out0_D_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.2, out0_D_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.2, sout0_D_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => h0 ((hcond0_0 ⟨n + 1, hn⟩).mp h)) (fun h => h1 ((hcond0_1 ⟨n + 1, hn⟩).mp h)) (fun h => h2 ((hcond0_2 ⟨n + 1, hn⟩).mp h)) ((hcond0_3 ⟨n + 1, hn⟩).mpr h3) (iblk m c 0 ⟨n + 1, hn⟩) (iblk m c 1 ⟨n + 1, hn⟩) (iblk m c 2 ⟨n + 1, hn⟩) (outsAt0 c n (Nat.lt_of_succ_lt hn)).1 (outsAt0 c n (Nat.lt_of_succ_lt hn)).2.1 (outsAt0 c n (Nat.lt_of_succ_lt hn)).2.2.2)
          else
            False.elim (by have hN : n + 1 < 144 := lt_of_lt_of_eq hn (show cfg0.N = 144 from N_0); omega)

/-- `outsAt0` at the first point of a row block. -/
theorem outsAt0_A (c : Dev nD) (t : Fin cfg0.N) (h0 : t.val % 9 = 0) (h1 : ¬(1 ≤ t.val % 9 ∧ t.val % 9 ≤ 2)) (h2 : ¬(3 ≤ t.val % 9 ∧ t.val % 9 ≤ 6)) (h3 : ¬7 ≤ t.val % 9) :
    outsAt0 m c t.val t.isLt = (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t), out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.1, out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (fun h => h2 ((hcond0_2 t).mp h)) (fun h => h3 ((hcond0_3 t).mp h)) (iblk m c 0 t) (iblk m c 1 t) (iblk m c 2 t)) := by
  obtain ⟨n, hn⟩ := t
  cases n with
  | zero => exact rfl
  | succ n => exact (dif_pos h0).trans ((dif_neg h1).trans ((dif_neg h2).trans ((dif_neg h3).trans rfl)))

/-- `outsAt0` at the other points of mixer A's columns. -/
theorem outsAt0_B (c : Dev nD) (t : Fin cfg0.N) (h0 : ¬t.val % 9 = 0) (h1 : (1 ≤ t.val % 9 ∧ t.val % 9 ≤ 2)) (h2 : ¬(3 ≤ t.val % 9 ∧ t.val % 9 ≤ 6)) (h3 : ¬7 ≤ t.val % 9) :
    outsAt0 m c t.val t.isLt = (out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2, out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2 (outsAt0 m c (t.val - 1) (Nat.lt_of_le_of_lt (Nat.sub_le _ _) t.isLt)).2.1, out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (iblk m c 2 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans ((dif_neg h2).trans ((dif_neg h3).trans rfl)))

/-- `outsAt0` at the points of the columns of mixers B and D. -/
theorem outsAt0_C (c : Dev nD) (t : Fin cfg0.N) (h0 : ¬t.val % 9 = 0) (h1 : ¬(1 ≤ t.val % 9 ∧ t.val % 9 ≤ 2)) (h2 : (3 ≤ t.val % 9 ∧ t.val % 9 ≤ 6)) (h3 : ¬7 ≤ t.val % 9) :
    outsAt0 m c t.val t.isLt = (out0_C_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_pos h2).trans ((dif_neg h3).trans rfl)))

/-- `outsAt0` at the points of mixer C's columns. -/
theorem outsAt0_D (c : Dev nD) (t : Fin cfg0.N) (h0 : ¬t.val % 9 = 0) (h1 : ¬(1 ≤ t.val % 9 ∧ t.val % 9 ≤ 2)) (h2 : ¬(3 ≤ t.val % 9 ∧ t.val % 9 ≤ 6)) (h3 : 7 ≤ t.val % 9) :
    outsAt0 m c t.val t.isLt = (out0_D_3 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_D_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, out0_D_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (fun h => h2 ((hcond0_2 t).mp h)) ((hcond0_3 t).mpr h3) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans ((dif_neg h2).trans ((dif_pos h3).trans rfl)))

/-- The scratch between two points. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-- The pipeline's proof data: each input's block, and `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
    | ⟨4, _⟩ => (outsAt0 m c t.val t.isLt).2.1
    | ⟨5, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]
theorem after0_4 (c : Dev nD) (t : Fin cfg0.N) : (dats m 0 c).after 4 t = (outsAt0 m c t.val t.isLt).2.1 := by dsimp only [dats]
theorem after0_5 (c : Dev nD) (t : Fin cfg0.N) : (dats m 0 c).after 5 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where mixer A's block is left alone its contents stay those of the point before. -/
theorem hcarry0_3 (c : Dev nD) : ∀ (t : Fin cfg0.N) (_ : t.val ≠ 0), cfg0.idle 3 (grid0.coords t) = true → cfg0.fresh 3 t.val = false →
    (dats m 0 c).after 3 t = (dats m 0 c).after 3 ⟨t.val - 1, by omega⟩ := by
  intro t _ hi _
  have hN : t.val < 144 := lt_of_lt_of_eq t.isLt (show cfg0.N = 144 from N_0)
  rw [after0_3, after0_3]
  by_cases h0 : t.val % 9 = 0
  · by_cases h1 : (1 ≤ t.val % 9 ∧ t.val % 9 ≤ 2)
    · exfalso; omega
    · by_cases h2 : (3 ≤ t.val % 9 ∧ t.val % 9 ≤ 6)
      · exfalso; omega
      · by_cases h3 : 7 ≤ t.val % 9
        · exfalso; omega
        · rw [liveAt0_3_A t ((hcond0_0 t).mpr h0) (fun h => h1 ((hcond0_1 t).mp h)) (fun h => h2 ((hcond0_2 t).mp h)) (fun h => h3 ((hcond0_3 t).mp h))] at hi
          exact absurd hi Bool.false_ne_true
  · by_cases h1 : (1 ≤ t.val % 9 ∧ t.val % 9 ≤ 2)
    · by_cases h2 : (3 ≤ t.val % 9 ∧ t.val % 9 ≤ 6)
      · exfalso; omega
      · by_cases h3 : 7 ≤ t.val % 9
        · exfalso; omega
        · rw [liveAt0_3_B t (fun h => h0 ((hcond0_0 t).mp h)) ((hcond0_1 t).mpr h1) (fun h => h2 ((hcond0_2 t).mp h)) (fun h => h3 ((hcond0_3 t).mp h))] at hi
          exact absurd hi Bool.false_ne_true
    · by_cases h2 : (3 ≤ t.val % 9 ∧ t.val % 9 ≤ 6)
      · by_cases h3 : 7 ≤ t.val % 9
        · exfalso; omega
        · rw [outsAt0_C m c t h0 h1 h2 h3]; rfl
      · by_cases h3 : 7 ≤ t.val % 9
        · rw [outsAt0_D m c t h0 h1 h2 h3]; rfl
        · exfalso; omega

/-- Where the block of mixers B and D is left alone its contents stay those of the point before. -/
theorem hcarry0_4 (c : Dev nD) : ∀ (t : Fin cfg0.N) (_ : t.val ≠ 0), cfg0.idle 4 (grid0.coords t) = true → cfg0.fresh 4 t.val = false →
    (dats m 0 c).after 4 t = (dats m 0 c).after 4 ⟨t.val - 1, by omega⟩ := by
  intro t _ hi _
  have hN : t.val < 144 := lt_of_lt_of_eq t.isLt (show cfg0.N = 144 from N_0)
  rw [after0_4, after0_4]
  by_cases h0 : t.val % 9 = 0
  · by_cases h1 : (1 ≤ t.val % 9 ∧ t.val % 9 ≤ 2)
    · exfalso; omega
    · by_cases h2 : (3 ≤ t.val % 9 ∧ t.val % 9 ≤ 6)
      · exfalso; omega
      · by_cases h3 : 7 ≤ t.val % 9
        · exfalso; omega
        · rw [outsAt0_A m c t h0 h1 h2 h3]
          dsimp only
          unfold out0_A_4
          rfl
  · by_cases h1 : (1 ≤ t.val % 9 ∧ t.val % 9 ≤ 2)
    · by_cases h2 : (3 ≤ t.val % 9 ∧ t.val % 9 ≤ 6)
      · exfalso; omega
      · by_cases h3 : 7 ≤ t.val % 9
        · exfalso; omega
        · rw [outsAt0_B m c t h0 h1 h2 h3]
          dsimp only
          unfold out0_B_4
          rfl
    · by_cases h2 : (3 ≤ t.val % 9 ∧ t.val % 9 ≤ 6)
      · by_cases h3 : 7 ≤ t.val % 9
        · exfalso; omega
        · rw [liveAt0_4_C t (fun h => h0 ((hcond0_0 t).mp h)) (fun h => h1 ((hcond0_1 t).mp h)) ((hcond0_2 t).mpr h2) (fun h => h3 ((hcond0_3 t).mp h))] at hi
          exact absurd hi Bool.false_ne_true
      · by_cases h3 : 7 ≤ t.val % 9
        · rw [outsAt0_D m c t h0 h1 h2 h3]; rfl
        · exfalso; omega
/-- What the points of the columns of mixers B and D find in mixer A's block: what the point before left. -/
theorem before0_3_C (c : Dev nD) (t : Fin cfg0.N) (h0 : ¬t.val % 9 = 0) (h1 : ¬(1 ≤ t.val % 9 ∧ t.val % 9 ≤ 2)) (h2 : (3 ≤ t.val % 9 ∧ t.val % 9 ≤ 6)) (h3 : ¬7 ≤ t.val % 9) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_C t (fun h => h0 ((hcond0_0 t).mp h)) (fun h => h1 ((hcond0_1 t).mp h)) ((hcond0_2 t).mpr h2) (fun h => h3 ((hcond0_3 t).mp h))]; exact Bool.false_ne_true)]
  dsimp only [dats]
/-- What the points of mixer C's columns find in mixer A's block: what the point before left. -/
theorem before0_3_D (c : Dev nD) (t : Fin cfg0.N) (h0 : ¬t.val % 9 = 0) (h1 : ¬(1 ≤ t.val % 9 ∧ t.val % 9 ≤ 2)) (h2 : ¬(3 ≤ t.val % 9 ∧ t.val % 9 ≤ 6)) (h3 : 7 ≤ t.val % 9) (d) :
    (dats m 0 c).before 3 t d = (outsAt0 m c (t.val - 1) (Nat.lt_of_le_of_lt (Nat.sub_le _ _) t.isLt)).1 := by
  rw [Dat.before_out_traj _ 3 rfl (fun _ _ => rfl) (hcarry0_3 m c) t.val t rfl d,
    if_neg (by rw [notFresh0_3_D t (fun h => h0 ((hcond0_0 t).mp h)) (fun h => h1 ((hcond0_1 t).mp h)) (fun h => h2 ((hcond0_2 t).mp h)) ((hcond0_3 t).mpr h3)]; exact Bool.false_ne_true)]
  dsimp only [dats]
/-- What the points of mixer C's columns find in the block of mixers B and D: what the point before left. -/
theorem before0_4_D (c : Dev nD) (t : Fin cfg0.N) (h0 : ¬t.val % 9 = 0) (h1 : ¬(1 ≤ t.val % 9 ∧ t.val % 9 ≤ 2)) (h2 : ¬(3 ≤ t.val % 9 ∧ t.val % 9 ≤ 6)) (h3 : 7 ≤ t.val % 9) (d) :
    (dats m 0 c).before 4 t d = (outsAt0 m c (t.val - 1) (Nat.lt_of_le_of_lt (Nat.sub_le _ _) t.isLt)).2.1 := by
  rw [Dat.before_out_traj _ 4 rfl (fun _ _ => rfl) (hcarry0_4 m c) t.val t rfl d,
    if_neg (by rw [notFresh0_4_D t (fun h => h0 ((hcond0_0 t).mp h)) (fun h => h1 ((hcond0_1 t).mp h)) (fun h => h2 ((hcond0_2 t).mp h)) ((hcond0_3 t).mpr h3)]; exact Bool.false_ne_true)]
  dsimp only [dats]

/-- An output block that a point leaves alone is left as found, whether or not it is written back. -/
theorem leaves_passed (c : Dev nD) (w : Fin cfg0.W) (t : Fin cfg0.N) (hi : cfg0.idle w (grid0.coords t) = true)
    (v) (hb : ∀ d, (dats m 0 c).before w t d = v) (ha : (dats m 0 c).after w t = v) :
    owns (c : Thread nD τ) ((cfg0.win w).stage (cfg0.slots t w)) fullShare v ⊢ (dats m 0 c).leavesExact w t := by
  cases hf : (cfg0.win w).flush t with
  | false =>
    rw [Dat.leavesExact_idle (dats m 0 c) w t hi hf]
    iintro H
    iexists v
    rw [hb]
    iexact H
  | true =>
    unfold Dat.leavesExact
    rw [hi, hf]
    dsimp only
    rw [ha]
    try exact Idealize.SL.BI.Entails.refl _

theorem leaves0_3_C (c : Dev nD) (t : Fin cfg0.N) (h0 : ¬t.val % 9 = 0) (h1 : ¬(1 ≤ t.val % 9 ∧ t.val % 9 ≤ 2)) (h2 : (3 ≤ t.val % 9 ∧ t.val % 9 ≤ 6)) (h3 : ¬7 ≤ t.val % 9) :
    owns (c : Thread nD τ) (ms0_3 t) fullShare (outsAt0 m c (t.val - 1) (Nat.lt_of_le_of_lt (Nat.sub_le _ _) t.isLt)).1 ⊢ (dats m 0 c).leavesExact 3 t :=
  leaves_passed m c 3 t (idleAt0_3_C t (fun h => h0 ((hcond0_0 t).mp h)) (fun h => h1 ((hcond0_1 t).mp h)) ((hcond0_2 t).mpr h2) (fun h => h3 ((hcond0_3 t).mp h))) _ (before0_3_C m c t h0 h1 h2 h3)
    (by rw [after0_3, outsAt0_C m c t h0 h1 h2 h3]; rfl)

theorem leaves0_3_D (c : Dev nD) (t : Fin cfg0.N) (h0 : ¬t.val % 9 = 0) (h1 : ¬(1 ≤ t.val % 9 ∧ t.val % 9 ≤ 2)) (h2 : ¬(3 ≤ t.val % 9 ∧ t.val % 9 ≤ 6)) (h3 : 7 ≤ t.val % 9) :
    owns (c : Thread nD τ) (ms0_3 t) fullShare (outsAt0 m c (t.val - 1) (Nat.lt_of_le_of_lt (Nat.sub_le _ _) t.isLt)).1 ⊢ (dats m 0 c).leavesExact 3 t :=
  leaves_passed m c 3 t (idleAt0_3_D t (fun h => h0 ((hcond0_0 t).mp h)) (fun h => h1 ((hcond0_1 t).mp h)) (fun h => h2 ((hcond0_2 t).mp h)) ((hcond0_3 t).mpr h3)) _ (before0_3_D m c t h0 h1 h2 h3)
    (by rw [after0_3, outsAt0_D m c t h0 h1 h2 h3]; rfl)

theorem leaves0_4_D (c : Dev nD) (t : Fin cfg0.N) (h0 : ¬t.val % 9 = 0) (h1 : ¬(1 ≤ t.val % 9 ∧ t.val % 9 ≤ 2)) (h2 : ¬(3 ≤ t.val % 9 ∧ t.val % 9 ≤ 6)) (h3 : 7 ≤ t.val % 9) :
    owns (c : Thread nD τ) (ms0_4 t) fullShare (outsAt0 m c (t.val - 1) (Nat.lt_of_le_of_lt (Nat.sub_le _ _) t.isLt)).2.1 ⊢ (dats m 0 c).leavesExact 4 t :=
  leaves_passed m c 4 t (idleAt0_4_D t (fun h => h0 ((hcond0_0 t).mp h)) (fun h => h1 ((hcond0_1 t).mp h)) (fun h => h2 ((hcond0_2 t).mp h)) ((hcond0_3 t).mpr h3)) _ (before0_4_D m c t h0 h1 h2 h3)
    (by rw [after0_4, outsAt0_D m c t h0 h1 h2 h3]; rfl)

/-- What the body is handed at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 6400000 in
/-- The body meets that at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 144 := lt_of_lt_of_eq t.isLt (show cfg0.N = 144 from N_0)
  by_cases h0 : t.val % 9 = 0
  · by_cases h1 : (1 ≤ t.val % 9 ∧ t.val % 9 ≤ 2)
    · exfalso; omega
    · by_cases h2 : (3 ≤ t.val % 9 ∧ t.val % 9 ≤ 6)
      · exfalso; omega
      · by_cases h3 : 7 ≤ t.val % 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_A t ((hcond0_0 t).mpr h0) (fun h => h1 ((hcond0_1 t).mp h)) (fun h => h2 ((hcond0_2 t).mp h)) (fun h => h3 ((hcond0_3 t).mp h))], after0_3]
          rw [Dat.leavesExact_idle (dats m 0 c) 4 t (idleAt0_4_A t ((hcond0_0 t).mpr h0) (fun h => h1 ((hcond0_1 t).mp h)) (fun h => h2 ((hcond0_2 t).mp h)) (fun h => h3 ((hcond0_3 t).mp h))) (noFlush0_4_A t ((hcond0_0 t).mpr h0) (fun h => h1 ((hcond0_1 t).mp h)) (fun h => h2 ((hcond0_2 t).mp h)) (fun h => h3 ((hcond0_3 t).mp h)))]
          rw [Dat.leavesExact_idle (dats m 0 c) 5 t (idleAt0_5_A t ((hcond0_0 t).mpr h0) (fun h => h1 ((hcond0_1 t).mp h)) (fun h => h2 ((hcond0_2 t).mp h)) (fun h => h3 ((hcond0_3 t).mp h))) (noFlush0_5_A t ((hcond0_0 t).mpr h0) (fun h => h1 ((hcond0_1 t).mp h)) (fun h => h2 ((hcond0_2 t).mp h)) (fun h => h3 ((hcond0_3 t).mp h)))]
          by_cases hz : t.val = 0
          · rw [PhiS_castSucc m c t, PhiS_zero m c _ _ hz, PhiA0_eq]
            rw [outsAt0_A m c t h0 h1 h2 h3]
            unfold out0_A_3 sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t)).2.2.2.2 _ _ Set.univ _)
            isplitl [H0]; · iexact H0
            isplitl [H1]; · iexact H1
            isplitl [H2]; · iexact H2
            isplitl [H3]; · iexists _; iexact H3
            isplitl [H4]; · iexact H4
            isplitl [H5]; · iexact H5
            isplitl [HS0]; · iexact HS0
            iintro ⟨H0, H1, H2, ⟨%e3, H3⟩, H4, H5, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]
            · unfold owns; iexists _; isplitr
              swap; · iexact H3
              ipureintro; exact View.read_writes_of_cover _ _ _ _ _ (cover0_A_3 c _ _ _ _ _ _ _ _ _ _ _ _ _ _ _ _ _ _ _ _ _ _)
            isplitl [H4]; · iexists _; iexact H4
            iexists _; iexact H5
          · rw [PhiS_castSucc m c t, PhiS_pos m c _ _ hz]
            rw [outsAt0_A m c t h0 h1 h2 h3]
            unfold out0_A_3 sout0_A_0; (try dsimp only)
            iintro ⟨⟨HS0, Hg⟩, Ho, ⟨%d0, H0⟩, ⟨%d1, H1⟩, ⟨%d2, H2⟩, ⟨%d3, H3⟩, ⟨%d4, H4⟩, ⟨%d5, H5⟩⟩
            iapply ((kernelRun0_A c (grid0.coords t) _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t)).2.2.2.2 _ _ Set.univ _)
            isplitl [H0]; · iexact H0
            isplitl [H1]; · iexact H1
            isplitl [H2]; · iexact H2
            isplitl [H3]; · iexists _; iexact H3
            isplitl [H4]; · iexact H4
            isplitl [H5]; · iexact H5
            isplitl [HS0]; · iexists _; iexact HS0
            iintro ⟨H0, H1, H2, ⟨%e3, H3⟩, H4, H5, ⟨%es0, HS0⟩⟩
            isplitl [HS0 Hg]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _)
              iexact Hg
            isplitl [Ho]; · iexact Ho
            isplitl [H0]; · iexact H0
            isplitl [H1]; · iexact H1
            isplitl [H2]; · iexact H2
            isplitl [H3]
            · unfold owns; iexists _; isplitr
              swap; · iexact H3
              ipureintro; exact View.read_writes_of_cover _ _ _ _ _ (cover0_A_3 c _ _ _ _ _ _ _ _ _ _ _ _ _ _ _ _ _ _ _ _ _ _)
            isplitl [H4]; · iexists _; iexact H4
            iexists _; iexact H5
  · by_cases h1 : (1 ≤ t.val % 9 ∧ t.val % 9 ≤ 2)
    · by_cases h2 : (3 ≤ t.val % 9 ∧ t.val % 9 ≤ 6)
      · exfalso; omega
      · by_cases h3 : 7 ≤ t.val % 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3_B t (fun h => h0 ((hcond0_0 t).mp h)) ((hcond0_1 t).mpr h1) (fun h => h2 ((hcond0_2 t).mp h)) (fun h => h3 ((hcond0_3 t).mp h))], after0_3]
          rw [Dat.leavesExact_idle (dats m 0 c) 4 t (idleAt0_4_B t (fun h => h0 ((hcond0_0 t).mp h)) ((hcond0_1 t).mpr h1) (fun h => h2 ((hcond0_2 t).mp h)) (fun h => h3 ((hcond0_3 t).mp h))) (noFlush0_4_B t (fun h => h0 ((hcond0_0 t).mp h)) ((hcond0_1 t).mpr h1) (fun h => h2 ((hcond0_2 t).mp h)) (fun h => h3 ((hcond0_3 t).mp h)))]
          rw [Dat.leavesExact_idle (dats m 0 c) 5 t (idleAt0_5_B t (fun h => h0 ((hcond0_0 t).mp h)) ((hcond0_1 t).mpr h1) (fun h => h2 ((hcond0_2 t).mp h)) (fun h => h3 ((hcond0_3 t).mp h))) (noFlush0_5_B t (fun h => h0 ((hcond0_0 t).mp h)) ((hcond0_1 t).mpr h1) (fun h => h2 ((hcond0_2 t).mp h)) (fun h => h3 ((hcond0_3 t).mp h)))]
          by_cases hz : t.val = 0
          · exfalso; have hN : t.val < 144 := lt_of_lt_of_eq t.isLt (show cfg0.N = 144 from N_0); omega
          · rw [PhiS_castSucc m c t, PhiS_pos m c _ _ hz]
            rw [outsAt0_B m c t h0 h1 h2 h3]
            unfold out0_B_3 sout0_B_0; (try dsimp only)
            iintro ⟨⟨HS0, Hg⟩, Ho, ⟨%d0, H0⟩, ⟨%d1, H1⟩, ⟨%d2, H2⟩, ⟨%d3, H3⟩, ⟨%d4, H4⟩, ⟨%d5, H5⟩⟩
            iapply ((kernelRun0_B c (grid0.coords t) _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) _).2.2.2.2 _ _ Set.univ _)
            isplitl [H0]; · iexact H0
            isplitl [H1]; · iexact H1
            isplitl [H2]; · iexact H2
            isplitl [H3]; · iexists _; iexact H3
            isplitl [H4]; · iexact H4
            isplitl [H5]; · iexact H5
            isplitl [HS0]; · iexact HS0
            iintro ⟨H0, H1, H2, ⟨%e3, H3⟩, H4, H5, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]
            · unfold owns; iexists _; isplitr
              swap; · iexact H3
              ipureintro; exact View.read_writes_of_cover _ _ _ _ _ (cover0_B_3 c _ _ _ _ _ _ _ _ _ _ _ _ _ _ _ _ _ _ _ _ _ _ _)
            isplitl [H4]; · iexists _; iexact H4
            iexists _; iexact H5
    · by_cases h2 : (3 ≤ t.val % 9 ∧ t.val % 9 ≤ 6)
      · by_cases h3 : 7 ≤ t.val % 9
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 4 t = owns (c : Thread nD τ) (ms0_4 t) fullShare ((dats m 0 c).after 4 t) from by
      unfold Dat.leavesExact; rw [liveAt0_4_C t (fun h => h0 ((hcond0_0 t).mp h)) (fun h => h1 ((hcond0_1 t).mp h)) ((hcond0_2 t).mpr h2) (fun h => h3 ((hcond0_3 t).mp h))], after0_4]
          rw [Dat.leavesExact_idle (dats m 0 c) 5 t (idleAt0_5_C t (fun h => h0 ((hcond0_0 t).mp h)) (fun h => h1 ((hcond0_1 t).mp h)) ((hcond0_2 t).mpr h2) (fun h => h3 ((hcond0_3 t).mp h))) (noFlush0_5_C t (fun h => h0 ((hcond0_0 t).mp h)) (fun h => h1 ((hcond0_1 t).mp h)) ((hcond0_2 t).mpr h2) (fun h => h3 ((hcond0_3 t).mp h)))]
          by_cases hz : t.val = 0
          · exfalso; have hN : t.val < 144 := lt_of_lt_of_eq t.isLt (show cfg0.N = 144 from N_0); omega
          · rw [PhiS_castSucc m c t, PhiS_pos m c _ _ hz]
            rw [outsAt0_C m c t h0 h1 h2 h3]
            simp only [before0_3_C m c t h0 h1 h2 h3]
            unfold out0_C_4 sout0_C_0; (try dsimp only)
            iintro ⟨⟨HS0, Hg⟩, Ho, ⟨%d0, H0⟩, ⟨%d1, H1⟩, ⟨%d2, H2⟩, ⟨%d3, H3⟩, ⟨%d4, H4⟩, ⟨%d5, H5⟩⟩
            iapply ((kernelRun0_C c (grid0.coords t) _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) _ _).2.2.2.2 _ Set.univ _)
            isplitl [H0]; · iexact H0
            isplitl [H1]; · iexact H1
            isplitl [H2]; · iexact H2
            isplitl [H3]; · iexact H3
            isplitl [H4]; · iexists _; iexact H4
            isplitl [H5]; · iexact H5
            isplitl [HS0]; · iexact HS0
            iintro ⟨H0, H1, H2, H3, ⟨%e4, H4⟩, H5, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iapply (leaves0_3_C m c t h0 h1 h2 h3); iexact H3
            isplitl [H4]
            · unfold owns; iexists _; isplitr
              swap; · iexact H4
              ipureintro; exact View.read_writes_of_cover _ _ _ _ _ (cover0_C_4 c _ _ _ _ _ _ _ _ _ _ _ _ _ _ _ _ _ _ _ _ _ _ _ _)
            iexists _; iexact H5
      · by_cases h3 : 7 ≤ t.val % 9
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 5 t = owns (c : Thread nD τ) (ms0_5 t) fullShare ((dats m 0 c).after 5 t) from by
      unfold Dat.leavesExact; rw [liveAt0_5_D t (fun h => h0 ((hcond0_0 t).mp h)) (fun h => h1 ((hcond0_1 t).mp h)) (fun h => h2 ((hcond0_2 t).mp h)) ((hcond0_3 t).mpr h3)], after0_5]
          by_cases hz : t.val = 0
          · exfalso; have hN : t.val < 144 := lt_of_lt_of_eq t.isLt (show cfg0.N = 144 from N_0); omega
          · rw [PhiS_castSucc m c t, PhiS_pos m c _ _ hz]
            rw [outsAt0_D m c t h0 h1 h2 h3]
            simp only [before0_3_D m c t h0 h1 h2 h3, before0_4_D m c t h0 h1 h2 h3]
            unfold out0_D_5 sout0_D_0; (try dsimp only)
            iintro ⟨⟨HS0, Hg⟩, Ho, ⟨%d0, H0⟩, ⟨%d1, H1⟩, ⟨%d2, H2⟩, ⟨%d3, H3⟩, ⟨%d4, H4⟩, ⟨%d5, H5⟩⟩
            iapply ((kernelRun0_D c (grid0.coords t) _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) _ _ _).2.2.2.2 Set.univ _)
            isplitl [H0]; · iexact H0
            isplitl [H1]; · iexact H1
            isplitl [H2]; · iexact H2
            isplitl [H3]; · iexact H3
            isplitl [H4]; · iexact H4
            isplitl [H5]; · iexists _; iexact H5
            isplitl [HS0]; · iexact HS0
            iintro ⟨H0, H1, H2, H3, H4, ⟨%e5, H5⟩, HS0⟩
            isplitl [HS0 Hg]
            · isplitl [HS0]
              · iexact HS0
              iexact Hg
            isplitl [Ho]; · iexact Ho
            isplitl [H0]; · iexact H0
            isplitl [H1]; · iexact H1
            isplitl [H2]; · iexact H2
            isplitl [H3]; · iapply (leaves0_3_D m c t h0 h1 h2 h3); iexact H3
            isplitl [H4]; · iapply (leaves0_4_D m c t h0 h1 h2 h3); iexact H4
            unfold owns; iexists _; isplitr
            swap; · iexact H5
            ipureintro; exact View.read_writes_of_cover _ _ _ _ _ (cover0_D_5 c _ _ _ _ _ _ _ _ _ _ _ _ _ _ _ _ _ _ _ _ _ _ _ _ _)
        · exfalso; omega

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 144 := N_0; omega)

set_option backward.isDefEq.respectTransparency.types false in
/-- The whole program runs, and ends with the argument arrays as they were and each output array as `arrAt` says. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- The whole program runs, and ends with each output array as `arrAt` says and the argument arrays as they were. -/
theorem run_blocks : θ_run defs (onTc (τ := τ) (main (F := F))) ⟨m, fun _ => 0, ρ⟩ fun r => ∀ c : Dev nD,
      (r.2.mem ((c : Thread nD τ).loc main_v6_0) = (dats m 0 c).arrAt 3 cfg0.N
      ∧ r.2.mem ((c : Thread nD τ).loc main_v6_1) = (dats m 0 c).arrAt 4 cfg0.N
      ∧ r.2.mem ((c : Thread nD τ).loc main_v6_2) = (dats m 0 c).arrAt 5 cfg0.N)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨h.1 c, h.2 c⟩)
    (θ_run_and (Q₁ := fun r => ∀ c : Dev nD, r.2.mem ((c : Thread nD τ).loc main_v6_0) = (dats m 0 c).arrAt 3 cfg0.N
        ∧ r.2.mem ((c : Thread nD τ).loc main_v6_1) = (dats m 0 c).arrAt 4 cfg0.N
        ∧ r.2.mem ((c : Thread nD τ).loc main_v6_2) = (dats m 0 c).arrAt 5 cfg0.N)
      ((θ_run defs _ _).mono (fun _ h c => ⟨(h c).1 3, (h c).1 4, (h c).1 5⟩) (run_main m ρ)) (unchanged m ρ))

end Cert.Kernel5Ideal.Columns

end
-- ==== Proof.ColumnsBits.lean ====
/- The input projection's frame on the floating-point bits. Its idealized program prints the same text, so its definitions are the
   same and the frame shown for every float carries over. -/
module

public import proofs.«01_k».proof.Proof.ColumnsFrame
public import proofs.«01_k».proof.Proof.Gen.Kernel5.Frame
public import proofs.«01_k».proof.Defs

@[expose] public section

namespace Cert.Kernel5.Columns

open Idealize.ShloMosaic Idealize.SL.Sem

variable {F : FTy → Type} [FloatOps F]

/-- The two programs' bodies are the same, -/
theorem bodies_eq : Kernel5.defs₀ (F := F) = Kernel5Ideal.defs₀ (F := F) := by
  unfold Kernel5.defs₀ Kernel5Ideal.defs₀
  refine congrArg Defs.onTc (funext fun l => ?_)
  match l with
  | ⟨0, _⟩ => rfl
  | ⟨n + 1, h⟩ => exact absurd h (Nat.not_lt.2 (Nat.le_add_left _ _))

/-- and so their pipelines. -/
theorem defs_eq : Kernel5.defs (F := F) = Kernel5Ideal.defs (F := F) :=
  congrArg (Pipeline.defs Kernel5Ideal.pcfgs) bodies_eq

/-- The program runs, keeps its arguments and ends at rest. -/
theorem frame [hKernel5 : Kernel5.Facts] : quiescent_Kernel5 := fun m g _ => by
  have h := Cert.Kernel5Ideal.Columns.frame (F := Bits) m g
  rw [← defs_eq] at h
  exact h

end Cert.Kernel5.Columns

end
-- ==== Proof.ColumnsRows.lean ====
/- What the input projection's kernel computes at one grid point, entry by entry: the normed, scaled and shifted rows, and their
   products with 768 columns of the weights. -/
module

public import proofs.«01_k».proof.Proof.Gen.Kernel5Ideal.Skeleton
public import proofs.«01_k».proof.Proof.MixerRows
public import Idealize.ShloMosaic.Lib.Pointwise

@[expose] public section

set_option maxRecDepth 16384

noncomputable section

namespace Cert.Kernel5Ideal.Columns

open Cert.Kernel2Ideal.Ffn (rowOf mat pack)
open Cert.Kernel5Ideal Cert.Kernel5Ideal.Gen Idealize.ShloMosaic Idealize.ShloMosaic.TcCoe Idealize.SL.Sem

/-- Column `j` of a product with a row. -/
def times {n : Nat} (h : Fin 2048 → EReal) (w : Fin 2048 → Fin n → EReal) (j : Fin n) : EReal := ∑ d : Fin 2048, h d * w d j

section Quarters
variable (x1 : Vec Ideal S1x8x2048 .f32) (x : Vec Ideal S1x256x2048 .f32) (w : Vec Ideal S2048x768 .bf16) (r : Fin 256)

/-- The first 256 rows: as they go into the product, as they go into the scratch, and their product. -/
theorem pay7_apply (d : Fin 2048) : k0_pay7 x1 x (ix2 r d) = Mixer.modulated (rowOf x r) (pack x1 0) (pack x1 1) (pack x1 2) d := by
  pointwise [k0_pay7]
  rfl

theorem pay8_apply (d : Fin 2048) : k0_pay8 x1 x (ix2 r d) = Mixer.modulated (rowOf x r) (pack x1 0) (pack x1 1) (pack x1 2) d := by
  pointwise [k0_pay8]
  simp only [pay7_apply]

theorem pay9_apply (j : Fin 768) :
    k0_pay9 x1 x w (ix3 0 r j) = times (Mixer.modulated (rowOf x r) (pack x1 0) (pack x1 1) (pack x1 2)) (mat w) j := by
  pointwise [k0_pay9]
  simp only [pay7_apply]
  rfl

/-- The next 256 rows, -/
theorem pay11_apply (d : Fin 2048) : k0_pay11 (k0_pay10 x1) x (ix2 r d) = Mixer.modulated (rowOf x r) (pack x1 0) (pack x1 1) (pack x1 2) d := by
  pointwise [k0_pay11, k0_pay10]
  rfl

theorem pay12_apply (d : Fin 2048) : k0_pay12 (k0_pay10 x1) x (ix2 r d) = Mixer.modulated (rowOf x r) (pack x1 0) (pack x1 1) (pack x1 2) d := by
  pointwise [k0_pay12]
  simp only [pay11_apply]

theorem pay13_apply (j : Fin 768) :
    k0_pay13 (k0_pay10 x1) x w (ix3 0 r j) = times (Mixer.modulated (rowOf x r) (pack x1 0) (pack x1 1) (pack x1 2)) (mat w) j := by
  pointwise [k0_pay13]
  simp only [pay11_apply]
  rfl

/-- the third, -/
theorem pay16_apply (d : Fin 2048) :
    k0_pay16 (k0_pay14 x1) (k0_pay15 x) (ix2 r d) = Mixer.modulated (rowOf x r) (pack x1 0) (pack x1 1) (pack x1 2) d := by
  pointwise [k0_pay16, k0_pay14, k0_pay15]
  rfl

theorem pay17_apply (d : Fin 2048) :
    k0_pay17 (k0_pay14 x1) (k0_pay15 x) (ix2 r d) = Mixer.modulated (rowOf x r) (pack x1 0) (pack x1 1) (pack x1 2) d := by
  pointwise [k0_pay17]
  simp only [pay16_apply]

theorem pay18_apply (j : Fin 768) :
    k0_pay18 (k0_pay14 x1) (k0_pay15 x) w (ix3 0 r j) = times (Mixer.modulated (rowOf x r) (pack x1 0) (pack x1 1) (pack x1 2)) (mat w) j := by
  pointwise [k0_pay18]
  simp only [pay16_apply]
  rfl

/-- and the last. -/
theorem pay1_apply (d : Fin 2048) : k0_pay1 (k0_pay20 x) (k0_pay21 x1) (k0_pay22 x1) (k0_pay23 x1) (k0_pay24 x) (ix2 r d)
    = Mixer.modulated (rowOf x r) (pack x1 0) (pack x1 1) (pack x1 2) d := by
  pointwise [k0_pay1, k0_pay20, k0_pay21, k0_pay22, k0_pay23, k0_pay24, k0_pay19]
  rfl

theorem pay2_apply (d : Fin 2048) : k0_pay2 (k0_pay20 x) (k0_pay21 x1) (k0_pay22 x1) (k0_pay23 x1) (k0_pay24 x) (ix2 r d)
    = Mixer.modulated (rowOf x r) (pack x1 0) (pack x1 1) (pack x1 2) d := by
  pointwise [k0_pay2]
  simp only [pay1_apply]

theorem pay3_apply (j : Fin 768) : k0_pay3 (k0_pay20 x) (k0_pay21 x1) (k0_pay22 x1) (k0_pay23 x1) (k0_pay24 x) w (ix3 0 r j)
    = times (Mixer.modulated (rowOf x r) (pack x1 0) (pack x1 1) (pack x1 2)) (mat w) j := by
  pointwise [k0_pay3]
  simp only [pay1_apply]
  rfl

end Quarters

section Products
variable (h : Vec Ideal S1024x2048 .bf16) (w : Vec Ideal S2048x768 .bf16) (r : Fin 1024) (j : Fin 768)

/-- The products of the other points, from the scratch. -/
theorem pay4_apply : k0_pay4 h w (ix3 0 r j) = times (mat h r) (mat w) j := by
  pointwise [k0_pay4]
  rfl

theorem pay5_apply : k0_pay5 h w (ix3 0 r j) = times (mat h r) (mat w) j := by
  pointwise [k0_pay5]
  rfl

theorem pay6_apply : k0_pay6 h w (ix3 0 r j) = times (mat h r) (mat w) j := by
  pointwise [k0_pay6]
  rfl

end Products

end Cert.Kernel5Ideal.Columns

end
-- ==== Proof.ColumnsBlock.lean ====
/- The input projection: what one grid point of its kernel leaves in its output blocks and in its scratch, in closed form. The first
   point of a row block norms its 1024 rows in four quarters and multiplies each; the others multiply the scratch. -/
module

public import proofs.«01_k».proof.Proof.ColumnsRows
public import proofs.«01_k».proof.Proof.ColumnsFrame
public import proofs.«01_k».proof.Proof.MixerBlock
public import Idealize.ShloMosaic.Lib.VecWindow

@[expose] public section

set_option maxRecDepth 16384

noncomputable section

namespace Cert.Kernel5Ideal.Columns

open Cert.Kernel2Ideal.Ffn (rowOf mat pack zero2 zero3 ld_x1)
open Cert.Kernel5Ideal Cert.Kernel5Ideal.Gen Idealize.ShloMosaic Idealize.ShloMosaic.TcCoe Idealize.SL.Sem

/-- The 1024 normed rows of a point, -/
def normed (x0 : Vec Ideal S1x1024x2048 .f32) (x1 : Vec Ideal S1x8x2048 .f32) : Vec Ideal S1024x2048 .bf16 :=
  fun y => Mixer.modulated (rowOf x0 (y 0)) (pack x1 0) (pack x1 1) (pack x1 2) (y 1)

/-- and the product of 1024 rows with 768 columns. -/
def product (h : Vec Ideal S1024x2048 .bf16) (w : Vec Ideal S2048x768 .bf16) : S1x1024x768.Idx → EReal := fun y => times (mat h (y 1)) (mat w) (y 2)

theorem normed_at (x0 : Vec Ideal S1x1024x2048 .f32) (x1 : Vec Ideal S1x8x2048 .f32)
    (y : S1024x2048.Idx) (r : Fin 1024) (d : Fin 2048) (hr : (y 0).val = r.val) (hd : (y 1).val = d.val) :
    normed x0 x1 y = Mixer.modulated (rowOf x0 r) (pack x1 0) (pack x1 1) (pack x1 2) d := by
  obtain rfl : y 0 = r := Fin.ext hr
  obtain rfl : y 1 = d := Fin.ext hd
  rfl

theorem product_at (x0 : Vec Ideal S1x1024x2048 .f32) (x1 : Vec Ideal S1x8x2048 .f32) (w : Vec Ideal S2048x768 .bf16)
    (y : S1x1024x768.Idx) (r : Fin 1024) (j : Fin 768) (hr : (y 1).val = r.val) (hj : (y 2).val = j.val) :
    product (normed x0 x1) w y = times (Mixer.modulated (rowOf x0 r) (pack x1 0) (pack x1 1) (pack x1 2)) (mat w) j := by
  obtain rfl : y 1 = r := Fin.ext hr
  obtain rfl : y 2 = j := Fin.ext hj
  rfl

/-- Loads of the whole blocks, -/
theorem ld_scratch (X : Vec Ideal S1024x2048 .bf16) (h) :
    View.ld (Val := Elt Ideal) (S := S1024x2048) (e' := .bf16) X (Rect.unit ![0, 0] ![1024, 2048] h) = X := View.ld_unit_zero zero2 h X

theorem ld_weights (X : Vec Ideal S2048x768 .bf16) (h) :
    View.ld (Val := Elt Ideal) (S := S2048x768) (e' := .bf16) X (Rect.unit ![0, 0] ![2048, 768] h) = X := View.ld_unit_zero zero2 h X

/-- and of 256 of the rows. -/
theorem ld_rows (X : Vec Ideal S1x1024x2048 .f32) (k : Nat) (hk : k + 256 ≤ 1024) (h) (r : Fin 256) :
    rowOf (View.ld (Val := Elt Ideal) (S := S1x1024x2048) (e' := .f32) X (Rect.unit ![0, k, 0] ![1, 256, 2048] h)) r
      = rowOf X ⟨k + r.val, by omega⟩ := by
  funext d
  refine congrArg X (funext fun a => Fin.ext ?_)
  match a with
  | ⟨0, _⟩ => rfl
  | ⟨1, _⟩ => show k + 1 * r.val = k + r.val; omega
  | ⟨2, _⟩ => show 0 + 1 * d.val = d.val; omega

section Run
variable (c : Dev nD) (i : grid0.Coords) (arg3 : Memref sig .tc .vmem S1x1024x2048 .f32) (harg3 : arg3.IsWhole) (arg4 : Memref sig .tc .vmem S1x8x2048 .f32) (harg4 : arg4.IsWhole) (arg5 : Memref sig .tc .vmem S2048x768 .bf16) (harg5 : arg5.IsWhole) (arg6 : Memref sig .tc .vmem S1x1024x768 .f32) (harg6 : arg6.IsWhole) (arg7 : Memref sig .tc .vmem S1x1024x768 .bf16) (harg7 : arg7.IsWhole) (arg8 : Memref sig .tc .vmem S1x1024x768 .f32) (harg8 : arg8.IsWhole) (arg9 : Memref sig .tc .vmem S1024x2048 .bf16) (harg9 : arg9.IsWhole)
  (x0 : Vec Ideal S1x1024x2048 .f32) (x1 : Vec Ideal S1x8x2048 .f32) (x2 : Vec Ideal S2048x768 .bf16)

/-- The block written by a later point of the first result's columns, -/
theorem outB (hc0 : ¬cond0_0 i) (hc1 : cond0_1 i) (hc2 : ¬cond0_2 i) (hc3 : ¬cond0_3 i) (xs0 : Vec Ideal S1024x2048 .bf16) :
    out0_B_3 (F := Ideal) c i arg3 harg3 arg4 harg4 arg5 harg5 arg6 harg6 arg7 harg7 arg8 harg8 arg9 harg9 hc0 hc1 hc2 hc3 x0 x1 x2 xs0 = k0_pay4 xs0 x2 := by
  unfold out0_B_3
  rw [View.read_writes_eq_canon _ _ _ (cover0_B_3 c i arg3 harg3 arg4 harg4 arg5 harg5 arg6 harg6 arg7 harg7 arg8 harg8 arg9 harg9 hc0 hc1 hc2 hc3 x0 x1 x2 xs0)]
  unfold kernelRun0_B
  dsimp only
  rw [View.canon_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [ld_scratch, ld_weights]

/-- by a point of the second result's, -/
theorem outC (hc0 : ¬cond0_0 i) (hc1 : ¬cond0_1 i) (hc2 : cond0_2 i) (hc3 : ¬cond0_3 i) (xo3 : Vec Ideal S1x1024x768 .f32) (xs0 : Vec Ideal S1024x2048 .bf16) :
    out0_C_4 (F := Ideal) c i arg3 harg3 arg4 harg4 arg5 harg5 arg6 harg6 arg7 harg7 arg8 harg8 arg9 harg9 hc0 hc1 hc2 hc3 x0 x1 x2 xo3 xs0 = k0_pay5 xs0 x2 := by
  unfold out0_C_4
  rw [View.read_writes_eq_canon _ _ _ (cover0_C_4 c i arg3 harg3 arg4 harg4 arg5 harg5 arg6 harg6 arg7 harg7 arg8 harg8 arg9 harg9 hc0 hc1 hc2 hc3 x0 x1 x2 xo3 xs0)]
  unfold kernelRun0_C
  dsimp only
  rw [View.canon_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [ld_scratch, ld_weights]

/-- and by a point of the third's. -/
theorem outD (hc0 : ¬cond0_0 i) (hc1 : ¬cond0_1 i) (hc2 : ¬cond0_2 i) (hc3 : cond0_3 i) (xo3 : Vec Ideal S1x1024x768 .f32) (xo4 : Vec Ideal S1x1024x768 .bf16) (xs0 : Vec Ideal S1024x2048 .bf16) :
    out0_D_5 (F := Ideal) c i arg3 harg3 arg4 harg4 arg5 harg5 arg6 harg6 arg7 harg7 arg8 harg8 arg9 harg9 hc0 hc1 hc2 hc3 x0 x1 x2 xo3 xo4 xs0 = k0_pay6 xs0 x2 := by
  unfold out0_D_5
  rw [View.read_writes_eq_canon _ _ _ (cover0_D_5 c i arg3 harg3 arg4 harg4 arg5 harg5 arg6 harg6 arg7 harg7 arg8 harg8 arg9 harg9 hc0 hc1 hc2 hc3 x0 x1 x2 xo3 xo4 xs0)]
  unfold kernelRun0_D
  dsimp only
  rw [View.canon_unit_zero (show (![0, 0, 0] : Fin 3 → Nat) = fun _ => 0 by decide)]
  sl_unfold_words
  simp only [View.readAt_eq_ld, harg3.read_unread, harg4.read_unread, harg5.read_unread, harg6.read_unread, harg7.read_unread, harg8.read_unread, harg9.read_unread]
  rw [ld_scratch, ld_weights]

/-- The block written by the first point of a row block, in four pieces, -/
theorem outA (hc0 : cond0_0 i) (hc1 : ¬cond0_1 i) (hc2 : ¬cond0_2 i) (hc3 : ¬cond0_3 i) :
    out0_A_3 (F := Ideal) c i arg3 harg3 arg4 harg4 arg5 harg5 arg6 harg6 arg7 harg7 arg8 harg8 arg9 harg9 hc0 hc1 hc2 hc3 x0 x1 x2 = product (normed x0 x1) x2 := by
  unfold out0_A_3
  rw [View.read_writes_eq_canon _ _ _ (cover0_A_3 c i arg3 harg3 arg4 harg4 arg5 harg5 arg6 harg6 arg7 harg7 arg8 harg8 arg9 harg9 hc0 hc1 hc2 hc3 x0 x1 x2)]
  funext y
  refine View.canon_apply_of_pieces (product (normed x0 x1) x2) _ ?_ y (cover0_A_3 c i arg3 harg3 arg4 harg4 arg5 harg5 arg6 harg6 arg7 harg7 arg8 harg8 arg9 harg9 hc0 hc1 hc2 hc3 x0 x1 x2 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl | rfl | rfl
  · refine Eq.trans (congrArg _ (show x = ix3 0 (⟨(x 1).val, (x 1).isLt⟩ : Fin 256) (⟨(x 2).val, (x 2).isLt⟩ : Fin 768) from
      funext fun a => match a with | ⟨0, _⟩ => Fin.ext (by have : (x 0).val < 1 := (x 0).isLt; show (x 0).val = 0; omega) | ⟨1, _⟩ => rfl | ⟨2, _⟩ => rfl)) ?_
    dsimp only
    rw [ld_x1, ld_weights, pay3_apply, ld_rows x0 768 (by omega)]
    refine (product_at x0 x1 x2 _ _ _ ?_ ?_).symm
    · show 768 + 1 * (x 1).val = 768 + (x 1).val; omega
    · show 0 + 1 * (x 2).val = (x 2).val; omega
  · refine Eq.trans (congrArg _ (show x = ix3 0 (⟨(x 1).val, (x 1).isLt⟩ : Fin 256) (⟨(x 2).val, (x 2).isLt⟩ : Fin 768) from
      funext fun a => match a with | ⟨0, _⟩ => Fin.ext (by have : (x 0).val < 1 := (x 0).isLt; show (x 0).val = 0; omega) | ⟨1, _⟩ => rfl | ⟨2, _⟩ => rfl)) ?_
    dsimp only
    rw [ld_x1, ld_weights, pay18_apply, ld_rows x0 512 (by omega)]
    refine (product_at x0 x1 x2 _ _ _ ?_ ?_).symm
    · show 512 + 1 * (x 1).val = 512 + (x 1).val; omega
    · show 0 + 1 * (x 2).val = (x 2).val; omega
  · refine Eq.trans (congrArg _ (show x = ix3 0 (⟨(x 1).val, (x 1).isLt⟩ : Fin 256) (⟨(x 2).val, (x 2).isLt⟩ : Fin 768) from
      funext fun a => match a with | ⟨0, _⟩ => Fin.ext (by have : (x 0).val < 1 := (x 0).isLt; show (x 0).val = 0; omega) | ⟨1, _⟩ => rfl | ⟨2, _⟩ => rfl)) ?_
    dsimp only
    rw [ld_x1, ld_weights, pay13_apply, ld_rows x0 256 (by omega)]
    refine (product_at x0 x1 x2 _ _ _ ?_ ?_).symm
    · show 256 + 1 * (x 1).val = 256 + (x 1).val; omega
    · show 0 + 1 * (x 2).val = (x 2).val; omega
  · refine Eq.trans (congrArg _ (show x = ix3 0 (⟨(x 1).val, (x 1).isLt⟩ : Fin 256) (⟨(x 2).val, (x 2).isLt⟩ : Fin 768) from
      funext fun a => match a with | ⟨0, _⟩ => Fin.ext (by have : (x 0).val < 1 := (x 0).isLt; show (x 0).val = 0; omega) | ⟨1, _⟩ => rfl | ⟨2, _⟩ => rfl)) ?_
    dsimp only
    rw [ld_x1, ld_weights, pay9_apply, ld_rows x0 0 (by omega)]
    refine (product_at x0 x1 x2 _ _ _ ?_ ?_).symm
    · show 0 + 1 * (x 1).val = 0 + (x 1).val; omega
    · show 0 + 1 * (x 2).val = (x 2).val; omega

/-- and the scratch it leaves. -/
theorem soutA (hc0 : cond0_0 i) (hc1 : ¬cond0_1 i) (hc2 : ¬cond0_2 i) (hc3 : ¬cond0_3 i) :
    sout0_A_0 (F := Ideal) c i arg3 harg3 arg4 harg4 arg5 harg5 arg6 harg6 arg7 harg7 arg8 harg8 arg9 harg9 hc0 hc1 hc2 hc3 x0 x1 x2 = normed x0 x1 := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1 x2)]
  funext y
  refine View.canon_apply_of_pieces (normed x0 x1) _ ?_ y (scover0_A_0 c i arg3 harg3 arg4 harg4 arg5 harg5 arg6 harg6 arg7 harg7 arg8 harg8 arg9 harg9 hc0 hc1 hc2 hc3 x0 x1 x2 y)
  unfold kernelRun0_A
  dsimp only
  sl_unfold_words
  simp only [View.readAt_eq_ld, harg3.read_unread, harg4.read_unread, harg5.read_unread, harg6.read_unread, harg7.read_unread, harg8.read_unread, harg9.read_unread]
  intro pc hpc x
  simp only [List.mem_cons, List.not_mem_nil, or_false] at hpc
  rcases hpc with rfl | rfl | rfl | rfl
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay2_apply, ld_rows x0 768 (by omega)]
    refine (normed_at x0 x1 _ _ _ ?_ ?_).symm
    · show 768 + 1 * (x 0).val = 768 + (x 0).val; omega
    · show 0 + 1 * (x 1).val = (x 1).val; omega
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay17_apply, ld_rows x0 512 (by omega)]
    refine (normed_at x0 x1 _ _ _ ?_ ?_).symm
    · show 512 + 1 * (x 0).val = 512 + (x 0).val; omega
    · show 0 + 1 * (x 1).val = (x 1).val; omega
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay12_apply, ld_rows x0 256 (by omega)]
    refine (normed_at x0 x1 _ _ _ ?_ ?_).symm
    · show 256 + 1 * (x 0).val = 256 + (x 0).val; omega
    · show 0 + 1 * (x 1).val = (x 1).val; omega
  · refine Eq.trans (congrArg _ (show x = ix2 (⟨(x 0).val, (x 0).isLt⟩ : Fin 256) (⟨(x 1).val, (x 1).isLt⟩ : Fin 2048) from
      funext fun a => match a with | ⟨0, _⟩ => rfl | ⟨1, _⟩ => rfl)) ?_
    dsimp only
    rw [ld_x1, pay8_apply, ld_rows x0 0 (by omega)]
    refine (normed_at x0 x1 _ _ _ ?_ ?_).symm
    · show 0 + 1 * (x 0).val = 0 + (x 0).val; omega
    · show 0 + 1 * (x 1).val = (x 1).val; omega

end Run

end Cert.Kernel5Ideal.Columns

end
-- ==== Proof.ColumnsPoints.lean ====
/- The input projection: the blocks of its kernel at its grid points. Point `t` of the 144 works on batch entry `t / 18`, rows
   `1024 * (t / 9 % 2)` and following, and columns `768 * (t % 9)` and following. -/
module

public import proofs.«01_k».proof.Proof.ColumnsBlock
public import Idealize.ShloMosaic.Lib.Pipeline.ValueKit.Geometry
public import Idealize.ShloMosaic.Lib.Claim

@[expose] public section

set_option maxRecDepth 16384

noncomputable section

namespace Cert.Kernel5Ideal.Columns

open Cert.Kernel2Ideal.Ffn (pack)
open Cert.Kernel5Ideal Cert.Kernel5Ideal.Gen Idealize.ShloMosaic Idealize.ShloMosaic.TcCoe Idealize.SL.Sem

theorem index0 : ∀ t : Fin cfg0.N, win0_0.index t = ![t.val / 18, t.val / 9 % 2, 0] := (by decide +kernel : ∀ t : Fin grid0.N, _)
theorem index1 : ∀ t : Fin cfg0.N, win0_1.index t = ![t.val / 18, 0, 0] := (by decide +kernel : ∀ t : Fin grid0.N, _)
theorem index2 : ∀ t : Fin cfg0.N, win0_2.index t = ![0, t.val % 9] := (by decide +kernel : ∀ t : Fin grid0.N, _)
theorem index3 : ∀ t : Fin cfg0.N, win0_3.index t = ![t.val / 18, t.val / 9 % 2, min 2 (t.val % 9)] := (by decide +kernel : ∀ t : Fin grid0.N, _)
theorem index4 : ∀ t : Fin cfg0.N, win0_4.index t = ![t.val / 18, t.val / 9 % 2, min 3 (t.val % 9 - 3)] := (by decide +kernel : ∀ t : Fin grid0.N, _)
theorem index5 : ∀ t : Fin cfg0.N, win0_5.index t = ![t.val / 18, t.val / 9 % 2, t.val % 9 - 7] := (by decide +kernel : ∀ t : Fin grid0.N, _)

/-- A block of the first result is written back when the next point has another, and at the last point of the row block, -/
theorem flush3 : ∀ t : Fin cfg0.N, (cfg0.win 3).flush t = true → t.val % 9 = 0 ∨ t.val % 9 = 1 ∨ t.val % 9 = 8 := (by decide +kernel : ∀ t : Fin grid0.N, _)

/-- one of the second result from its columns on, -/
theorem flush4 : ∀ t : Fin cfg0.N, (cfg0.win 4).flush t = true → 3 ≤ t.val % 9 := (by decide +kernel : ∀ t : Fin grid0.N, _)

/-- and one of the third. -/
theorem flush5 : ∀ t : Fin cfg0.N, (cfg0.win 5).flush t = true → 7 ≤ t.val % 9 := (by decide +kernel : ∀ t : Fin grid0.N, _)

variable (m : (ℓ : Loc nD τ sig) → Buf (Elt Ideal) ℓ) (c : Dev nD)

/-- The arguments. -/
abbrev argX : S8x2048x2048.Idx → EReal := m ((c : Thread nD τ).loc main_arg0)
abbrev argGain : S2048.Idx → EReal := m ((c : Thread nD τ).loc main_arg1)
abbrev argScale : S8x1x2048.Idx → EReal := m ((c : Thread nD τ).loc main_arg2)
abbrev argShift : S8x1x2048.Idx → EReal := m ((c : Thread nD τ).loc main_arg3)
abbrev argW : S2048x6912.Idx → EReal := m ((c : Thread nD τ).loc main_arg4)

/-! ### The host lines before the kernel -/

set_option maxHeartbeats 4000000 in
theorem weights_eq : V m c main_v1 = (truncf (F := Ideal) .bf16 (m ((c : Thread nD τ).loc main_arg4)) Facts₀.bitsLt_bf16_f32 : FVec Ideal S2048x6912 .bf16) := by
  dsimp only [V, hostOps0, List.flatten_cons, List.flatten_nil, List.append_nil, List.cons_append, List.nil_append]
  after_results

/-- The pack of row vectors: the gain, the scale, the shift, and five rows of zeros. -/
def packed (x1 : FVec Ideal S2048 .f32) (x2 x3 : FVec Ideal S8x1x2048 .f32) : FVec Ideal S8x8x2048 .f32 :=
  concatenate S8x8x2048 1
    [⟨S8x1x2048, broadcastInDim S8x1x2048 ![0, 1, 2] Facts₀.bcast_S1x1x2048_S8x1x2048_0_1_2
        (shapeCast S1x1x2048 (shapeCast S1x2048 x1 Facts₀.shapeCasts_S2048_S1x2048) Facts₀.shapeCasts_S1x2048_S1x1x2048)⟩,
      ⟨S8x1x2048, x2⟩, ⟨S8x1x2048, x3⟩,
      ⟨S8x5x2048, broadcastInDim S8x5x2048 ![] Facts₀.bcast_S_S8x5x2048 (constant S_ .f32 0x00000000#32)⟩]
    Facts₀.concatenates_S8x1x2048_S8x1x2048_S8x1x2048_S8x5x2048_S8x8x2048_d1

set_option maxHeartbeats 4000000 in
theorem pack_eq : V m c main_v5 = packed (m ((c : Thread nD τ).loc main_arg1)) (m ((c : Thread nD τ).loc main_arg2)) (m ((c : Thread nD τ).loc main_arg3)) := by
  dsimp only [V, hostOps0, List.flatten_cons, List.flatten_nil, List.append_nil, List.cons_append, List.nil_append]
  after_results
  rfl

section Packed
variable (x1 : FVec Ideal S2048 .f32) (x2 x3 : FVec Ideal S8x1x2048 .f32) (b : Fin 8) (d : Fin 2048)

theorem packed0 : packed x1 x2 x3 (ix3 b 0 d) = x1 (ix1 d) := by
  pointwise [packed]

theorem packed1 : packed x1 x2 x3 (ix3 b 1 d) = x2 (ix3 b 0 d) := by
  pointwise [packed]

theorem packed2 : packed x1 x2 x3 (ix3 b 2 d) = x3 (ix3 b 0 d) := by
  pointwise [packed]

end Packed

/-! ### The blocks -/

variable (t : Fin cfg0.N)

theorem point_lt : t.val < 144 := lt_of_lt_of_eq t.isLt N_0

/-- The rows of a point, -/
theorem block0 (r : Fin 1024) (d : Fin 2048) :
    iblk m c 0 t (ix3 0 r d) = argX m c (ix3 (Fin.ofNat 8 (t.val / 18)) (Fin.ofNat 2048 (1024 * (t.val / 9 % 2) + r.val)) d) := by
  have ht := point_lt t
  have hr := r.isLt
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show t.val / 18 * 1 + 0 = t.val / 18 % 8; omega
  | ⟨1, _⟩ => refine (Pipeline.Window.rect_emb_val win0_0 t _ _).trans ?_; rw [index0]; show t.val / 9 % 2 * 1024 + r.val = (1024 * (t.val / 9 % 2) + r.val) % 2048; omega
  | ⟨2, _⟩ => refine (Pipeline.Window.rect_emb_val win0_0 t _ _).trans ?_; rw [index0]; show 0 * 2048 + d.val = d.val; omega

/-- its row vectors, -/
theorem block1 (k : Fin 8) (d : Fin 2048) : iblk m c 1 t (ix3 0 k d) = V m c main_v5 (ix3 (Fin.ofNat 8 (t.val / 18)) k d) := by
  have ht := point_lt t
  blk_simp [iblk]
  refine congrArg (V m c main_v5) (funext fun a => Fin.ext ?_)
  match a with
  | ⟨0, _⟩ => refine (Pipeline.Window.rect_emb_val win0_1 t _ _).trans ?_; rw [index1]; show t.val / 18 * 1 + 0 = t.val / 18 % 8; omega
  | ⟨1, _⟩ => refine (Pipeline.Window.rect_emb_val win0_1 t _ _).trans ?_; rw [index1]; show 0 * 8 + k.val = k.val; omega
  | ⟨2, _⟩ => refine (Pipeline.Window.rect_emb_val win0_1 t _ _).trans ?_; rw [index1]; show 0 * 2048 + d.val = d.val; omega

/-- and its columns of the weights. -/
theorem block2 (d : Fin 2048) (j : Fin 768) :
    iblk m c 2 t (ix2 d j) = argW m c (ix2 d (Fin.ofNat 6912 (768 * (t.val % 9) + j.val))) := by
  have ht := point_lt t
  have hj := j.isLt
  blk_simp [iblk]
  refine (congrFun (weights_eq m c) _).trans (congrArg (m ((c : Thread nD τ).loc main_arg4)) (funext fun a => Fin.ext ?_))
  match a with
  | ⟨0, _⟩ => refine (Pipeline.Window.rect_emb_val win0_2 t _ _).trans ?_; rw [index2]; show 0 * 2048 + d.val = d.val; omega
  | ⟨1, _⟩ => refine (Pipeline.Window.rect_emb_val win0_2 t _ _).trans ?_; rw [index2]; show t.val % 9 * 768 + j.val = (768 * (t.val % 9) + j.val) % 6912; omega

/-- The row vectors of a point, one by one. -/
theorem pack0 : pack (iblk m c 1 t) 0 = fun d => argGain m c (ix1 d) :=
  funext fun d => (block1 m c t 0 d).trans ((congrFun (pack_eq m c) _).trans (packed0 _ _ _ _ d))

theorem pack1 : pack (iblk m c 1 t) 1 = fun d => argScale m c (ix3 (Fin.ofNat 8 (t.val / 18)) 0 d) :=
  funext fun d => (block1 m c t 1 d).trans ((congrFun (pack_eq m c) _).trans (packed1 _ _ _ _ d))

theorem pack2 : pack (iblk m c 1 t) 2 = fun d => argShift m c (ix3 (Fin.ofNat 8 (t.val / 18)) 0 d) :=
  funext fun d => (block1 m c t 2 d).trans ((congrFun (pack_eq m c) _).trans (packed2 _ _ _ _ d))

end Cert.Kernel5Ideal.Columns

end
-- ==== Proof.ColumnsSpec.lean ====
/- The input projection as a formula: a row's norm, its scale and shift, and the product with one column of the weights. -/
module

public import proofs.«01_k».proof.Proof.MixerSpec

@[expose] public section

noncomputable section

namespace Mixer

open Idealize.ShloMosaic

/-- Column `j` of row `r` of batch entry `b`. -/
def column (x : (⟨3, ![8, 2048, 2048]⟩ : Shape).Idx → EReal) (gain : (⟨1, ![2048]⟩ : Shape).Idx → EReal)
    (scale shift : (⟨3, ![8, 1, 2048]⟩ : Shape).Idx → EReal) (w : (⟨2, ![2048, 6912]⟩ : Shape).Idx → EReal)
    (b : Fin 8) (r : Fin 2048) (j : Fin 6912) : EReal :=
  ∑ d : Fin 2048, modulated (fun d => x (ValueIdx.ix3 b r d)) (fun d => gain (ValueIdx.ix1 d)) (fun d => scale (ValueIdx.ix3 b 0 d))
    (fun d => shift (ValueIdx.ix3 b 0 d)) d * w (ValueIdx.ix2 d j)

end Mixer

end
-- ==== Proof.ColumnsValues.lean ====
/- The input projection: what its kernel leaves after each of its grid points, and so in its three results. A row block has nine
   points; a block of a result that the point's columns do not belong to is kept from the point before. -/
module

public import proofs.«01_k».proof.Proof.ColumnsPoints
public import proofs.«01_k».proof.Proof.ColumnsSpec

@[expose] public section

set_option maxRecDepth 16384

noncomputable section

namespace Cert.Kernel5Ideal.Columns

open Cert.Kernel2Ideal.Ffn (rowOf mat pack)
open Cert.Kernel5Ideal Cert.Kernel5Ideal.Gen Idealize.ShloMosaic Idealize.ShloMosaic.TcCoe Idealize.SL.Sem

/-- The batch entry of row block `q` and the row of its `r`-th row. -/
def entryOf (q : ℕ) : Fin 8 := Fin.ofNat 8 (q / 2)
def rowAt (q : ℕ) (r : Fin 1024) : Fin 2048 := Fin.ofNat 2048 (1024 * (q % 2) + r.val)

variable (m : (ℓ : Loc nD τ sig) → Buf (Elt Ideal) ℓ) (c : Dev nD)

/-- An entry of the projection from the arguments. -/
def entry (b : Fin 8) (s : Fin 2048) (j : Fin 6912) : EReal := Mixer.column (argX m c) (argGain m c) (argScale m c) (argShift m c) (argW m c) b s j

/-- The normed rows of row block `q`, -/
def normedBlock (q : ℕ) : Vec Ideal S1024x2048 .bf16 := fun y =>
  Mixer.modulated (fun d => argX m c (ix3 (entryOf q) (rowAt q (y 0)) d)) (fun d => argGain m c (ix1 d)) (fun d => argScale m c (ix3 (entryOf q) 0 d))
    (fun d => argShift m c (ix3 (entryOf q) 0 d)) (y 1)

/-- and its columns `768 * k` and following. -/
def columns (q k : ℕ) : S1x1024x768.Idx → EReal := fun y => entry m c (entryOf q) (rowAt q (y 1)) (Fin.ofNat 6912 (768 * k + (y 2).val))

variable (t : Fin cfg0.N)

theorem half : t.val / 9 / 2 = t.val / 18 := by omega

theorem row_block (r : Fin 1024) : rowOf (iblk m c 0 t) r = fun d => argX m c (ix3 (entryOf (t.val / 9)) (rowAt (t.val / 9) r) d) := by
  unfold entryOf rowAt
  rw [half]
  exact funext fun d => block0 m c t r d

theorem normed_eq : normed (iblk m c 0 t) (iblk m c 1 t) = normedBlock m c (t.val / 9) := by
  funext y
  obtain ⟨r, d, rfl⟩ : ∃ (r : Fin 1024) (d : Fin 2048), y = ix2 r d := ⟨y 0, y 1, ValueIdx.eq_ix2 y⟩
  unfold normed normedBlock
  show Mixer.modulated (rowOf (iblk m c 0 t) r) (pack (iblk m c 1 t) 0) (pack (iblk m c 1 t) 1) (pack (iblk m c 1 t) 2) d = _
  rw [row_block, pack0, pack1, pack2]
  unfold entryOf
  rw [half]
  rfl

/-- A point's product is its columns of its row block. -/
theorem product_eq (q k : ℕ) (hq : t.val / 9 = q) (hk : t.val % 9 = k) : product (normedBlock m c q) (iblk m c 2 t) = columns m c q k := by
  subst hq hk
  funext y
  unfold product
  have hw : mat (iblk m c 2 t) = fun d j => argW m c (ix2 d (Fin.ofNat 6912 (768 * (t.val % 9) + j.val))) :=
    funext fun d => funext fun j => block2 m c t d j
  rw [hw]
  rfl

section Payloads
variable (h : Vec Ideal S1024x2048 .bf16) (w : Vec Ideal S2048x768 .bf16)

theorem exists_ix3 (y : S1x1024x768.Idx) : ∃ (r : Fin 1024) (j : Fin 768), y = ix3 0 r j :=
  ⟨y 1, y 2, (ValueIdx.eq_ix3 y).trans (congrArg (fun z => ValueIdx.ix3 z (y 1) (y 2)) (Fin.ext (by have : (y 0).val < 1 := (y 0).isLt; show (y 0).val = 0; omega)))⟩

/-- The stored vectors of the later points are products. -/
theorem pay4_eq : k0_pay4 h w = product h w := funext fun y => by
  obtain ⟨r, j, rfl⟩ := exists_ix3 y
  exact pay4_apply h w r j

theorem pay5_eq : k0_pay5 h w = product h w := funext fun y => by
  obtain ⟨r, j, rfl⟩ := exists_ix3 y
  exact pay5_apply h w r j

theorem pay6_eq : k0_pay6 h w = product h w := funext fun y => by
  obtain ⟨r, j, rfl⟩ := exists_ix3 y
  exact pay6_apply h w r j

end Payloads

/-- Every point leaves its block's normed rows in the scratch, -/
theorem scratch_eq : ∀ (n : ℕ) (h : n < cfg0.N), (outsAt0 m c n h).2.2.2 = normedBlock m c (n / 9) := by
  intro n
  induction n with
  | zero =>
    intro h
    refine (congrArg (fun z : Vec Ideal S1x1024x768 .f32 × Vec Ideal S1x1024x768 .bf16 × Vec Ideal S1x1024x768 .f32 × Vec Ideal S1024x2048 .bf16 => z.2.2.2) (outsAt0_A m c ⟨0, h⟩ rfl (by show ¬(1 ≤ 0 % 9 ∧ 0 % 9 ≤ 2); decide) (by show ¬(3 ≤ 0 % 9 ∧ 0 % 9 ≤ 6); decide) (by show ¬7 ≤ 0 % 9; decide))).trans ?_
    dsimp only
    rw [soutA]
    exact normed_eq m c ⟨0, h⟩
  | succ n ih =>
    intro h
    have hN : n + 1 < 144 := lt_of_lt_of_eq h N_0
    by_cases h0 : (n + 1) % 9 = 0
    · refine (congrArg (fun z : Vec Ideal S1x1024x768 .f32 × Vec Ideal S1x1024x768 .bf16 × Vec Ideal S1x1024x768 .f32 × Vec Ideal S1024x2048 .bf16 => z.2.2.2) (outsAt0_A m c ⟨n + 1, h⟩ (by show (n + 1) % 9 = 0; omega) (by show ¬(1 ≤ (n + 1) % 9 ∧ (n + 1) % 9 ≤ 2); omega) (by show ¬(3 ≤ (n + 1) % 9 ∧ (n + 1) % 9 ≤ 6); omega) (by show ¬7 ≤ (n + 1) % 9; omega))).trans ?_
      dsimp only
      rw [soutA]
      exact normed_eq m c ⟨n + 1, h⟩
    · have hd : n / 9 = (n + 1) / 9 := by omega
      by_cases h2 : (n + 1) % 9 ≤ 2
      · refine (congrArg (fun z : Vec Ideal S1x1024x768 .f32 × Vec Ideal S1x1024x768 .bf16 × Vec Ideal S1x1024x768 .f32 × Vec Ideal S1024x2048 .bf16 => z.2.2.2) (outsAt0_B m c ⟨n + 1, h⟩ (by show ¬(n + 1) % 9 = 0; omega) (by show 1 ≤ (n + 1) % 9 ∧ (n + 1) % 9 ≤ 2; omega) (by show ¬(3 ≤ (n + 1) % 9 ∧ (n + 1) % 9 ≤ 6); omega) (by show ¬7 ≤ (n + 1) % 9; omega))).trans ?_
        dsimp only [sout0_B_0]
        show (outsAt0 m c n _).2.2.2 = _
        rw [ih, hd]
      · by_cases h6 : (n + 1) % 9 ≤ 6
        · refine (congrArg (fun z : Vec Ideal S1x1024x768 .f32 × Vec Ideal S1x1024x768 .bf16 × Vec Ideal S1x1024x768 .f32 × Vec Ideal S1024x2048 .bf16 => z.2.2.2) (outsAt0_C m c ⟨n + 1, h⟩ (by show ¬(n + 1) % 9 = 0; omega) (by show ¬(1 ≤ (n + 1) % 9 ∧ (n + 1) % 9 ≤ 2); omega) (by show 3 ≤ (n + 1) % 9 ∧ (n + 1) % 9 ≤ 6; omega) (by show ¬7 ≤ (n + 1) % 9; omega))).trans ?_
          dsimp only [sout0_C_0]
          show (outsAt0 m c n _).2.2.2 = _
          rw [ih, hd]
        · refine (congrArg (fun z : Vec Ideal S1x1024x768 .f32 × Vec Ideal S1x1024x768 .bf16 × Vec Ideal S1x1024x768 .f32 × Vec Ideal S1024x2048 .bf16 => z.2.2.2) (outsAt0_D m c ⟨n + 1, h⟩ (by show ¬(n + 1) % 9 = 0; omega) (by show ¬(1 ≤ (n + 1) % 9 ∧ (n + 1) % 9 ≤ 2); omega) (by show ¬(3 ≤ (n + 1) % 9 ∧ (n + 1) % 9 ≤ 6); omega) (by show 7 ≤ (n + 1) % 9; omega))).trans ?_
          dsimp only [sout0_D_0]
          show (outsAt0 m c n _).2.2.2 = _
          rw [ih, hd]

/-- the block of the first result keeps the last of its columns, -/
theorem first_eq : ∀ (n : ℕ) (h : n < cfg0.N), (outsAt0 m c n h).1 = columns m c (n / 9) (min 2 (n % 9)) := by
  intro n
  induction n with
  | zero =>
    intro h
    refine (congrArg (fun z : Vec Ideal S1x1024x768 .f32 × Vec Ideal S1x1024x768 .bf16 × Vec Ideal S1x1024x768 .f32 × Vec Ideal S1024x2048 .bf16 => z.1) (outsAt0_A m c ⟨0, h⟩ rfl (by show ¬(1 ≤ 0 % 9 ∧ 0 % 9 ≤ 2); decide) (by show ¬(3 ≤ 0 % 9 ∧ 0 % 9 ≤ 6); decide) (by show ¬7 ≤ 0 % 9; decide))).trans ?_
    dsimp only
    rw [outA, normed_eq]
    exact product_eq m c ⟨0, h⟩ _ _ rfl rfl
  | succ n ih =>
    intro h
    have hN : n + 1 < 144 := lt_of_lt_of_eq h N_0
    by_cases h0 : (n + 1) % 9 = 0
    · refine (congrArg (fun z : Vec Ideal S1x1024x768 .f32 × Vec Ideal S1x1024x768 .bf16 × Vec Ideal S1x1024x768 .f32 × Vec Ideal S1024x2048 .bf16 => z.1) (outsAt0_A m c ⟨n + 1, h⟩ (by show (n + 1) % 9 = 0; omega) (by show ¬(1 ≤ (n + 1) % 9 ∧ (n + 1) % 9 ≤ 2); omega) (by show ¬(3 ≤ (n + 1) % 9 ∧ (n + 1) % 9 ≤ 6); omega) (by show ¬7 ≤ (n + 1) % 9; omega))).trans ?_
      dsimp only
      rw [outA, normed_eq]
      exact product_eq m c ⟨n + 1, h⟩ _ _ rfl (by show (n + 1) % 9 = min 2 ((n + 1) % 9); omega)
    · have hd : n / 9 = (n + 1) / 9 := by omega
      by_cases h2 : (n + 1) % 9 ≤ 2
      · refine (congrArg (fun z : Vec Ideal S1x1024x768 .f32 × Vec Ideal S1x1024x768 .bf16 × Vec Ideal S1x1024x768 .f32 × Vec Ideal S1024x2048 .bf16 => z.1) (outsAt0_B m c ⟨n + 1, h⟩ (by show ¬(n + 1) % 9 = 0; omega) (by show 1 ≤ (n + 1) % 9 ∧ (n + 1) % 9 ≤ 2; omega) (by show ¬(3 ≤ (n + 1) % 9 ∧ (n + 1) % 9 ≤ 6); omega) (by show ¬7 ≤ (n + 1) % 9; omega))).trans ?_
        dsimp only
        rw [outB, pay4_eq]
        show product (outsAt0 m c n _).2.2.2 _ = _
        rw [scratch_eq, hd]
        exact product_eq m c ⟨n + 1, h⟩ _ _ rfl (by show (n + 1) % 9 = min 2 ((n + 1) % 9); omega)
      · have hk : min 2 (n % 9) = min 2 ((n + 1) % 9) := by omega
        by_cases h6 : (n + 1) % 9 ≤ 6
        · refine (congrArg (fun z : Vec Ideal S1x1024x768 .f32 × Vec Ideal S1x1024x768 .bf16 × Vec Ideal S1x1024x768 .f32 × Vec Ideal S1024x2048 .bf16 => z.1) (outsAt0_C m c ⟨n + 1, h⟩ (by show ¬(n + 1) % 9 = 0; omega) (by show ¬(1 ≤ (n + 1) % 9 ∧ (n + 1) % 9 ≤ 2); omega) (by show 3 ≤ (n + 1) % 9 ∧ (n + 1) % 9 ≤ 6; omega) (by show ¬7 ≤ (n + 1) % 9; omega))).trans ?_
          dsimp only [out0_C_3]
          show (outsAt0 m c n _).1 = _
          rw [ih, hd, hk]
        · refine (congrArg (fun z : Vec Ideal S1x1024x768 .f32 × Vec Ideal S1x1024x768 .bf16 × Vec Ideal S1x1024x768 .f32 × Vec Ideal S1024x2048 .bf16 => z.1) (outsAt0_D m c ⟨n + 1, h⟩ (by show ¬(n + 1) % 9 = 0; omega) (by show ¬(1 ≤ (n + 1) % 9 ∧ (n + 1) % 9 ≤ 2); omega) (by show ¬(3 ≤ (n + 1) % 9 ∧ (n + 1) % 9 ≤ 6); omega) (by show 7 ≤ (n + 1) % 9; omega))).trans ?_
          dsimp only [out0_D_3]
          show (outsAt0 m c n _).1 = _
          rw [ih, hd, hk]

/-- so does that of the second, from its columns on, -/
theorem second_eq : ∀ (n : ℕ) (h : n < cfg0.N), 3 ≤ n % 9 → (outsAt0 m c n h).2.1 = columns m c (n / 9) (min 6 (n % 9)) := by
  intro n
  induction n with
  | zero => intro _ h3; exact absurd h3 (by decide)
  | succ n ih =>
    intro h h3
    have hN : n + 1 < 144 := lt_of_lt_of_eq h N_0
    have hd : n / 9 = (n + 1) / 9 := by omega
    by_cases h6 : (n + 1) % 9 ≤ 6
    · refine (congrArg (fun z : Vec Ideal S1x1024x768 .f32 × Vec Ideal S1x1024x768 .bf16 × Vec Ideal S1x1024x768 .f32 × Vec Ideal S1024x2048 .bf16 => z.2.1) (outsAt0_C m c ⟨n + 1, h⟩ (by show ¬(n + 1) % 9 = 0; omega) (by show ¬(1 ≤ (n + 1) % 9 ∧ (n + 1) % 9 ≤ 2); omega) (by show 3 ≤ (n + 1) % 9 ∧ (n + 1) % 9 ≤ 6; omega) (by show ¬7 ≤ (n + 1) % 9; omega))).trans ?_
      dsimp only
      rw [outC, pay5_eq]
      show product (outsAt0 m c n _).2.2.2 _ = _
      rw [scratch_eq, hd]
      exact product_eq m c ⟨n + 1, h⟩ _ _ rfl (by show (n + 1) % 9 = min 6 ((n + 1) % 9); omega)
    · refine (congrArg (fun z : Vec Ideal S1x1024x768 .f32 × Vec Ideal S1x1024x768 .bf16 × Vec Ideal S1x1024x768 .f32 × Vec Ideal S1024x2048 .bf16 => z.2.1) (outsAt0_D m c ⟨n + 1, h⟩ (by show ¬(n + 1) % 9 = 0; omega) (by show ¬(1 ≤ (n + 1) % 9 ∧ (n + 1) % 9 ≤ 2); omega) (by show ¬(3 ≤ (n + 1) % 9 ∧ (n + 1) % 9 ≤ 6); omega) (by show 7 ≤ (n + 1) % 9; omega))).trans ?_
      dsimp only [out0_D_4]
      show (outsAt0 m c n _).2.1 = _
      have hk : min 6 (n % 9) = min 6 ((n + 1) % 9) := by omega
      rw [ih _ (by omega), hd, hk]

/-- and that of the third. -/
theorem third_eq : ∀ (n : ℕ) (h : n < cfg0.N), 7 ≤ n % 9 → (outsAt0 m c n h).2.2.1 = columns m c (n / 9) (n % 9) := by
  intro n
  cases n with
  | zero => intro _ h3; exact absurd h3 (by decide)
  | succ n =>
    intro h h3
    have hN : n + 1 < 144 := lt_of_lt_of_eq h N_0
    have hd : n / 9 = (n + 1) / 9 := by omega
    refine (congrArg (fun z : Vec Ideal S1x1024x768 .f32 × Vec Ideal S1x1024x768 .bf16 × Vec Ideal S1x1024x768 .f32 × Vec Ideal S1024x2048 .bf16 => z.2.2.1) (outsAt0_D m c ⟨n + 1, h⟩ (by show ¬(n + 1) % 9 = 0; omega) (by show ¬(1 ≤ (n + 1) % 9 ∧ (n + 1) % 9 ≤ 2); omega) (by show ¬(3 ≤ (n + 1) % 9 ∧ (n + 1) % 9 ≤ 6); omega) (by show 7 ≤ (n + 1) % 9; omega))).trans ?_
    dsimp only
    rw [outD, pay6_eq]
    show product (outsAt0 m c n _).2.2.2 _ = _
    rw [scratch_eq, hd]
    exact product_eq m c ⟨n + 1, h⟩ _ _ rfl rfl

/-! ### The result arrays -/

/-- The first result: the first 2304 columns. -/
def first : S8x2048x2304.Idx → EReal := fun y => entry m c (y 0) (y 1) ⟨(y 2).val, lt_trans (y 2).isLt (by decide)⟩

theorem first_array : (dats m 0 c).arrAt 3 cfg0.N = first m c := by
  refine (dats m 0 c).arrAt_eq_of_covers 3 (first m c) (by decide +kernel) fun t hft y => ?_
  blk_simp
  rw [after0_3]
  have ht := point_lt t
  have hf := flush3 t hft
  obtain ⟨r, j, rfl⟩ := exists_ix3 y
  have hr := r.isLt
  have hj := j.isLt
  refine (congrFun (first_eq m c t.val t.isLt) (ix3 0 r j)).trans ?_
  have e0 : entryOf (t.val / 9) = ((win0_3.rect t).emb (ix3 0 r j) : S8x2048x2304.Idx) 0 := Fin.ext (by
    refine ((Pipeline.Window.rect_emb_val win0_3 t _ _).trans ?_).symm; rw [index3]; show t.val / 18 * 1 + 0 = t.val / 9 / 2 % 8; omega)
  have e1 : rowAt (t.val / 9) r = ((win0_3.rect t).emb (ix3 0 r j) : S8x2048x2304.Idx) 1 := Fin.ext (by
    refine ((Pipeline.Window.rect_emb_val win0_3 t _ _).trans ?_).symm; rw [index3]; show t.val / 9 % 2 * 1024 + r.val = (1024 * (t.val / 9 % 2) + r.val) % 2048; omega)
  have e3 : (((win0_3.rect t).emb (ix3 0 r j) : S8x2048x2304.Idx) 2).val = min 2 (t.val % 9) * 768 + j.val := by
    refine (Pipeline.Window.rect_emb_val win0_3 t _ _).trans ?_; rw [index3]; rfl
  unfold first
  refine congr (congr (congrArg (entry m c) e0) e1) (Fin.ext ?_)
  show (768 * (min 2 (t.val % 9)) + j.val) % 6912 = (((win0_3.rect t).emb (ix3 0 r j) : S8x2048x2304.Idx) 2).val
  rw [e3]
  omega

/-- The second: the next 3072. -/
def second : S8x2048x3072.Idx → EReal := fun y => entry m c (y 0) (y 1) ⟨2304 + (y 2).val, Nat.add_lt_of_lt_sub' (lt_of_lt_of_le (y 2).isLt (by decide))⟩

theorem second_array : (dats m 0 c).arrAt 4 cfg0.N = second m c := by
  refine (dats m 0 c).arrAt_eq_of_covers 4 (second m c) (by decide +kernel) fun t hft y => ?_
  blk_simp
  rw [after0_4]
  have ht := point_lt t
  have hf := flush4 t hft
  obtain ⟨r, j, rfl⟩ := exists_ix3 y
  have hr := r.isLt
  have hj := j.isLt
  refine (congrFun (second_eq m c t.val t.isLt hf) (ix3 0 r j)).trans ?_
  have e0 : entryOf (t.val / 9) = ((win0_4.rect t).emb (ix3 0 r j) : S8x2048x3072.Idx) 0 := Fin.ext (by
    refine ((Pipeline.Window.rect_emb_val win0_4 t _ _).trans ?_).symm; rw [index4]; show t.val / 18 * 1 + 0 = t.val / 9 / 2 % 8; omega)
  have e1 : rowAt (t.val / 9) r = ((win0_4.rect t).emb (ix3 0 r j) : S8x2048x3072.Idx) 1 := Fin.ext (by
    refine ((Pipeline.Window.rect_emb_val win0_4 t _ _).trans ?_).symm; rw [index4]; show t.val / 9 % 2 * 1024 + r.val = (1024 * (t.val / 9 % 2) + r.val) % 2048; omega)
  have e3 : (((win0_4.rect t).emb (ix3 0 r j) : S8x2048x3072.Idx) 2).val = min 3 (t.val % 9 - 3) * 768 + j.val := by
    refine (Pipeline.Window.rect_emb_val win0_4 t _ _).trans ?_; rw [index4]; rfl
  unfold second
  refine congr (congr (congrArg (entry m c) e0) e1) (Fin.ext ?_)
  show (768 * (min 6 (t.val % 9)) + j.val) % 6912 = 2304 + (((win0_4.rect t).emb (ix3 0 r j) : S8x2048x3072.Idx) 2).val
  rw [e3]
  omega

/-- The third: the last 1536. -/
def third : S8x2048x1536.Idx → EReal := fun y => entry m c (y 0) (y 1) ⟨5376 + (y 2).val, Nat.add_lt_of_lt_sub' (lt_of_lt_of_le (y 2).isLt (by decide))⟩

theorem third_array : (dats m 0 c).arrAt 5 cfg0.N = third m c := by
  refine (dats m 0 c).arrAt_eq_of_covers 5 (third m c) (by decide +kernel) fun t hft y => ?_
  blk_simp
  rw [after0_5]
  have ht := point_lt t
  have hf := flush5 t hft
  obtain ⟨r, j, rfl⟩ := exists_ix3 y
  have hr := r.isLt
  have hj := j.isLt
  refine (congrFun (third_eq m c t.val t.isLt hf) (ix3 0 r j)).trans ?_
  have e0 : entryOf (t.val / 9) = ((win0_5.rect t).emb (ix3 0 r j) : S8x2048x1536.Idx) 0 := Fin.ext (by
    refine ((Pipeline.Window.rect_emb_val win0_5 t _ _).trans ?_).symm; rw [index5]; show t.val / 18 * 1 + 0 = t.val / 9 / 2 % 8; omega)
  have e1 : rowAt (t.val / 9) r = ((win0_5.rect t).emb (ix3 0 r j) : S8x2048x1536.Idx) 1 := Fin.ext (by
    refine ((Pipeline.Window.rect_emb_val win0_5 t _ _).trans ?_).symm; rw [index5]; show t.val / 9 % 2 * 1024 + r.val = (1024 * (t.val / 9 % 2) + r.val) % 2048; omega)
  have e3 : (((win0_5.rect t).emb (ix3 0 r j) : S8x2048x1536.Idx) 2).val = (t.val % 9 - 7) * 768 + j.val := by
    refine (Pipeline.Window.rect_emb_val win0_5 t _ _).trans ?_; rw [index5]; rfl
  unfold third
  refine congr (congr (congrArg (entry m c) e0) e1) (Fin.ext ?_)
  show (768 * (t.val % 9) + j.val) % 6912 = 5376 + (((win0_5.rect t).emb (ix3 0 r j) : S8x2048x1536.Idx) 2).val
  rw [e3]
  omega

end Cert.Kernel5Ideal.Columns

end
-- ==== Proof.ColumnsRef.lean ====
/- The input projection's reference, entry by entry: its normed rows are those of the channel mixer's reference, and each of its
   results is their product with its own columns of the weights. -/
module

public import proofs.«01_k».proof.Proof.Gen.Reference5Ideal.Read
public import proofs.«01_k».proof.Proof.MixerRef
public import proofs.«01_k».proof.Proof.ColumnsSpec

@[expose] public section

set_option maxRecDepth 16384

noncomputable section

namespace Cert.Reference5Ideal.Columns

open Cert.Reference5Ideal Cert.Reference5Ideal.Read Idealize.ShloMosaic Idealize.ShloMosaic.TcCoe Idealize.SL.Sem

section Results
variable (x0 : (⟨S8x2048x2048, .f32⟩ : BufTy).Contents (Elt Ideal)) (x1 : (⟨S2048, .f32⟩ : BufTy).Contents (Elt Ideal)) (x2 x3 : (⟨S8x1x2048, .f32⟩ : BufTy).Contents (Elt Ideal)) (x4 : (⟨S2048x6912, .f32⟩ : BufTy).Contents (Elt Ideal)) (b : Fin 8) (r : Fin 2048)

/-- The normed, scaled and shifted rows. -/
theorem modulated_apply (d : Fin 2048) : val_main_v18 (F := Ideal) x0 x1 x2 x3 (ix3 b r d)
    = Mixer.modulated (fun j => x0 (ix3 b r j)) (fun j => x1 (ix1 j)) (fun j => x2 (ix3 b 0 j)) (fun j => x3 (ix3 b 0 j)) d :=
  Cert.Reference2Ideal.Ffn.modulated_apply x0 x1 x2 x3 b r d

/-- The products with the columns of the first result, -/
theorem first_apply (j : Fin 2304) : val_main_v20 (F := Ideal) x0 x1 x2 x3 x4 (ix3 b r j) = Mixer.column x0 x1 x2 x3 x4 b r ⟨j.val, by omega⟩ := by
  pointwise [val_main_v20, val_main_v19]
  simp only [modulated_apply]
  rfl

/-- of the second -/
theorem second_apply (j : Fin 3072) : val_main_v22 (F := Ideal) x0 x1 x2 x3 x4 (ix3 b r j) = Mixer.column x0 x1 x2 x3 x4 b r ⟨2304 + j.val, by omega⟩ := by
  pointwise [val_main_v22, val_main_v21, val_main_v19]
  simp only [modulated_apply]
  rfl

/-- and of the third. -/
theorem third_apply (j : Fin 1536) : val_main_v23 (F := Ideal) x0 x1 x2 x3 x4 (ix3 b r j) = Mixer.column x0 x1 x2 x3 x4 b r ⟨5376 + j.val, by omega⟩ := by
  pointwise [val_main_v23, val_main_v19]
  simp only [modulated_apply]
  rfl

end Results

end Cert.Reference5Ideal.Columns

end
-- ==== Proof.Modulation.lean ====
/- The modulation: each layer's rows of scales, shifts and gates from the conditioning vectors. The formula, the reference's result
   and the blocks the kernel's 24 grid points make of it. Point `t` works on layer `t / 12` and on columns `1024 * (t % 12)` and
   following. -/
module

public import proofs.«01_k».proof.Proof.Gen.Kernel6Ideal.Value
public import proofs.«01_k».proof.Proof.Gen.Reference6Ideal.Read
public import Idealize.ShloMosaic.Lib.Pointwise
public import Idealize.ShloMosaic.Lib.VecWindow
public import Idealize.ShloMosaic.Lib.Pipeline.ValueKit.Geometry

@[expose] public section

set_option maxRecDepth 16384

noncomputable section

namespace Modulation

open Idealize.ShloMosaic

/-- One entry: the conditioning vector, each entry times its logistic, with one column of the weights, plus that column's bias. -/
def entry (x w : Fin 2048 → EReal) (bias : EReal) : EReal := (∑ k : Fin 2048, x k * Ideal.logistic (x k) * w k) + bias

/-- Column `j` of layer `l` for batch entry `b`, from the whole arrays. -/
def output (x : (⟨2, ![8, 2048]⟩ : Shape).Idx → EReal) (w : (⟨3, ![2, 2048, 12288]⟩ : Shape).Idx → EReal)
    (bias : (⟨2, ![2, 12288]⟩ : Shape).Idx → EReal) (l : Fin 2) (b : Fin 8) (j : Fin 12288) : EReal :=
  entry (fun k => x (ValueIdx.ix2 b k)) (fun k => w (ValueIdx.ix3 l k j)) (bias (ValueIdx.ix2 l j))

end Modulation

namespace Cert.Reference6Ideal.Mod

open Cert.Reference6Ideal Cert.Reference6Ideal.Read Idealize.ShloMosaic

section Result
variable (x0 : (⟨S8x2048, .f32⟩ : BufTy).Contents (Elt Ideal)) (x1 : (⟨S2x2048x12288, .f32⟩ : BufTy).Contents (Elt Ideal))
  (x2 : (⟨S2x12288, .f32⟩ : BufTy).Contents (Elt Ideal)) (b : Fin 8) (j : Fin 12288)

/-- The conditioning vector after its activation. -/
theorem cond_apply (k : Fin 2048) : val_main_v0 (F := Ideal) x0 (ix2 b k) = x0 (ix2 b k) * Ideal.logistic (x0 (ix2 b k)) := by
  pointwise [val_main_v0, val_main_call0_v5, val_main_call0_v4, val_main_call0_cst_0, val_main_call0_v3, val_main_call0_v2,
    val_main_call0_cst, val_main_call0_v1, val_main_call0_v0]
  rfl

/-- The first layer's rows -/
theorem first_apply : val_main_v8 (F := Ideal) x0 x1 x2 (ix2 b j) = Modulation.output x0 x1 x2 0 b j := by
  pointwise [val_main_v8, val_main_v7, val_main_v6, val_main_v5, val_main_v4, val_main_v3, val_main_v2, val_main_v1]
  simp only [cond_apply]
  rfl

/-- and the second's. -/
theorem second_apply : val_main_v16 (F := Ideal) x0 x1 x2 (ix2 b j) = Modulation.output x0 x1 x2 1 b j := by
  pointwise [val_main_v16, val_main_v15, val_main_v14, val_main_v13, val_main_v12, val_main_v11, val_main_v10, val_main_v9]
  simp only [cond_apply]
  rfl

theorem result_apply (l : Fin 2) : val_main_v19 (F := Ideal) x0 x1 x2 (ix3 l b j) = Modulation.output x0 x1 x2 l b j := by
  match l with
  | ⟨0, _⟩ =>
    pointwise [val_main_v19, val_main_v18, val_main_v17]
    exact first_apply x0 x1 x2 b j
  | ⟨1, _⟩ =>
    pointwise [val_main_v19, val_main_v18, val_main_v17]
    exact second_apply x0 x1 x2 b j

end Result

end Cert.Reference6Ideal.Mod

namespace Cert.Kernel6Ideal.Mod

open Cert.Kernel6Ideal Cert.Kernel6Ideal.Gen Idealize.ShloMosaic Idealize.ShloMosaic.TcCoe Idealize.SL.Sem

/-- A block's entry. -/
theorem block_apply (x0 : Vec Ideal S8x2048 .f32) (x1 : Vec Ideal S1x2048x1024 .f32) (x2 : Vec Ideal S1x1x1024 .f32) (b : Fin 8) (j : Fin 1024) :
    out0_3 x0 x1 x2 (ix3 0 b j) = Modulation.entry (fun k => x0 (ix2 b k)) (fun k => x1 (ix3 0 k j)) (x2 (ix3 0 0 j)) := by
  unfold out0_3
  rw [View.canon_unit_zero (show (![0, 0, 0] : Fin 3 → Nat) = fun _ => 0 by decide)]
  pointwise [k0_pay1]
  rfl

theorem index0 : ∀ t : Fin cfg0.N, win0_0.index t = ![0, 0] := (by decide +kernel : ∀ t : Fin grid0.N, _)
theorem index1 : ∀ t : Fin cfg0.N, win0_1.index t = ![t.val / 12, 0, t.val % 12] := (by decide +kernel : ∀ t : Fin grid0.N, _)
theorem index2 : ∀ t : Fin cfg0.N, win0_2.index t = ![t.val / 12, 0, t.val % 12] := (by decide +kernel : ∀ t : Fin grid0.N, _)
theorem index3 : ∀ t : Fin cfg0.N, win0_3.index t = ![t.val / 12, 0, t.val % 12] := (by decide +kernel : ∀ t : Fin grid0.N, _)

variable (m : (ℓ : Loc nD τ sig) → Buf (Elt Ideal) ℓ) (c : Dev nD)

/-- The arguments. -/
abbrev argX : S8x2048.Idx → EReal := m ((c : Thread nD τ).loc main_arg0)
abbrev argW : S2x2048x12288.Idx → EReal := m ((c : Thread nD τ).loc main_arg1)
abbrev argBias : S2x12288.Idx → EReal := m ((c : Thread nD τ).loc main_arg2)

/-- The host's reshape of the bias. -/
theorem bias_eq : V m c main_v0 = (shapeCast S2x1x12288 (m ((c : Thread nD τ).loc main_arg2)) Facts₀.shapeCasts_S2x12288_S2x1x12288 : Vec Ideal S2x1x12288 .f32) := by
  dsimp only [V, hostOps0]
  after_results
  rfl

theorem bias_apply (l : Fin 2) (j : Fin 12288) : V m c main_v0 (ix3 l 0 j : S2x1x12288.Idx) = argBias m c (ix2 l j) := by
  rw [bias_eq]
  refine shapeCast_apply _ _ _ (ix2 l j) ?_
  rw [Shape.rowMajor_val_three, Shape.rowMajor_val_two]
  show l.val * 12288 + j.val = (l.val * 1 + 0) * 12288 + j.val
  omega

/-- The layer and the column of a point. -/
def layerOf (n : ℕ) : Fin 2 := Fin.ofNat 2 (n / 12)
def columnAt (n : ℕ) (j : Fin 1024) : Fin 12288 := Fin.ofNat 12288 (1024 * (n % 12) + j.val)

variable (t : Fin cfg0.N)

theorem point_lt : t.val < 24 := lt_of_lt_of_eq t.isLt (show cfg0.N = 24 from N_0)

/-- The conditioning vectors, -/
theorem block0 (b : Fin 8) (k : Fin 2048) : iblk m c 0 t (ix2 b k) = argX m c (ix2 b k) := by
  blk_simp [iblk]
  refine (congrFun (V_main_arg0 m c) _).trans (congrArg (m ((c : Thread nD τ).loc main_arg0)) (funext fun a => Fin.ext ?_))
  match a with
  | ⟨0, _⟩ => refine (Pipeline.Window.rect_emb_val win0_0 t _ _).trans ?_; rw [index0]; show 0 * 8 + b.val = b.val; omega
  | ⟨1, _⟩ => refine (Pipeline.Window.rect_emb_val win0_0 t _ _).trans ?_; rw [index0]; show 0 * 2048 + k.val = k.val; omega

/-- the weights -/
theorem block1 (k : Fin 2048) (j : Fin 1024) : iblk m c 1 t (ix3 0 k j) = argW m c (ix3 (layerOf t.val) k (columnAt t.val j)) := by
  have ht := point_lt t
  have hj := j.isLt
  blk_simp [iblk]
  refine (congrFun (V_main_arg1 m c) _).trans (congrArg (m ((c : Thread nD τ).loc main_arg1)) (funext fun a => Fin.ext ?_))
  match a with
  | ⟨0, _⟩ => refine (Pipeline.Window.rect_emb_val win0_1 t _ _).trans ?_; rw [index1]; show t.val / 12 * 1 + 0 = t.val / 12 % 2; omega
  | ⟨1, _⟩ => refine (Pipeline.Window.rect_emb_val win0_1 t _ _).trans ?_; rw [index1]; show 0 * 2048 + k.val = k.val; omega
  | ⟨2, _⟩ => refine (Pipeline.Window.rect_emb_val win0_1 t _ _).trans ?_; rw [index1]; show t.val % 12 * 1024 + j.val = (1024 * (t.val % 12) + j.val) % 12288; omega

/-- and the bias. -/
theorem block2 (j : Fin 1024) : iblk m c 2 t (ix3 0 0 j) = argBias m c (ix2 (layerOf t.val) (columnAt t.val j)) := by
  have ht := point_lt t
  have hj := j.isLt
  blk_simp [iblk]
  refine (congrArg (V m c main_v0) (funext fun a => Fin.ext ?_)).trans (bias_apply m c (layerOf t.val) (columnAt t.val j))
  match a with
  | ⟨0, _⟩ => refine (Pipeline.Window.rect_emb_val win0_2 t _ _).trans ?_; rw [index2]; show t.val / 12 * 1 + 0 = t.val / 12 % 2; omega
  | ⟨1, _⟩ => refine (Pipeline.Window.rect_emb_val win0_2 t _ _).trans ?_; rw [index2]; rfl
  | ⟨2, _⟩ => refine (Pipeline.Window.rect_emb_val win0_2 t _ _).trans ?_; rw [index2]; show t.val % 12 * 1024 + j.val = (1024 * (t.val % 12) + j.val) % 12288; omega

/-- An entry of the block a point writes. -/
theorem point_apply (b : Fin 8) (j : Fin 1024) : out0_3 (iblk m c 0 t) (iblk m c 1 t) (iblk m c 2 t) (ix3 0 b j)
    = Modulation.output (argX m c) (argW m c) (argBias m c) (layerOf t.val) b (columnAt t.val j) := by
  refine (block_apply _ _ _ b j).trans ?_
  simp only [block0, block1, block2]
  rfl

/-- The result array. -/
theorem array_eq : (dats m 0 c).arrAt 3 cfg0.N = fun y : S2x8x12288.Idx =>
    Modulation.output (argX m c) (argW m c) (argBias m c) (y 0) (y 1) (y 2) := by
  refine (dats m 0 c).arrAt_eq_of_covers 3 (fun y : S2x8x12288.Idx =>
    Modulation.output (argX m c) (argW m c) (argBias m c) (y 0) (y 1) (y 2)) (by decide +kernel) fun t _ y => ?_
  blk_simp
  rw [after0_3]
  have ht := point_lt t
  obtain ⟨b, j, rfl⟩ : ∃ (b : Fin 8) (j : Fin 1024), y = ix3 0 b j :=
    ⟨y 1, y 2, (ValueIdx.eq_ix3 y).trans (congrArg (fun z => ValueIdx.ix3 z (y 1) (y 2)) (Fin.ext (by have : (y 0).val < 1 := (y 0).isLt; show (y 0).val = 0; omega)))⟩
  have hj := j.isLt
  refine (point_apply m c t b j).trans ?_
  have e0 : layerOf t.val = ((win0_3.rect t).emb (ix3 0 b j) : S2x8x12288.Idx) 0 := Fin.ext (by
    refine ((Pipeline.Window.rect_emb_val win0_3 t _ _).trans ?_).symm; rw [index3]; show t.val / 12 * 1 + 0 = t.val / 12 % 2; omega)
  have e1 : b = ((win0_3.rect t).emb (ix3 0 b j) : S2x8x12288.Idx) 1 := Fin.ext (by
    refine ((Pipeline.Window.rect_emb_val win0_3 t _ _).trans ?_).symm; rw [index3]; show 0 * 8 + b.val = b.val; omega)
  have e2 : columnAt t.val j = ((win0_3.rect t).emb (ix3 0 b j) : S2x8x12288.Idx) 2 := Fin.ext (by
    refine ((Pipeline.Window.rect_emb_val win0_3 t _ _).trans ?_).symm; rw [index3]; show t.val % 12 * 1024 + j.val = (1024 * (t.val % 12) + j.val) % 12288; omega)
  exact congr (congr (congrArg (Modulation.output (argX m c) (argW m c) (argBias m c)) e0) e1) e2

end Cert.Kernel6Ideal.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init

public import proofs.«01_k».proof.Proof.Gen.Kernel.Value
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2.Value
public import proofs.«01_k».proof.Proof.Gen.Kernel2Ideal.Value
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3.Value
public import proofs.«01_k».proof.Proof.Gen.Kernel3Ideal.Value
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4.Value
public import proofs.«01_k».proof.Proof.Gen.Kernel4Ideal.Value
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Read
public import proofs.«01_k».proof.Proof.Array
public import proofs.«01_k».proof.Proof.Precondition
public import proofs.«01_k».proof.Proof.RefResult
public import proofs.«01_k».proof.Proof.FirstArray
public import proofs.«01_k».proof.Proof.FirstRef
public import proofs.«01_k».proof.Proof.MixerRun
public import proofs.«01_k».proof.Proof.MixerRef
public import proofs.«01_k».proof.Proof.ProjectionArray
public import proofs.«01_k».proof.Proof.InnerRun
public import proofs.«01_k».proof.Proof.InnerRef
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6.Value
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Value
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.ColumnsBits
public import proofs.«01_k».proof.Proof.ColumnsValues
public import proofs.«01_k».proof.Proof.ColumnsRef
public import proofs.«01_k».proof.Proof.Modulation

@[expose] public section

noncomputable section

namespace Cert.Proof

open Idealize.ShloMosaic Idealize.SL.Sem

/-- Kernel and reference end with the same result. -/
theorem attention_algebraic : Cert.algebraic_KernelIdeal_ReferenceIdeal_pre_finite := by
  intro m g m' g' hpre hargs
  have hf : ∀ c, Attention.Finite (Cert.KernelIdeal.Diff.argX m c) (Cert.KernelIdeal.Diff.argT m c) (Cert.KernelIdeal.Diff.argP m c) :=
    fun c => Attention.finite_of_pre _ _ _ _ (hpre c)
  refine ⟨fun c => Attention.result (Cert.KernelIdeal.Diff.argX m c) (Cert.KernelIdeal.Diff.argT m c) (Cert.KernelIdeal.Diff.argP m c) (Cert.KernelIdeal.Diff.argG m c) Cert.KernelIdeal.Diff.lam Cert.KernelIdeal.Diff.rest,
    (θ_run _ _ _).mono (fun r h c => ⟨(h c).1.trans (Cert.KernelIdeal.Diff.array_eq m c (hf c)), (h c).2⟩) (Cert.KernelIdeal.Value.run_blocks m g),
    (θ_run _ _ _).mono (fun r h c => ⟨?_, (h c).2⟩) (Cert.ReferenceIdeal.Value.run m' g')⟩
  obtain ⟨h0, h1, h2, h3⟩ := hargs c
  refine (h c).1.trans ((Cert.ReferenceIdeal.Read.val_main_v103_eq (StableHlo.launchContents m' c)).trans ?_)
  show Cert.ReferenceIdeal.Read.val_main_v103 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
  rw [h0, h1, h2, h3]
  exact Cert.ReferenceIdeal.Diff.result_eq (hf c)

/-- The channel mixer and its reference end with the same result. -/
theorem mixer_algebraic : Cert.algebraic_Kernel2Ideal_Reference2Ideal := by
  intro m g m' g' _ hargs
  refine ⟨fun c => (fun y : Cert.Kernel2Ideal.S8x2048x2048.Idx => Mixer.output (Cert.Kernel2Ideal.Ffn.argX m c) (Cert.Kernel2Ideal.Ffn.argGain m c)
      (Cert.Kernel2Ideal.Ffn.argScale m c) (Cert.Kernel2Ideal.Ffn.argShift m c) (Cert.Kernel2Ideal.Ffn.argGate m c) (Cert.Kernel2Ideal.Ffn.argW13 m c)
      (Cert.Kernel2Ideal.Ffn.argW2 m c) (Cert.Kernel2Ideal.Ffn.argFinal m c) (y 0) (y 1) (y 2)),
    (θ_run _ _ _).mono (fun r h c => ⟨(h c).1.trans (Cert.Kernel2Ideal.Ffn.array_eq m c), (h c).2⟩) (Cert.Kernel2Ideal.Value.run_blocks m g),
    (θ_run _ _ _).mono (fun r h c => ⟨?_, (h c).2⟩) (Cert.Reference2Ideal.Value.run m' g')⟩
  obtain ⟨h0, h1, h2, h3, h4, h5, h6, h7⟩ := hargs c
  refine (h c).1.trans ((Cert.Reference2Ideal.Read.val_main_v40_eq m' c).trans ?_)
  show Cert.Reference2Ideal.Read.val_main_v40 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) = _
  rw [h0, h1, h2, h3, h4, h5, h6, h7]
  exact funext fun y => (congrArg _ (ValueIdx.eq_ix3 y)).trans (Cert.Reference2Ideal.Ffn.result_apply _ _ _ _ _ _ _ _ (y 0) (y 1) (y 2))

/-- The output projection and its reference end with the same result. -/
theorem projection_algebraic : Cert.algebraic_Kernel3Ideal_Reference3Ideal := by
  intro m g m' g' _ hargs
  refine ⟨fun c => (fun y : Cert.Kernel3Ideal.S8x2048x2048.Idx => Projection.output (Cert.Kernel3Ideal.Out.argA m c) (Cert.Kernel3Ideal.Out.argB m c)
      (Cert.Kernel3Ideal.Out.argC m c) (Cert.Kernel3Ideal.Out.argD m c) (Cert.Kernel3Ideal.Out.argW m c) (Cert.Kernel3Ideal.Out.argX m c)
      (Cert.Kernel3Ideal.Out.argGate m c) (y 0) (y 1) (y 2)),
    (θ_run _ _ _).mono (fun r h c => ⟨(h c).1.trans (Cert.Kernel3Ideal.Out.array_eq m c), (h c).2⟩) (Cert.Kernel3Ideal.Value.run_blocks m g),
    (θ_run _ _ _).mono (fun r h c => ⟨?_, (h c).2⟩) (Cert.Reference3Ideal.Value.run m' g')⟩
  obtain ⟨h0, h1, h2, h3, h4, h5, h6⟩ := hargs c
  refine (h c).1.trans ((Cert.Reference3Ideal.Read.val_main_v5_eq _ _ _ _ _ _ _).trans ?_)
  show Cert.Reference3Ideal.Read.val_main_v5 (F := Ideal) (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg1)) (m' ((c.tc : Thread Cert.Reference3Ideal.nD Cert.Reference3Ideal.τ).loc Cert.Reference3Ideal.main_arg2)) (m' ((c.tc : Thread Cert.Reference3Ideal.nD Cert.Reference3Ideal.τ).loc Cert.Reference3Ideal.main_arg3)) (m' ((c.tc : Thread Cert.Reference3Ideal.nD Cert.Reference3Ideal.τ).loc Cert.Reference3Ideal.main_arg4)) (m' ((c.tc : Thread Cert.Reference3Ideal.nD Cert.Reference3Ideal.τ).loc Cert.Reference3Ideal.main_arg5)) (m' ((c.tc : Thread Cert.Reference3Ideal.nD Cert.Reference3Ideal.τ).loc Cert.Reference3Ideal.main_arg6)) = _
  rw [h0, h1, h2, h3, h4, h5, h6]
  exact funext fun y => (congrArg _ (ValueIdx.eq_ix3 y)).trans (Cert.Reference3Ideal.Out.result_apply _ _ _ _ _ _ _ (y 0) (y 1) (y 2))

/-- The channel mixer of a layer before the last and its reference end with the same result. -/
theorem inner_algebraic : Cert.algebraic_Kernel4Ideal_Reference4Ideal := by
  intro m g m' g' _ hargs
  refine ⟨fun c => (fun y : Cert.Kernel4Ideal.S8x2048x2048.Idx => Mixer.innerOutput (Cert.Kernel4Ideal.Ffn.argX m c) (Cert.Kernel4Ideal.Ffn.argGain m c)
      (Cert.Kernel4Ideal.Ffn.argScale m c) (Cert.Kernel4Ideal.Ffn.argShift m c) (Cert.Kernel4Ideal.Ffn.argGate m c) (Cert.Kernel4Ideal.Ffn.argW13 m c)
      (Cert.Kernel4Ideal.Ffn.argW2 m c) (y 0) (y 1) (y 2)),
    (θ_run _ _ _).mono (fun r h c => ⟨(h c).1.trans (Cert.Kernel4Ideal.Ffn.array_eq m c), (h c).2⟩) (Cert.Kernel4Ideal.Value.run_blocks m g),
    (θ_run _ _ _).mono (fun r h c => ⟨?_, (h c).2⟩) (Cert.Reference4Ideal.Value.run m' g')⟩
  obtain ⟨h0, h1, h2, h3, h4, h5, h6, _⟩ := hargs c
  refine (h c).1.trans ((Cert.Reference4Ideal.Read.val_main_v27_eq m' c).trans ?_)
  show Cert.Reference4Ideal.Read.val_main_v27 (F := Ideal) (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg1)) (m' ((c.tc : Thread Cert.Reference4Ideal.nD Cert.Reference4Ideal.τ).loc Cert.Reference4Ideal.main_arg2)) (m' ((c.tc : Thread Cert.Reference4Ideal.nD Cert.Reference4Ideal.τ).loc Cert.Reference4Ideal.main_arg3)) (m' ((c.tc : Thread Cert.Reference4Ideal.nD Cert.Reference4Ideal.τ).loc Cert.Reference4Ideal.main_arg4)) (m' ((c.tc : Thread Cert.Reference4Ideal.nD Cert.Reference4Ideal.τ).loc Cert.Reference4Ideal.main_arg5)) (m' ((c.tc : Thread Cert.Reference4Ideal.nD Cert.Reference4Ideal.τ).loc Cert.Reference4Ideal.main_arg6)) = _
  rw [h0, h1, h2, h3, h4, h5, h6]
  exact funext fun y => (congrArg _ (ValueIdx.eq_ix3 y)).trans (Cert.Reference4Ideal.Ffn.result_apply _ _ _ _ _ _ _ (y 0) (y 1) (y 2))

/-- The input projection: the kernel's three results and the reference's are the same columns of the same product. -/
theorem columns_algebraic : Cert.algebraic_Kernel5Ideal_Reference5Ideal := by
  intro m g m' g' _ hargs
  refine ⟨fun c => Cert.Kernel5Ideal.Columns.first m c, fun c => Cert.Kernel5Ideal.Columns.second m c, fun c => Cert.Kernel5Ideal.Columns.third m c,
    (θ_run _ _ _).mono (fun r h c => ⟨(h c).1.1.trans (Cert.Kernel5Ideal.Columns.first_array m c), (h c).1.2.1.trans (Cert.Kernel5Ideal.Columns.second_array m c),
      (h c).1.2.2.trans (Cert.Kernel5Ideal.Columns.third_array m c), (h c).2⟩) (Cert.Kernel5Ideal.Columns.run_blocks m g),
    (θ_run _ _ _).mono (fun r h c => ⟨?_, ?_, ?_, (h c).2.2.2⟩) (Cert.Reference5Ideal.Value.run m' g')⟩
  · obtain ⟨h0, h1, h2, h3, h4⟩ := hargs c
    refine (h c).1.trans ((Cert.Reference5Ideal.Read.val_main_v20_eq _ _ _ _ _).trans ?_)
    show Cert.Reference5Ideal.Read.val_main_v20 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h1, h2, h3, h4]
    exact funext fun y => (congrArg _ (ValueIdx.eq_ix3 y)).trans (Cert.Reference5Ideal.Columns.first_apply _ _ _ _ _ (y 0) (y 1) (y 2))
  · obtain ⟨h0, h1, h2, h3, h4⟩ := hargs c
    refine (h c).2.1.trans ((Cert.Reference5Ideal.Read.val_main_v22_eq _ _ _ _ _).trans ?_)
    show Cert.Reference5Ideal.Read.val_main_v22 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h1, h2, h3, h4]
    exact funext fun y => (congrArg _ (ValueIdx.eq_ix3 y)).trans (Cert.Reference5Ideal.Columns.second_apply _ _ _ _ _ (y 0) (y 1) (y 2))
  · obtain ⟨h0, h1, h2, h3, h4⟩ := hargs c
    refine (h c).2.2.1.trans ((Cert.Reference5Ideal.Read.val_main_v23_eq _ _ _ _ _).trans ?_)
    show Cert.Reference5Ideal.Read.val_main_v23 (F := Ideal) (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)) = _
    rw [h0, h1, h2, h3, h4]
    exact funext fun y => (congrArg _ (ValueIdx.eq_ix3 y)).trans (Cert.Reference5Ideal.Columns.third_apply _ _ _ _ _ (y 0) (y 1) (y 2))

/-- The modulation and its reference end with the same result. -/
theorem modulation_algebraic : Cert.algebraic_Kernel6Ideal_Reference6Ideal := by
  intro m g m' g' _ hargs
  refine ⟨fun c => (fun y : Cert.Kernel6Ideal.S2x8x12288.Idx => Modulation.output (Cert.Kernel6Ideal.Mod.argX m c) (Cert.Kernel6Ideal.Mod.argW m c)
      (Cert.Kernel6Ideal.Mod.argBias m c) (y 0) (y 1) (y 2)),
    (θ_run _ _ _).mono (fun r h c => ⟨(h c).1.trans (Cert.Kernel6Ideal.Mod.array_eq m c), (h c).2⟩) (Cert.Kernel6Ideal.Value.run_blocks m g),
    (θ_run _ _ _).mono (fun r h c => ⟨?_, (h c).2⟩) (Cert.Reference6Ideal.Value.run m' g')⟩
  obtain ⟨h0, h1, h2⟩ := hargs c
  refine (h c).1.trans ((Cert.Reference6Ideal.Read.val_main_v19_eq _ _ _).trans ?_)
  show Cert.Reference6Ideal.Read.val_main_v19 (F := Ideal) (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) = _
  rw [h0, h1, h2]
  exact funext fun y => (congrArg _ (ValueIdx.eq_ix3 y)).trans (Cert.Reference6Ideal.Mod.result_apply _ _ _ (y 1) (y 2) (y 0))

/-- Differential attention of the first layer and its reference end with the same result. -/
theorem first_attention_algebraic : Cert.algebraic_Kernel7Ideal_Reference7Ideal_pre_finite := by
  intro m g m' g' hpre hargs
  have hf : ∀ c, Attention.Finite (Cert.Kernel7Ideal.Diff.argX m c) (Cert.Kernel7Ideal.Diff.argT m c) (Cert.Kernel7Ideal.Diff.argP m c) :=
    fun c => Attention.finite_of_pre _ _ _ _ (hpre c)
  refine ⟨fun c => Attention.result (Cert.Kernel7Ideal.Diff.argX m c) (Cert.Kernel7Ideal.Diff.argT m c) (Cert.Kernel7Ideal.Diff.argP m c) (Cert.Kernel7Ideal.Diff.argG m c) Cert.Kernel7Ideal.Diff.lam Cert.Kernel7Ideal.Diff.rest,
    (θ_run _ _ _).mono (fun r h c => ⟨(h c).1.trans (Cert.Kernel7Ideal.Diff.array_eq m c (hf c)), (h c).2⟩) (Cert.Kernel7Ideal.Value.run_blocks m g),
    (θ_run _ _ _).mono (fun r h c => ⟨?_, (h c).2⟩) (Cert.Reference7Ideal.Value.run m' g')⟩
  obtain ⟨h0, h1, h2, h3⟩ := hargs c
  refine (h c).1.trans ((Cert.Reference7Ideal.Read.val_main_v103_eq (StableHlo.launchContents m' c)).trans ?_)
  show Cert.Reference7Ideal.Read.val_main_v103 (F := Ideal) (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)) (m' ((c.tc : Thread Cert.Reference7Ideal.nD Cert.Reference7Ideal.τ).loc Cert.Reference7Ideal.main_arg3)) = _
  rw [h0, h1, h2, h3]
  exact Cert.Reference7Ideal.Diff.result_eq (hf c)

theorem claim : Cert.Claim := ⟨Cert.Kernel.Gen.facts, Cert.KernelIdeal.Gen.facts, Cert.ReferenceIdeal.Gen.facts, Cert.Kernel2.Gen.facts, Cert.Kernel2Ideal.Gen.facts,
  Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => (θ_run _ _ _).mono (fun r h => ⟨fun c => (h c).2, sem_eq_zero_of_no_sems (by decide) r.2⟩) (Cert.ReferenceIdeal.Value.run m ρ),
  fun m ρ _ => (θ_run _ _ _).mono (fun r h => ⟨fun c => (h c).2, sem_eq_zero_of_no_sems (by decide) r.2⟩) (Cert.ReferenceIdeal.Value.run m ρ),
  fun m ρ _ => Cert.Kernel2.Gen.frame m ρ, fun m ρ _ => Cert.Kernel2Ideal.Gen.frame m ρ,
  fun m ρ _ => (θ_run _ _ _).mono (fun r h => ⟨fun c => (h c).2, sem_eq_zero_of_no_sems (by decide) r.2⟩) (Cert.Reference2Ideal.Value.run m ρ),
  fun m ρ _ => Cert.Kernel3.Gen.frame m ρ, fun m ρ _ => Cert.Kernel3Ideal.Gen.frame m ρ,
  fun m ρ _ => (θ_run _ _ _).mono (fun r h => ⟨fun c => (h c).2, sem_eq_zero_of_no_sems (by decide) r.2⟩) (Cert.Reference3Ideal.Value.run m ρ),
  fun m ρ _ => Cert.Kernel4.Gen.frame m ρ, fun m ρ _ => Cert.Kernel4Ideal.Gen.frame m ρ,
  fun m ρ _ => (θ_run _ _ _).mono (fun r h => ⟨fun c => (h c).2, sem_eq_zero_of_no_sems (by decide) r.2⟩) (Cert.Reference4Ideal.Value.run m ρ),
  Cert.Kernel5.Columns.frame, fun m ρ _ => Cert.Kernel5Ideal.Columns.frame m ρ,
  fun m ρ _ => (θ_run _ _ _).mono (fun r h => ⟨fun c => (h c).2.2.2, sem_eq_zero_of_no_sems (by decide) r.2⟩) (Cert.Reference5Ideal.Value.run m ρ),
  fun m ρ _ => Cert.Kernel6.Gen.frame m ρ, fun m ρ _ => Cert.Kernel6Ideal.Gen.frame m ρ,
  fun m ρ _ => (θ_run _ _ _).mono (fun r h => ⟨fun c => (h c).2, sem_eq_zero_of_no_sems (by decide) r.2⟩) (Cert.Reference6Ideal.Value.run m ρ),
  fun m ρ _ => Cert.Kernel7.Gen.frame m ρ, fun m ρ _ => Cert.Kernel7Ideal.Gen.frame m ρ, fun m ρ _ => Cert.Kernel7Ideal.Gen.frame m ρ,
  fun m ρ _ => (θ_run _ _ _).mono (fun r h => ⟨fun c => (h c).2, sem_eq_zero_of_no_sems (by decide) r.2⟩) (Cert.Reference7Ideal.Value.run m ρ),
  fun m ρ _ => (θ_run _ _ _).mono (fun r h => ⟨fun c => (h c).2, sem_eq_zero_of_no_sems (by decide) r.2⟩) (Cert.Reference7Ideal.Value.run m ρ),
  ⟨IdealRules.named_const.statement _ _ _ _ _ rfl, IdealRules.named_const.statement _ _ _ _ _ rfl, IdealRules.named_const.statement _ _ _ _ _ rfl⟩,
  attention_algebraic, trivial, mixer_algebraic, trivial, projection_algebraic, trivial, inner_algebraic, trivial, columns_algebraic, trivial, modulation_algebraic,
  ⟨IdealRules.named_const.statement _ _ _ _ _ rfl, IdealRules.named_const.statement _ _ _ _ _ rfl, IdealRules.named_const.statement _ _ _ _ _ rfl⟩, first_attention_algebraic⟩

end Cert.Proof

end
